-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v46)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v53)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v53) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)) (v1 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_v5) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v2) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v53)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v53) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v18)) (v1 : (c : Dev Cert.Kernel9Ideal.nD) → Buf (Elt Ideal) ((c.tc : Thread Cert.Kernel9Ideal.nD Cert.Kernel9Ideal.τ).loc Cert.Kernel9Ideal.main_v26)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18) = v0 c
          ∧ r.2.mem ((c.tc : Thread Cert.Kernel9Ideal.nD Cert.Kernel9Ideal.τ).loc Cert.Kernel9Ideal.main_v26) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v2) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v18)) (v1 : (c : Dev Cert.Kernel10Ideal.nD) → Buf (Elt Ideal) ((c.tc : Thread Cert.Kernel10Ideal.nD Cert.Kernel10Ideal.τ).loc Cert.Kernel10Ideal.main_v26)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v18) = v0 c
          ∧ r.2.mem ((c.tc : Thread Cert.Kernel10Ideal.nD Cert.Kernel10Ideal.τ).loc Cert.Kernel10Ideal.main_v26) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v2) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v16)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v16) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v17)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v17) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v15)) (v1 : (c : Dev Cert.Kernel13Ideal.nD) → Buf (Elt Ideal) ((c.tc : Thread Cert.Kernel13Ideal.nD Cert.Kernel13Ideal.τ).loc Cert.Kernel13Ideal.main_v18)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v15) = v0 c
          ∧ r.2.mem ((c.tc : Thread Cert.Kernel13Ideal.nD Cert.Kernel13Ideal.τ).loc Cert.Kernel13Ideal.main_v18) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_v36) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v6)) (v2 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v6) = v1 c
          ∧ r.2.mem ((c.tc : Thread Cert.Kernel14Ideal.nD Cert.Kernel14Ideal.τ).loc Cert.Kernel14Ideal.main_v7) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v18) = v0 c
          ∧ r.2.mem ((c.tc : Thread Cert.Reference14Ideal.nD Cert.Reference14Ideal.τ).loc Cert.Reference14Ideal.main_v11) = v1 c
          ∧ r.2.mem ((c.tc : Thread Cert.Reference14Ideal.nD Cert.Reference14Ideal.τ).loc Cert.Reference14Ideal.main_v17) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
-- ==== Pre_finite.lean ====
abbrev S2048x8x96 : Shape := ⟨3, ![2048, 8, 96]⟩
abbrev S2048x8x64 : Shape := ⟨3, ![2048, 8, 64]⟩
abbrev S2048x32 : Shape := ⟨2, ![2048, 32]⟩
abbrev S_ : Shape := ⟨0, ![]⟩

class Facts : Prop where
  bcast_S_S2048x8x96 : S_.BroadcastsInDim S2048x8x96 (![] : Fin 0 → Fin S2048x8x96.rank)
  reducesTo_S2048x8x96_S_d0_1_2 : S2048x8x96.ReducesTo [0, 1, 2] S_
  h_S_ : 0 < S_.numel
  bcast_S_S2048x8x64 : S_.BroadcastsInDim S2048x8x64 (![] : Fin 0 → Fin S2048x8x64.rank)
  reducesTo_S2048x8x64_S_d0_1_2 : S2048x8x64.ReducesTo [0, 1, 2] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg4 : FVec F S2048x8x64 .f32) (main_v13 : IVec S_ 1) (main_v16 : IVec S2048x8x64 1) : IVec S_ 1 :=
  let main_c_5 : IVec S_ 1 := constantI S_ 1 1#1
  let main_v17 : IVec S_ 1 := (fun x v => Host.reduce IntOp.andi x v reducesTo_S2048x8x64_S_d0_1_2 h_S_) main_v16 main_c_5
  let main_v18 : IVec S_ 1 := andi main_v13 main_v17
  let main_v19 : FVec F S2048x8x64 .f32 := Host.absf main_arg4
  let main_cst_6 : FVec F S_ .f32 := constant S_ .f32 0x7F800000#32
  let main_v20 : FVec F S2048x8x64 .f32 := broadcastInDim S2048x8x64 ![] bcast_S_S2048x8x64 main_cst_6
  let main_v21 : IVec S2048x8x64 1 := cmpf .olt main_v19 main_v20
  let main_c_7 : IVec S_ 1 := constantI S_ 1 1#1
  let main_v22 : IVec S_ 1 := (fun x v => Host.reduce IntOp.andi x v reducesTo_S2048x8x64_S_d0_1_2 h_S_) main_v21 main_c_7
  let main_v23 : IVec S_ 1 := andi main_v18 main_v22
  main_v23

def fn {F : FTy → Type} [FloatOps F] (main_arg0 : FVec F S2048x8x96 .f32) (main_arg1 : FVec F S2048x8x64 .f32) (main_arg2 : FVec F S2048x32 .f32) (main_arg3 : FVec F S2048x8x64 .f32) (main_arg4 : FVec F S2048x8x64 .f32) : IVec S_ 1 :=
  let main_v0 : FVec F S2048x8x96 .f32 := Host.absf main_arg0
  let main_cst : FVec F S_ .f32 := constant S_ .f32 0x7F800000#32
  let main_v1 : FVec F S2048x8x96 .f32 := broadcastInDim S2048x8x96 ![] bcast_S_S2048x8x96 main_cst
  let main_v2 : IVec S2048x8x96 1 := cmpf .olt main_v0 main_v1
  let main_c : IVec S_ 1 := constantI S_ 1 1#1
  let main_v3 : IVec S_ 1 := (fun x v => Host.reduce IntOp.andi x v reducesTo_S2048x8x96_S_d0_1_2 h_S_) main_v2 main_c
  let main_v4 : FVec F S2048x8x64 .f32 := Host.absf main_arg1
  let main_cst_0 : FVec F S_ .f32 := constant S_ .f32 0x7F800000#32
  let main_v5 : FVec F S2048x8x64 .f32 := broadcastInDim S2048x8x64 ![] bcast_S_S2048x8x64 main_cst_0
  let main_v6 : IVec S2048x8x64 1 := cmpf .olt main_v4 main_v5
  let main_c_1 : IVec S_ 1 := constantI S_ 1 1#1
  let main_v7 : IVec S_ 1 := (fun x v => Host.reduce IntOp.andi x v reducesTo_S2048x8x64_S_d0_1_2 h_S_) main_v6 main_c_1
  let main_v8 : IVec S_ 1 := andi main_v3 main_v7
  let main_v9 : FVec F S2048x32 .f32 := Host.absf main_arg2
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_c_3 : IVec S_ 1 := constantI S_ 1 1#1
  let main_v12 : IVec S_ 1 := (fun x v => Host.reduce IntOp.andi x v reducesTo_S2048x32_S_d0_1 h_S_) main_v11 main_c_3
  let main_v13 : IVec S_ 1 := andi main_v8 main_v12
  let main_v14 : FVec F S2048x8x64 .f32 := Host.absf main_arg3
  let main_cst_4 : FVec F S_ .f32 := constant S_ .f32 0x7F800000#32
  let main_v15 : FVec F S2048x8x64 .f32 := broadcastInDim S2048x8x64 ![] bcast_S_S2048x8x64 main_cst_4
  let main_v16 : IVec S2048x8x64 1 := cmpf .olt main_v14 main_v15
  fn_part1 (F := F) main_arg4 main_v13 main_v16
-- ==== Pre_finite13.lean ====
abbrev S2048x8x96 : Shape := ⟨3, ![2048, 8, 96]⟩
abbrev S2048x8x64 : Shape := ⟨3, ![2048, 8, 64]⟩
abbrev S2048x32 : Shape := ⟨2, ![2048, 32]⟩
abbrev S_ : Shape := ⟨0, ![]⟩

class Facts : Prop where
  bcast_S_S2048x8x96 : S_.BroadcastsInDim S2048x8x96 (![] : Fin 0 → Fin S2048x8x96.rank)
  reducesTo_S2048x8x96_S_d0_1_2 : S2048x8x96.ReducesTo [0, 1, 2] S_
  h_S_ : 0 < S_.numel
  bcast_S_S2048x8x64 : S_.BroadcastsInDim S2048x8x64 (![] : Fin 0 → Fin S2048x8x64.rank)
  reducesTo_S2048x8x64_S_d0_1_2 : S2048x8x64.ReducesTo [0, 1, 2] S_
  bcast_S_S2048x32 : S_.BroadcastsInDim S2048x32 (![] : Fin 0 → Fin S2048x32.rank)
  reducesTo_S2048x32_S_d0_1 : S2048x32.ReducesTo [0, 1] S_

variable [Facts]

def fn {F : FTy → Type} [FloatOps F] (main_arg0 : FVec F S2048x8x96 .f32) (main_arg1 : FVec F S2048x8x64 .f32) (main_arg2 : FVec F S2048x32 .f32) (main_arg3 : FVec F S2048x8x64 .f32) : IVec S_ 1 :=
  let main_v0 : FVec F S2048x8x96 .f32 := Host.absf main_arg0
  let main_cst : FVec F S_ .f32 := constant S_ .f32 0x7F800000#32
  let main_v1 : FVec F S2048x8x96 .f32 := broadcastInDim S2048x8x96 ![] bcast_S_S2048x8x96 main_cst
  let main_v2 : IVec S2048x8x96 1 := cmpf .olt main_v0 main_v1
  let main_c : IVec S_ 1 := constantI S_ 1 1#1
  let main_v3 : IVec S_ 1 := (fun x v => Host.reduce IntOp.andi x v reducesTo_S2048x8x96_S_d0_1_2 h_S_) main_v2 main_c
  let main_v4 : FVec F S2048x8x64 .f32 := Host.absf main_arg1
  let main_cst_0 : FVec F S_ .f32 := constant S_ .f32 0x7F800000#32
  let main_v5 : FVec F S2048x8x64 .f32 := broadcastInDim S2048x8x64 ![] bcast_S_S2048x8x64 main_cst_0
  let main_v6 : IVec S2048x8x64 1 := cmpf .olt main_v4 main_v5
  let main_c_1 : IVec S_ 1 := constantI S_ 1 1#1
  let main_v7 : IVec S_ 1 := (fun x v => Host.reduce IntOp.andi x v reducesTo_S2048x8x64_S_d0_1_2 h_S_) main_v6 main_c_1
  let main_v8 : IVec S_ 1 := andi main_v3 main_v7
  let main_v9 : FVec F S2048x32 .f32 := Host.absf main_arg2
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_c_3 : IVec S_ 1 := constantI S_ 1 1#1
  let main_v12 : IVec S_ 1 := (fun x v => Host.reduce IntOp.andi x v reducesTo_S2048x32_S_d0_1 h_S_) main_v11 main_c_3
  let main_v13 : IVec S_ 1 := andi main_v8 main_v12
  main_v13
-- ==== Kernel.lean ====
abbrev S2048x8x96 : Shape := ⟨3, ![2048, 8, 96]⟩
abbrev S2048x8x64 : Shape := ⟨3, ![2048, 8, 64]⟩
abbrev S2048x32 : Shape := ⟨2, ![2048, 32]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S2048x8 : Shape := ⟨2, ![2048, 8]⟩
abbrev S2048x8x1 : Shape := ⟨3, ![2048, 8, 1]⟩
abbrev S2048x2x256 : Shape := ⟨3, ![2048, 2, 256]⟩
abbrev S2048x2x128 : Shape := ⟨3, ![2048, 2, 128]⟩
abbrev S2048x2x384 : Shape := ⟨3, ![2048, 2, 384]⟩
abbrev S2048x768 : Shape := ⟨2, ![2048, 768]⟩
abbrev S2048x2x512 : Shape := ⟨3, ![2048, 2, 512]⟩
abbrev S2048x1024 : Shape := ⟨2, ![2048, 1024]⟩
abbrev S2048x128 : Shape := ⟨2, ![2048, 128]⟩
abbrev S2048x512 : Shape := ⟨2, ![2048, 512]⟩
abbrev S2048x256 : Shape := ⟨2, ![2048, 256]⟩
abbrev S2048x384 : Shape := ⟨2, ![2048, 384]⟩
abbrev S512x256 : Shape := ⟨2, ![512, 256]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 78
  | .vmem => 20
  | .smem => 0
  | _ => 0

abbrev bufTy : (tb : Table) → Fin (tcTables nBuf tb) → BufTy
  | .hbm, ⟨0, _⟩ => ⟨S2048x8x96, .f32⟩
  | .hbm, ⟨1, _⟩ => ⟨S2048x8x64, .f32⟩
  | .hbm, ⟨2, _⟩ => ⟨S2048x32, .f32⟩
  | .hbm, ⟨3, _⟩ => ⟨S2048x8x64, .f32⟩
  | .hbm, ⟨4, _⟩ => ⟨S2048x8x64, .f32⟩
  | .hbm, ⟨5, _⟩ => ⟨S2048x1x32, .f32⟩
  | .hbm, ⟨6, _⟩ => ⟨S2048x8x32, .f32⟩
  | .hbm, ⟨7, _⟩ => ⟨S2048x8x96, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x64x2048, .f32⟩
  | .hbm, ⟨37, _⟩ => ⟨S2048x8x64, .f32⟩
  | .hbm, ⟨38, _⟩ => ⟨S8x2048x1, .f32⟩
  | .hbm, ⟨39, _⟩ => ⟨S8x2048x1, .f32⟩
  | .hbm, ⟨40, _⟩ => ⟨S8x2048, .f32⟩
  | .hbm, ⟨41, _⟩ => ⟨S2048x8, .f32⟩
  | .hbm, ⟨42, _⟩ => ⟨S2048x8x1, .f32⟩
  | .hbm, ⟨43, _⟩ => ⟨S2048x8x64, .f32⟩
  | .hbm, ⟨44, _⟩ => ⟨S2048x8x64, .f32⟩
  | .hbm, ⟨45, _⟩ => ⟨S2048x8x32, .f32⟩
  | .hbm, ⟨46, _⟩ => ⟨S2048x2x256, .f32⟩
  | .hbm, ⟨47, _⟩ => ⟨S2048x2x128, .f32⟩
  | .hbm, ⟨48, _⟩ => ⟨S2048x2x384, .f32⟩
  | .hbm, ⟨49, _⟩ => ⟨S2048x768, .f32⟩
  | .hbm, ⟨50, _⟩ => ⟨S2048x768, .bf16⟩
  | .hbm, ⟨51, _⟩ => ⟨S2048x2x256, .f32⟩
  | .hbm, ⟨52, _⟩ => ⟨S2048x2x256, .f32⟩
  | .hbm, ⟨53, _⟩ => ⟨S2048x2x512, .f32⟩
  | .hbm, ⟨54, _⟩ => ⟨S2048x1024, .f32⟩
  | .hbm, ⟨55, _⟩ => ⟨S2048x1024, .bf16⟩
  | .hbm, ⟨56, _⟩ => ⟨S2048x128, .f32⟩
  | .hbm, ⟨57, _⟩ => ⟨S2048x128, .bf16⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048x768, .f32⟩
  | .hbm, ⟨62, _⟩ => ⟨S2048x1024, .bf16⟩
  | .hbm, ⟨63, _⟩ => ⟨S2048x256, .f32⟩
  | .hbm, ⟨64, _⟩ => ⟨S2048x2x384, .f32⟩
  | .hbm, ⟨65, _⟩ => ⟨S2048x2x512, .bf16⟩
  | .hbm, ⟨66, _⟩ => ⟨S2048x2x512, .f32⟩
  | .hbm, ⟨67, _⟩ => ⟨S2048x2x256, .f32⟩
  | .hbm, ⟨68, _⟩ => ⟨S2048x8x64, .f32⟩
  | .hbm, ⟨69, _⟩ => ⟨S2048x2x128, .f32⟩
  | .hbm, ⟨70, _⟩ => ⟨S2048x8x32, .f32⟩
  | .hbm, ⟨71, _⟩ => ⟨S2048x8x96, .f32⟩
  | .hbm, ⟨72, _⟩ => ⟨S2048x2x256, .f32⟩
  | .hbm, ⟨73, _⟩ => ⟨S2048x8x64, .f32⟩
  | .hbm, ⟨74, _⟩ => ⟨S2048x8x32, .f32⟩
  | .hbm, ⟨75, _⟩ => ⟨S2048x8x96, .f32⟩
  | .hbm, ⟨76, _⟩ => ⟨S2048x2x256, .f32⟩
  | .hbm, ⟨77, _⟩ => ⟨S2048x8x64, .f32⟩
  | .local _ .vmem, ⟨0, _⟩ => ⟨S2048x384, .bf16⟩
  | .local _ .vmem, ⟨1, _⟩ => ⟨S2048x384, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x384, .f32⟩
  | .local _ .vmem, ⟨12, _⟩ => ⟨S2048x384, .f32⟩
  | .local _ .vmem, ⟨13, _⟩ => ⟨S2048x512, .bf16⟩
  | .local _ .vmem, ⟨14, _⟩ => ⟨S2048x512, .bf16⟩
  | .local _ .vmem, ⟨15, _⟩ => ⟨S2048x128, .f32⟩
  | .local _ .vmem, ⟨16, _⟩ => ⟨S2048x128, .f32⟩
  | .local _ .vmem, ⟨17, _⟩ => ⟨S512x256, .f32⟩
  | .local _ .vmem, ⟨18, _⟩ => ⟨S2048x256, .f32⟩
  | .local _ .vmem, ⟨19, _⟩ => ⟨S2048x128, .f32⟩
  | _, _ => ⟨S2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49_0 : Ref sig .tc := ⟨.hbm, 61, rfl⟩
abbrev main_v49_1 : Ref sig .tc := ⟨.hbm, 62, rfl⟩
abbrev main_v49_2 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x8x96 : Shape := ⟨3, ![2048, 8, 96]⟩
abbrev S2048x8x64 : Shape := ⟨3, ![2048, 8, 64]⟩
abbrev S2048x32 : Shape := ⟨2, ![2048, 32]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S8x2048x96 : Shape := ⟨3, ![8, 2048, 96]⟩

abbrev nBuf : Space → Nat
  | .hbm => 95
  | .vmem => 0
  | .smem => 0
  | _ => 0

abbrev bufTy : (tb : Table) → Fin (tcTables nBuf tb) → BufTy
  | .hbm, ⟨0, _⟩ => ⟨S2048x8x96, .f32⟩
  | .hbm, ⟨1, _⟩ => ⟨S2048x8x64, .f32⟩
  | .hbm, ⟨2, _⟩ => ⟨S2048x32, .f32⟩
  | .hbm, ⟨3, _⟩ => ⟨S2048x8x64, .f32⟩
  | .hbm, ⟨4, _⟩ => ⟨S2048x8x64, .f32⟩
  | .hbm, ⟨5, _⟩ => ⟨S2048x1x32, .f32⟩
  | .hbm, ⟨6, _⟩ => ⟨S2048x8x32, .f32⟩
  | .hbm, ⟨7, _⟩ => ⟨S2048x8x96, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .i1⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .i1⟩
  | .hbm, ⟨41, _⟩ => ⟨S_, .f32⟩
  | .hbm, ⟨42, _⟩ => ⟨S8x2048, .f32⟩
  | .hbm, ⟨43, _⟩ => ⟨S8x2048, .i1⟩
  | .hbm, ⟨44, _⟩ => ⟨S_, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .f32⟩
  | .hbm, ⟨51, _⟩ => ⟨S8x2048, .f32⟩
  | .hbm, ⟨52, _⟩ => ⟨S8x2048x1, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S_, .f32⟩
  | .hbm, ⟨57, _⟩ => ⟨S8x2048, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S8x64x2048, .f32⟩
  | .hbm, ⟨66, _⟩ => ⟨S2048x8x64, .f32⟩
  | .hbm, ⟨67, _⟩ => ⟨S8x64x2048, .f32⟩
  | .hbm, ⟨68, _⟩ => ⟨S8x2048x2048, .f32⟩
  | .hbm, ⟨69, _⟩ => ⟨S8x64x2048, .f32⟩
  | .hbm, ⟨70, _⟩ => ⟨S2048x8x64, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S8x2048x1, .f32⟩
  | .hbm, ⟨78, _⟩ => ⟨S8x2048x2048, .f32⟩
  | .hbm, ⟨79, _⟩ => ⟨S8x2048x2048, .f32⟩
  | .hbm, ⟨80, _⟩ => ⟨S_, .f32⟩
  | .hbm, ⟨81, _⟩ => ⟨S8x2048, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048x2048, .f32⟩
  | .hbm, ⟨90, _⟩ => ⟨S8x2048x2048, .f32⟩
  | .hbm, ⟨91, _⟩ => ⟨S8x2048x96, .f32⟩
  | .hbm, ⟨92, _⟩ => ⟨S2048x8x96, .f32⟩
  | .hbm, ⟨93, _⟩ => ⟨S8x2048x96, .f32⟩
  | .hbm, ⟨94, _⟩ => ⟨S2048x8x96, .f32⟩
  | _, _ => ⟨S2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_v14_1 : Ref sig .tc := ⟨.hbm, 22, rfl⟩
abbrev main_call0_v2 : Ref sig .tc := ⟨.hbm, 23, rfl⟩
abbrev main_v14_0 : Ref sig .tc := ⟨.hbm, 24, rfl⟩
abbrev main_call0_cst : Ref sig .tc := ⟨.hbm, 25, rfl⟩
abbrev main_v14_2 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Kernel2.lean ====
abbrev S2048x1024 : Shape := ⟨2, ![2048, 1024]⟩
abbrev S1024x7840 : Shape := ⟨2, ![1024, 7840]⟩
abbrev S2048x7840 : Shape := ⟨2, ![2048, 7840]⟩
abbrev S2048x3072 : Shape := ⟨2, ![2048, 3072]⟩
abbrev S2048x512 : Shape := ⟨2, ![2048, 512]⟩
abbrev S2048x4x1x128 : Shape := ⟨4, ![2048, 4, 1, 128]⟩
abbrev S2048x4x2x128 : Shape := ⟨4, ![2048, 4, 2, 128]⟩
abbrev S2048x288 : Shape := ⟨2, ![2048, 288]⟩
abbrev S_ : Shape := ⟨0, ![]⟩
abbrev S2048x224 : Shape := ⟨2, ![2048, 224]⟩
abbrev S2048x384 : Shape := ⟨2, ![2048, 384]⟩
abbrev S2048x128 : Shape := ⟨2, ![2048, 128]⟩
abbrev S2048x8192 : Shape := ⟨2, ![2048, 8192]⟩
abbrev S1024x3072 : Shape := ⟨2, ![1024, 3072]⟩
abbrev S1024x512 : Shape := ⟨2, ![1024, 512]⟩
abbrev S1024x4x1x128 : Shape := ⟨4, ![1024, 4, 1, 128]⟩
abbrev S1024x4x2x128 : Shape := ⟨4, ![1024, 4, 2, 128]⟩
abbrev S1024x1024 : Shape := ⟨2, ![1024, 1024]⟩
abbrev S1024x288 : Shape := ⟨2, ![1024, 288]⟩
abbrev S1024x224 : Shape := ⟨2, ![1024, 224]⟩
abbrev S1024x384 : Shape := ⟨2, ![1024, 384]⟩
abbrev S1024x128 : Shape := ⟨2, ![1024, 128]⟩
abbrev S1024x8192 : Shape := ⟨2, ![1024, 8192]⟩
abbrev S1024x2048 : Shape := ⟨2, ![1024, 2048]⟩

abbrev nBuf : Space → Nat
  | .hbm => 54
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x7840, .f32⟩
  | .hbm, ⟨2, _⟩ => ⟨S2048x7840, .f32⟩
  | .hbm, ⟨3, _⟩ => ⟨S2048x3072, .f32⟩
  | .hbm, ⟨4, _⟩ => ⟨S2048x512, .f32⟩
  | .hbm, ⟨5, _⟩ => ⟨S2048x4x1x128, .f32⟩
  | .hbm, ⟨6, _⟩ => ⟨S2048x512, .f32⟩
  | .hbm, ⟨7, _⟩ => ⟨S2048x4x1x128, .f32⟩
  | .hbm, ⟨8, _⟩ => ⟨S2048x4x2x128, .f32⟩
  | .hbm, ⟨9, _⟩ => ⟨S2048x1024, .f32⟩
  | .hbm, ⟨10, _⟩ => ⟨S2048x512, .f32⟩
  | .hbm, ⟨11, _⟩ => ⟨S2048x512, .f32⟩
  | .hbm, ⟨12, _⟩ => ⟨S2048x4x1x128, .f32⟩
  | .hbm, ⟨13, _⟩ => ⟨S2048x512, .f32⟩
  | .hbm, ⟨14, _⟩ => ⟨S2048x4x1x128, .f32⟩
  | .hbm, ⟨15, _⟩ => ⟨S2048x4x2x128, .f32⟩
  | .hbm, ⟨16, _⟩ => ⟨S2048x1024, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x288, .f32⟩
  | .hbm, ⟨21, _⟩ => ⟨S_, .f32⟩
  | .hbm, ⟨22, _⟩ => ⟨S2048x224, .f32⟩
  | .hbm, ⟨23, _⟩ => ⟨S2048x384, .f32⟩
  | .hbm, ⟨24, _⟩ => ⟨S_, .f32⟩
  | .hbm, ⟨25, _⟩ => ⟨S2048x128, .f32⟩
  | .hbm, ⟨26, _⟩ => ⟨S2048x8192, .f32⟩
  | .hbm, ⟨27, _⟩ => ⟨S2048x8192, .bf16⟩
  | .hbm, ⟨28, _⟩ => ⟨S1024x3072, .f32⟩
  | .hbm, ⟨29, _⟩ => ⟨S1024x512, .f32⟩
  | .hbm, ⟨30, _⟩ => ⟨S1024x4x1x128, .f32⟩
  | .hbm, ⟨31, _⟩ => ⟨S1024x512, .f32⟩
  | .hbm, ⟨32, _⟩ => ⟨S1024x4x1x128, .f32⟩
  | .hbm, ⟨33, _⟩ => ⟨S1024x4x2x128, .f32⟩
  | .hbm, ⟨34, _⟩ => ⟨S1024x1024, .f32⟩
  | .hbm, ⟨35, _⟩ => ⟨S1024x512, .f32⟩
  | .hbm, ⟨36, _⟩ => ⟨S1024x512, .f32⟩
  | .hbm, ⟨37, _⟩ => ⟨S1024x4x1x128, .f32⟩
  | .hbm, ⟨38, _⟩ => ⟨S1024x512, .f32⟩
  | .hbm, ⟨39, _⟩ => ⟨S1024x4x1x128, .f32⟩
  | .hbm, ⟨40, _⟩ => ⟨S1024x4x2x128, .f32⟩
  | .hbm, ⟨41, _⟩ => ⟨S1024x1024, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S1024x288, .f32⟩
  | .hbm, ⟨46, _⟩ => ⟨S_, .f32⟩
  | .hbm, ⟨47, _⟩ => ⟨S1024x224, .f32⟩
  | .hbm, ⟨48, _⟩ => ⟨S1024x384, .f32⟩
  | .hbm, ⟨49, _⟩ => ⟨S_, .f32⟩
  | .hbm, ⟨50, _⟩ => ⟨S1024x128, .f32⟩
  | .hbm, ⟨51, _⟩ => ⟨S1024x8192, .f32⟩
  | .hbm, ⟨52, _⟩ => ⟨S1024x8192, .bf16⟩
  | .hbm, ⟨53, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S1024x7840 : Shape := ⟨2, ![1024, 7840]⟩
abbrev S2048x7840 : Shape := ⟨2, ![2048, 7840]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7840, .f32⟩
  | .hbm, ⟨2, _⟩ => ⟨S2048x7840, .f32⟩
  | .hbm, ⟨3, _⟩ => ⟨S2048x7840, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel3.lean ====
abbrev S2048x1024 : Shape := ⟨2, ![2048, 1024]⟩
abbrev S1024x7840 : Shape := ⟨2, ![1024, 7840]⟩
abbrev S2048x7840 : Shape := ⟨2, ![2048, 7840]⟩
abbrev S2048x3072 : Shape := ⟨2, ![2048, 3072]⟩
abbrev S2048x512 : Shape := ⟨2, ![2048, 512]⟩
abbrev S2048x4x1x128 : Shape := ⟨4, ![2048, 4, 1, 128]⟩
abbrev S2048x4x2x128 : Shape := ⟨4, ![2048, 4, 2, 128]⟩
abbrev S2048x288 : Shape := ⟨2, ![2048, 288]⟩
abbrev S_ : Shape := ⟨0, ![]⟩
abbrev S2048x224 : Shape := ⟨2, ![2048, 224]⟩
abbrev S2048x384 : Shape := ⟨2, ![2048, 384]⟩
abbrev S2048x128 : Shape := ⟨2, ![2048, 128]⟩
abbrev S2048x8192 : Shape := ⟨2, ![2048, 8192]⟩
abbrev S1024x8192 : Shape := ⟨2, ![1024, 8192]⟩
abbrev S1024x1024 : Shape := ⟨2, ![1024, 1024]⟩
abbrev S1024x4x2x128 : Shape := ⟨4, ![1024, 4, 2, 128]⟩
abbrev S1024x4x1x128 : Shape := ⟨4, ![1024, 4, 1, 128]⟩
abbrev S1024x4x128 : Shape := ⟨3, ![1024, 4, 128]⟩
abbrev S1024x512 : Shape := ⟨2, ![1024, 512]⟩
abbrev S1024x384 : Shape := ⟨2, ![1024, 384]⟩
abbrev S1024x288 : Shape := ⟨2, ![1024, 288]⟩
abbrev S1024x3072 : Shape := ⟨2, ![1024, 3072]⟩

abbrev nBuf : Space → Nat
  | .hbm => 59
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x7840, .f32⟩
  | .hbm, ⟨2, _⟩ => ⟨S2048x7840, .f32⟩
  | .hbm, ⟨3, _⟩ => ⟨S2048x1024, .bf16⟩
  | .hbm, ⟨4, _⟩ => ⟨S2048x3072, .f32⟩
  | .hbm, ⟨5, _⟩ => ⟨S2048x512, .f32⟩
  | .hbm, ⟨6, _⟩ => ⟨S2048x4x1x128, .f32⟩
  | .hbm, ⟨7, _⟩ => ⟨S2048x512, .f32⟩
  | .hbm, ⟨8, _⟩ => ⟨S2048x4x1x128, .f32⟩
  | .hbm, ⟨9, _⟩ => ⟨S2048x4x2x128, .f32⟩
  | .hbm, ⟨10, _⟩ => ⟨S2048x1024, .f32⟩
  | .hbm, ⟨11, _⟩ => ⟨S2048x512, .f32⟩
  | .hbm, ⟨12, _⟩ => ⟨S2048x512, .f32⟩
  | .hbm, ⟨13, _⟩ => ⟨S2048x4x1x128, .f32⟩
  | .hbm, ⟨14, _⟩ => ⟨S2048x512, .f32⟩
  | .hbm, ⟨15, _⟩ => ⟨S2048x4x1x128, .f32⟩
  | .hbm, ⟨16, _⟩ => ⟨S2048x4x2x128, .f32⟩
  | .hbm, ⟨17, _⟩ => ⟨S2048x1024, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x288, .f32⟩
  | .hbm, ⟨22, _⟩ => ⟨S_, .f32⟩
  | .hbm, ⟨23, _⟩ => ⟨S2048x224, .f32⟩
  | .hbm, ⟨24, _⟩ => ⟨S2048x384, .f32⟩
  | .hbm, ⟨25, _⟩ => ⟨S_, .f32⟩
  | .hbm, ⟨26, _⟩ => ⟨S2048x128, .f32⟩
  | .hbm, ⟨27, _⟩ => ⟨S2048x8192, .f32⟩
  | .hbm, ⟨28, _⟩ => ⟨S2048x8192, .bf16⟩
  | .hbm, ⟨29, _⟩ => ⟨S1024x8192, .bf16⟩
  | .hbm, ⟨30, _⟩ => ⟨S1024x8192, .f32⟩
  | .hbm, ⟨31, _⟩ => ⟨S1024x1024, .f32⟩
  | .hbm, ⟨32, _⟩ => ⟨S1024x4x2x128, .f32⟩
  | .hbm, ⟨33, _⟩ => ⟨S1024x4x1x128, .f32⟩
  | .hbm, ⟨34, _⟩ => ⟨S1024x4x128, .f32⟩
  | .hbm, ⟨35, _⟩ => ⟨S1024x512, .f32⟩
  | .hbm, ⟨36, _⟩ => ⟨S1024x1024, .f32⟩
  | .hbm, ⟨37, _⟩ => ⟨S1024x4x2x128, .f32⟩
  | .hbm, ⟨38, _⟩ => ⟨S1024x4x1x128, .f32⟩
  | .hbm, ⟨39, _⟩ => ⟨S1024x4x128, .f32⟩
  | .hbm, ⟨40, _⟩ => ⟨S1024x512, .f32⟩
  | .hbm, ⟨41, _⟩ => ⟨S1024x512, .f32⟩
  | .hbm, ⟨42, _⟩ => ⟨S1024x1024, .f32⟩
  | .hbm, ⟨43, _⟩ => ⟨S1024x4x2x128, .f32⟩
  | .hbm, ⟨44, _⟩ => ⟨S1024x4x1x128, .f32⟩
  | .hbm, ⟨45, _⟩ => ⟨S1024x4x128, .f32⟩
  | .hbm, ⟨46, _⟩ => ⟨S1024x512, .f32⟩
  | .hbm, ⟨47, _⟩ => ⟨S1024x512, .f32⟩
  | .hbm, ⟨48, _⟩ => ⟨S1024x1024, .f32⟩
  | .hbm, ⟨49, _⟩ => ⟨S1024x4x2x128, .f32⟩
  | .hbm, ⟨50, _⟩ => ⟨S1024x4x1x128, .f32⟩
  | .hbm, ⟨51, _⟩ => ⟨S1024x4x128, .f32⟩
  | .hbm, ⟨52, _⟩ => ⟨S1024x512, .f32⟩
  | .hbm, ⟨53, _⟩ => ⟨S1024x512, .f32⟩
  | .hbm, ⟨54, _⟩ => ⟨S1024x384, .f32⟩
  | .hbm, ⟨55, _⟩ => ⟨S1024x288, .f32⟩
  | .hbm, ⟨56, _⟩ => ⟨S1024x512, .f32⟩
  | .hbm, ⟨57, _⟩ => ⟨S1024x3072, .f32⟩
  | .hbm, ⟨58, _⟩ => ⟨S1024x7840, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x1024 : Shape := ⟨2, ![2048, 1024]⟩
abbrev S1024x7840 : Shape := ⟨2, ![1024, 7840]⟩
abbrev S2048x7840 : Shape := ⟨2, ![2048, 7840]⟩
abbrev S7840x1024 : Shape := ⟨2, ![7840, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7840, .f32⟩
  | .hbm, ⟨2, _⟩ => ⟨S2048x7840, .f32⟩
  | .hbm, ⟨3, _⟩ => ⟨S2048x7840, .f32⟩
  | .hbm, ⟨4, _⟩ => ⟨S7840x1024, .f32⟩
  | .hbm, ⟨5, _⟩ => ⟨S1024x7840, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2048x512 : Shape := ⟨2, ![2048, 512]⟩
abbrev S512x1024 : Shape := ⟨2, ![512, 1024]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 10
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S2048x1024, .bf16⟩
  | .hbm, ⟨4, _⟩ => ⟨S512x1024, .bf16⟩
  | .hbm, ⟨5, _⟩ => ⟨S2048x512, .bf16⟩
  | .hbm, ⟨6, _⟩ => ⟨S2048x512, .bf16⟩
  | .hbm, ⟨7, _⟩ => ⟨S512x1024, .bf16⟩
  | .hbm, ⟨8, _⟩ => ⟨S2048x512, .f32⟩
  | .hbm, ⟨9, _⟩ => ⟨S512x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v16 : BitVec 1 := Scalar.cmpi .eq arg0 c1_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S2048x1024, .f32⟩
  | .hbm, ⟨4, _⟩ => ⟨S1024x512, .f32⟩
  | .hbm, ⟨5, _⟩ => ⟨S512x1024, .f32⟩
  | .hbm, ⟨6, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2048x1024 : Shape := ⟨2, ![2048, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .hbm, ⟨5, _⟩ => ⟨S2048x1024, .bf16⟩
  | .hbm, ⟨6, _⟩ => ⟨S2048x1024, .bf16⟩
  | .hbm, ⟨7, _⟩ => ⟨S1024x1024, .bf16⟩
  | .hbm, ⟨8, _⟩ => ⟨S2048x1024, .f32⟩
  | .hbm, ⟨9, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v16 : BitVec 1 := Scalar.cmpi .eq arg0 c1_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference5Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S2048x1024 : Shape := ⟨2, ![2048, 1024]⟩
abbrev S1024x7840 : Shape := ⟨2, ![1024, 7840]⟩
abbrev S1024x3072 : Shape := ⟨2, ![1024, 3072]⟩
abbrev S1024x512 : Shape := ⟨2, ![1024, 512]⟩
abbrev S1024x4x1x128 : Shape := ⟨4, ![1024, 4, 1, 128]⟩
abbrev S1024x4x2x128 : Shape := ⟨4, ![1024, 4, 2, 128]⟩
abbrev S1024x1024 : Shape := ⟨2, ![1024, 1024]⟩
abbrev S1024x288 : Shape := ⟨2, ![1024, 288]⟩
abbrev S_ : Shape := ⟨0, ![]⟩
abbrev S1024x224 : Shape := ⟨2, ![1024, 224]⟩
abbrev S1024x384 : Shape := ⟨2, ![1024, 384]⟩
abbrev S1024x128 : Shape := ⟨2, ![1024, 128]⟩
abbrev S1024x8192 : Shape := ⟨2, ![1024, 8192]⟩
abbrev S2048x8192 : Shape := ⟨2, ![2048, 8192]⟩
abbrev S2048x4x2x128 : Shape := ⟨4, ![2048, 4, 2, 128]⟩
abbrev S2048x4x1x128 : Shape := ⟨4, ![2048, 4, 1, 128]⟩
abbrev S2048x4x128 : Shape := ⟨3, ![2048, 4, 128]⟩
abbrev S2048x512 : Shape := ⟨2, ![2048, 512]⟩
abbrev S2048x384 : Shape := ⟨2, ![2048, 384]⟩
abbrev S2048x288 : Shape := ⟨2, ![2048, 288]⟩
abbrev S2048x3072 : Shape := ⟨2, ![2048, 3072]⟩
abbrev S2048x7840 : Shape := ⟨2, ![2048, 7840]⟩

abbrev nBuf : Space → Nat
  | .hbm => 58
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x7840, .f32⟩
  | .hbm, ⟨2, _⟩ => ⟨S2048x1024, .bf16⟩
  | .hbm, ⟨3, _⟩ => ⟨S1024x3072, .f32⟩
  | .hbm, ⟨4, _⟩ => ⟨S1024x512, .f32⟩
  | .hbm, ⟨5, _⟩ => ⟨S1024x4x1x128, .f32⟩
  | .hbm, ⟨6, _⟩ => ⟨S1024x512, .f32⟩
  | .hbm, ⟨7, _⟩ => ⟨S1024x4x1x128, .f32⟩
  | .hbm, ⟨8, _⟩ => ⟨S1024x4x2x128, .f32⟩
  | .hbm, ⟨9, _⟩ => ⟨S1024x1024, .f32⟩
  | .hbm, ⟨10, _⟩ => ⟨S1024x512, .f32⟩
  | .hbm, ⟨11, _⟩ => ⟨S1024x512, .f32⟩
  | .hbm, ⟨12, _⟩ => ⟨S1024x4x1x128, .f32⟩
  | .hbm, ⟨13, _⟩ => ⟨S1024x512, .f32⟩
  | .hbm, ⟨14, _⟩ => ⟨S1024x4x1x128, .f32⟩
  | .hbm, ⟨15, _⟩ => ⟨S1024x4x2x128, .f32⟩
  | .hbm, ⟨16, _⟩ => ⟨S1024x1024, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x288, .f32⟩
  | .hbm, ⟨21, _⟩ => ⟨S_, .f32⟩
  | .hbm, ⟨22, _⟩ => ⟨S1024x224, .f32⟩
  | .hbm, ⟨23, _⟩ => ⟨S1024x384, .f32⟩
  | .hbm, ⟨24, _⟩ => ⟨S_, .f32⟩
  | .hbm, ⟨25, _⟩ => ⟨S1024x128, .f32⟩
  | .hbm, ⟨26, _⟩ => ⟨S1024x8192, .f32⟩
  | .hbm, ⟨27, _⟩ => ⟨S1024x8192, .bf16⟩
  | .hbm, ⟨28, _⟩ => ⟨S2048x8192, .bf16⟩
  | .hbm, ⟨29, _⟩ => ⟨S2048x8192, .f32⟩
  | .hbm, ⟨30, _⟩ => ⟨S2048x1024, .f32⟩
  | .hbm, ⟨31, _⟩ => ⟨S2048x4x2x128, .f32⟩
  | .hbm, ⟨32, _⟩ => ⟨S2048x4x1x128, .f32⟩
  | .hbm, ⟨33, _⟩ => ⟨S2048x4x128, .f32⟩
  | .hbm, ⟨34, _⟩ => ⟨S2048x512, .f32⟩
  | .hbm, ⟨35, _⟩ => ⟨S2048x1024, .f32⟩
  | .hbm, ⟨36, _⟩ => ⟨S2048x4x2x128, .f32⟩
  | .hbm, ⟨37, _⟩ => ⟨S2048x4x1x128, .f32⟩
  | .hbm, ⟨38, _⟩ => ⟨S2048x4x128, .f32⟩
  | .hbm, ⟨39, _⟩ => ⟨S2048x512, .f32⟩
  | .hbm, ⟨40, _⟩ => ⟨S2048x512, .f32⟩
  | .hbm, ⟨41, _⟩ => ⟨S2048x1024, .f32⟩
  | .hbm, ⟨42, _⟩ => ⟨S2048x4x2x128, .f32⟩
  | .hbm, ⟨43, _⟩ => ⟨S2048x4x1x128, .f32⟩
  | .hbm, ⟨44, _⟩ => ⟨S2048x4x128, .f32⟩
  | .hbm, ⟨45, _⟩ => ⟨S2048x512, .f32⟩
  | .hbm, ⟨46, _⟩ => ⟨S2048x512, .f32⟩
  | .hbm, ⟨47, _⟩ => ⟨S2048x1024, .f32⟩
  | .hbm, ⟨48, _⟩ => ⟨S2048x4x2x128, .f32⟩
  | .hbm, ⟨49, _⟩ => ⟨S2048x4x1x128, .f32⟩
  | .hbm, ⟨50, _⟩ => ⟨S2048x4x128, .f32⟩
  | .hbm, ⟨51, _⟩ => ⟨S2048x512, .f32⟩
  | .hbm, ⟨52, _⟩ => ⟨S2048x512, .f32⟩
  | .hbm, ⟨53, _⟩ => ⟨S2048x384, .f32⟩
  | .hbm, ⟨54, _⟩ => ⟨S2048x288, .f32⟩
  | .hbm, ⟨55, _⟩ => ⟨S2048x512, .f32⟩
  | .hbm, ⟨56, _⟩ => ⟨S2048x3072, .f32⟩
  | .hbm, ⟨57, _⟩ => ⟨S2048x7840, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S1024x7840 : Shape := ⟨2, ![1024, 7840]⟩
abbrev S2048x7840 : Shape := ⟨2, ![2048, 7840]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7840, .f32⟩
  | .hbm, ⟨2, _⟩ => ⟨S2048x7840, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x512, .bf16⟩
  | .hbm, ⟨3, _⟩ => ⟨S512x1024, .bf16⟩
  | .hbm, ⟨4, _⟩ => ⟨S2048x1024, .bf16⟩
  | .hbm, ⟨5, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S2048x384 : Shape := ⟨2, ![2048, 384]⟩
abbrev S384x768 : Shape := ⟨2, ![384, 768]⟩
abbrev S2048x768 : Shape := ⟨2, ![2048, 768]⟩
abbrev S2048x8x96 : Shape := ⟨3, ![2048, 8, 96]⟩
abbrev S2048x8x64 : Shape := ⟨3, ![2048, 8, 64]⟩
abbrev S2048x2x256 : Shape := ⟨3, ![2048, 2, 256]⟩
abbrev S2048x8x32 : Shape := ⟨3, ![2048, 8, 32]⟩
abbrev S2048x2x128 : Shape := ⟨3, ![2048, 2, 128]⟩
abbrev S2048x2x384 : Shape := ⟨3, ![2048, 2, 384]⟩
abbrev S384x8x96 : Shape := ⟨3, ![384, 8, 96]⟩
abbrev S384x8x64 : Shape := ⟨3, ![384, 8, 64]⟩
abbrev S384x2x256 : Shape := ⟨3, ![384, 2, 256]⟩
abbrev S384x8x32 : Shape := ⟨3, ![384, 8, 32]⟩
abbrev S384x2x128 : Shape := ⟨3, ![384, 2, 128]⟩
abbrev S384x2x384 : Shape := ⟨3, ![384, 2, 384]⟩
abbrev S1024x768 : Shape := ⟨2, ![1024, 768]⟩
abbrev S1024x384 : Shape := ⟨2, ![1024, 384]⟩

abbrev nBuf : Space → Nat
  | .hbm => 31
  | .vmem => 9
  | .smem => 0
  | _ => 0

abbrev bufTy : (tb : Table) → Fin (tcTables nBuf tb) → BufTy
  | .hbm, ⟨0, _⟩ => ⟨S2048x384, .f32⟩
  | .hbm, ⟨1, _⟩ => ⟨S384x768, .f32⟩
  | .hbm, ⟨2, _⟩ => ⟨S2048x768, .f32⟩
  | .hbm, ⟨3, _⟩ => ⟨S2048x8x96, .f32⟩
  | .hbm, ⟨4, _⟩ => ⟨S2048x8x64, .f32⟩
  | .hbm, ⟨5, _⟩ => ⟨S2048x2x256, .f32⟩
  | .hbm, ⟨6, _⟩ => ⟨S2048x8x32, .f32⟩
  | .hbm, ⟨7, _⟩ => ⟨S2048x2x128, .f32⟩
  | .hbm, ⟨8, _⟩ => ⟨S2048x2x384, .f32⟩
  | .hbm, ⟨9, _⟩ => ⟨S2048x768, .f32⟩
  | .hbm, ⟨10, _⟩ => ⟨S2048x768, .bf16⟩
  | .hbm, ⟨11, _⟩ => ⟨S384x8x96, .f32⟩
  | .hbm, ⟨12, _⟩ => ⟨S384x8x64, .f32⟩
  | .hbm, ⟨13, _⟩ => ⟨S384x2x256, .f32⟩
  | .hbm, ⟨14, _⟩ => ⟨S384x8x32, .f32⟩
  | .hbm, ⟨15, _⟩ => ⟨S384x2x128, .f32⟩
  | .hbm, ⟨16, _⟩ => ⟨S384x2x384, .f32⟩
  | .hbm, ⟨17, _⟩ => ⟨S384x768, .f32⟩
  | .hbm, ⟨18, _⟩ => ⟨S384x768, .bf16⟩
  | .hbm, ⟨19, _⟩ => ⟨S2048x384, .bf16⟩
  | .hbm, ⟨20, _⟩ => ⟨S2048x384, .bf16⟩
  | .hbm, ⟨21, _⟩ => ⟨S384x768, .bf16⟩
  | .hbm, ⟨22, _⟩ => ⟨S2048x384, .f32⟩
  | .hbm, ⟨23, _⟩ => ⟨S384x768, .f32⟩
  | .hbm, ⟨24, _⟩ => ⟨S384x2x384, .f32⟩
  | .hbm, ⟨25, _⟩ => ⟨S384x2x256, .f32⟩
  | .hbm, ⟨26, _⟩ => ⟨S384x8x64, .f32⟩
  | .hbm, ⟨27, _⟩ => ⟨S384x2x128, .f32⟩
  | .hbm, ⟨28, _⟩ => ⟨S384x8x32, .f32⟩
  | .hbm, ⟨29, _⟩ => ⟨S384x8x96, .f32⟩
  | .hbm, ⟨30, _⟩ => ⟨S384x768, .f32⟩
  | .local _ .vmem, ⟨0, _⟩ => ⟨S1024x768, .bf16⟩
  | .local _ .vmem, ⟨1, _⟩ => ⟨S1024x768, .bf16⟩
  | .local _ .vmem, ⟨2, _⟩ => ⟨S384x768, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .bf16⟩
  | .local _ .vmem, ⟨7, _⟩ => ⟨S384x768, .bf16⟩
  | .local _ .vmem, ⟨8, _⟩ => ⟨S384x768, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17_0 : Ref sig .tc := ⟨.hbm, 20, rfl⟩
abbrev main_v17_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v16 : BitVec 1 := Scalar.cmpi .eq arg0 c1_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference9Ideal.lean ====
abbrev S2048x384 : Shape := ⟨2, ![2048, 384]⟩
abbrev S384x768 : Shape := ⟨2, ![384, 768]⟩
abbrev S2048x768 : Shape := ⟨2, ![2048, 768]⟩
abbrev S768x384 : Shape := ⟨2, ![768, 384]⟩

abbrev nBuf : Space → Nat
  | .hbm => 7
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x768, .f32⟩
  | .hbm, ⟨2, _⟩ => ⟨S2048x768, .f32⟩
  | .hbm, ⟨3, _⟩ => ⟨S2048x768, .f32⟩
  | .hbm, ⟨4, _⟩ => ⟨S768x384, .f32⟩
  | .hbm, ⟨5, _⟩ => ⟨S384x768, .f32⟩
  | .hbm, ⟨6, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x256 : Shape := ⟨2, ![2048, 256]⟩
abbrev S256x1024 : Shape := ⟨2, ![256, 1024]⟩
abbrev S2048x1024 : Shape := ⟨2, ![2048, 1024]⟩
abbrev S2048x8x128 : Shape := ⟨3, ![2048, 8, 128]⟩
abbrev S2048x8x64 : Shape := ⟨3, ![2048, 8, 64]⟩
abbrev S2048x2x256 : Shape := ⟨3, ![2048, 2, 256]⟩
abbrev S2048x2x512 : Shape := ⟨3, ![2048, 2, 512]⟩
abbrev S256x8x128 : Shape := ⟨3, ![256, 8, 128]⟩
abbrev S256x8x64 : Shape := ⟨3, ![256, 8, 64]⟩
abbrev S256x2x256 : Shape := ⟨3, ![256, 2, 256]⟩
abbrev S256x2x512 : Shape := ⟨3, ![256, 2, 512]⟩
abbrev S1024x1024 : Shape := ⟨2, ![1024, 1024]⟩
abbrev S1024x256 : Shape := ⟨2, ![1024, 256]⟩

abbrev nBuf : Space → Nat
  | .hbm => 31
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x8x128, .f32⟩
  | .hbm, ⟨4, _⟩ => ⟨S2048x8x64, .f32⟩
  | .hbm, ⟨5, _⟩ => ⟨S2048x2x256, .f32⟩
  | .hbm, ⟨6, _⟩ => ⟨S2048x8x64, .f32⟩
  | .hbm, ⟨7, _⟩ => ⟨S2048x2x256, .f32⟩
  | .hbm, ⟨8, _⟩ => ⟨S2048x2x512, .f32⟩
  | .hbm, ⟨9, _⟩ => ⟨S2048x1024, .f32⟩
  | .hbm, ⟨10, _⟩ => ⟨S2048x1024, .bf16⟩
  | .hbm, ⟨11, _⟩ => ⟨S256x8x128, .f32⟩
  | .hbm, ⟨12, _⟩ => ⟨S256x8x64, .f32⟩
  | .hbm, ⟨13, _⟩ => ⟨S256x2x256, .f32⟩
  | .hbm, ⟨14, _⟩ => ⟨S256x8x64, .f32⟩
  | .hbm, ⟨15, _⟩ => ⟨S256x2x256, .f32⟩
  | .hbm, ⟨16, _⟩ => ⟨S256x2x512, .f32⟩
  | .hbm, ⟨17, _⟩ => ⟨S256x1024, .f32⟩
  | .hbm, ⟨18, _⟩ => ⟨S256x1024, .bf16⟩
  | .hbm, ⟨19, _⟩ => ⟨S2048x256, .bf16⟩
  | .hbm, ⟨20, _⟩ => ⟨S2048x256, .bf16⟩
  | .hbm, ⟨21, _⟩ => ⟨S256x1024, .bf16⟩
  | .hbm, ⟨22, _⟩ => ⟨S2048x256, .f32⟩
  | .hbm, ⟨23, _⟩ => ⟨S256x1024, .f32⟩
  | .hbm, ⟨24, _⟩ => ⟨S256x2x512, .f32⟩
  | .hbm, ⟨25, _⟩ => ⟨S256x2x256, .f32⟩
  | .hbm, ⟨26, _⟩ => ⟨S256x8x64, .f32⟩
  | .hbm, ⟨27, _⟩ => ⟨S256x2x256, .f32⟩
  | .hbm, ⟨28, _⟩ => ⟨S256x8x64, .f32⟩
  | .hbm, ⟨29, _⟩ => ⟨S256x8x128, .f32⟩
  | .hbm, ⟨30, _⟩ => ⟨S256x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17_0 : Ref sig .tc := ⟨.hbm, 20, rfl⟩
abbrev main_v17_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v16 : BitVec 1 := Scalar.cmpi .eq arg0 c1_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S2048x256 : Shape := ⟨2, ![2048, 256]⟩
abbrev S256x1024 : Shape := ⟨2, ![256, 1024]⟩
abbrev S2048x1024 : Shape := ⟨2, ![2048, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x1024, .f32⟩
  | .hbm, ⟨4, _⟩ => ⟨S1024x256, .f32⟩
  | .hbm, ⟨5, _⟩ => ⟨S256x1024, .f32⟩
  | .hbm, ⟨6, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x384 : Shape := ⟨2, ![2048, 384]⟩
abbrev S384x768 : Shape := ⟨2, ![384, 768]⟩
abbrev S384x8x96 : Shape := ⟨3, ![384, 8, 96]⟩
abbrev S384x8x64 : Shape := ⟨3, ![384, 8, 64]⟩
abbrev S384x2x256 : Shape := ⟨3, ![384, 2, 256]⟩
abbrev S384x8x32 : Shape := ⟨3, ![384, 8, 32]⟩
abbrev S384x2x128 : Shape := ⟨3, ![384, 2, 128]⟩
abbrev S384x2x384 : Shape := ⟨3, ![384, 2, 384]⟩
abbrev S2048x768 : Shape := ⟨2, ![2048, 768]⟩
abbrev S1024x384 : Shape := ⟨2, ![1024, 384]⟩
abbrev S1024x768 : Shape := ⟨2, ![1024, 768]⟩
abbrev S2048x2x384 : Shape := ⟨3, ![2048, 2, 384]⟩
abbrev S2048x2x256 : Shape := ⟨3, ![2048, 2, 256]⟩
abbrev S2048x8x64 : Shape := ⟨3, ![2048, 8, 64]⟩
abbrev S2048x2x128 : Shape := ⟨3, ![2048, 2, 128]⟩
abbrev S2048x8x32 : Shape := ⟨3, ![2048, 8, 32]⟩
abbrev S2048x8x96 : Shape := ⟨3, ![2048, 8, 96]⟩

abbrev nBuf : Space → Nat
  | .hbm => 19
  | .vmem => 5
  | .smem => 0
  | _ => 0

abbrev bufTy : (tb : Table) → Fin (tcTables nBuf tb) → BufTy
  | .hbm, ⟨0, _⟩ => ⟨S2048x384, .f32⟩
  | .hbm, ⟨1, _⟩ => ⟨S384x768, .f32⟩
  | .hbm, ⟨2, _⟩ => ⟨S2048x384, .bf16⟩
  | .hbm, ⟨3, _⟩ => ⟨S384x8x96, .f32⟩
  | .hbm, ⟨4, _⟩ => ⟨S384x8x64, .f32⟩
  | .hbm, ⟨5, _⟩ => ⟨S384x2x256, .f32⟩
  | .hbm, ⟨6, _⟩ => ⟨S384x8x32, .f32⟩
  | .hbm, ⟨7, _⟩ => ⟨S384x2x128, .f32⟩
  | .hbm, ⟨8, _⟩ => ⟨S384x2x384, .f32⟩
  | .hbm, ⟨9, _⟩ => ⟨S384x768, .f32⟩
  | .hbm, ⟨10, _⟩ => ⟨S384x768, .bf16⟩
  | .hbm, ⟨11, _⟩ => ⟨S2048x768, .f32⟩
  | .hbm, ⟨12, _⟩ => ⟨S2048x2x384, .f32⟩
  | .hbm, ⟨13, _⟩ => ⟨S2048x2x256, .f32⟩
  | .hbm, ⟨14, _⟩ => ⟨S2048x8x64, .f32⟩
  | .hbm, ⟨15, _⟩ => ⟨S2048x2x128, .f32⟩
  | .hbm, ⟨16, _⟩ => ⟨S2048x8x32, .f32⟩
  | .hbm, ⟨17, _⟩ => ⟨S2048x8x96, .f32⟩
  | .hbm, ⟨18, _⟩ => ⟨S2048x768, .f32⟩
  | .local _ .vmem, ⟨0, _⟩ => ⟨S1024x384, .bf16⟩
  | .local _ .vmem, ⟨1, _⟩ => ⟨S1024x384, .bf16⟩
  | .local _ .vmem, ⟨2, _⟩ => ⟨S384x768, .bf16⟩
  | .local _ .vmem, ⟨3, _⟩ => ⟨S1024x768, .f32⟩
  | .local _ .vmem, ⟨4, _⟩ => ⟨S1024x768, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x384 : Shape := ⟨2, ![2048, 384]⟩
abbrev S384x768 : Shape := ⟨2, ![384, 768]⟩
abbrev S2048x768 : Shape := ⟨2, ![2048, 768]⟩

abbrev nBuf : Space → Nat
  | .hbm => 3
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x768, .f32⟩
  | .hbm, ⟨2, _⟩ => ⟨S2048x768, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S2048x256 : Shape := ⟨2, ![2048, 256]⟩
abbrev S256x1024 : Shape := ⟨2, ![256, 1024]⟩
abbrev S256x8x128 : Shape := ⟨3, ![256, 8, 128]⟩
abbrev S256x8x64 : Shape := ⟨3, ![256, 8, 64]⟩
abbrev S256x2x256 : Shape := ⟨3, ![256, 2, 256]⟩
abbrev S256x2x512 : Shape := ⟨3, ![256, 2, 512]⟩
abbrev S2048x1024 : Shape := ⟨2, ![2048, 1024]⟩
abbrev S1024x256 : Shape := ⟨2, ![1024, 256]⟩
abbrev S1024x1024 : Shape := ⟨2, ![1024, 1024]⟩
abbrev S2048x2x512 : Shape := ⟨3, ![2048, 2, 512]⟩
abbrev S2048x2x256 : Shape := ⟨3, ![2048, 2, 256]⟩
abbrev S2048x8x64 : Shape := ⟨3, ![2048, 8, 64]⟩
abbrev S2048x8x128 : Shape := ⟨3, ![2048, 8, 128]⟩

abbrev nBuf : Space → Nat
  | .hbm => 20
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x256, .bf16⟩
  | .hbm, ⟨3, _⟩ => ⟨S256x8x128, .f32⟩
  | .hbm, ⟨4, _⟩ => ⟨S256x8x64, .f32⟩
  | .hbm, ⟨5, _⟩ => ⟨S256x2x256, .f32⟩
  | .hbm, ⟨6, _⟩ => ⟨S256x8x64, .f32⟩
  | .hbm, ⟨7, _⟩ => ⟨S256x2x256, .f32⟩
  | .hbm, ⟨8, _⟩ => ⟨S256x2x512, .f32⟩
  | .hbm, ⟨9, _⟩ => ⟨S256x1024, .f32⟩
  | .hbm, ⟨10, _⟩ => ⟨S256x1024, .bf16⟩
  | .hbm, ⟨11, _⟩ => ⟨S2048x1024, .bf16⟩
  | .hbm, ⟨12, _⟩ => ⟨S2048x1024, .f32⟩
  | .hbm, ⟨13, _⟩ => ⟨S2048x2x512, .f32⟩
  | .hbm, ⟨14, _⟩ => ⟨S2048x2x256, .f32⟩
  | .hbm, ⟨15, _⟩ => ⟨S2048x8x64, .f32⟩
  | .hbm, ⟨16, _⟩ => ⟨S2048x2x256, .f32⟩
  | .hbm, ⟨17, _⟩ => ⟨S2048x8x64, .f32⟩
  | .hbm, ⟨18, _⟩ => ⟨S2048x8x128, .f32⟩
  | .hbm, ⟨19, _⟩ => ⟨S2048x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S2048x8x96 : Shape := ⟨3, ![2048, 8, 96]⟩
abbrev S2048x8x64 : Shape := ⟨3, ![2048, 8, 64]⟩
abbrev S2048x32 : Shape := ⟨2, ![2048, 32]⟩
abbrev S2048x8x32 : Shape := ⟨3, ![2048, 8, 32]⟩
abbrev S2048x2x256 : Shape := ⟨3, ![2048, 2, 256]⟩
abbrev S2048x2x128 : Shape := ⟨3, ![2048, 2, 128]⟩
abbrev S2048x2x384 : Shape := ⟨3, ![2048, 2, 384]⟩
abbrev S2048x768 : Shape := ⟨2, ![2048, 768]⟩
abbrev S2048x2x512 : Shape := ⟨3, ![2048, 2, 512]⟩
abbrev S2048x1024 : Shape := ⟨2, ![2048, 1024]⟩
abbrev S2048x128 : Shape := ⟨2, ![2048, 128]⟩
abbrev S2048x512 : Shape := ⟨2, ![2048, 512]⟩
abbrev S2048x384 : Shape := ⟨2, ![2048, 384]⟩
abbrev S2048x256 : Shape := ⟨2, ![2048, 256]⟩
abbrev S512x128 : Shape := ⟨2, ![512, 128]⟩
abbrev S1x128 : Shape := ⟨2, ![1, 128]⟩
abbrev S512x256 : Shape := ⟨2, ![512, 256]⟩
abbrev S512x1 : Shape := ⟨2, ![512, 1]⟩
abbrev S512x512 : Shape := ⟨2, ![512, 512]⟩
abbrev S512 : Shape := ⟨1, ![512]⟩
abbrev S2048x8x1 : Shape := ⟨3, ![2048, 8, 1]⟩
abbrev S2048x8 : Shape := ⟨2, ![2048, 8]⟩

abbrev nBuf : Space → Nat
  | .hbm => 24
  | .vmem => 9
  | .smem => 0
  | _ => 0

abbrev bufTy : (tb : Table) → Fin (tcTables nBuf tb) → BufTy
  | .hbm, ⟨0, _⟩ => ⟨S2048x8x96, .f32⟩
  | .hbm, ⟨1, _⟩ => ⟨S2048x8x64, .f32⟩
  | .hbm, ⟨2, _⟩ => ⟨S2048x32, .f32⟩
  | .hbm, ⟨3, _⟩ => ⟨S2048x8x64, .f32⟩
  | .hbm, ⟨4, _⟩ => ⟨S2048x8x64, .f32⟩
  | .hbm, ⟨5, _⟩ => ⟨S2048x8x32, .f32⟩
  | .hbm, ⟨6, _⟩ => ⟨S2048x2x256, .f32⟩
  | .hbm, ⟨7, _⟩ => ⟨S2048x2x128, .f32⟩
  | .hbm, ⟨8, _⟩ => ⟨S2048x2x384, .f32⟩
  | .hbm, ⟨9, _⟩ => ⟨S2048x768, .f32⟩
  | .hbm, ⟨10, _⟩ => ⟨S2048x768, .bf16⟩
  | .hbm, ⟨11, _⟩ => ⟨S2048x2x256, .f32⟩
  | .hbm, ⟨12, _⟩ => ⟨S2048x2x256, .f32⟩
  | .hbm, ⟨13, _⟩ => ⟨S2048x2x512, .f32⟩
  | .hbm, ⟨14, _⟩ => ⟨S2048x1024, .f32⟩
  | .hbm, ⟨15, _⟩ => ⟨S2048x1024, .bf16⟩
  | .hbm, ⟨16, _⟩ => ⟨S2048x128, .f32⟩
  | .hbm, ⟨17, _⟩ => ⟨S2048x128, .bf16⟩
  | .hbm, ⟨18, _⟩ => ⟨S2048x512, .f32⟩
  | .hbm, ⟨19, _⟩ => ⟨S2048x512, .f32⟩
  | .hbm, ⟨20, _⟩ => ⟨S2048x8x64, .f32⟩
  | .hbm, ⟨21, _⟩ => ⟨S2048x8x64, .f32⟩
  | .hbm, ⟨22, _⟩ => ⟨S2048x8x1, .f32⟩
  | .hbm, ⟨23, _⟩ => ⟨S2048x8, .f32⟩
  | .local _ .vmem, ⟨0, _⟩ => ⟨S2048x384, .bf16⟩
  | .local _ .vmem, ⟨1, _⟩ => ⟨S2048x384, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | _, _ => ⟨S2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S2048x8x96 : Shape := ⟨3, ![2048, 8, 96]⟩
abbrev S2048x8x64 : Shape := ⟨3, ![2048, 8, 64]⟩
abbrev S2048x32 : Shape := ⟨2, ![2048, 32]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S2048x8 : Shape := ⟨2, ![2048, 8]⟩

abbrev nBuf : Space → Nat
  | .hbm => 51
  | .vmem => 0
  | .smem => 0
  | _ => 0

abbrev bufTy : (tb : Table) → Fin (tcTables nBuf tb) → BufTy
  | .hbm, ⟨0, _⟩ => ⟨S2048x8x96, .f32⟩
  | .hbm, ⟨1, _⟩ => ⟨S2048x8x64, .f32⟩
  | .hbm, ⟨2, _⟩ => ⟨S2048x32, .f32⟩
  | .hbm, ⟨3, _⟩ => ⟨S2048x8x64, .f32⟩
  | .hbm, ⟨4, _⟩ => ⟨S2048x1x32, .f32⟩
  | .hbm, ⟨5, _⟩ => ⟨S2048x8x32, .f32⟩
  | .hbm, ⟨6, _⟩ => ⟨S2048x8x96, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S1x2048x2048, .i1⟩
  | .hbm, ⟨19, _⟩ => ⟨S_, .f32⟩
  | .hbm, ⟨20, _⟩ => ⟨S_, .f32⟩
  | .hbm, ⟨21, _⟩ => ⟨S8x2048x2048, .i1⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x64x2048, .f32⟩
  | .hbm, ⟨41, _⟩ => ⟨S2048x8x64, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048, .f32⟩
  | .hbm, ⟨49, _⟩ => ⟨S8x2048, .f32⟩
  | .hbm, ⟨50, _⟩ => ⟨S2048x8, .f32⟩
  | _, _ => ⟨S2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel14.lean ====
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S3x1024 : Shape := ⟨2, ![3, 1024]⟩
abbrev S512x1024 : Shape := ⟨2, ![512, 1024]⟩

abbrev nBuf : Space → Nat
  | .hbm => 16
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S3x1024, .f32⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S3x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_11 : BitVec 32 := 0#32
  let v19 : BitVec 1 := Scalar.cmpi .ne v18 c0_i32_11
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_12 : BitVec 32 := 0#32
  let v22 : BitVec 1 := Scalar.cmpi .ne v21 c0_i32_12
  v22

def k0_cond3 (i : grid0.Coords) : BitVec 1 :=
  let arg0 : BitVec 32 := BitVec.ofNat 32 (i 0).val
  let c0_i32 : BitVec 32 := 0#32
  let v17 : BitVec 1 := Scalar.cmpi .eq arg0 c0_i32
  let v23 : BitVec 32 := Scalar.extui v17
  let c0_i32_13 : BitVec 32 := 0#32
  let v24 : BitVec 1 := Scalar.cmpi .ne v23 c0_i32_13
  v24

def k0_cond4 (i : grid0.Coords) : BitVec 1 :=
  let arg0 : BitVec 32 := BitVec.ofNat 32 (i 0).val
  let c0_i32 : BitVec 32 := 0#32
  let v17 : BitVec 1 := Scalar.cmpi .eq arg0 c0_i32
  let true_14 : BitVec 1 := 1#1
  let v25 : BitVec 1 := Scalar.xori v17 true_14
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S2048x1024 : Shape := ⟨2, ![2048, 1024]⟩
abbrev S1024 : Shape := ⟨1, ![1024]⟩
abbrev S1x1024 : Shape := ⟨2, ![1, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S_, .f32⟩
  | .hbm, ⟨19, _⟩ => ⟨S1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Loop.lean ====
/- The attention gradient's body as a program of loops.

   The printed body is one straight line of loads, stores and vector operations: two head pairs, two heads of a pair,
   four blocks of queries, and for each of these the blocks of keys up to the diagonal. This module writes the same
   line as nested loops, each loop taking the rest of the program as an argument. -/
module

public import proofs.«01_k».proof.Proof.Gen.KernelIdeal.Skeleton

@[expose] public section

set_option maxRecDepth 16384

noncomputable section

namespace Cert.KernelIdeal.Attn

open Cert.KernelIdeal Cert.KernelIdeal.Gen
open Idealize.ShloMosaic Idealize.ShloMosaic.TcCoe Idealize.SL.Sem

variable {F : FTy → Type} [FloatOps F]

/-- A window of `H` rows and `W` columns at row `r` and column `c` lies inside an array of `R` rows and `C` columns. -/
theorem inb {R C H W r c : ℕ} (h : r + H ≤ R) (h' : c + W ≤ C) :
    ∀ a, (![r, c] : Fin 2 → ℕ) a + (⟨2, ![H, W]⟩ : Shape).size a ≤ (⟨2, ![R, C]⟩ : Shape).size a := fun a => by
  match a with
  | ⟨0, _⟩ => exact h
  | ⟨1, _⟩ => exact h'

/-- The row of 128 lanes that is one on the lanes of group `g` (`w` lanes to a group) and zero elsewhere. -/
def laneMask (w g : ℕ) : FVec F S1x128 .f32 :=
  let lane : IVec S1x128 32 := iota .tc S1x128 32 [1] iota_S1x128_d1_w32
  let cw : BitVec 32 := BitVec.ofNat 32 w
  let q : IVec S1x128 32 := divsi lane (broadcast S1x128 cw)
  let sgn : IVec S1x128 32 := subi (extui 32 (cmpi .sgt lane (broadcast S1x128 0#32)) natLt_1_32)
    (extui 32 (cmpi .slt lane (broadcast S1x128 0#32)) natLt_1_32)
  let sgw : BitVec 32 := Scalar.subi (Scalar.extui (Scalar.cmpi .sgt cw 0#32)) (Scalar.extui (Scalar.cmpi .slt cw 0#32))
  let off : IVec S1x128 1 := andi (cmpi .ne sgn (broadcast S1x128 sgw))
    (cmpi .ne (remsi lane (broadcast S1x128 cw)) (broadcast S1x128 0#32))
  let grp : IVec S1x128 32 := select off (subi q (broadcast S1x128 1#32)) q
  select (cmpi .eq grp (broadcast S1x128 (BitVec.ofNat 32 g))) (broadcast S1x128 (Scalar.ofBits .f32 0x3F800000#32))
    (broadcast S1x128 (Scalar.ofBits .f32 0x00000000#32))

/-- The mask over the 512 rows of a block, in f32. -/
def mask32 (w g : ℕ) : FVec F S512x128 .f32 := broadcastTo S512x128 (laneMask w g) broadcasts_S1x128_S512x128

/-- The mask over the 512 rows of a block, in bf16. -/
def mask16 (w g : ℕ) : FVec F S512x128 .bf16 :=
  broadcastTo S512x128 (truncf .bf16 (laneMask w g) bitsLt_bf16_f32) broadcasts_S1x128_S512x128

/-- A block of queries, the head's own lanes kept: the 64 of the part without rotation, then the 32 of the rotary part. -/
def qcat (t hh : ℕ) (qn qr : Vec F S512x128 .bf16) : FVec F S512x256 .bf16 :=
  concatenate S512x256 1 [⟨S512x128, mulf (shapeCast S512x128 qn shapeCasts_S512x128_S512x128) (mask16 64 hh)⟩,
      ⟨S512x128, mulf (shapeCast S512x128 qr shapeCasts_S512x128_S512x128) (mask16 32 (2 * t + hh))⟩]
    concatenates_S512x128_S512x128_S512x256_d1

/-- The cotangent's block, the head's own lanes kept. -/
def dof (hh : ℕ) (d : Vec F S512x128 .f32) : FVec F S512x128 .f32 :=
  mulf (shapeCast S512x128 d shapeCasts_S512x128_S512x128) (mask32 64 hh)

/-- For each query of a block the sum over the lanes of cotangent times output. -/
def delta (hh : ℕ) (d o : Vec F S512x128 .f32) : FVec F S512x1 .f32 :=
  shapeCast S512x1 (multiReduction .add [1] S512 (mulf (dof hh d) (shapeCast S512x128 o shapeCasts_S512x128_S512x128)) 0x00000000#32 reduces_S512x128_S512 (.inl rfl) rfl)
    shapeCasts_S512_S512x1

/-- A block of keys: the part without rotation, then the rotary part. -/
def kcat (kn kr : Vec F S512x128 .bf16) : FVec F S512x256 .bf16 :=
  concatenate S512x256 1 [⟨S512x128, shapeCast S512x128 kn shapeCasts_S512x128_S512x128⟩,
    ⟨S512x128, shapeCast S512x128 kr shapeCasts_S512x128_S512x128⟩] concatenates_S512x128_S512x128_S512x256_d1

/-- The scaled scores of a tile. -/
def score (qc kc : FVec F S512x256 .bf16) : FVec F S512x512 .f32 :=
  mulf (matmul dot_S512x256_S512x256_S512x512_1_1_0_0_n_n none qc kc (constant S512x512 .f32 0x00000000#32))
    (broadcast S512x512 (Scalar.ofBits .f32 0x3DD105EC#32))

/-- The scores of a tile on the diagonal: minus infinity where the key comes after the query. -/
def causal (s : FVec F S512x512 .f32) : FVec F S512x512 .f32 :=
  select (cmpi .sle (iota .tc S512x512 32 [1] iota_S512x512_d1_w32)
      (addi (iota .tc S512x512 32 [0] iota_S512x512_d0_w32) (broadcast S512x512 0#32)))
    s (broadcast S512x512 (Scalar.ofBits .f32 0xFF800000#32))

/-- The probabilities of a tile from its scores and the log-sum-exp of each query. -/
def prob (s : FVec F S512x512 .f32) (lse : FVec F S512x1 .f32) : FVec F S512x512 .f32 :=
  exp (subf s (broadcastTo S512x512 lse broadcasts_S512x1_S512x512))

/-- The gradient of a tile's unscaled scores. -/
def dscore (p : FVec F S512x512 .f32) (db : FVec F S512x128 .bf16) (v : Vec F S512x128 .bf16) (dl : FVec F S512x1 .f32) :
    FVec F S512x512 .bf16 :=
  truncf .bf16 (mulf (mulf p
      (subf (matmul dot_S512x128_S512x128_S512x512_1_1_0_0_n_n none db (shapeCast S512x128 v shapeCasts_S512x128_S512x128) (constant S512x512 .f32 0x00000000#32))
        (broadcastTo S512x512 dl broadcasts_S512x1_S512x512)))
    (broadcast S512x512 (Scalar.ofBits .f32 0x3DD105EC#32))) bitsLt_bf16_f32

/-- The value gradient's block after a tile. -/
def dvNext (p : FVec F S512x512 .f32) (db : FVec F S512x128 .bf16) (a : Vec F S512x128 .f32) : FVec F S512x128 .f32 :=
  shapeCast S512x128 (addf a (matmul dot_S512x512_S512x128_S512x128_0_0_1_1_n_n none (truncf .bf16 p bitsLt_bf16_f32) db
    (constant S512x128 .f32 0x00000000#32))) shapeCasts_S512x128_S512x128

/-- The key gradient's block after a tile. -/
def dkNext (ds : FVec F S512x512 .bf16) (qc : FVec F S512x256 .bf16) (a : Vec F S512x256 .f32) : FVec F S512x256 .f32 :=
  shapeCast S512x256 (addf a (matmul dot_S512x512_S512x256_S512x256_0_0_1_1_n_n none ds qc
    (constant S512x256 .f32 0x00000000#32))) shapeCasts_S512x256_S512x256

/-- The query gradient's block after a tile. -/
def dqNext (ds : FVec F S512x512 .bf16) (kc : FVec F S512x256 .bf16) (a : Vec F S512x256 .f32) : FVec F S512x256 .f32 :=
  shapeCast S512x256 (addf a (matmul dot_S512x512_S512x256_S512x256_1_0_0_1_n_n none ds kc
    (constant S512x256 .f32 0x00000000#32))) shapeCasts_S512x256_S512x256

/-- The part of the query gradient without rotation, the head's own lanes kept. -/
def dqNope (hh : ℕ) (d : Vec F S512x256 .f32) : FVec F S512x128 .f32 :=
  mulf (extractStridedSlice S512x128 ![0, 0] d slices_S512x256_o0_0_S512x128) (mask32 64 hh)

/-- The rotary part of the query gradient, the head's own lanes kept. -/
def dqRope (t hh : ℕ) (d : Vec F S512x256 .f32) : FVec F S512x128 .f32 :=
  mulf (extractStridedSlice S512x128 ![0, 128] d slices_S512x256_o0_128_S512x128) (mask32 32 (2 * t + hh))

/-- A block kept and added to. -/
def plus (a b : FVec F S512x128 .f32) : FVec F S512x128 .f32 :=
  addf (shapeCast S512x128 a shapeCasts_S512x128_S512x128) b

/-- The effects of the kernel's core. -/
abbrev Eff (F : FTy → Type) := TpuEff nD τ sig (Elt F) Λ₀ .tc

/-- The kernel's buffers. -/
structure Bufs where
  q : Memref sig .tc .vmem S2048x384 .bf16
  kv : Memref sig .tc .vmem S2048x512 .bf16
  kp : Memref sig .tc .vmem S2048x128 .bf16
  o : Memref sig .tc .vmem S2048x256 .f32
  lse : Memref sig .tc .vmem S2048x256 .f32
  dO : Memref sig .tc .vmem S2048x256 .f32
  dq : Memref sig .tc .vmem S2048x384 .f32
  dkv : Memref sig .tc .vmem S2048x512 .bf16
  dkp : Memref sig .tc .vmem S2048x128 .f32
  qa : Memref sig .tc .vmem S512x256 .f32
  ka : Memref sig .tc .vmem S2048x256 .f32
  va : Memref sig .tc .vmem S2048x128 .f32
  hdkv : dkv.IsWhole

variable (B : Bufs) {α : Type}

/-- Load a window of a buffer, then go on. -/
abbrev ld {R C : ℕ} {e : EltTy} (b : Memref sig .tc .vmem ⟨2, ![R, C]⟩ e) (r c H W : ℕ) (h : r + H ≤ R) (h' : c + W ≤ C)
    (hn : 0 < (⟨2, ![H, W]⟩ : Shape).numel) (k : Vec F ⟨2, ![H, W]⟩ e → Prog (Eff F) α) : Prog (Eff F) α :=
  .op (.load b (Rect.unit (s := ⟨2, ![R, C]⟩) ![r, c] (⟨2, ![H, W]⟩ : Shape).size (inb h h')).toLoadRect (View.loadsAt_vmem hn)) k

/-- Store an f32 window of a buffer, then go on. -/
abbrev st {R C : ℕ} (b : Memref sig .tc .vmem ⟨2, ![R, C]⟩ .f32) (r c H W : ℕ) (h : r + H ≤ R) (h' : c + W ≤ C)
    (hn : 0 < (⟨2, ![H, W]⟩ : Shape).numel) (w : Vec F ⟨2, ![H, W]⟩ .f32) (k : Prog (Eff F) α) : Prog (Eff F) α :=
  .op (.store b (Rect.unit (s := ⟨2, ![R, C]⟩) ![r, c] (⟨2, ![H, W]⟩ : Shape).size (inb h h')) w Finset.univ
    (View.stores_vmem_bits_univ hn rfl) (.inl rfl)) fun _ => k

/-- One tile: the block of queries `qi` (given by its values) against the block of keys `kj`. -/
def step (t kj : ℕ) (ht : t < 2) (hk : kj < 4) (msk : FVec F S512x512 .f32 → FVec F S512x512 .f32) (qc : FVec F S512x256 .bf16)
    (db : FVec F S512x128 .bf16) (dl lse : FVec F S512x1 .f32) (k : Prog (Eff F) α) : Prog (Eff F) α :=
  ld B.kv (512 * kj) (128 * t) 512 128 (by omega) (by omega) h_S512x128 fun kn =>
  ld B.kp (512 * kj) 0 512 128 (by omega) (by omega) h_S512x128 fun kr =>
  ld B.kv (512 * kj) (256 + 128 * t) 512 128 (by omega) (by omega) h_S512x128 fun v =>
  ld B.va (512 * kj) 0 512 128 (by omega) (by omega) h_S512x128 fun va =>
  ld B.va (512 * kj) 0 512 128 (by omega) (by omega) h_S512x128 fun _ =>
  st B.va (512 * kj) 0 512 128 (by omega) (by omega) h_S512x128 (dvNext (prob (msk (score qc (kcat kn kr))) lse) db va) <|
  ld B.ka (512 * kj) 0 512 256 (by omega) (by omega) h_S512x256 fun ka =>
  ld B.ka (512 * kj) 0 512 256 (by omega) (by omega) h_S512x256 fun _ =>
  st B.ka (512 * kj) 0 512 256 (by omega) (by omega) h_S512x256
    (dkNext (dscore (prob (msk (score qc (kcat kn kr))) lse) db v dl) qc ka) <|
  ld B.qa 0 0 512 256 (by omega) (by omega) h_S512x256 fun qa =>
  ld B.qa 0 0 512 256 (by omega) (by omega) h_S512x256 fun _ =>
  st B.qa 0 0 512 256 (by omega) (by omega) h_S512x256
    (dqNext (dscore (prob (msk (score qc (kcat kn kr))) lse) db v dl) (kcat kn kr) qa) k

/-- The tiles below the diagonal, for the first `n` blocks of keys. -/
def steps (t : ℕ) (ht : t < 2) (qc : FVec F S512x256 .bf16) (db : FVec F S512x128 .bf16) (dl lse : FVec F S512x1 .f32) :
    (n : ℕ) → n ≤ 4 → Prog (Eff F) α → Prog (Eff F) α
  | 0, _, k => k
  | n + 1, h, k => steps t ht qc db dl lse n (Nat.le_of_succ_le h) (step B t n ht h id qc db dl lse k)

/-- What is left of a block of queries after its tiles: its gradient goes out, set by the first head and added to by the others. -/
def qOut (t hh qi : ℕ) (ht : t < 2) (hq : qi < 4) (k : Prog (Eff F) α) : Prog (Eff F) α :=
  ld B.qa 0 0 512 256 (by omega) (by omega) h_S512x256 fun d =>
  match hh with
  | 0 =>
    ld B.dq (512 * qi) (128 * t) 512 128 (by omega) (by omega) h_S512x128 fun _ =>
    st B.dq (512 * qi) (128 * t) 512 128 (by omega) (by omega) h_S512x128 (dqNope hh d) <|
    match t with
    | 0 =>
      ld B.dq (512 * qi) 256 512 128 (by omega) (by omega) h_S512x128 fun _ =>
      st B.dq (512 * qi) 256 512 128 (by omega) (by omega) h_S512x128 (dqRope t hh d) k
    | _ + 1 =>
      ld B.dq (512 * qi) 256 512 128 (by omega) (by omega) h_S512x128 fun b =>
      ld B.dq (512 * qi) 256 512 128 (by omega) (by omega) h_S512x128 fun _ =>
      st B.dq (512 * qi) 256 512 128 (by omega) (by omega) h_S512x128 (plus b (dqRope t hh d)) k
  | _ + 1 =>
    ld B.dq (512 * qi) (128 * t) 512 128 (by omega) (by omega) h_S512x128 fun a =>
    ld B.dq (512 * qi) (128 * t) 512 128 (by omega) (by omega) h_S512x128 fun _ =>
    st B.dq (512 * qi) (128 * t) 512 128 (by omega) (by omega) h_S512x128 (plus a (dqNope hh d)) <|
    ld B.dq (512 * qi) 256 512 128 (by omega) (by omega) h_S512x128 fun b =>
    ld B.dq (512 * qi) 256 512 128 (by omega) (by omega) h_S512x128 fun _ =>
    st B.dq (512 * qi) 256 512 128 (by omega) (by omega) h_S512x128 (plus b (dqRope t hh d)) k

/-- One block of queries of one head. -/
def qBlock (t hh qi : ℕ) (ht : t < 2) (hq : qi < 4) (k : Prog (Eff F) α) : Prog (Eff F) α :=
  ld B.q (512 * qi) (128 * t) 512 128 (by omega) (by omega) h_S512x128 fun qn =>
  ld B.q (512 * qi) 256 512 128 (by omega) (by omega) h_S512x128 fun qr =>
  ld B.dO (512 * qi) (128 * t) 512 128 (by omega) (by omega) h_S512x128 fun d =>
  ld B.o (512 * qi) (128 * t) 512 128 (by omega) (by omega) h_S512x128 fun o =>
  ld B.lse (512 * qi) (128 * t) 512 128 (by omega) (by omega) h_S512x128 fun l =>
  ld B.qa 0 0 512 256 (by omega) (by omega) h_S512x256 fun _ =>
  st B.qa 0 0 512 256 (by omega) (by omega) h_S512x256
    (shapeCast S512x256 (broadcast S512x256 (Scalar.ofBits .f32 0x00000000#32)) shapeCasts_S512x256_S512x256) <|
  let lse : FVec F S512x1 .f32 := match hh with
    | 0 => extractStridedSlice S512x1 ![0, 0] (shapeCast S512x128 l shapeCasts_S512x128_S512x128) slices_S512x128_o0_0_S512x1
    | _ + 1 => extractStridedSlice S512x1 ![0, 64] (shapeCast S512x128 l shapeCasts_S512x128_S512x128) slices_S512x128_o0_64_S512x1
  steps B t ht (qcat t hh qn qr) (truncf .bf16 (dof hh d) bitsLt_bf16_f32) (delta hh d o) lse qi (by omega) <|
  step B t qi ht hq causal (qcat t hh qn qr) (truncf .bf16 (dof hh d) bitsLt_bf16_f32) (delta hh d o) lse <|
  qOut B t hh qi ht hq k

/-- The four blocks of queries of one head. -/
def head (t hh : ℕ) (ht : t < 2) (k : Prog (Eff F) α) : Prog (Eff F) α :=
  qBlock B t hh 0 ht (by omega) <| qBlock B t hh 1 ht (by omega) <| qBlock B t hh 2 ht (by omega) <|
  qBlock B t hh 3 ht (by omega) k

/-- Empty the key and value gradients of a pair of heads. -/
def clear (k : Prog (Eff F) α) : Prog (Eff F) α :=
  ld B.ka 0 0 2048 256 (by omega) (by omega) h_S2048x256 fun _ =>
  st B.ka 0 0 2048 256 (by omega) (by omega) h_S2048x256
    (shapeCast S2048x256 (broadcast S2048x256 (Scalar.ofBits .f32 0x00000000#32)) shapeCasts_S2048x256_S2048x256) <|
  ld B.va 0 0 2048 128 (by omega) (by omega) h_S2048x128 fun _ =>
  st B.va 0 0 2048 128 (by omega) (by omega) h_S2048x128
    (shapeCast S2048x128 (broadcast S2048x128 (Scalar.ofBits .f32 0x00000000#32)) shapeCasts_S2048x128_S2048x128) k

/-- Every window of whole columns of 2048 rows lies on whole packed words. -/
theorem packed {c : ℕ} (h' : c + 128 ≤ 512) :
    (Rect.unit (s := S2048x512) ![0, c] S2048x128.size (inb (by omega) h')).PackedRows (EltTy.packing .bf16) :=
  .inr ⟨by decide, rfl, .inl ⟨dvd_zero _, ⟨1024, rfl⟩⟩⟩

/-- Store a bf16 window of the key and value gradient, then go on. -/
abbrev stk (c : ℕ) (h' : c + 128 ≤ 512) (w : Vec F S2048x128 .bf16) (k : Prog (Eff F) α) : Prog (Eff F) α :=
  .op (.store B.dkv (Rect.unit (s := S2048x512) ![0, c] S2048x128.size (inb (by omega) h')) w Finset.univ
    (View.stores_vmem h_S2048x128 (B.hdkv.storeExact_slice rfl _ (packed h')) (fun _ => rfl)) (.inl rfl)) fun _ => k

/-- The key and value gradients of a pair of heads go out. -/
def kvOut (t : ℕ) (ht : t < 2) (k : Prog (Eff F) α) : Prog (Eff F) α :=
  ld B.ka 0 0 2048 128 (by omega) (by omega) h_S2048x128 fun a =>
  ld B.dkv 0 (128 * t) 2048 128 (by omega) (by omega) h_S2048x128 fun _ =>
  stk B (128 * t) (by omega) (truncf .bf16 a bitsLt_bf16_f32) <|
  ld B.va 0 0 2048 128 (by omega) (by omega) h_S2048x128 fun b =>
  ld B.dkv 0 (256 + 128 * t) 2048 128 (by omega) (by omega) h_S2048x128 fun _ =>
  stk B (256 + 128 * t) (by omega) (truncf .bf16 b bitsLt_bf16_f32) <|
  match t with
  | 0 =>
    ld B.ka 0 128 2048 128 (by omega) (by omega) h_S2048x128 fun a =>
    ld B.dkp 0 0 2048 128 (by omega) (by omega) h_S2048x128 fun _ =>
    st B.dkp 0 0 2048 128 (by omega) (by omega) h_S2048x128 a k
  | _ + 1 =>
    ld B.dkp 0 0 2048 128 (by omega) (by omega) h_S2048x128 fun b =>
    ld B.ka 0 128 2048 128 (by omega) (by omega) h_S2048x128 fun a =>
    ld B.dkp 0 0 2048 128 (by omega) (by omega) h_S2048x128 fun _ =>
    st B.dkp 0 0 2048 128 (by omega) (by omega) h_S2048x128
      (addf (shapeCast S2048x128 b shapeCasts_S2048x128_S2048x128) a) k

/-- One pair of heads. -/
def pair (t : ℕ) (ht : t < 2) (k : Prog (Eff F) α) : Prog (Eff F) α :=
  clear B <| head B t 0 ht <| head B t 1 ht <| kvOut B t ht k

/-- The whole body. -/
def body : Prog (Eff F) PUnit := pair B 0 (by omega) <| pair B 1 (by omega) <| .ret ⟨⟩

end Cert.KernelIdeal.Attn

end
-- ==== Proof.Rules.lean ====
/- A load and a store of a window, for a buffer held whole by its values.

   A load gives the window of the buffer's values; a store leaves the buffer's values with the stored ones put over the
   window. -/
module

public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a window of a buffer held at the values `X`: the program goes on at the window of `X`. -/
theorem wp_window {cs : CoreSpace} {m : Memref sig c.2.kind cs s e} {off size : Fin s.rank → ℕ}
    {inb : ∀ a, off a + size a ≤ s.size a} {hl : m.view.LoadsAt (Rect.unit off size inb).toLoadRect}
    {k : ((Rect.unit off size inb).toLoadRect.shape.Idx → Val e) → Prog (TpuEff nD τ sig Val Λ c.2) α}
    {q : PosShare TreeShare} {X : s.Idx → Val e} :
    owns c m q X ⊢ iprop((owns c m q X -∗ wp frame (wpE defs 𝒱 c bd) E (k (VecWindow.window X off size inb)) Q)
      -∗ wp frame (wpE defs 𝒱 c bd) E (.op (.load m (Rect.unit off size inb).toLoadRect hl) k) Q) := by
  unfold owns
  iintro ⟨%f, %hf, H⟩ Hk
  have hv : m.view.readAt Val (Rect.unit off size inb).toLoadRect f = VecWindow.window X off size inb := by
    rw [← hf]; rfl
  iapply (wp_load 𝒱 c bd E (hl := hl) (k := k) (q := q) (Q := Q) (f := f) (S := m.view.set)
    (Memref.setOn_subset_of_access_subset c (m.view.set_slice_subset _))) $$ H
  iintro H
  rw [hv]
  iapply Hk
  iexists f
  isplitr
  · ipureintro; exact hf
  iexact H

/-- A store over a window of a buffer held at the values `X`: the program goes on with `w` put over the window. -/
theorem wp_put {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} {X : s.Idx → Val e} :
    owns c m fullShare X ⊢ iprop((owns c m fullShare (VecWindow.put X off size w) -∗ wp frame (wpE defs 𝒱 c bd) E (k ⟨⟩) Q)
      -∗ wp frame (wpE defs 𝒱 c bd) E (.op (.store m (Rect.unit off size inb) w Finset.univ hx hm) k) Q) := by
  unfold owns
  iintro ⟨%f, %hf, H⟩ Hk
  iapply (wp_store_writes₀ 𝒱 c bd E (hx := hx) (hm := hm) (k := k) (Q := Q) (f := f) (S := m.view.set)
    (m.view.set_slice_subset _)) $$ H
  iintro H
  iapply Hk
  iexists m.view.writes Val f [⟨Rect.unit off size inb, w⟩]
  isplitr
  · ipureintro
    rw [View.read_writes_cons_put m.view f inb w [] rfl, View.writes_nil, hf]
  iexact H

end

end Cert.KernelIdeal.Attn

end
-- ==== Proof.State.lean ====
/- What the body leaves: the contents of its buffers as functions of its inputs, and the run to them.

   The state is the contents of the six buffers that the body writes. Each loop of the program is a function of states,
   and the program, run from one state, ends at the function's value there. -/
module

public import proofs.«01_k».proof.Proof.Loop
public import proofs.«01_k».proof.Proof.Rules
public import proofs.«01_k».proof.Proof.Gen.KernelIdeal.Launch

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The values the body is given. -/
structure Ins (F : FTy → Type) where
  q : Vec F S2048x384 .bf16
  kv : Vec F S2048x512 .bf16
  kp : Vec F S2048x128 .bf16
  o : Vec F S2048x256 .f32
  lse : Vec F S2048x256 .f32
  dO : Vec F S2048x256 .f32

/-- The values of the buffers the body writes. -/
structure St (F : FTy → Type) where
  dq : Vec F S2048x384 .f32
  dkv : Vec F S2048x512 .bf16
  dkp : Vec F S2048x128 .f32
  qa : Vec F S512x256 .f32
  ka : Vec F S2048x256 .f32
  va : Vec F S2048x128 .f32

/-- A window of `H` rows and `W` columns. -/
abbrev win {R C : ℕ} {β : Type} (X : (⟨2, ![R, C]⟩ : Shape).Idx → β) (r c H W : ℕ) (h : r + H ≤ R) (h' : c + W ≤ C) :
    (⟨2, ![H, W]⟩ : Shape).Idx → β := VecWindow.window X ![r, c] (⟨2, ![H, W]⟩ : Shape).size (inb h h')

/-- The values with a window of `H` rows and `W` columns replaced. -/
abbrev putw {R C : ℕ} {β : Type} (X : (⟨2, ![R, C]⟩ : Shape).Idx → β) (r c H W : ℕ) (w : (⟨2, ![H, W]⟩ : Shape).Idx → β) :
    (⟨2, ![R, C]⟩ : Shape).Idx → β := VecWindow.put X ![r, c] (⟨2, ![H, W]⟩ : Shape).size w

variable (I : Ins F)

/-- The probabilities of a tile. -/
def tileP (t kj : ℕ) (ht : t < 2) (hk : kj < 4) (msk : FVec F S512x512 .f32 → FVec F S512x512 .f32) (qc : FVec F S512x256 .bf16)
    (lse : FVec F S512x1 .f32) : FVec F S512x512 .f32 :=
  prob (msk (score qc (kcat (win I.kv (512 * kj) (128 * t) 512 128 (by omega) (by omega))
    (win I.kp (512 * kj) 0 512 128 (by omega) (by omega))))) lse

/-- The gradient of a tile's scores. -/
def tileDs (t kj : ℕ) (ht : t < 2) (hk : kj < 4) (msk : FVec F S512x512 .f32 → FVec F S512x512 .f32) (qc : FVec F S512x256 .bf16)
    (db : FVec F S512x128 .bf16) (dl lse : FVec F S512x1 .f32) : FVec F S512x512 .bf16 :=
  dscore (tileP I t kj ht hk msk qc lse) db (win I.kv (512 * kj) (256 + 128 * t) 512 128 (by omega) (by omega)) dl

/-- The state after one tile. -/
def stepS (t kj : ℕ) (ht : t < 2) (hk : kj < 4) (msk : FVec F S512x512 .f32 → FVec F S512x512 .f32) (qc : FVec F S512x256 .bf16)
    (db : FVec F S512x128 .bf16) (dl lse : FVec F S512x1 .f32) (s : St F) : St F :=
  { s with
    va := putw s.va (512 * kj) 0 512 128 (dvNext (tileP I t kj ht hk msk qc lse) db
      (win s.va (512 * kj) 0 512 128 (by omega) (by omega)))
    ka := putw s.ka (512 * kj) 0 512 256 (dkNext (tileDs I t kj ht hk msk qc db dl lse) qc
      (win s.ka (512 * kj) 0 512 256 (by omega) (by omega)))
    qa := putw s.qa 0 0 512 256 (dqNext (tileDs I t kj ht hk msk qc db dl lse)
      (kcat (win I.kv (512 * kj) (128 * t) 512 128 (by omega) (by omega)) (win I.kp (512 * kj) 0 512 128 (by omega) (by omega)))
      (win s.qa 0 0 512 256 (by omega) (by omega))) }

/-- The state after the first `n` blocks of keys. -/
def stepsS (t : ℕ) (ht : t < 2) (qc : FVec F S512x256 .bf16) (db : FVec F S512x128 .bf16) (dl lse : FVec F S512x1 .f32) :
    (n : ℕ) → n ≤ 4 → St F → St F
  | 0, _, s => s
  | n + 1, h, s => stepS I t n ht h id qc db dl lse (stepsS t ht qc db dl lse n (Nat.le_of_succ_le h) s)

/-- The state after a block of queries' gradient has gone out. -/
def qOutS (t hh qi : ℕ) (ht : t < 2) (hq : qi < 4) (s : St F) : St F :=
  match hh with
  | 0 =>
    match t with
    | 0 =>
      { s with
        dq := putw (putw s.dq (512 * qi) (128 * t) 512 128 (dqNope hh (win s.qa 0 0 512 256 (by omega) (by omega))))
            (512 * qi) 256 512 128 (dqRope t hh (win s.qa 0 0 512 256 (by omega) (by omega))) }
    | _ + 1 =>
      { s with
          dq := putw (putw s.dq (512 * qi) (128 * t) 512 128 (dqNope hh (win s.qa 0 0 512 256 (by omega) (by omega))))
            (512 * qi) 256 512 128
            (plus (win (putw s.dq (512 * qi) (128 * t) 512 128 (dqNope hh (win s.qa 0 0 512 256 (by omega) (by omega)))) (512 * qi) 256 512 128 (by omega) (by omega))
            (dqRope t hh (win s.qa 0 0 512 256 (by omega) (by omega)))) }
  | _ + 1 =>
    { s with
        dq := putw (putw s.dq (512 * qi) (128 * t) 512 128
          (plus (win s.dq (512 * qi) (128 * t) 512 128 (by omega) (by omega)) (dqNope hh (win s.qa 0 0 512 256 (by omega) (by omega)))))
            (512 * qi) 256 512 128
            (plus (win (putw s.dq (512 * qi) (128 * t) 512 128
            (plus (win s.dq (512 * qi) (128 * t) 512 128 (by omega) (by omega)) (dqNope hh (win s.qa 0 0 512 256 (by omega) (by omega))))) (512 * qi) 256 512 128 (by omega) (by omega))
          (dqRope t hh (win s.qa 0 0 512 256 (by omega) (by omega)))) }

/-- A block of queries of a head, with the keys' lanes. -/
def qcatI (t hh qi : ℕ) (ht : t < 2) (hq : qi < 4) : FVec F S512x256 .bf16 :=
  qcat t hh (win I.q (512 * qi) (128 * t) 512 128 (by omega) (by omega)) (win I.q (512 * qi) 256 512 128 (by omega) (by omega))

/-- The cotangent's block of a head. -/
def dobI (t hh qi : ℕ) (ht : t < 2) (hq : qi < 4) : FVec F S512x128 .bf16 :=
  truncf .bf16 (dof hh (win I.dO (512 * qi) (128 * t) 512 128 (by omega) (by omega))) bitsLt_bf16_f32

/-- The sums of cotangent times output of a block of queries of a head. -/
def deltaI (t hh qi : ℕ) (ht : t < 2) (hq : qi < 4) : FVec F S512x1 .f32 :=
  delta hh (win I.dO (512 * qi) (128 * t) 512 128 (by omega) (by omega)) (win I.o (512 * qi) (128 * t) 512 128 (by omega) (by omega))

/-- The log-sum-exp of a block of queries of a head: the first lane of the head. -/
def lseI (t hh qi : ℕ) (ht : t < 2) (hq : qi < 4) : FVec F S512x1 .f32 :=
  match hh with
  | 0 => extractStridedSlice S512x1 ![0, 0]
      (shapeCast S512x128 (win I.lse (512 * qi) (128 * t) 512 128 (by omega) (by omega)) shapeCasts_S512x128_S512x128) slices_S512x128_o0_0_S512x1
  | _ + 1 => extractStridedSlice S512x1 ![0, 64]
      (shapeCast S512x128 (win I.lse (512 * qi) (128 * t) 512 128 (by omega) (by omega)) shapeCasts_S512x128_S512x128) slices_S512x128_o0_64_S512x1

/-- The state with the query gradient's accumulator empty. -/
def resetQ (s : St F) : St F :=
  { s with
      qa := putw s.qa 0 0 512 256
          (shapeCast S512x256 (broadcast S512x256 (Scalar.ofBits .f32 0x00000000#32)) shapeCasts_S512x256_S512x256) }

/-- The state after one block of queries of one head. -/
def qBlockS (t hh qi : ℕ) (ht : t < 2) (hq : qi < 4) (s : St F) : St F :=
  qOutS t hh qi ht hq <|
  stepS I t qi ht hq causal (qcatI I t hh qi ht hq) (dobI I t hh qi ht hq) (deltaI I t hh qi ht hq) (lseI I t hh qi ht hq) <|
  stepsS I t ht (qcatI I t hh qi ht hq) (dobI I t hh qi ht hq) (deltaI I t hh qi ht hq) (lseI I t hh qi ht hq) qi (by omega) <|
  resetQ s

/-- The state after one head. -/
def headS (t hh : ℕ) (ht : t < 2) (s : St F) : St F :=
  qBlockS I t hh 3 ht (by omega) <| qBlockS I t hh 2 ht (by omega) <| qBlockS I t hh 1 ht (by omega) <|
  qBlockS I t hh 0 ht (by omega) s

/-- The state with the key and value gradients empty. -/
def clearS (s : St F) : St F :=
  { s with
    ka := putw s.ka 0 0 2048 256
      (shapeCast S2048x256 (broadcast S2048x256 (Scalar.ofBits .f32 0x00000000#32)) shapeCasts_S2048x256_S2048x256)
    va := putw s.va 0 0 2048 128
      (shapeCast S2048x128 (broadcast S2048x128 (Scalar.ofBits .f32 0x00000000#32)) shapeCasts_S2048x128_S2048x128) }

/-- The state after the key and value gradients of a pair of heads have gone out. -/
def kvOutS (t : ℕ) (ht : t < 2) (s : St F) : St F :=
  { s with
    dkv := putw (putw s.dkv 0 (128 * t) 2048 128 (truncf .bf16 (win s.ka 0 0 2048 128 (by omega) (by omega)) bitsLt_bf16_f32))
      0 (256 + 128 * t) 2048 128 (truncf .bf16 (win s.va 0 0 2048 128 (by omega) (by omega)) bitsLt_bf16_f32)
    dkp := match t with
      | 0 => putw s.dkp 0 0 2048 128 (win s.ka 0 128 2048 128 (by omega) (by omega))
      | _ + 1 => putw s.dkp 0 0 2048 128 (addf (shapeCast S2048x128 (win s.dkp 0 0 2048 128 (by omega) (by omega)) shapeCasts_S2048x128_S2048x128)
          (win s.ka 0 128 2048 128 (by omega) (by omega))) }

/-- The state after one pair of heads. -/
def pairS (t : ℕ) (ht : t < 2) (s : St F) : St F :=
  kvOutS t ht <| headS I t 1 ht <| headS I t 0 ht <| clearS s

/-- The state after the body. -/
def bodyS (s : St F) : St F := pairS I 1 (by omega) <| pairS I 0 (by omega) s

/-! ## The run -/

/-- Assertions on the machine's state. -/
abbrev Assn (F : FTy → Type) : Type := sProp (MT nD τ sig Unit (Elt F) ℕ (UR sig nD τ) ℕ)

variable (B : Bufs) (c : Dev nD) (E : Set ℕ) {α : Type} (Q : α → Assn F) (R : Assn F)

/-- The body's buffers, held at the inputs' values and at a state's, and the rest. -/
def holds (s : St F) : Assn F :=
  iprop(owns (c : Thread nD τ) B.q fullShare I.q ∗
    owns (c : Thread nD τ) B.kv fullShare I.kv ∗
    owns (c : Thread nD τ) B.kp fullShare I.kp ∗
    owns (c : Thread nD τ) B.o fullShare I.o ∗
    owns (c : Thread nD τ) B.lse fullShare I.lse ∗
    owns (c : Thread nD τ) B.dO fullShare I.dO ∗
    owns (c : Thread nD τ) B.dq fullShare s.dq ∗
    owns (c : Thread nD τ) B.dkv fullShare s.dkv ∗
    owns (c : Thread nD τ) B.dkp fullShare s.dkp ∗
    owns (c : Thread nD τ) B.qa fullShare s.qa ∗
    owns (c : Thread nD τ) B.ka fullShare s.ka ∗
    owns (c : Thread nD τ) B.va fullShare s.va ∗ R)

/-- The run from a state. -/
abbrev run (k : Prog (Eff F) α) : Assn F := wp frame (wpE (defs₀ (F := F)) Variants.none (c : Thread nD τ) none) E k Q

variable {I B c E Q R}

theorem ld_q {s : St F} {r j H W : ℕ} {h : r + H ≤ 2048} {h' : j + W ≤ 384} {hn : 0 < (⟨2, ![H, W]⟩ : Shape).numel}
    {k : Vec F ⟨2, ![H, W]⟩ .bf16 → Prog (Eff F) α} (hk : holds I B c R s ⊢ run c E Q (k (win I.q r j H W h h'))) :
    holds I B c R s ⊢ run c E Q (ld B.q r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := I.q) (q := fullShare)) $$ Hq
  iintro Hq
  iapply hk
  unfold holds
  iframe ∗

theorem ld_kv {s : St F} {r j H W : ℕ} {h : r + H ≤ 2048} {h' : j + W ≤ 512} {hn : 0 < (⟨2, ![H, W]⟩ : Shape).numel}
    {k : Vec F ⟨2, ![H, W]⟩ .bf16 → Prog (Eff F) α} (hk : holds I B c R s ⊢ run c E Q (k (win I.kv r j H W h h'))) :
    holds I B c R s ⊢ run c E Q (ld B.kv r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := I.kv) (q := fullShare)) $$ Hkv
  iintro Hkv
  iapply hk
  unfold holds
  iframe ∗

theorem ld_kp {s : St F} {r j H W : ℕ} {h : r + H ≤ 2048} {h' : j + W ≤ 128} {hn : 0 < (⟨2, ![H, W]⟩ : Shape).numel}
    {k : Vec F ⟨2, ![H, W]⟩ .bf16 → Prog (Eff F) α} (hk : holds I B c R s ⊢ run c E Q (k (win I.kp r j H W h h'))) :
    holds I B c R s ⊢ run c E Q (ld B.kp r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := I.kp) (q := fullShare)) $$ Hkp
  iintro Hkp
  iapply hk
  unfold holds
  iframe ∗

theorem ld_o {s : St F} {r j H W : ℕ} {h : r + H ≤ 2048} {h' : j + W ≤ 256} {hn : 0 < (⟨2, ![H, W]⟩ : Shape).numel}
    {k : Vec F ⟨2, ![H, W]⟩ .f32 → Prog (Eff F) α} (hk : holds I B c R s ⊢ run c E Q (k (win I.o r j H W h h'))) :
    holds I B c R s ⊢ run c E Q (ld B.o r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := I.o) (q := fullShare)) $$ Ho
  iintro Ho
  iapply hk
  unfold holds
  iframe ∗

theorem ld_lse {s : St F} {r j H W : ℕ} {h : r + H ≤ 2048} {h' : j + W ≤ 256} {hn : 0 < (⟨2, ![H, W]⟩ : Shape).numel}
    {k : Vec F ⟨2, ![H, W]⟩ .f32 → Prog (Eff F) α} (hk : holds I B c R s ⊢ run c E Q (k (win I.lse r j H W h h'))) :
    holds I B c R s ⊢ run c E Q (ld B.lse r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := I.lse) (q := fullShare)) $$ Hlse
  iintro Hlse
  iapply hk
  unfold holds
  iframe ∗

theorem ld_dO {s : St F} {r j H W : ℕ} {h : r + H ≤ 2048} {h' : j + W ≤ 256} {hn : 0 < (⟨2, ![H, W]⟩ : Shape).numel}
    {k : Vec F ⟨2, ![H, W]⟩ .f32 → Prog (Eff F) α} (hk : holds I B c R s ⊢ run c E Q (k (win I.dO r j H W h h'))) :
    holds I B c R s ⊢ run c E Q (ld B.dO r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := I.dO) (q := fullShare)) $$ HdO
  iintro HdO
  iapply hk
  unfold holds
  iframe ∗

theorem ld_dq {s : St F} {r j H W : ℕ} {h : r + H ≤ 2048} {h' : j + W ≤ 384} {hn : 0 < (⟨2, ![H, W]⟩ : Shape).numel}
    {k : Vec F ⟨2, ![H, W]⟩ .f32 → Prog (Eff F) α} (hk : holds I B c R s ⊢ run c E Q (k (win s.dq r j H W h h'))) :
    holds I B c R s ⊢ run c E Q (ld B.dq r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := s.dq) (q := fullShare)) $$ Hdq
  iintro Hdq
  iapply hk
  unfold holds
  iframe ∗

theorem ld_dkv {s : St F} {r j H W : ℕ} {h : r + H ≤ 2048} {h' : j + W ≤ 512} {hn : 0 < (⟨2, ![H, W]⟩ : Shape).numel}
    {k : Vec F ⟨2, ![H, W]⟩ .bf16 → Prog (Eff F) α} (hk : holds I B c R s ⊢ run c E Q (k (win s.dkv r j H W h h'))) :
    holds I B c R s ⊢ run c E Q (ld B.dkv r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := s.dkv) (q := fullShare)) $$ Hdkv
  iintro Hdkv
  iapply hk
  unfold holds
  iframe ∗

theorem ld_dkp {s : St F} {r j H W : ℕ} {h : r + H ≤ 2048} {h' : j + W ≤ 128} {hn : 0 < (⟨2, ![H, W]⟩ : Shape).numel}
    {k : Vec F ⟨2, ![H, W]⟩ .f32 → Prog (Eff F) α} (hk : holds I B c R s ⊢ run c E Q (k (win s.dkp r j H W h h'))) :
    holds I B c R s ⊢ run c E Q (ld B.dkp r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := s.dkp) (q := fullShare)) $$ Hdkp
  iintro Hdkp
  iapply hk
  unfold holds
  iframe ∗

theorem ld_qa {s : St F} {r j H W : ℕ} {h : r + H ≤ 512} {h' : j + W ≤ 256} {hn : 0 < (⟨2, ![H, W]⟩ : Shape).numel}
    {k : Vec F ⟨2, ![H, W]⟩ .f32 → Prog (Eff F) α} (hk : holds I B c R s ⊢ run c E Q (k (win s.qa r j H W h h'))) :
    holds I B c R s ⊢ run c E Q (ld B.qa r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := s.qa) (q := fullShare)) $$ Hqa
  iintro Hqa
  iapply hk
  unfold holds
  iframe ∗

theorem ld_ka {s : St F} {r j H W : ℕ} {h : r + H ≤ 2048} {h' : j + W ≤ 256} {hn : 0 < (⟨2, ![H, W]⟩ : Shape).numel}
    {k : Vec F ⟨2, ![H, W]⟩ .f32 → Prog (Eff F) α} (hk : holds I B c R s ⊢ run c E Q (k (win s.ka r j H W h h'))) :
    holds I B c R s ⊢ run c E Q (ld B.ka r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := s.ka) (q := fullShare)) $$ Hka
  iintro Hka
  iapply hk
  unfold holds
  iframe ∗

theorem ld_va {s : St F} {r j H W : ℕ} {h : r + H ≤ 2048} {h' : j + W ≤ 128} {hn : 0 < (⟨2, ![H, W]⟩ : Shape).numel}
    {k : Vec F ⟨2, ![H, W]⟩ .f32 → Prog (Eff F) α} (hk : holds I B c R s ⊢ run c E Q (k (win s.va r j H W h h'))) :
    holds I B c R s ⊢ run c E Q (ld B.va r j H W h h' hn k) := by
  unfold holds
  iintro ⟨Hq, Hkv, Hkp, Ho, Hlse, HdO, Hdq, Hdkv, Hdkp, Hqa, Hka, Hva, HR⟩
  iapply (wp_window Variants.none (c : Thread nD τ) none E (Q := Q) (X := s.va) (q := fullShare)) $$ Hva
  iintro Hva
  iapply hk
  unfold holds
  iframe ∗

theorem st_dq {s : St F} {r j H W : ℕ} {h : r + H ≤ 2048} {h' : j + W ≤ 384} {hn : 0 < (⟨2, ![H, W]⟩ : Shape).numel}
    {w : Vec F ⟨2, ![H, W]⟩ .f32} {k : Prog (Eff F) α} (hk : holds I B c R { s with dq := putw s.dq r j H W w } ⊢ run c E Q k) :
    holds I B c R s ⊢ run c E Q (st B.dq r j H W h h' hn w k) := by
  unfold holds
  iintro ⟨Hq, Hkv, Hkp, Ho, Hlse, HdO, Hdq, Hdkv, Hdkp, Hqa, Hka, Hva, HR⟩
  iapply (wp_put Variants.none (c : Thread nD τ) none E (Q := Q) (X := s.dq) (w := w)) $$ Hdq
  iintro Hdq
  iapply hk
  unfold holds
  iframe ∗
  iexact Hdq

theorem st_dkp {s : St F} {r j H W : ℕ} {h : r + H ≤ 2048} {h' : j + W ≤ 128} {hn : 0 < (⟨2, ![H, W]⟩ : Shape).numel}
    {w : Vec F ⟨2, ![H, W]⟩ .f32} {k : Prog (Eff F) α} (hk : holds I B c R { s with dkp := putw s.dkp r j H W w } ⊢ run c E Q k) :
    holds I B c R s ⊢ run c E Q (st B.dkp r j H W h h' hn w k) := by
  unfold holds
  iintro ⟨Hq, Hkv, Hkp, Ho, Hlse, HdO, Hdq, Hdkv, Hdkp, Hqa, Hka, Hva, HR⟩
  iapply (wp_put Variants.none (c : Thread nD τ) none E (Q := Q) (X := s.dkp) (w := w)) $$ Hdkp
  iintro Hdkp
  iapply hk
  unfold holds
  iframe ∗
  iexact Hdkp

theorem st_qa {s : St F} {r j H W : ℕ} {h : r + H ≤ 512} {h' : j + W ≤ 256} {hn : 0 < (⟨2, ![H, W]⟩ : Shape).numel}
    {w : Vec F ⟨2, ![H, W]⟩ .f32} {k : Prog (Eff F) α} (hk : holds I B c R { s with qa := putw s.qa r j H W w } ⊢ run c E Q k) :
    holds I B c R s ⊢ run c E Q (st B.qa r j H W h h' hn w k) := by
  unfold holds
  iintro ⟨Hq, Hkv, Hkp, Ho, Hlse, HdO, Hdq, Hdkv, Hdkp, Hqa, Hka, Hva, HR⟩
  iapply (wp_put Variants.none (c : Thread nD τ) none E (Q := Q) (X := s.qa) (w := w)) $$ Hqa
  iintro Hqa
  iapply hk
  unfold holds
  iframe ∗
  iexact Hqa

theorem st_ka {s : St F} {r j H W : ℕ} {h : r + H ≤ 2048} {h' : j + W ≤ 256} {hn : 0 < (⟨2, ![H, W]⟩ : Shape).numel}
    {w : Vec F ⟨2, ![H, W]⟩ .f32} {k : Prog (Eff F) α} (hk : holds I B c R { s with ka := putw s.ka r j H W w } ⊢ run c E Q k) :
    holds I B c R s ⊢ run c E Q (st B.ka r j H W h h' hn w k) := by
  unfold holds
  iintro ⟨Hq, Hkv, Hkp, Ho, Hlse, HdO, Hdq, Hdkv, Hdkp, Hqa, Hka, Hva, HR⟩
  iapply (wp_put Variants.none (c : Thread nD τ) none E (Q := Q) (X := s.ka) (w := w)) $$ Hka
  iintro Hka
  iapply hk
  unfold holds
  iframe ∗
  iexact Hka

theorem st_va {s : St F} {r j H W : ℕ} {h : r + H ≤ 2048} {h' : j + W ≤ 128} {hn : 0 < (⟨2, ![H, W]⟩ : Shape).numel}
    {w : Vec F ⟨2, ![H, W]⟩ .f32} {k : Prog (Eff F) α} (hk : holds I B c R { s with va := putw s.va r j H W w } ⊢ run c E Q k) :
    holds I B c R s ⊢ run c E Q (st B.va r j H W h h' hn w k) := by
  unfold holds
  iintro ⟨Hq, Hkv, Hkp, Ho, Hlse, HdO, Hdq, Hdkv, Hdkp, Hqa, Hka, Hva, HR⟩
  iapply (wp_put Variants.none (c : Thread nD τ) none E (Q := Q) (X := s.va) (w := w)) $$ Hva
  iintro Hva
  iapply hk
  unfold holds
  iframe ∗
  iexact Hva

theorem st_dkv {s : St F} {j : ℕ} {h' : j + 128 ≤ 512}
    {w : Vec F S2048x128 .bf16} {k : Prog (Eff F) α} (hk : holds I B c R { s with dkv := putw s.dkv 0 j 2048 128 w } ⊢ run c E Q k) :
    holds I B c R s ⊢ run c E Q (stk B j h' w k) := by
  unfold holds
  iintro ⟨Hq, Hkv, Hkp, Ho, Hlse, HdO, Hdq, Hdkv, Hdkp, Hqa, Hka, Hva, HR⟩
  iapply (wp_put Variants.none (c : Thread nD τ) none E (Q := Q) (X := s.dkv) (w := w)) $$ Hdkv
  iintro Hdkv
  iapply hk
  unfold holds
  iframe ∗
  iexact Hdkv

theorem run_step {s : St F} {t kj : ℕ} {ht : t < 2} {hk : kj < 4} {msk : FVec F S512x512 .f32 → FVec F S512x512 .f32}
    {qc : FVec F S512x256 .bf16} {db : FVec F S512x128 .bf16} {dl lse : FVec F S512x1 .f32} {k : Prog (Eff F) α}
    (h : holds I B c R (stepS I t kj ht hk msk qc db dl lse s) ⊢ run c E Q k) :
    holds I B c R s ⊢ run c E Q (step B t kj ht hk msk qc db dl lse k) := by
  unfold step
  apply ld_kv; apply ld_kp; apply ld_kv; apply ld_va; apply ld_va; apply st_va
  apply ld_ka; apply ld_ka; apply st_ka; apply ld_qa; apply ld_qa; apply st_qa
  exact h

theorem run_steps {t : ℕ} {ht : t < 2} {qc : FVec F S512x256 .bf16} {db : FVec F S512x128 .bf16} {dl lse : FVec F S512x1 .f32} :
    ∀ (n : ℕ) (hn : n ≤ 4) {s : St F} {k : Prog (Eff F) α}, (holds I B c R (stepsS I t ht qc db dl lse n hn s) ⊢ run c E Q k) →
      (holds I B c R s ⊢ run c E Q (steps B t ht qc db dl lse n hn k))
  | 0, _, _, _, h => h
  | n + 1, hn, _, _, h => by
    unfold steps
    apply run_steps n
    apply run_step
    exact h

theorem run_qOut {s : St F} {t hh qi : ℕ} {ht : t < 2} {hq : qi < 4} {k : Prog (Eff F) α}
    (h : holds I B c R (qOutS t hh qi ht hq s) ⊢ run c E Q k) : holds I B c R s ⊢ run c E Q (qOut B t hh qi ht hq k) := by
  unfold qOut
  match hh, t with
  | 0, 0 => apply ld_qa; apply ld_dq; apply st_dq; apply ld_dq; apply st_dq; exact h
  | 0, _ + 1 => apply ld_qa; apply ld_dq; apply st_dq; apply ld_dq; apply ld_dq; apply st_dq; exact h
  | _ + 1, _ => apply ld_qa; apply ld_dq; apply ld_dq; apply st_dq; apply ld_dq; apply ld_dq; apply st_dq; exact h

theorem run_qBlock {s : St F} {t hh qi : ℕ} {ht : t < 2} {hq : qi < 4} {k : Prog (Eff F) α}
    (h : holds I B c R (qBlockS I t hh qi ht hq s) ⊢ run c E Q k) : holds I B c R s ⊢ run c E Q (qBlock B t hh qi ht hq k) := by
  unfold qBlock
  apply ld_q; apply ld_q; apply ld_dO; apply ld_o; apply ld_lse; apply ld_qa; apply st_qa
  match hh with
  | 0 => apply run_steps; apply run_step; apply run_qOut; exact h
  | _ + 1 => apply run_steps; apply run_step; apply run_qOut; exact h

theorem run_head {s : St F} {t hh : ℕ} {ht : t < 2} {k : Prog (Eff F) α}
    (h : holds I B c R (headS I t hh ht s) ⊢ run c E Q k) : holds I B c R s ⊢ run c E Q (head B t hh ht k) := by
  unfold head
  apply run_qBlock; apply run_qBlock; apply run_qBlock; apply run_qBlock
  exact h

theorem run_clear {s : St F} {k : Prog (Eff F) α} (h : holds I B c R (clearS s) ⊢ run c E Q k) :
    holds I B c R s ⊢ run c E Q (clear B k) := by
  unfold clear
  apply ld_ka; apply st_ka; apply ld_va; apply st_va
  exact h

theorem run_kvOut {s : St F} {t : ℕ} {ht : t < 2} {k : Prog (Eff F) α}
    (h : holds I B c R (kvOutS t ht s) ⊢ run c E Q k) : holds I B c R s ⊢ run c E Q (kvOut B t ht k) := by
  unfold kvOut
  apply ld_ka; apply ld_dkv; apply st_dkv; apply ld_va; apply ld_dkv; apply st_dkv
  match t with
  | 0 => apply ld_ka; apply ld_dkp; apply st_dkp; exact h
  | _ + 1 => apply ld_dkp; apply ld_ka; apply ld_dkp; apply st_dkp; exact h

theorem run_pair {s : St F} {t : ℕ} {ht : t < 2} {k : Prog (Eff F) α}
    (h : holds I B c R (pairS I t ht s) ⊢ run c E Q k) : holds I B c R s ⊢ run c E Q (pair B t ht k) := by
  unfold pair
  apply run_clear; apply run_head; apply run_head; apply run_kvOut
  exact h

/-- THE RUN: from any state the body ends at the state `bodyS` of it. -/
theorem run_body {s : St F} {Q : PUnit → Assn F} (h : holds I B c R (bodyS I s) ⊢ Q ⟨⟩) :
    holds I B c R s ⊢ run c E Q (body B) := by
  unfold body
  apply run_pair; apply run_pair
  exact h.trans (Idealize.SL.Sem.le_wp_ret _ _ _ _ _)

end Cert.KernelIdeal.Attn

end
-- ==== Proof.Tile.lean ====
/- The vector operations of a tile read at an index, over the extended reals. -/
module

public import proofs.«01_k».proof.Proof.Loop
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe

/-- The scale of the scores. -/
abbrev scl : EReal := Ideal.ofBits .f32 0x3DD105EC#32

/-- The pattern of minus infinity. -/
theorem ofBits_minus_infinity : Ideal.ofBits .f32 0xFF800000#32 = ⊥ := by simp [Ideal.ofBits, Ideal.ieee]

/-- The pattern of plus infinity. -/
theorem ofBits_plus_infinity : Ideal.ofBits .f32 0x7F800000#32 = ⊤ := by simp [Ideal.ofBits, Ideal.ieee]

/-- The scale is a real number. -/
theorem scl_real : ∃ r : ℝ, scl = (r : EReal) := by
  unfold scl
  exact ⟨_, by simp [Ideal.ofBits, Ideal.ieee]; rfl⟩

/-- One on the lanes of group `g` (`w` lanes to a group), zero elsewhere. -/
def lane (w g l : ℕ) : EReal := if l / w = g then 1 else 0

/-- The word that picks the lanes of group `g`: it is the comparison of `l / w` with `g`. -/
theorem pick_lane (w g : ℕ) (h : (w = 64 ∧ g < 2) ∨ (w = 32 ∧ g < 4)) (l : Fin 128) :
    IntOp.cmpi CmpIPredicate.eq
        (Scalar.select
          (IntOp.andi
            (IntOp.cmpi CmpIPredicate.ne
              (IntOp.subi (BitVec.setWidth 32 (IntOp.cmpi CmpIPredicate.sgt (BitVec.ofNat 32 l) 0#32))
                (BitVec.setWidth 32 (IntOp.cmpi CmpIPredicate.slt (BitVec.ofNat 32 l) 0#32)))
              (Scalar.subi (Scalar.extui (Scalar.cmpi CmpIPredicate.sgt (BitVec.ofNat 32 w) 0#32))
                (Scalar.extui (Scalar.cmpi CmpIPredicate.slt (BitVec.ofNat 32 w) 0#32))))
            (IntOp.cmpi CmpIPredicate.ne (IntOp.remsi ArithUnit.vector (BitVec.ofNat 32 l) (BitVec.ofNat 32 w)) 0#32))
          (IntOp.subi (IntOp.divsi ArithUnit.vector (BitVec.ofNat 32 l) (BitVec.ofNat 32 w)) 1#32)
          (IntOp.divsi ArithUnit.vector (BitVec.ofNat 32 l) (BitVec.ofNat 32 w)))
        (BitVec.ofNat 32 g) = BitVec.ofBool (decide ((l : ℕ) / w = g)) := by
  rcases h with ⟨rfl, h⟩ | ⟨rfl, h⟩
  · interval_cases g <;> revert l <;> decide
  · interval_cases g <;> revert l <;> decide

/-- The mask at a lane. -/
theorem laneMask_at (w g : ℕ) (h : (w = 64 ∧ g < 2) ∨ (w = 32 ∧ g < 4)) (a : Fin 1) (l : Fin 128) :
    laneMask (F := Ideal) w g (ix2 a l) = lane w g l := by
  unfold lane
  pointwise [laneMask]
  rw [pick_lane w g h l, Idealize.ShloMosaic.WordCmp.select_decide]

theorem delta_at (hh : ℕ) (d o : Vec Ideal S512x128 .f32) (i : Fin 512) (z : Fin 1) :
    delta hh d o (ix2 i z) = ∑ l : Fin 128, dof hh d (ix2 i l) * o (ix2 i l) := by
  pointwise [delta]

theorem dof_at (hh : ℕ) (d : Vec Ideal S512x128 .f32) (i : Fin 512) (l : Fin 128) :
    dof hh d (ix2 i l) = d (ix2 i l) * laneMask (F := Ideal) 64 hh (ix2 0 l) := by
  pointwise [dof, mask32]

theorem qcat_at (t hh : ℕ) (qn qr : Vec Ideal S512x128 .bf16) (i : Fin 512) (l : Fin 256) :
    qcat t hh qn qr (ix2 i l) =
      if h : (l : ℕ) < 128 then qn (ix2 i ⟨l, h⟩) * laneMask (F := Ideal) 64 hh (ix2 0 ⟨l, h⟩)
      else qr (ix2 i ⟨l - 128, by omega⟩) * laneMask (F := Ideal) 32 (2 * t + hh) (ix2 0 ⟨l - 128, by omega⟩) := by
  pointwise [qcat, mask16]

theorem kcat_at (qn qr : Vec Ideal S512x128 .bf16) (i : Fin 512) (l : Fin 256) :
    kcat qn qr (ix2 i l) =
      if h : (l : ℕ) < 128 then qn (ix2 i ⟨l, h⟩) else qr (ix2 i ⟨l - 128, by omega⟩) := by
  pointwise [kcat]

theorem score_at (qc kc : FVec Ideal S512x256 .bf16) (i j : Fin 512) :
    score qc kc (ix2 i j) = (∑ l : Fin 256, qc (ix2 i l) * kc (ix2 j l)) * scl := by
  pointwise [score]

theorem causal_at (s : FVec Ideal S512x512 .f32) (i j : Fin 512) :
    causal s (ix2 i j) = if (j : ℕ) ≤ i then s (ix2 i j) else ⊥ := by
  pointwise [causal]
  have h : IntOp.addi (BitVec.ofNat 32 (i : ℕ)) 0#32 = BitVec.ofNat 32 i := BitVec.add_zero _
  rw [h, Idealize.ShloMosaic.WordCmp.cmpi_sle_ofNat (by omega) (by omega), Idealize.ShloMosaic.WordCmp.select_decide, ofBits_minus_infinity]

theorem prob_at (s : FVec Ideal S512x512 .f32) (lse : FVec Ideal S512x1 .f32) (i j : Fin 512) :
    prob s lse (ix2 i j) = Ideal.exp (s (ix2 i j) - lse (ix2 i 0)) := by
  pointwise [prob]

theorem dscore_at (p : FVec Ideal S512x512 .f32) (db v : FVec Ideal S512x128 .bf16) (dl : FVec Ideal S512x1 .f32) (i j : Fin 512) :
    dscore p db v dl (ix2 i j) = p (ix2 i j) * ((∑ l : Fin 128, db (ix2 i l) * v (ix2 j l)) - dl (ix2 i 0)) * scl := by
  pointwise [dscore]

theorem dvNext_at (p : FVec Ideal S512x512 .f32) (db : FVec Ideal S512x128 .bf16) (a : Vec Ideal S512x128 .f32) (j : Fin 512) (l : Fin 128) :
    dvNext p db a (ix2 j l) = a (ix2 j l) + ∑ i : Fin 512, p (ix2 i j) * db (ix2 i l) := by
  pointwise [dvNext]

theorem dkNext_at (p : FVec Ideal S512x512 .bf16) (qc : FVec Ideal S512x256 .bf16) (a : Vec Ideal S512x256 .f32) (j : Fin 512) (l : Fin 256) :
    dkNext p qc a (ix2 j l) = a (ix2 j l) + ∑ i : Fin 512, p (ix2 i j) * qc (ix2 i l) := by
  pointwise [dkNext]

theorem dqNext_at (p : FVec Ideal S512x512 .bf16) (kc : FVec Ideal S512x256 .bf16) (a : Vec Ideal S512x256 .f32) (i : Fin 512) (l : Fin 256) :
    dqNext p kc a (ix2 i l) = a (ix2 i l) + ∑ j : Fin 512, p (ix2 i j) * kc (ix2 j l) := by
  pointwise [dqNext]

theorem dqNope_at (hh : ℕ) (d : Vec Ideal S512x256 .f32) (i : Fin 512) (l : Fin 128) :
    dqNope hh d (ix2 i l) = d (ix2 i (l.castLE (by omega))) * laneMask (F := Ideal) 64 hh (ix2 0 l) := by
  pointwise [dqNope, mask32]
  rfl

theorem dqRope_at (t hh : ℕ) (d : Vec Ideal S512x256 .f32) (i : Fin 512) (l : Fin 128) :
    dqRope t hh d (ix2 i l) = d (ix2 i ⟨128 + l, by omega⟩) * laneMask (F := Ideal) 32 (2 * t + hh) (ix2 0 l) := by
  pointwise [dqRope, mask32]

theorem plus_at (a b : FVec Ideal S512x128 .f32) (i : Fin 512) (l : Fin 128) : plus a b (ix2 i l) = a (ix2 i l) + b (ix2 i l) := by
  pointwise [plus]

end Cert.KernelIdeal.Attn

end
-- ==== Proof.Block.lean ====
/- One tile of the attention gradient read in the rows of the whole arrays.

   `P i j` is the probability of key `j` for query `i`, `D i j` the gradient of the score; both are zero for a key after
   the query, so a tile without the mask is the same as a tile with it. -/
module

public import proofs.«01_k».proof.Proof.State
public import proofs.«01_k».proof.Proof.Tile
public import Mathlib.Algebra.BigOperators.Fin

@[expose] public section

set_option maxRecDepth 16384

noncomputable section

namespace Cert.KernelIdeal.Attn

open Cert.KernelIdeal Cert.KernelIdeal.Gen
open Idealize.ShloMosaic Idealize.ShloMosaic.TcCoe

theorem win_at {R C : ℕ} {β : Type} (X : (⟨2, ![R, C]⟩ : Shape).Idx → β) (r c H W : ℕ) (h : r + H ≤ R) (h' : c + W ≤ C)
    (a : Fin H) (b : Fin W) : win X r c H W h h' (ix2 a b) = X (ix2 ⟨r + a, by omega⟩ ⟨c + b, by omega⟩) := by
  unfold win VecWindow.window
  congr 1
  funext k
  fin_cases k
  · exact Fin.ext (show r + 1 * (a : ℕ) = r + a by omega)
  · exact Fin.ext (show c + 1 * (b : ℕ) = c + b by omega)

theorem putw_in {R C : ℕ} {β : Type} (X : (⟨2, ![R, C]⟩ : Shape).Idx → β) (r c H W : ℕ) (w : (⟨2, ![H, W]⟩ : Shape).Idx → β)
    (x : Fin R) (y : Fin C) (a : Fin H) (b : Fin W) (ha : (x : ℕ) = r + a) (hb : (y : ℕ) = c + b) :
    putw X r c H W w (ix2 x y) = w (ix2 a b) := by
  have h : ∀ k, (![r, c] : Fin 2 → ℕ) k ≤ ((ix2 x y : (⟨2, ![R, C]⟩ : Shape).Idx) k).val ∧
      ((ix2 x y : (⟨2, ![R, C]⟩ : Shape).Idx) k).val < (![r, c] : Fin 2 → ℕ) k + (⟨2, ![H, W]⟩ : Shape).size k := by
    intro k
    have := a.isLt
    have := b.isLt
    fin_cases k
    · exact (show r ≤ (x : ℕ) ∧ (x : ℕ) < r + H by omega)
    · exact (show c ≤ (y : ℕ) ∧ (y : ℕ) < c + W by omega)
  unfold putw VecWindow.put
  refine (dif_pos h).trans (congrArg w ?_)
  funext k
  fin_cases k
  · exact Fin.ext (show (x : ℕ) - r = a by omega)
  · exact Fin.ext (show (y : ℕ) - c = b by omega)

theorem putw_out {R C : ℕ} {β : Type} (X : (⟨2, ![R, C]⟩ : Shape).Idx → β) (r c H W : ℕ) (w : (⟨2, ![H, W]⟩ : Shape).Idx → β)
    (x : Fin R) (y : Fin C) (h : ¬ ((r ≤ (x : ℕ) ∧ (x : ℕ) < r + H) ∧ (c ≤ (y : ℕ) ∧ (y : ℕ) < c + W))) :
    putw X r c H W w (ix2 x y) = X (ix2 x y) := by
  unfold putw VecWindow.put
  exact dif_neg fun g => h ⟨g 0, g 1⟩

/-- Row `a` of block `b`. -/
abbrev row (b : Fin 4) (a : Fin 512) : Fin 2048 := ⟨512 * b + a, by omega⟩

variable (I : Ins Ideal) (t hh : Fin 2)

/-- A query's lanes: its part without rotation, then its rotary part, each masked to the head's lanes. -/
def qc (i : Fin 2048) (l : Fin 256) : EReal :=
  if h : (l : ℕ) < 128 then I.q (ix2 i ⟨128 * t + l, by omega⟩) * lane 64 hh l
  else I.q (ix2 i ⟨256 + (l - 128), by omega⟩) * lane 32 (2 * t + hh) (l - 128 : ℕ)

/-- A key's lanes. -/
def kc (j : Fin 2048) (l : Fin 256) : EReal :=
  if h : (l : ℕ) < 128 then I.kv (ix2 j ⟨128 * t + l, by omega⟩) else I.kp (ix2 j ⟨l - 128, by omega⟩)

/-- A query's cotangent, masked to the head's lanes. -/
def db (i : Fin 2048) (l : Fin 128) : EReal := I.dO (ix2 i ⟨128 * t + l, by omega⟩) * lane 64 hh l

/-- The sum of cotangent times output. -/
def dl (i : Fin 2048) : EReal := ∑ l : Fin 128, db I t hh i l * I.o (ix2 i ⟨128 * t + l, by omega⟩)

/-- The log-sum-exp. -/
def ls (i : Fin 2048) : EReal := I.lse (ix2 i ⟨128 * t + 64 * hh, by omega⟩)

/-- The probability of key `j` for query `i`. -/
def P (i j : Fin 2048) : EReal :=
  Ideal.exp ((if (j : ℕ) ≤ i then (∑ l : Fin 256, qc I t hh i l * kc I t j l) * scl else ⊥) - ls I t hh i)

/-- The gradient of the score of key `j` for query `i`. -/
def D (i j : Fin 2048) : EReal :=
  P I t hh i j * ((∑ l : Fin 128, db I t hh i l * I.kv (ix2 j ⟨256 + 128 * t + l, by omega⟩)) - dl I t hh i) * scl

theorem P_after {i j : Fin 2048} (h : (i : ℕ) < j) : P I t hh i j = 0 := by
  unfold P
  rw [if_neg (by omega), EReal.bot_sub]
  exact Ideal.exp_bot

theorem D_after {i j : Fin 2048} (h : (i : ℕ) < j) : D I t hh i j = 0 := by
  unfold D
  rw [P_after I t hh h, zero_mul, zero_mul]

theorem mask64 (l : Fin 128) : laneMask (F := Ideal) 64 hh (ix2 0 l) = lane 64 hh l := laneMask_at 64 hh (by omega) 0 l

theorem mask32_at (l : Fin 128) : laneMask (F := Ideal) 32 (2 * t + hh) (ix2 0 l) = lane 32 (2 * t + hh) l :=
  laneMask_at 32 (2 * t + hh) (by omega) 0 l

theorem qcatI_at (qi : Fin 4) (a : Fin 512) (l : Fin 256) :
    qcatI I t hh qi t.isLt qi.isLt (ix2 a l) = qc I t hh (row qi a) l := by
  unfold qcatI qc
  rw [qcat_at]
  split
  · rw [win_at, mask64]
  · rw [win_at, mask32_at]

theorem dofI_at (qi : Fin 4) (a : Fin 512) (l : Fin 128) :
    dof hh (win I.dO (512 * qi) (128 * t) 512 128 (by omega) (by omega)) (ix2 a l) = db I t hh (row qi a) l := by
  rw [dof_at, win_at, mask64]
  rfl

theorem dobI_at (qi : Fin 4) (a : Fin 512) (l : Fin 128) :
    dobI I t hh qi t.isLt qi.isLt (ix2 a l) = db I t hh (row qi a) l := dofI_at I t hh qi a l

theorem deltaI_at (qi : Fin 4) (a : Fin 512) (z : Fin 1) :
    deltaI I t hh qi t.isLt qi.isLt (ix2 a z) = dl I t hh (row qi a) := by
  unfold deltaI dl
  rw [delta_at]
  exact Finset.sum_congr rfl fun l _ => by rw [dofI_at, win_at]

theorem lseI_at (qi : Fin 4) (a : Fin 512) (z : Fin 1) :
    lseI I t hh qi t.isLt qi.isLt (ix2 a z) = ls I t hh (row qi a) := by
  obtain rfl : z = 0 := Subsingleton.elim _ _
  unfold ls
  match hh with
  | ⟨0, _⟩ =>
    have e : lseI I t 0 qi t.isLt qi.isLt (ix2 a 0) = win I.lse (512 * qi) (128 * t) 512 128 (by omega) (by omega) (ix2 a 0) := by
      pointwise [lseI]
    refine e.trans ?_
    rw [win_at]
    rfl
  | ⟨1, _⟩ =>
    have e : lseI I t 1 qi t.isLt qi.isLt (ix2 a 0) =
        win I.lse (512 * qi) (128 * t) 512 128 (by omega) (by omega) (ix2 a ⟨64, by omega⟩) := by
      pointwise [lseI]
    refine e.trans ?_
    rw [win_at]
    rfl

/-- The mask of the tile of query block `qi` and key block `kj`. -/
def MaskOk (qi kj : Fin 4) (msk : FVec Ideal S512x512 .f32 → FVec Ideal S512x512 .f32) : Prop :=
  ∀ s a b, msk s (ix2 a b) = if (row kj b : ℕ) ≤ row qi a then s (ix2 a b) else ⊥

theorem MaskOk.before {qi kj : Fin 4} (h : (kj : ℕ) < qi) : MaskOk qi kj id := fun s a b =>
  (if_pos (show 512 * (kj : ℕ) + b ≤ 512 * qi + a by omega)).symm

theorem MaskOk.same (qi : Fin 4) : MaskOk qi qi causal := fun s a b => by
  rw [causal_at]
  exact if_congr (show (b : ℕ) ≤ a ↔ 512 * (qi : ℕ) + b ≤ 512 * qi + a by omega) rfl rfl

variable {I t hh} {qi kj : Fin 4} {msk : FVec Ideal S512x512 .f32 → FVec Ideal S512x512 .f32}

theorem kcatI_at (b : Fin 512) (l : Fin 256) :
    kcat (win I.kv (512 * kj) (128 * t) 512 128 (by omega) (by omega)) (win I.kp (512 * kj) 0 512 128 (by omega) (by omega)) (ix2 b l) =
      kc I t (row kj b) l := by
  unfold kc
  rw [kcat_at]
  split
  · rw [win_at]
  · rw [win_at]
    congr 2
    exact Fin.ext (Nat.zero_add _)

theorem tileP_at (hm : MaskOk qi kj msk) (a b : Fin 512) :
    tileP I t kj t.isLt kj.isLt msk (qcatI I t hh qi t.isLt qi.isLt) (lseI I t hh qi t.isLt qi.isLt) (ix2 a b) =
      P I t hh (row qi a) (row kj b) := by
  unfold tileP P
  rw [prob_at, hm, score_at, lseI_at]
  refine congrArg (fun x => Ideal.exp (x - _)) (if_congr Iff.rfl (congrArg (· * scl) (Finset.sum_congr rfl fun l _ => ?_)) rfl)
  rw [qcatI_at]
  exact congrArg _ (kcatI_at b l)

theorem tileDs_at (hm : MaskOk qi kj msk) (a b : Fin 512) :
    tileDs I t kj t.isLt kj.isLt msk (qcatI I t hh qi t.isLt qi.isLt) (dobI I t hh qi t.isLt qi.isLt)
      (deltaI I t hh qi t.isLt qi.isLt) (lseI I t hh qi t.isLt qi.isLt) (ix2 a b) = D I t hh (row qi a) (row kj b) := by
  unfold tileDs D
  rw [dscore_at, tileP_at hm, deltaI_at]
  simp only [dobI_at, win_at]

variable (I t hh qi kj)

/-- What block `qi` of queries adds to the value gradient of key `j`. -/
def addV (j : Fin 2048) (l : Fin 128) : EReal := ∑ a : Fin 512, P I t hh (row qi a) j * db I t hh (row qi a) l

/-- What block `qi` of queries adds to the key gradient of key `j`. -/
def addK (j : Fin 2048) (l : Fin 256) : EReal := ∑ a : Fin 512, D I t hh (row qi a) j * qc I t hh (row qi a) l

/-- What block `kj` of keys adds to the query gradient of query `i`. -/
def addQ (i : Fin 2048) (l : Fin 256) : EReal := ∑ b : Fin 512, D I t hh i (row kj b) * kc I t (row kj b) l

/-- One tile of head `hh` of pair `t`. -/
abbrev stepT (msk : FVec Ideal S512x512 .f32 → FVec Ideal S512x512 .f32) (s : St Ideal) : St Ideal :=
  stepS I t kj t.isLt kj.isLt msk (qcatI I t hh qi t.isLt qi.isLt) (dobI I t hh qi t.isLt qi.isLt)
      (deltaI I t hh qi t.isLt qi.isLt) (lseI I t hh qi t.isLt qi.isLt) s

variable {I t hh qi kj}

theorem stepT_va (hm : MaskOk qi kj msk) (s : St Ideal) (j : Fin 2048) (l : Fin 128) :
    (stepT I t hh qi kj msk s).va (ix2 j l) = s.va (ix2 j l) + if (j : ℕ) / 512 = kj then addV I t hh qi j l else 0 := by
  by_cases h : (j : ℕ) / 512 = kj
  · rw [if_pos h]
    have e : j = row kj ⟨j - 512 * kj, by omega⟩ := Fin.ext (by show (j : ℕ) = 512 * kj + (j - 512 * kj); omega)
    refine (putw_in s.va (512 * kj) 0 512 128 _ j l ⟨j - 512 * kj, by omega⟩ l (by simp only; omega) (by omega)).trans ?_
    rw [dvNext_at, win_at]
    unfold addV
    congr 1
    · congr 2
      · exact e.symm
      · exact Fin.ext (Nat.zero_add _)
    · refine Finset.sum_congr rfl fun a _ => ?_
      rw [tileP_at hm, ← e, dobI_at]
  · rw [if_neg h, add_zero]
    exact putw_out s.va (512 * kj) 0 512 128 _ j l (by omega)

theorem stepT_ka (hm : MaskOk qi kj msk) (s : St Ideal) (j : Fin 2048) (l : Fin 256) :
    (stepT I t hh qi kj msk s).ka (ix2 j l) = s.ka (ix2 j l) + if (j : ℕ) / 512 = kj then addK I t hh qi j l else 0 := by
  by_cases h : (j : ℕ) / 512 = kj
  · rw [if_pos h]
    have e : j = row kj ⟨j - 512 * kj, by omega⟩ := Fin.ext (by show (j : ℕ) = 512 * kj + (j - 512 * kj); omega)
    refine (putw_in s.ka (512 * kj) 0 512 256 _ j l ⟨j - 512 * kj, by omega⟩ l (by simp only; omega) (by omega)).trans ?_
    rw [dkNext_at, win_at]
    unfold addK
    congr 1
    · congr 2
      · exact e.symm
      · exact Fin.ext (Nat.zero_add _)
    · refine Finset.sum_congr rfl fun a _ => ?_
      rw [tileDs_at hm, ← e, qcatI_at]
  · rw [if_neg h, add_zero]
    exact putw_out s.ka (512 * kj) 0 512 256 _ j l (by omega)

theorem stepT_qa (hm : MaskOk qi kj msk) (s : St Ideal) (a : Fin 512) (l : Fin 256) :
    (stepT I t hh qi kj msk s).qa (ix2 a l) = s.qa (ix2 a l) + addQ I t hh kj (row qi a) l := by
  refine (putw_in s.qa 0 0 512 256 _ a l a l (by omega) (by omega)).trans ?_
  rw [dqNext_at, win_at]
  unfold addQ
  congr 1
  · congr 2
    · exact Fin.ext (Nat.zero_add _)
    · exact Fin.ext (Nat.zero_add _)
  · refine Finset.sum_congr rfl fun b _ => ?_
    rw [tileDs_at hm]
    exact congrArg _ (kcatI_at b l)

theorem addV_after {j : Fin 2048} (h : (qi : ℕ) < (j : ℕ) / 512) (l : Fin 128) : addV I t hh qi j l = 0 :=
  Finset.sum_eq_zero fun a _ => by rw [P_after I t hh (show 512 * (qi : ℕ) + a < j by omega), zero_mul]

theorem addK_after {j : Fin 2048} (h : (qi : ℕ) < (j : ℕ) / 512) (l : Fin 256) : addK I t hh qi j l = 0 :=
  Finset.sum_eq_zero fun a _ => by rw [D_after I t hh (show 512 * (qi : ℕ) + a < j by omega), zero_mul]

theorem addQ_after (h : (qi : ℕ) < kj) (a : Fin 512) (l : Fin 256) : addQ I t hh kj (row qi a) l = 0 :=
  Finset.sum_eq_zero fun b _ => by rw [D_after I t hh (show 512 * (qi : ℕ) + a < 512 * kj + b by omega), zero_mul]

end Cert.KernelIdeal.Attn
-- ==== Proof.Closed.lean ====
/- What the body of one quad of heads leaves, in closed form: sums over all queries or all keys, whatever the buffers held.
 -/
module

public import proofs.«01_k».proof.Proof.Block
public import Idealize.ShloMosaic.Lib.Pointwise.Sums

@[expose] public section

set_option maxRecDepth 16384

noncomputable section

namespace Cert.KernelIdeal.Attn

open Cert.KernelIdeal Cert.KernelIdeal.Gen
open Idealize.ShloMosaic Idealize.ShloMosaic.TcCoe

variable (I : Ins Ideal) (t hh : Fin 2) (qi : Fin 4)

/-- The first `n` tiles of a block of queries. -/
abbrev stepsT (n : ℕ) (hn : n ≤ 4) (s : St Ideal) : St Ideal :=
  stepsS I t t.isLt (qcatI I t hh qi t.isLt qi.isLt) (dobI I t hh qi t.isLt qi.isLt)
      (deltaI I t hh qi t.isLt qi.isLt) (lseI I t hh qi t.isLt qi.isLt) n hn s

theorem stepsT_va (n : ℕ) (hn : n ≤ qi) (s : St Ideal) (j : Fin 2048) (l : Fin 128) :
    (stepsT I t hh qi n (by omega) s).va (ix2 j l) = s.va (ix2 j l) + if (j : ℕ) / 512 < n then addV I t hh qi j l else 0 := by
  induction n with
  | zero => exact (by rw [if_neg (by omega), add_zero]; rfl)
  | succ n ih =>
    refine (stepT_va (I := I) (t := t) (hh := hh) (qi := qi) (kj := ⟨n, by omega⟩) (MaskOk.before hn) _ j l).trans ?_
    rw [ih (by omega), add_assoc]
    congr 1
    by_cases h : (j : ℕ) / 512 = n
    · rw [if_neg (by omega), if_pos h, if_pos (by omega), zero_add]
    · rw [if_neg (c := (j : ℕ) / 512 = _) h, add_zero]
      exact if_congr (by omega) rfl rfl

theorem stepsT_ka (n : ℕ) (hn : n ≤ qi) (s : St Ideal) (j : Fin 2048) (l : Fin 256) :
    (stepsT I t hh qi n (by omega) s).ka (ix2 j l) = s.ka (ix2 j l) + if (j : ℕ) / 512 < n then addK I t hh qi j l else 0 := by
  induction n with
  | zero => exact (by rw [if_neg (by omega), add_zero]; rfl)
  | succ n ih =>
    refine (stepT_ka (I := I) (t := t) (hh := hh) (qi := qi) (kj := ⟨n, by omega⟩) (MaskOk.before hn) _ j l).trans ?_
    rw [ih (by omega), add_assoc]
    congr 1
    by_cases h : (j : ℕ) / 512 = n
    · rw [if_neg (by omega), if_pos h, if_pos (by omega), zero_add]
    · rw [if_neg (c := (j : ℕ) / 512 = _) h, add_zero]
      exact if_congr (by omega) rfl rfl

theorem stepsT_qa (n : ℕ) (hn : n ≤ qi) (s : St Ideal) (a : Fin 512) (l : Fin 256) :
    (stepsT I t hh qi n (by omega) s).qa (ix2 a l) =
      s.qa (ix2 a l) + ∑ kj : Fin 4, if (kj : ℕ) < n then addQ I t hh kj (row qi a) l else 0 := by
  induction n with
  | zero => exact (by rw [Finset.sum_eq_zero fun kj _ => if_neg (Nat.not_lt_zero _), add_zero]; rfl)
  | succ n ih =>
    refine (stepT_qa (I := I) (t := t) (hh := hh) (qi := qi) (kj := ⟨n, by omega⟩) (MaskOk.before hn) _ a l).trans ?_
    rw [ih (by omega), add_assoc]
    congr 1
    have e : addQ I t hh ⟨n, by omega⟩ (row qi a) l =
        ∑ kj : Fin 4, if (⟨n, by omega⟩ : Fin 4) = kj then addQ I t hh kj (row qi a) l else 0 := by
      rw [Finset.sum_ite_eq, if_pos (Finset.mem_univ _)]
    rw [e, ← Finset.sum_add_distrib]
    refine Finset.sum_congr rfl fun kj _ => ?_
    by_cases h : (⟨n, by omega⟩ : Fin 4) = kj
    · subst h
      rw [if_neg (lt_irrefl n), if_pos rfl, if_pos (Nat.lt_succ_self n), zero_add]
    · rw [if_neg (c := _ = kj) h, add_zero]
      have : n ≠ kj := fun g => h (Fin.ext g)
      exact if_congr (by omega) rfl rfl

theorem stepsT_rest (n : ℕ) (hn : n ≤ 4) (s : St Ideal) :
    (stepsT I t hh qi n hn s).dq = s.dq ∧ (stepsT I t hh qi n hn s).dkv = s.dkv ∧ (stepsT I t hh qi n hn s).dkp = s.dkp := by
  induction n with
  | zero => exact ⟨rfl, rfl, rfl⟩
  | succ n ih => exact ih (by omega)

/-- The state after the tiles of a block of queries, before the block's gradient goes out. -/
def acc (s : St Ideal) : St Ideal := stepT I t hh qi qi causal (stepsT I t hh qi qi (by omega) (resetQ s))

theorem qBlockS_eq (s : St Ideal) : qBlockS I t hh qi t.isLt qi.isLt s = qOutS t hh qi t.isLt qi.isLt (acc I t hh qi s) := rfl

theorem acc_va (s : St Ideal) (j : Fin 2048) (l : Fin 128) :
    (acc I t hh qi s).va (ix2 j l) = s.va (ix2 j l) + addV I t hh qi j l := by
  refine (stepT_va (MaskOk.same qi) _ j l).trans ?_
  rw [stepsT_va I t hh qi qi le_rfl, add_assoc]
  refine congrArg₂ (· + ·) rfl ?_
  rcases lt_trichotomy ((j : ℕ) / 512) qi with h | h | h
  · rw [if_pos h, if_neg (by omega), add_zero]
  · rw [if_neg (by omega), if_pos h, zero_add]
  · rw [if_neg (by omega), if_neg (by omega), addV_after h, zero_add]

theorem acc_ka (s : St Ideal) (j : Fin 2048) (l : Fin 256) :
    (acc I t hh qi s).ka (ix2 j l) = s.ka (ix2 j l) + addK I t hh qi j l := by
  refine (stepT_ka (MaskOk.same qi) _ j l).trans ?_
  rw [stepsT_ka I t hh qi qi le_rfl, add_assoc]
  refine congrArg₂ (· + ·) rfl ?_
  rcases lt_trichotomy ((j : ℕ) / 512) qi with h | h | h
  · rw [if_pos h, if_neg (by omega), add_zero]
  · rw [if_neg (by omega), if_pos h, zero_add]
  · rw [if_neg (by omega), if_neg (by omega), addK_after h, zero_add]

/-- The query gradient of one head, before the lanes are picked. -/
def QA (i : Fin 2048) (l : Fin 256) : EReal := ∑ j : Fin 2048, D I t hh i j * kc I t j l

theorem QA_blocks (i : Fin 2048) (l : Fin 256) : QA I t hh i l = ∑ kj : Fin 4, addQ I t hh kj i l := by
  unfold QA addQ
  rw [Fin.sum_univ_tiles 4 512 rfl]
  refine Finset.sum_congr rfl fun b _ => Finset.sum_congr rfl fun a _ => ?_
  have e : (⟨(b : ℕ) * 512 + a, by omega⟩ : Fin 2048) = row b a := Fin.ext (by show (b : ℕ) * 512 + a = 512 * b + a; omega)
  rw [e]

theorem resetQ_qa (s : St Ideal) (a : Fin 512) (l : Fin 256) : (resetQ s).qa (ix2 a l) = 0 := by
  refine (putw_in s.qa 0 0 512 256 _ a l a l (by omega) (by omega)).trans ?_
  pointwise []

theorem acc_qa (s : St Ideal) (a : Fin 512) (l : Fin 256) : (acc I t hh qi s).qa (ix2 a l) = QA I t hh (row qi a) l := by
  refine (stepT_qa (MaskOk.same qi) _ a l).trans ?_
  rw [stepsT_qa I t hh qi qi le_rfl, resetQ_qa, zero_add, QA_blocks]
  have e : addQ I t hh qi (row qi a) l = ∑ kj : Fin 4, if qi = kj then addQ I t hh kj (row qi a) l else 0 := by
    rw [Finset.sum_ite_eq, if_pos (Finset.mem_univ _)]
  rw [e, ← Finset.sum_add_distrib]
  refine Finset.sum_congr rfl fun kj _ => ?_
  rcases lt_trichotomy (kj : ℕ) qi with h | h | h
  · rw [if_pos h, if_neg (fun g => by omega), add_zero]
  · rw [if_neg (by omega), if_pos (Fin.ext h.symm), zero_add]
  · rw [if_neg (by omega), if_neg (fun g => by omega), addQ_after h, zero_add]

theorem acc_rest (s : St Ideal) :
    (acc I t hh qi s).dq = s.dq ∧ (acc I t hh qi s).dkv = s.dkv ∧ (acc I t hh qi s).dkp = s.dkp :=
  stepsT_rest I t hh qi qi (by omega) (resetQ s)

theorem qOutS_rest (s : St Ideal) :
    (qOutS t hh qi t.isLt qi.isLt s).va = s.va ∧ (qOutS t hh qi t.isLt qi.isLt s).ka = s.ka ∧
    (qOutS t hh qi t.isLt qi.isLt s).dkv = s.dkv ∧ (qOutS t hh qi t.isLt qi.isLt s).dkp = s.dkp := by
  match hh, t with
  | ⟨0, _⟩, ⟨0, _⟩ => exact ⟨rfl, rfl, rfl, rfl⟩
  | ⟨0, _⟩, ⟨1, _⟩ => exact ⟨rfl, rfl, rfl, rfl⟩
  | ⟨1, _⟩, ⟨0, _⟩ => exact ⟨rfl, rfl, rfl, rfl⟩
  | ⟨1, _⟩, ⟨1, _⟩ => exact ⟨rfl, rfl, rfl, rfl⟩

/-- What one head makes of an entry `x` of the query gradient. -/
def upd (i : Fin 2048) (y : Fin 384) (x : EReal) : EReal :=
  if h : (y : ℕ) < 256 then
    if (y : ℕ) / 128 = t then
      (if hh = 0 then 0 else x) + QA I t hh i ⟨y % 128, by omega⟩ * lane 64 hh (y % 128 : ℕ)
    else x
  else (if t = 0 ∧ hh = 0 then 0 else x) + QA I t hh i ⟨128 + (y - 256), by omega⟩ * lane 32 (2 * t + hh) (y - 256 : ℕ)

theorem two_puts (d : Vec Ideal S2048x384 .f32) (w w' : Vec Ideal S512x128 .f32) (i : Fin 2048) (y : Fin 384) :
    putw (putw d (512 * qi) (128 * t) 512 128 w) (512 * qi) 256 512 128 w' (ix2 i y) =
      if h : (i : ℕ) / 512 = qi then
        if h' : (y : ℕ) < 256 then
          if (y : ℕ) / 128 = t then w (ix2 ⟨i - 512 * qi, by omega⟩ ⟨y % 128, by omega⟩) else d (ix2 i y)
        else w' (ix2 ⟨i - 512 * qi, by omega⟩ ⟨y - 256, by omega⟩)
      else d (ix2 i y) := by
  split
  · split
    · rw [putw_out _ (512 * qi) 256 512 128 _ i y (by omega)]
      split
      · exact putw_in _ (512 * qi) (128 * t) 512 128 _ i y _ _ (by simp only; omega) (by simp only; omega)
      · exact putw_out _ (512 * qi) (128 * t) 512 128 _ i y (by omega)
    · exact putw_in _ (512 * qi) 256 512 128 _ i y _ _ (by simp only; omega) (by simp only; omega)
  · rw [putw_out _ (512 * qi) 256 512 128 _ i y (by omega)]
    exact putw_out _ (512 * qi) (128 * t) 512 128 _ i y (by omega)

theorem nope_at (s : St Ideal) (a : Fin 512) (l : Fin 128) :
    dqNope hh (win (acc I t hh qi s).qa 0 0 512 256 (by omega) (by omega)) (ix2 a l) =
      QA I t hh (row qi a) ⟨l, by omega⟩ * lane 64 hh l := by
  rw [dqNope_at, win_at, mask64, ← acc_qa I t hh qi s]
  congr 3
  · exact Fin.ext (Nat.zero_add _)
  · exact Fin.ext (Nat.zero_add _)

theorem rope_at (s : St Ideal) (a : Fin 512) (l : Fin 128) :
    dqRope t hh (win (acc I t hh qi s).qa 0 0 512 256 (by omega) (by omega)) (ix2 a l) =
      QA I t hh (row qi a) ⟨128 + l, by omega⟩ * lane 32 (2 * t + hh) l := by
  rw [dqRope_at, win_at, mask32_at, ← acc_qa I t hh qi s]
  congr 3
  · exact Fin.ext (Nat.zero_add _)
  · exact Fin.ext (Nat.zero_add _)

theorem row_of {i : Fin 2048} (h : (i : ℕ) / 512 = qi) : row qi ⟨i - 512 * qi, by omega⟩ = i :=
  Fin.ext (by show 512 * (qi : ℕ) + (i - 512 * qi) = i; omega)

theorem plus_nope (s : St Ideal) (d : Vec Ideal S2048x384 .f32) {i : Fin 2048} {y : Fin 384} (h : (i : ℕ) / 512 = qi) (h' : (y : ℕ) / 128 = t) :
    plus (win d (512 * qi) (128 * t) 512 128 (by omega) (by omega))
        (dqNope hh (win (acc I t hh qi s).qa 0 0 512 256 (by omega) (by omega)))
        (ix2 ⟨i - 512 * qi, by omega⟩ ⟨y % 128, by omega⟩) =
      d (ix2 i y) + QA I t hh i ⟨y % 128, by omega⟩ * lane 64 hh (y % 128 : ℕ) := by
  rw [plus_at, win_at, nope_at, row_of qi h]
  congr 3
  · exact Fin.ext (by simp only; omega)
  · exact Fin.ext (by simp only; omega)

theorem plus_rope (s : St Ideal) (d : Vec Ideal S2048x384 .f32) (w : Vec Ideal S512x128 .f32) {i : Fin 2048} {y : Fin 384} (h : (i : ℕ) / 512 = qi) (h' : ¬ (y : ℕ) < 256) :
    plus (win (putw d (512 * qi) (128 * t) 512 128 w) (512 * qi) 256 512 128 (by omega) (by omega))
        (dqRope t hh (win (acc I t hh qi s).qa 0 0 512 256 (by omega) (by omega)))
        (ix2 ⟨i - 512 * qi, by omega⟩ ⟨y - 256, by omega⟩) =
      d (ix2 i y) + QA I t hh i ⟨128 + (y - 256), by omega⟩ * lane 32 (2 * t + hh) (y - 256 : ℕ) := by
  rw [plus_at, win_at, rope_at, row_of qi h, putw_out _ (512 * qi) (128 * t) 512 128 _ _ _ (by simp only; omega)]
  congr 3
  · exact Fin.ext (by simp only; omega)
  · exact Fin.ext (by simp only; omega)

theorem out_dq (d : Vec Ideal S2048x384 .f32) (w w' : Vec Ideal S512x128 .f32) (i : Fin 2048) (y : Fin 384)
    (hw : ∀ (h : (i : ℕ) / 512 = qi) (_ : (y : ℕ) / 128 = t), w (ix2 ⟨i - 512 * qi, by omega⟩ ⟨y % 128, by omega⟩) =
      (if hh = 0 then 0 else d (ix2 i y)) + QA I t hh i ⟨y % 128, by omega⟩ * lane 64 hh (y % 128 : ℕ))
    (hw' : ∀ (h : (i : ℕ) / 512 = qi) (_ : ¬ (y : ℕ) < 256), w' (ix2 ⟨i - 512 * qi, by omega⟩ ⟨y - 256, by omega⟩) =
      (if t = 0 ∧ hh = 0 then 0 else d (ix2 i y)) + QA I t hh i ⟨128 + (y - 256), by omega⟩ * lane 32 (2 * t + hh) (y - 256 : ℕ)) :
    putw (putw d (512 * qi) (128 * t) 512 128 w) (512 * qi) 256 512 128 w' (ix2 i y) =
      if (i : ℕ) / 512 = qi then upd I t hh i y (d (ix2 i y)) else d (ix2 i y) := by
  rw [two_puts]
  unfold upd
  by_cases h : (i : ℕ) / 512 = qi
  · rw [dif_pos h, if_pos h]
    by_cases h' : (y : ℕ) < 256
    · rw [dif_pos h', dif_pos h']
      by_cases h2 : (y : ℕ) / 128 = t
      · rw [if_pos h2, if_pos h2, hw h h2]
      · rw [if_neg h2, if_neg h2]
    · rw [dif_neg h', dif_neg h', hw' h h']
  · rw [dif_neg h, if_neg h]

theorem qBlock_dq (s : St Ideal) (i : Fin 2048) (y : Fin 384) :
    (qBlockS I t hh qi t.isLt qi.isLt s).dq (ix2 i y) =
      if (i : ℕ) / 512 = qi then upd I t hh i y (s.dq (ix2 i y)) else s.dq (ix2 i y) := by
  rw [qBlockS_eq]
  have hd := (acc_rest I t hh qi s).1
  rw [← hd]
  match hh, t with
  | ⟨0, _⟩, ⟨0, _⟩ =>
    refine out_dq I 0 0 qi (acc I 0 0 qi s).dq _ _ i y (fun h h' => ?_) (fun h h' => ?_)
    · rw [if_pos rfl, zero_add]
      exact (nope_at I 0 0 qi s _ ⟨y % 128, _⟩).trans (by rw [row_of qi h])
    · rw [if_pos ⟨rfl, rfl⟩, zero_add]
      exact (rope_at I 0 0 qi s _ ⟨y - 256, _⟩).trans (by rw [row_of qi h])
  | ⟨0, _⟩, ⟨1, _⟩ =>
    refine out_dq I 1 0 qi (acc I 1 0 qi s).dq _ _ i y (fun h h' => ?_) (fun h h' => ?_)
    · rw [if_pos rfl, zero_add]
      exact (nope_at I 1 0 qi s _ ⟨y % 128, _⟩).trans (by rw [row_of qi h])
    · rw [if_neg (by decide)]
      exact plus_rope I 1 0 qi s _ _ h h'
  | ⟨1, _⟩, ⟨0, _⟩ =>
    refine out_dq I 0 1 qi (acc I 0 1 qi s).dq _ _ i y (fun h h' => ?_) (fun h h' => ?_)
    · rw [if_neg (by decide)]
      exact plus_nope I 0 1 qi s _ h h'
    · rw [if_neg (by decide)]
      exact plus_rope I 0 1 qi s _ _ h h'
  | ⟨1, _⟩, ⟨1, _⟩ =>
    refine out_dq I 1 1 qi (acc I 1 1 qi s).dq _ _ i y (fun h h' => ?_) (fun h h' => ?_)
    · rw [if_neg (by decide)]
      exact plus_nope I 1 1 qi s _ h h'
    · rw [if_neg (by decide)]
      exact plus_rope I 1 1 qi s _ _ h h'

theorem qBlock_va (s : St Ideal) (j : Fin 2048) (l : Fin 128) :
    (qBlockS I t hh qi t.isLt qi.isLt s).va (ix2 j l) = s.va (ix2 j l) + addV I t hh qi j l := by
  rw [qBlockS_eq, (qOutS_rest t hh qi _).1, acc_va]

theorem qBlock_ka (s : St Ideal) (j : Fin 2048) (l : Fin 256) :
    (qBlockS I t hh qi t.isLt qi.isLt s).ka (ix2 j l) = s.ka (ix2 j l) + addK I t hh qi j l := by
  rw [qBlockS_eq, (qOutS_rest t hh qi _).2.1, acc_ka]

theorem qBlock_dkv (s : St Ideal) : (qBlockS I t hh qi t.isLt qi.isLt s).dkv = s.dkv := by
  rw [qBlockS_eq, (qOutS_rest t hh qi _).2.2.1, (acc_rest I t hh qi s).2.1]

theorem qBlock_dkp (s : St Ideal) : (qBlockS I t hh qi t.isLt qi.isLt s).dkp = s.dkp := by
  rw [qBlockS_eq, (qOutS_rest t hh qi _).2.2.2, (acc_rest I t hh qi s).2.2]

/-! ## One head -/

/-- The value gradient of one head. -/
def VA (j : Fin 2048) (l : Fin 128) : EReal := ∑ i : Fin 2048, P I t hh i j * db I t hh i l

/-- The key gradient of one head. -/
def KA (j : Fin 2048) (l : Fin 256) : EReal := ∑ i : Fin 2048, D I t hh i j * qc I t hh i l

theorem row_tile (b : Fin 4) (a : Fin 512) : (⟨(b : ℕ) * 512 + a, by omega⟩ : Fin 2048) = row b a :=
  Fin.ext (by show (b : ℕ) * 512 + a = 512 * b + a; omega)

theorem VA_blocks (j : Fin 2048) (l : Fin 128) :
    VA I t hh j l = addV I t hh 0 j l + addV I t hh 1 j l + addV I t hh 2 j l + addV I t hh 3 j l := by
  rw [← Fin.sum_univ_four (fun b => addV I t hh b j l)]
  unfold VA addV
  rw [Fin.sum_univ_tiles 4 512 rfl]
  exact Finset.sum_congr rfl fun b _ => Finset.sum_congr rfl fun a _ => by rw [row_tile]

theorem KA_blocks (j : Fin 2048) (l : Fin 256) :
    KA I t hh j l = addK I t hh 0 j l + addK I t hh 1 j l + addK I t hh 2 j l + addK I t hh 3 j l := by
  rw [← Fin.sum_univ_four (fun b => addK I t hh b j l)]
  unfold KA addK
  rw [Fin.sum_univ_tiles 4 512 rfl]
  exact Finset.sum_congr rfl fun b _ => Finset.sum_congr rfl fun a _ => by rw [row_tile]

theorem headS_eq (s : St Ideal) : headS I t hh t.isLt s =
    qBlockS I t hh (3 : Fin 4) t.isLt (3 : Fin 4).isLt (qBlockS I t hh (2 : Fin 4) t.isLt (2 : Fin 4).isLt
      (qBlockS I t hh (1 : Fin 4) t.isLt (1 : Fin 4).isLt (qBlockS I t hh (0 : Fin 4) t.isLt (0 : Fin 4).isLt s))) := rfl

theorem head_va (s : St Ideal) (j : Fin 2048) (l : Fin 128) :
    (headS I t hh t.isLt s).va (ix2 j l) = s.va (ix2 j l) + VA I t hh j l := by
  rw [headS_eq, VA_blocks]
  simp only [qBlock_va, add_assoc]

theorem head_ka (s : St Ideal) (j : Fin 2048) (l : Fin 256) :
    (headS I t hh t.isLt s).ka (ix2 j l) = s.ka (ix2 j l) + KA I t hh j l := by
  rw [headS_eq, KA_blocks]
  simp only [qBlock_ka, add_assoc]

theorem head_dkv (s : St Ideal) : (headS I t hh t.isLt s).dkv = s.dkv := by
  rw [headS_eq, qBlock_dkv, qBlock_dkv, qBlock_dkv, qBlock_dkv]

theorem head_dkp (s : St Ideal) : (headS I t hh t.isLt s).dkp = s.dkp := by
  rw [headS_eq, qBlock_dkp, qBlock_dkp, qBlock_dkp, qBlock_dkp]

theorem head_dq (s : St Ideal) (i : Fin 2048) (y : Fin 384) :
    (headS I t hh t.isLt s).dq (ix2 i y) = upd I t hh i y (s.dq (ix2 i y)) := by
  rw [headS_eq, qBlock_dq, qBlock_dq, qBlock_dq, qBlock_dq]
  have h : (i : ℕ) / 512 = 0 ∨ (i : ℕ) / 512 = 1 ∨ (i : ℕ) / 512 = 2 ∨ (i : ℕ) / 512 = 3 := by omega
  rcases h with h | h | h | h <;> simp [h]

/-! ## The two pairs -/

theorem clear_va (s : St Ideal) (j : Fin 2048) (l : Fin 128) : (clearS s).va (ix2 j l) = 0 := by
  refine (putw_in s.va 0 0 2048 128 _ j l j l (by omega) (by omega)).trans ?_
  pointwise []

theorem clear_ka (s : St Ideal) (j : Fin 2048) (l : Fin 256) : (clearS s).ka (ix2 j l) = 0 := by
  refine (putw_in s.ka 0 0 2048 256 _ j l j l (by omega) (by omega)).trans ?_
  pointwise []

/-- The state of a pair before its key and value gradients go out. -/
abbrev heads (s : St Ideal) : St Ideal := headS I t (1 : Fin 2) t.isLt (headS I t (0 : Fin 2) t.isLt (clearS s))

theorem heads_va (s : St Ideal) (j : Fin 2048) (l : Fin 128) : (heads I t s).va (ix2 j l) = VA I t 0 j l + VA I t 1 j l := by
  rw [head_va, head_va, clear_va, zero_add]

theorem heads_ka (s : St Ideal) (j : Fin 2048) (l : Fin 256) : (heads I t s).ka (ix2 j l) = KA I t 0 j l + KA I t 1 j l := by
  rw [head_ka, head_ka, clear_ka, zero_add]

theorem pair_eq (s : St Ideal) : pairS I t t.isLt s = kvOutS t t.isLt (heads I t s) := rfl

theorem pair_dq (s : St Ideal) (i : Fin 2048) (y : Fin 384) :
    (pairS I t t.isLt s).dq (ix2 i y) = upd I t 1 i y (upd I t 0 i y (s.dq (ix2 i y))) := by
  rw [pair_eq]
  exact (head_dq I t 1 _ i y).trans (by rw [head_dq]; rfl)

theorem kvOut_dkv (s : St Ideal) (j : Fin 2048) (y : Fin 512) :
    (kvOutS t t.isLt s).dkv (ix2 j y) =
      if (y : ℕ) / 128 = t then s.ka (ix2 j ⟨y % 128, by omega⟩)
      else if (y : ℕ) / 128 = 2 + t then s.va (ix2 j ⟨y % 128, by omega⟩)
      else s.dkv (ix2 j y) := by
  show putw (putw s.dkv 0 (128 * t) 2048 128 (win s.ka 0 0 2048 128 (by omega) (by omega)))
    0 (256 + 128 * t) 2048 128 (win s.va 0 0 2048 128 (by omega) (by omega)) (ix2 j y) = _
  by_cases h : (y : ℕ) / 128 = t
  · rw [if_pos h, putw_out _ 0 (256 + 128 * t) 2048 128 _ j y (by omega),
      putw_in _ 0 (128 * t) 2048 128 _ j y j ⟨y % 128, by omega⟩ (by omega) (by simp only; omega), win_at]
    congr 2
    · exact Fin.ext (Nat.zero_add _)
    · exact Fin.ext (Nat.zero_add _)
  · rw [if_neg h]
    by_cases h' : (y : ℕ) / 128 = 2 + t
    · rw [if_pos h', putw_in _ 0 (256 + 128 * t) 2048 128 _ j y j ⟨y % 128, by omega⟩ (by omega) (by simp only; omega), win_at]
      congr 2
      · exact Fin.ext (Nat.zero_add _)
      · exact Fin.ext (Nat.zero_add _)
    · rw [if_neg h', putw_out _ 0 (256 + 128 * t) 2048 128 _ j y (by omega), putw_out _ 0 (128 * t) 2048 128 _ j y (by omega)]

theorem pair_dkv (s : St Ideal) (j : Fin 2048) (y : Fin 512) :
    (pairS I t t.isLt s).dkv (ix2 j y) =
      if (y : ℕ) / 128 = t then KA I t 0 j ⟨y % 128, by omega⟩ + KA I t 1 j ⟨y % 128, by omega⟩
      else if (y : ℕ) / 128 = 2 + t then VA I t 0 j ⟨y % 128, by omega⟩ + VA I t 1 j ⟨y % 128, by omega⟩
      else s.dkv (ix2 j y) := by
  rw [pair_eq, kvOut_dkv, heads_ka, heads_va, head_dkv, head_dkv]
  rfl

theorem kvOut_dkp (s : St Ideal) (j : Fin 2048) (y : Fin 128) :
    (kvOutS t t.isLt s).dkp (ix2 j y) = (if t = 0 then 0 else s.dkp (ix2 j y)) + s.ka (ix2 j ⟨128 + y, by omega⟩) := by
  have e : win s.ka 0 128 2048 128 (by omega) (by omega) (ix2 j y) = s.ka (ix2 j ⟨128 + y, by omega⟩) := by
    rw [win_at]
    congr 2
    exact Fin.ext (Nat.zero_add _)
  have e' : win s.dkp 0 0 2048 128 (by omega) (by omega) (ix2 j y) = s.dkp (ix2 j y) := by
    rw [win_at]
    congr 2
    · exact Fin.ext (Nat.zero_add _)
    · exact Fin.ext (Nat.zero_add _)
  rw [← e]
  match t with
  | ⟨0, _⟩ =>
    rw [if_pos (show (⟨0, by omega⟩ : Fin 2) = 0 from rfl), zero_add]
    exact putw_in _ 0 0 2048 128 _ j y j y (by omega) (by omega)
  | ⟨1, _⟩ =>
    rw [if_neg (fun h => Nat.one_ne_zero (congrArg Fin.val h)), ← e']
    refine (putw_in _ 0 0 2048 128 _ j y j y (by omega) (by omega)).trans ?_
    pointwise []

theorem pair_dkp (s : St Ideal) (j : Fin 2048) (y : Fin 128) :
    (pairS I t t.isLt s).dkp (ix2 j y) =
      (if t = 0 then 0 else s.dkp (ix2 j y)) + (KA I t 0 j ⟨128 + y, by omega⟩ + KA I t 1 j ⟨128 + y, by omega⟩) := by
  rw [pair_eq, kvOut_dkp, heads_ka, head_dkp, head_dkp]
  rfl

/-! ## The quad -/

/-- The query gradient that the body leaves. -/
def outQ (i : Fin 2048) (y : Fin 384) : EReal := upd I 1 1 i y (upd I 1 0 i y (upd I 0 1 i y (upd I 0 0 i y 0)))

/-- The key and value gradient that the body leaves. -/
def outKV (j : Fin 2048) (y : Fin 512) : EReal :=
  if (y : ℕ) < 256 then
    KA I ⟨y / 128 % 2, by omega⟩ 0 j ⟨y % 128, by omega⟩ + KA I ⟨y / 128 % 2, by omega⟩ 1 j ⟨y % 128, by omega⟩
  else VA I ⟨y / 128 % 2, by omega⟩ 0 j ⟨y % 128, by omega⟩ + VA I ⟨y / 128 % 2, by omega⟩ 1 j ⟨y % 128, by omega⟩

/-- The rotary key gradient that the body leaves. -/
def outKP (j : Fin 2048) (y : Fin 128) : EReal :=
  (KA I 0 0 j ⟨128 + y, by omega⟩ + KA I 0 1 j ⟨128 + y, by omega⟩) +
    (KA I 1 0 j ⟨128 + y, by omega⟩ + KA I 1 1 j ⟨128 + y, by omega⟩)

theorem upd_reset {i : Fin 2048} {y : Fin 384} (h : ((y : ℕ) < 256 ∧ (y : ℕ) / 128 = t ∧ hh = 0) ∨ (¬ (y : ℕ) < 256 ∧ t = 0 ∧ hh = 0))
    (x x' : EReal) : upd I t hh i y x = upd I t hh i y x' := by
  unfold upd
  rcases h with ⟨h, h', h2⟩ | ⟨h, h', h2⟩
  · rw [dif_pos h, dif_pos h, if_pos h', if_pos h', if_pos h2, if_pos h2]
  · rw [dif_neg h, dif_neg h, if_pos ⟨h', h2⟩, if_pos ⟨h', h2⟩]

theorem body_dq (s : St Ideal) (i : Fin 2048) (y : Fin 384) : (bodyS I s).dq (ix2 i y) = outQ I i y := by
  refine (pair_dq I 1 _ i y).trans ?_
  unfold outQ
  rw [show (pairS I 0 (by omega) s).dq (ix2 i y) = _ from pair_dq I 0 s i y]
  have h : ((y : ℕ) < 256 ∧ (y : ℕ) / 128 = 0) ∨ ((y : ℕ) < 256 ∧ (y : ℕ) / 128 = 1) ∨ ¬ (y : ℕ) < 256 := by omega
  rcases h with h | h | h
  · rw [upd_reset I 0 0 (.inl ⟨h.1, h.2, rfl⟩) (s.dq (ix2 i y)) 0]
  · rw [upd_reset I 1 0 (.inl ⟨h.1, h.2, rfl⟩) (upd I 0 1 i y (upd I 0 0 i y (s.dq (ix2 i y)))) (upd I 0 1 i y (upd I 0 0 i y 0))]
  · rw [upd_reset I 0 0 (.inr ⟨h, rfl, rfl⟩) (s.dq (ix2 i y)) 0]

theorem body_dkv (s : St Ideal) (j : Fin 2048) (y : Fin 512) : (bodyS I s).dkv (ix2 j y) = outKV I j y := by
  refine (pair_dkv I 1 _ j y).trans ?_
  rw [show (pairS I 0 (by omega) s).dkv (ix2 j y) = _ from pair_dkv I 0 s j y]
  unfold outKV
  have h : (y : ℕ) / 128 = 0 ∨ (y : ℕ) / 128 = 1 ∨ (y : ℕ) / 128 = 2 ∨ (y : ℕ) / 128 = 3 := by omega
  rcases h with h | h | h | h
  · rw [if_pos (show (y : ℕ) < 256 by omega)]; simp [h]
  · rw [if_pos (show (y : ℕ) < 256 by omega)]; simp [h]
  · rw [if_neg (show ¬ (y : ℕ) < 256 by omega)]; simp [h]
  · rw [if_neg (show ¬ (y : ℕ) < 256 by omega)]; simp [h]

theorem body_dkp (s : St Ideal) (j : Fin 2048) (y : Fin 128) : (bodyS I s).dkp (ix2 j y) = outKP I j y := by
  refine (pair_dkp I 1 _ j y).trans ?_
  rw [show (pairS I 0 (by omega) s).dkp (ix2 j y) = _ from pair_dkp I 0 s j y, if_neg (by decide), if_pos rfl, zero_add]
  rfl

end Cert.KernelIdeal.Attn
-- ==== Proof.LoopEq.lean ====
/- The printed body of the attention gradient is the program of loops. -/
module

public import proofs.«01_k».proof.Proof.Loop

@[expose] public section

set_option maxRecDepth 65536

noncomputable section

namespace Cert.KernelIdeal.Attn

open Cert.KernelIdeal Cert.KernelIdeal.Gen
open Idealize.ShloMosaic Idealize.ShloMosaic.TcCoe Idealize.SL.Sem

variable {F : FTy → Type} [FloatOps F]

/-- The printed body is the program of loops: the same loads, stores and vector operations in the same order. -/
theorem body_eq (i : grid0.Coords) (arg1 : Memref sig .tc .vmem S2048x384 .bf16) (harg1 : arg1.IsWhole) (arg2 : Memref sig .tc .vmem S2048x512 .bf16) (harg2 : arg2.IsWhole) (arg3 : Memref sig .tc .vmem S2048x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x384 .f32) (harg7 : arg7.IsWhole) (arg8 : Memref sig .tc .vmem S2048x512 .bf16) (harg8 : arg8.IsWhole) (arg9 : Memref sig .tc .vmem S2048x128 .f32) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x128 .f32) (harg12 : arg12.IsWhole) :
    cc0_attn_bwd (F := F) i arg1 harg1 arg2 harg2 arg3 harg3 arg4 harg4 arg5 harg5 arg6 harg6 arg7 harg7 arg8 harg8 arg9 harg9 arg10 harg10 arg11 harg11 arg12 harg12 =
      body ⟨arg1, arg2, arg3, arg4, arg5, arg6, arg7, arg8, arg9, arg10, arg11, arg12, harg8⟩ := rfl

end Cert.KernelIdeal.Attn

end
-- ==== Proof.Run.lean ====
/- The launch: at every grid point the body leaves the closed forms of its quad's gradients in the output windows. -/
module

public import proofs.«01_k».proof.Proof.Closed
public import proofs.«01_k».proof.Proof.LoopEq
public import proofs.«01_k».proof.Proof.Gen.KernelIdeal.Frame.Runs
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- What the input windows hold at a grid point. -/
def insAt (c : Dev nD) (t : Fin cfg0.N) : Ins Ideal :=
  ⟨iblk m c 0 t, iblk m c 1 t, iblk m c 2 t, iblk m c 3 t, iblk m c 4 t, iblk m c 5 t⟩

/-- The query gradient's window at the closed form. -/
def winQ (I : Ins Ideal) : Vec Ideal S2048x384 .f32 := fun y => outQ I (y 0) (y 1)

/-- The key and value gradient's window at the closed form. -/
def winKV (I : Ins Ideal) : Vec Ideal S2048x512 .bf16 := fun y => outKV I (y 0) (y 1)

/-- The rotary key gradient's window at the closed form. -/
def winKP (I : Ins Ideal) : Vec Ideal S2048x128 .f32 := fun y => outKP I (y 0) (y 1)

theorem bodyS_dq (I : Ins Ideal) (s : St Ideal) : (bodyS I s).dq = winQ I := funext fun y => by
  rw [eq_ix2 y]; exact body_dq I s _ _

theorem bodyS_dkv (I : Ins Ideal) (s : St Ideal) : (bodyS I s).dkv = winKV I := funext fun y => by
  rw [eq_ix2 y]; exact body_dkv I s _ _

theorem bodyS_dkp (I : Ins Ideal) (s : St Ideal) : (bodyS I s).dkp = winKP I := funext fun y => by
  rw [eq_ix2 y]; exact body_dkp I s _ _

/-- The pipeline's data: inputs stay, outputs end at the closed forms. -/
def dat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => winQ (insAt m c t)
    | ⟨7, _⟩ => winKV (insAt m c t)
    | ⟨8, _⟩ => winKP (insAt m c t)
  Φ _ := Pipeline.ΦA spec0 c
  q _ := fullShare
  owed _ := 0

theorem dat_A (c : Dev nD) (w : Fin cfg0.W) : (dat m 0 c).A w = V m c (Pipeline.arrRef spec0 w) := by dsimp only [dat]

theorem dat_0 (c : Dev nD) (t : Fin cfg0.N) : (dat m 0 c).after 0 t = iblk m c 0 t := by dsimp only [dat]
theorem dat_1 (c : Dev nD) (t : Fin cfg0.N) : (dat m 0 c).after 1 t = iblk m c 1 t := by dsimp only [dat]
theorem dat_2 (c : Dev nD) (t : Fin cfg0.N) : (dat m 0 c).after 2 t = iblk m c 2 t := by dsimp only [dat]
theorem dat_3 (c : Dev nD) (t : Fin cfg0.N) : (dat m 0 c).after 3 t = iblk m c 3 t := by dsimp only [dat]
theorem dat_4 (c : Dev nD) (t : Fin cfg0.N) : (dat m 0 c).after 4 t = iblk m c 4 t := by dsimp only [dat]
theorem dat_5 (c : Dev nD) (t : Fin cfg0.N) : (dat m 0 c).after 5 t = iblk m c 5 t := by dsimp only [dat]
theorem dat_6 (c : Dev nD) (t : Fin cfg0.N) : (dat m 0 c).after 6 t = winQ (insAt m c t) := by dsimp only [dat]
theorem dat_7 (c : Dev nD) (t : Fin cfg0.N) : (dat m 0 c).after 7 t = winKV (insAt m c t) := by dsimp only [dat]
theorem dat_8 (c : Dev nD) (t : Fin cfg0.N) : (dat m 0 c).after 8 t = winKP (insAt m c t) := by dsimp only [dat]

theorem in_0 (c : Dev nD) (t : Fin cfg0.N) (d) : (dat m 0 c).before 0 t d = iblk m c 0 t :=
  before0_0_of m (dat m 0 c) (dat_A m c 0) (dat_0 m c) t d
theorem in_1 (c : Dev nD) (t : Fin cfg0.N) (d) : (dat m 0 c).before 1 t d = iblk m c 1 t :=
  before0_1_of m (dat m 0 c) (dat_A m c 1) (dat_1 m c) t d
theorem in_2 (c : Dev nD) (t : Fin cfg0.N) (d) : (dat m 0 c).before 2 t d = iblk m c 2 t :=
  before0_2_of m (dat m 0 c) (dat_A m c 2) (dat_2 m c) t d
theorem in_3 (c : Dev nD) (t : Fin cfg0.N) (d) : (dat m 0 c).before 3 t d = iblk m c 3 t :=
  before0_3_of m (dat m 0 c) (dat_A m c 3) (dat_3 m c) t d
theorem in_4 (c : Dev nD) (t : Fin cfg0.N) (d) : (dat m 0 c).before 4 t d = iblk m c 4 t :=
  before0_4_of m (dat m 0 c) (dat_A m c 4) (dat_4 m c) t d
theorem in_5 (c : Dev nD) (t : Fin cfg0.N) (d) : (dat m 0 c).before 5 t d = iblk m c 5 t :=
  before0_5_of m (dat m 0 c) (dat_A m c 5) (dat_5 m c) t d

/-- What the body is called with at a grid point. -/
def pre (c : Dev nD) (t : Fin cfg0.N) : Assn Ideal :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d))
    ∗ (∃ d, owns (c : Thread nD τ) (ms0_8 t) fullShare ((dat m 0 c).before 8 t d)))

/-- What the body returns. -/
def post (c : Dev nD) (t : Fin cfg0.N) : Assn Ideal :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t)
    ∗ owns (c : Thread nD τ) (ms0_6 t) fullShare ((dat m 0 c).after 6 t)
    ∗ owns (c : Thread nD τ) (ms0_7 t) fullShare ((dat m 0 c).after 7 t)
    ∗ owns (c : Thread nD τ) (ms0_8 t) fullShare ((dat m 0 c).after 8 t))

/-- The body's buffers at a grid point. -/
abbrev bufsAt (t : Fin cfg0.N) : Bufs :=
  ⟨ms0_0 t, ms0_1 t, ms0_2 t, ms0_3 t, ms0_4 t, ms0_5 t, ms0_6 t, ms0_7 t, ms0_8 t, scM0_0, scM0_1, scM0_2, hs0_7 t⟩

set_option maxHeartbeats 1600000 in
/-- The body at a grid point, from whatever its outputs and accumulators hold. -/
theorem at_point (c : Dev nD) (t : Fin cfg0.N) :
    pre m c t ⊢ wp frame (wpE (defs₀ (F := Ideal)) Variants.none c none) Set.univ (bodyAt0 t) (fun _ => post m c t) := by
  have hb : bodyAt0 (F := Ideal) t = body (bufsAt t) := body_eq ..
  rw [hb]
  unfold pre post
  simp only [in_0, in_1, in_2, in_3, in_4, in_5]
  rw [show (dat m 0 c).Φ t.succ = (dat m 0 c).Φ t.castSucc from rfl,
    show (dat m 0 c).owesAt () t.succ = (dat m 0 c).owesAt () t.castSucc from rfl,
    dat_0, dat_1, dat_2, dat_3, dat_4, dat_5, dat_6, dat_7, dat_8,
    show (dat m 0 c).Φ t.castSucc = Pipeline.ΦA spec0 c from rfl, PhiA0_eq]
  iintro ⟨⟨⟨⟨%a0, HS0⟩, ⟨%a1, HS1⟩, ⟨%a2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body (I := insAt m c t) (B := bufsAt t) (c := c) (R := iprop((∃ r, prngReg c r) ∗ (dat m 0 c).owesAt () t.castSucc))
    (s := ⟨(dat m 0 c).before 6 t d6, (dat m 0 c).before 7 t d7, (dat m 0 c).before 8 t d8, a0, a1, a2⟩) ?_)
  · unfold holds
    rw [bodyS_dq, bodyS_dkv, bodyS_dkp]
    iintro ⟨H0, H1, H2, H3, H4, H5, H6, H7, H8, HS0, HS1, HS2, Hg, Ho⟩
    isplitl [HS0 HS1 HS2 Hg]
    · isplitl [HS0 HS1 HS2]
      · isplitl [HS0]; · iexists _; iexact HS0
        isplitl [HS1]; · iexists _; iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · unfold holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [Hg]; · iexact Hg
    iexact Ho

/-- The row of the body table at a grid point. -/
theorem row_eq (t : Fin cfg0.N) : defs₀ (F := Ideal) .tc cfg0.body (cfg0.bodyArgs t (cfg0.slots t)) = bodyAt0 t := by
  unfold defs₀; rw [Defs.onTc_tc]

theorem obligation (c : Dev nD) : BodyObligation (dat m 0 c) (defs₀ (F := Ideal)) Variants.none () Set.univ := fun t => by
  rw [bigSep_W0, bigSep_W0, row_eq]
  exact triple_restated (at_point m c t) rfl .rfl fun _ => .rfl

set_option backward.isDefEq.respectTransparency.types false in
set_option maxHeartbeats 800000 in
/-- The launch ends, every array of the pipeline at what the data says, and every counter at zero. -/
theorem launch : θ_run defs (onTc (τ := τ) (main (F := Ideal))) (s₀ m ρ) (fun r => (Pipeline.FramePost cfgs (dat m) 0 (Pipeline.afterTail₀ cfgs (dat m) 0 (V0 m) [hostOps1])) r ∧ r.2.sem = fun _ => 0) :=
  Pipeline.θ_run_frame_around (Q' := _) cfgs (dat m) (0 : Fin 1) launch0 defs₀ Variants.none m ρ main
    (hbody := fun c => (obligation m c).loose) (hshare := fun c => (dat m 0 c).share_full fun _ => rfl)
    (howed := fun _ _ => rfl) (V₀ := V0 m) (opss := [hostOps1]) (hsub := sfx_sub) (hfresh := sfx_fresh) (hkeep := sfx_keeps)
    (hmain := hmain m Variants.none) (hA := dat_A m) (hΦ := fun _ _ => rfl)

end Cert.KernelIdeal.Attn
-- ==== Proof.Spec.lean ====
/- One head of the causal attention and its gradient, as plain mathematics on extended reals. -/
module

public import proofs.«01_k».proof.Proof.Tile

@[expose] public section

noncomputable section

namespace Cert.Attention

open Idealize.ShloMosaic
open Cert.KernelIdeal.Attn (scl)

/-- The arrays of one head: queries and keys in their two parts, values, and the output's cotangent. -/
structure Head where
  qn : Fin 2048 → Fin 64 → EReal
  qr : Fin 2048 → Fin 32 → EReal
  kn : Fin 2048 → Fin 64 → EReal
  kr : Fin 2048 → Fin 32 → EReal
  v : Fin 2048 → Fin 64 → EReal
  d : Fin 2048 → Fin 64 → EReal

/-- Head `h` of the whole arrays. -/
def headOf (q : (⟨3, ![2048, 8, 96]⟩ : Shape).Idx → EReal) (kn : (⟨3, ![2048, 8, 64]⟩ : Shape).Idx → EReal)
    (kp : (⟨2, ![2048, 32]⟩ : Shape).Idx → EReal) (v d : (⟨3, ![2048, 8, 64]⟩ : Shape).Idx → EReal) (h : Fin 8) : Head where
  qn i l := q (ix3 i h ⟨l, by omega⟩)
  qr i l := q (ix3 i h ⟨64 + l, by omega⟩)
  kn i l := kn (ix3 i h l)
  kr i l := kp (ix2 i l)
  v i l := v (ix3 i h l)
  d i l := d (ix3 i h l)

variable (H : Head) (i j : Fin 2048)

/-- The scaled score of key `j` for query `i`. -/
def score : EReal := ((∑ l : Fin 64, H.qn i l * H.kn j l) + ∑ l : Fin 32, H.qr i l * H.kr j l) * scl

/-- The score under the causal mask. -/
def masked : EReal := if (j : ℕ) ≤ i then score H i j else ⊥

/-- A query's largest score. -/
def top : EReal := Finset.fold max ⊥ (fun j => masked H i j) Finset.univ

/-- The weight of a key before normalisation. -/
def wt : EReal := Ideal.exp (masked H i j - top H i)

/-- The sum of a query's weights. -/
def tot : EReal := ∑ j, wt H i j

/-- The log-sum-exp of a query's scores. -/
def lse : EReal := top H i + Ideal.log (tot H i)

/-- The attention's output. -/
def out (l : Fin 64) : EReal := ∑ j, H.v j l * Ideal.div (wt H i j) (tot H i)

/-- The gradient of a probability. -/
def dp : EReal := ∑ l, H.d i l * H.v j l

/-- The probability rebuilt from the log-sum-exp. -/
def prob : EReal := Ideal.exp (masked H i j - lse H i)

/-- The gradient of a score, from the output and the log-sum-exp. -/
def ds : EReal := prob H i j * (dp H i j - ∑ l, H.d i l * out H i l) * scl

/-- The host's mask: a key is kept up to its query. -/
theorem select_le (x y : Fin 2048) (a b : EReal) :
    Scalar.select (IntOp.cmpi CmpIPredicate.sle (BitVec.ofNat 32 x) (BitVec.ofNat 32 y)) a b = if (x : ℕ) ≤ y then a else b := by
  rw [WordCmp.cmpi_sle_ofNat (by omega) (by omega), WordCmp.select_decide]

end Cert.Attention
-- ==== Proof.Host.lean ====
/- What the kernel's windows read: the arrays that the host lays out for the quads of heads. -/
module

public import proofs.«01_k».proof.Proof.Run
public import proofs.«01_k».proof.Proof.Spec
public import Idealize.ShloMosaic.Lib.StableHlo.ReadAt
public import Idealize.ShloMosaic.Lib.Pipeline.ValueKit.Geometry

@[expose] public section

set_option maxRecDepth 16384

noncomputable section

namespace Cert.KernelIdeal.Attn

open Cert.KernelIdeal Cert.KernelIdeal.Gen Cert.Attention
open Idealize.ShloMosaic Idealize.ShloMosaic.TcCoe Idealize.ShloMosaic.StableHlo

variable (m : (ℓ : Loc nD τ sig) → Buf (Elt Ideal) ℓ) (c : Dev nD)

/-- Head `h` of the arguments. -/
abbrev hd (h : Fin 8) : Head := headOf (m (c.tc.loc main_arg0)) (m (c.tc.loc main_arg1)) (m (c.tc.loc main_arg2))
  (m (c.tc.loc main_arg3)) (m (c.tc.loc main_arg4)) h

/-- The head of quad `g` and pair `t` that lane `l` belongs to. -/
abbrev hdn (g t : Fin 2) (l : Fin 128) : Fin 8 := ⟨4 * g + 2 * t + l / 64, by omega⟩

/-- The head of quad `g` that rotary lane `l` belongs to. -/
abbrev hdr (g : Fin 2) (l : Fin 128) : Fin 8 := ⟨4 * g + l / 32, by omega⟩

abbrev in64 (l : Fin 128) : Fin 64 := ⟨l % 64, by omega⟩
abbrev in32 (l : Fin 128) : Fin 32 := ⟨l % 32, by omega⟩

theorem V_qn (i : Fin 2048) (g t : Fin 2) (l : Fin 128) :
    V m c main_v38 (ix2 i ⟨384 * g + (128 * t + l), by omega⟩) = (hd m c (hdn g t l)).qn i (in64 l) := by
  have h : (384 * (g : ℕ) + (128 * t + l)) % 384 < 256 := by omega
  unfold V
  after_reads_at
  rw [dif_pos h]
  after_reads_at
  refine congrArg (m (c.tc.loc main_arg0)) ?_
  blk_ext

theorem V_qr (i : Fin 2048) (g : Fin 2) (l : Fin 128) :
    V m c main_v38 (ix2 i ⟨384 * g + (256 + l), by omega⟩) = (hd m c (hdr g l)).qr i (in32 l) := by
  have h : ¬ (384 * (g : ℕ) + (256 + l)) % 384 < 256 := by omega
  unfold V
  after_reads_at
  rw [dif_neg h]
  after_reads_at
  refine congrArg (m (c.tc.loc main_arg0)) ?_
  blk_ext

theorem V_kn (i : Fin 2048) (g t : Fin 2) (l : Fin 128) :
    V m c main_v43 (ix2 i ⟨512 * g + (128 * t + l), by omega⟩) = (hd m c (hdn g t l)).kn i (in64 l) := by
  have h : (512 * (g : ℕ) + (128 * t + l)) % 512 < 256 := by omega
  unfold V
  after_reads_at
  rw [dif_pos h]
  after_reads_at
  refine congrArg (m (c.tc.loc main_arg1)) ?_
  blk_ext

theorem V_v (i : Fin 2048) (g t : Fin 2) (l : Fin 128) :
    V m c main_v43 (ix2 i ⟨512 * g + (256 + 128 * t + l), by omega⟩) = (hd m c (hdn g t l)).v i (in64 l) := by
  have h : ¬ (512 * (g : ℕ) + (256 + 128 * t + l)) % 512 < 256 := by omega
  unfold V
  after_reads_at
  rw [dif_neg h]
  after_reads_at
  refine congrArg (m (c.tc.loc main_arg3)) ?_
  blk_ext

theorem V_kr (i : Fin 2048) (h : Fin 8) (l : Fin 128) : V m c main_v45 (ix2 i l) = (hd m c h).kr i (in32 l) := by
  have e : V m c main_v45 (ix2 i l) = m (c.tc.loc main_arg2) (ix2 i (in32 l)) := by
    unfold V
    after_reads_at
    split_ifs
    all_goals
      after_reads_at
      refine congrArg (m (c.tc.loc main_arg2)) ?_
      blk_ext
  exact e

theorem V_d (i : Fin 2048) (g t : Fin 2) (l : Fin 128) :
    V m c main_v48 (ix2 i ⟨256 * g + (128 * t + l), by omega⟩) = (hd m c (hdn g t l)).d i (in64 l) := by
  unfold V
  after_reads_at
  refine congrArg (m (c.tc.loc main_arg4)) ?_
  blk_ext

theorem V_o' (i : Fin 2048) (y : Fin 512) :
    V m c main_v46 (ix2 i y) = Attention.out (hd m c ⟨y / 64, by omega⟩) i ⟨y % 64, by omega⟩ := by
  unfold V
  after_reads_at
  simp only [id]
  after_reads_at
  simp only [Attn.ofBits_minus_infinity, select_le]
  rfl

theorem V_top (h : Fin 8) (i : Fin 2048) : V m c main_v15 (ix2 h i) = top (hd m c h) i := by
  unfold V
  after_reads_at
  simp -implicitDefEqProofs only [id]
  after_reads_at
  simp only [Attn.ofBits_minus_infinity, select_le]
  rfl

theorem V_tot (h : Fin 8) (i : Fin 2048) : V m c main_v21 (ix3 h i 0) = tot (hd m c h) i := by
  unfold V
  after_reads_at
  simp -implicitDefEqProofs only [id]
  after_reads_at
  simp only [Attn.ofBits_minus_infinity, select_le]
  rfl

theorem V_16 : V m c main_v16 = broadcastInDim S8x2048x1 ![0, 1] bcast_S8x2048_S8x2048x1_0_1 (V m c main_v15) := by
  unfold V
  after_reads_simp

theorem V_27 : V m c main_v27 = addf (F := Ideal) (s := S8x2048x1) (φ := .f32) (V m c main_v16)
    (Host.log (F := Ideal) (s := S8x2048x1) (φ := .f32) (V m c main_v21)) := by
  unfold V
  after_reads_simp

theorem V_28 : V m c main_v28 = fun j => shapeCast (s := S8x2048x1) S8x2048 (V m c main_v27) shapeCasts_S8x2048x1_S8x2048 j := by
  unfold V
  after_reads_simp
  rfl

theorem V_31 : V m c main_v31 = broadcastInDim S2048x8x64 ![0, 1, 2] bcast_S2048x8x1_S2048x8x64_0_1_2
    (broadcastInDim S2048x8x1 ![0, 1] bcast_S2048x8_S2048x8x1_0_1 (transpose (s := S8x2048) S2048x8 [1, 0]
      (V m c main_v28) transposes_S8x2048_S2048x8_1_0)) := by
  unfold V
  after_reads_simp

theorem V_47 : V m c main_v47 = fun j => shapeCast (s := S2048x8x64) S2048x512 (V m c main_v31) shapeCasts_S2048x8x64_S2048x512 j := by
  unfold V
  after_reads_simp
  rfl

theorem V_lse27 (h : Fin 8) (i : Fin 2048) : V m c main_v27 (ix3 h i 0) = Attention.lse (hd m c h) i := by
  have e : V m c main_v16 (ix3 h i 0) = V m c main_v15 (ix2 h i) := by
    rw [V_16]
    generalize V m c main_v15 = x
    pointwise
  have e' : ∀ x y : FVec Ideal S8x2048x1 .f32, addf x (Host.log y) (ix3 h i 0) = x (ix3 h i 0) + Ideal.log (y (ix3 h i 0)) := by
    intro x y
    pointwise
  rw [V_27, e', e, V_top, V_tot]
  rfl

theorem V_lse' (i : Fin 2048) (y : Fin 512) : V m c main_v47 (ix2 i y) = Attention.lse (hd m c ⟨y / 64, by omega⟩) i := by
  have e : V m c main_v28 (ix2 ⟨y / 64, by omega⟩ i) = V m c main_v27 (ix3 ⟨y / 64, by omega⟩ i 0) := by
    rw [V_28]
    generalize V m c main_v27 = x
    pointwise
  have e' : V m c main_v31 (ix3 i ⟨y / 64, by omega⟩ ⟨y % 64, by omega⟩) = V m c main_v28 (ix2 ⟨y / 64, by omega⟩ i) := by
    rw [V_31]
    generalize V m c main_v28 = x
    pointwise
  rw [← V_lse27, ← e, ← e', V_47]
  generalize V m c main_v31 = x
  pointwise

theorem V_o (i : Fin 2048) (g t : Fin 2) (l : Fin 128) :
    V m c main_v46 (ix2 i ⟨256 * g + (128 * t + l), by omega⟩) = Attention.out (hd m c (hdn g t l)) i (in64 l) := by
  have e : (⟨(256 * (g : ℕ) + (128 * t + l)) / 64, by omega⟩ : Fin 8) = hdn g t l := Fin.ext (show (256 * (g : ℕ) + (128 * t + l)) / 64 = 4 * (g : ℕ) + 2 * t + l / 64 by omega)
  have e' : (⟨(256 * (g : ℕ) + (128 * t + l)) % 64, by omega⟩ : Fin 64) = in64 l := Fin.ext (show (256 * (g : ℕ) + (128 * t + l)) % 64 = (l : ℕ) % 64 by omega)
  rw [V_o', e, e']

theorem V_lse (i : Fin 2048) (g t : Fin 2) (l : Fin 128) :
    V m c main_v47 (ix2 i ⟨256 * g + (128 * t + l), by omega⟩) = Attention.lse (hd m c (hdn g t l)) i := by
  have e : (⟨(256 * (g : ℕ) + (128 * t + l)) / 64, by omega⟩ : Fin 8) = hdn g t l := Fin.ext (show (256 * (g : ℕ) + (128 * t + l)) / 64 = 4 * (g : ℕ) + 2 * t + l / 64 by omega)
  rw [V_lse', e]

end Cert.KernelIdeal.Attn
-- ==== Proof.Windows.lean ====
/- What the kernel's windows hold at a quad of heads, in the heads' arrays. -/
module

public import proofs.«01_k».proof.Proof.Host

@[expose] public section

set_option maxRecDepth 16384

noncomputable section

namespace Cert.KernelIdeal.Attn

open Cert.KernelIdeal Cert.KernelIdeal.Gen Cert.Attention
open Idealize.ShloMosaic Idealize.ShloMosaic.TcCoe

variable (m : (ℓ : Loc nD τ sig) → Buf (Elt Ideal) ℓ) (c : Dev nD)

/-- The windows' places: quad `g` of the columns, all rows. -/
theorem idx0 : ∀ t : Fin cfg0.N, (cfg0.win 0).index t = ![0, t.val] ∧ (cfg0.win 1).index t = ![0, t.val] ∧ (cfg0.win 2).index t = ![0, 0]
    ∧ (cfg0.win 3).index t = ![0, t.val] ∧ (cfg0.win 4).index t = ![0, t.val] ∧ (cfg0.win 5).index t = ![0, t.val] := by
  decide +kernel

theorem blk0 (x : (⟨S2048x768, .bf16⟩ : BufTy).Contents (Elt Ideal)) (g : Fin 2) (i : Fin 2048) (y : Fin 384) :
    ((cfg0.win 0).blk g).view.read (Elt Ideal) x (ix2 i y) = x (ix2 i ⟨384 * g + y, by omega⟩) := by
  have := idx0 g
  refine congrArg x ?_
  blk_ext [this]

theorem blk1 (x : (⟨S2048x1024, .bf16⟩ : BufTy).Contents (Elt Ideal)) (g : Fin 2) (i : Fin 2048) (y : Fin 512) :
    ((cfg0.win 1).blk g).view.read (Elt Ideal) x (ix2 i y) = x (ix2 i ⟨512 * g + y, by omega⟩) := by
  have := idx0 g
  refine congrArg x ?_
  blk_ext [this]

theorem blk2 (x : (⟨S2048x128, .bf16⟩ : BufTy).Contents (Elt Ideal)) (g : Fin 2) (i : Fin 2048) (y : Fin 128) :
    ((cfg0.win 2).blk g).view.read (Elt Ideal) x (ix2 i y) = x (ix2 i ⟨y, by omega⟩) := by
  have := idx0 g
  refine congrArg x ?_
  blk_ext [this]

theorem blk3 (x : (⟨S2048x512, .f32⟩ : BufTy).Contents (Elt Ideal)) (g : Fin 2) (i : Fin 2048) (y : Fin 256) :
    ((cfg0.win 3).blk g).view.read (Elt Ideal) x (ix2 i y) = x (ix2 i ⟨256 * g + y, by omega⟩) := by
  have := idx0 g
  refine congrArg x ?_
  blk_ext [this]

theorem blk4 (x : (⟨S2048x512, .f32⟩ : BufTy).Contents (Elt Ideal)) (g : Fin 2) (i : Fin 2048) (y : Fin 256) :
    ((cfg0.win 4).blk g).view.read (Elt Ideal) x (ix2 i y) = x (ix2 i ⟨256 * g + y, by omega⟩) := by
  have := idx0 g
  refine congrArg x ?_
  blk_ext [this]

theorem blk5 (x : (⟨S2048x512, .f32⟩ : BufTy).Contents (Elt Ideal)) (g : Fin 2) (i : Fin 2048) (y : Fin 256) :
    ((cfg0.win 5).blk g).view.read (Elt Ideal) x (ix2 i y) = x (ix2 i ⟨256 * g + y, by omega⟩) := by
  have := idx0 g
  refine congrArg x ?_
  blk_ext [this]

/-- The input windows of quad `g`. -/
abbrev quad (g : Fin 2) : Ins Ideal := insAt m c g

theorem I_qn (i : Fin 2048) (g t : Fin 2) (l : Fin 128) :
    (quad m c g).q (ix2 i ⟨128 * t + l, by omega⟩) = (hd m c (hdn g t l)).qn i (in64 l) :=
  (blk0 (V m c main_v38) g i ⟨128 * t + l, by omega⟩).trans (V_qn m c i g t l)

theorem I_qr (i : Fin 2048) (g : Fin 2) (l : Fin 128) :
    (quad m c g).q (ix2 i ⟨256 + l, by omega⟩) = (hd m c (hdr g l)).qr i (in32 l) :=
  (blk0 (V m c main_v38) g i ⟨256 + l, by omega⟩).trans (V_qr m c i g l)

theorem I_kn (i : Fin 2048) (g t : Fin 2) (l : Fin 128) :
    (quad m c g).kv (ix2 i ⟨128 * t + l, by omega⟩) = (hd m c (hdn g t l)).kn i (in64 l) :=
  (blk1 (V m c main_v43) g i ⟨128 * t + l, by omega⟩).trans (V_kn m c i g t l)

theorem I_v (i : Fin 2048) (g t : Fin 2) (l : Fin 128) :
    (quad m c g).kv (ix2 i ⟨256 + 128 * t + l, by omega⟩) = (hd m c (hdn g t l)).v i (in64 l) :=
  (blk1 (V m c main_v43) g i ⟨256 + 128 * t + l, by omega⟩).trans (V_v m c i g t l)

theorem I_kr (i : Fin 2048) (g : Fin 2) (h : Fin 8) (l : Fin 128) : (quad m c g).kp (ix2 i l) = (hd m c h).kr i (in32 l) :=
  (blk2 (V m c main_v45) g i l).trans (V_kr m c i h l)

theorem I_o (i : Fin 2048) (g t : Fin 2) (l : Fin 128) :
    (quad m c g).o (ix2 i ⟨128 * t + l, by omega⟩) = Attention.out (hd m c (hdn g t l)) i (in64 l) :=
  (blk3 (V m c main_v46) g i ⟨128 * t + l, by omega⟩).trans (V_o m c i g t l)

theorem I_lse (i : Fin 2048) (g t : Fin 2) (l : Fin 128) :
    (quad m c g).lse (ix2 i ⟨128 * t + l, by omega⟩) = Attention.lse (hd m c (hdn g t l)) i :=
  (blk4 (V m c main_v47) g i ⟨128 * t + l, by omega⟩).trans (V_lse m c i g t l)

theorem I_d (i : Fin 2048) (g t : Fin 2) (l : Fin 128) :
    (quad m c g).dO (ix2 i ⟨128 * t + l, by omega⟩) = (hd m c (hdn g t l)).d i (in64 l) :=
  (blk5 (V m c main_v48) g i ⟨128 * t + l, by omega⟩).trans (V_d m c i g t l)

end Cert.KernelIdeal.Attn
-- ==== Proof.Lanes.lean ====
/- The closed forms of a quad, head by head: a head's mask leaves its own lanes. -/
module

public import proofs.«01_k».proof.Proof.Windows

@[expose] public section

set_option maxRecDepth 16384

noncomputable section

namespace Cert.KernelIdeal.Attn

open Cert.KernelIdeal Cert.KernelIdeal.Gen Cert.Attention
open Idealize.ShloMosaic Idealize.ShloMosaic.TcCoe

/-- A sum over lanes of which only a head's 64 count. -/
theorem sum_lane64 (hh : Fin 2) (f : Fin 128 → EReal) :
    (∑ l : Fin 128, if (l : ℕ) / 64 = hh then f l else 0) = ∑ d : Fin 64, f ⟨64 * hh + d, by omega⟩ := by
  rw [Fin.sum_univ_tiles 2 64 rfl, Finset.sum_eq_single hh]
  · refine Finset.sum_congr rfl fun d _ => ?_
    rw [if_pos (show ((hh : ℕ) * 64 + d) / 64 = hh by omega)]
    exact congrArg f (Fin.ext (show (hh : ℕ) * 64 + d = 64 * hh + d by omega))
  · intro b _ hb
    refine Finset.sum_eq_zero fun d _ => if_neg ?_
    show ¬ ((b : ℕ) * 64 + d) / 64 = hh
    have : (b : ℕ) ≠ hh := fun e => hb (Fin.ext e)
    omega
  · exact fun h => absurd (Finset.mem_univ _) h

/-- A sum over lanes of which only a head's 32 count. -/
theorem sum_lane32 (hh : Fin 4) (f : Fin 128 → EReal) :
    (∑ l : Fin 128, if (l : ℕ) / 32 = hh then f l else 0) = ∑ d : Fin 32, f ⟨32 * hh + d, by omega⟩ := by
  rw [Fin.sum_univ_tiles 4 32 rfl, Finset.sum_eq_single hh]
  · refine Finset.sum_congr rfl fun d _ => ?_
    rw [if_pos (show ((hh : ℕ) * 32 + d) / 32 = hh by omega)]
    exact congrArg f (Fin.ext (show (hh : ℕ) * 32 + d = 32 * hh + d by omega))
  · intro b _ hb
    refine Finset.sum_eq_zero fun d _ => if_neg ?_
    show ¬ ((b : ℕ) * 32 + d) / 32 = hh
    have : (b : ℕ) ≠ hh := fun e => hb (Fin.ext e)
    omega
  · exact fun h => absurd (Finset.mem_univ _) h

theorem mul_lane (x : EReal) (w g l : ℕ) : x * lane w g l = if l / w = g then x else 0 := by
  unfold lane
  split
  · exact mul_one x
  · exact mul_zero x

variable (m : (ℓ : Loc nD τ sig) → Buf (Elt Ideal) ℓ) (c : Dev nD) (g t hh : Fin 2)

/-- The head of quad `g`, pair `t`, half `hh`. -/
abbrev hq : Fin 8 := ⟨4 * g + 2 * t + hh, by omega⟩

theorem hdn_eq (l : Fin 128) (h : (l : ℕ) / 64 = hh) : hdn g t l = hq g t hh :=
  Fin.ext (show 4 * (g : ℕ) + 2 * t + l / 64 = 4 * g + 2 * t + hh by omega)

theorem hdr_eq (l : Fin 128) (h : (l : ℕ) / 32 = 2 * t + hh) : hdr g l = hq g t hh :=
  Fin.ext (show 4 * (g : ℕ) + l / 32 = 4 * g + 2 * t + hh by omega)

theorem qc_lo (i : Fin 2048) (l : Fin 128) : qc (quad m c g) t hh i ⟨l, by omega⟩ =
    if (l : ℕ) / 64 = hh then (hd m c (hq g t hh)).qn i (in64 l) else 0 := by
  unfold qc
  rw [dif_pos (show (l : ℕ) < 128 by omega), I_qn, mul_lane]
  split
  · next h => rw [hdn_eq g t hh l h]
  · rfl

theorem qc_hi (i : Fin 2048) (l : Fin 128) : qc (quad m c g) t hh i ⟨128 + l, by omega⟩ =
    if (l : ℕ) / 32 = 2 * t + hh then (hd m c (hq g t hh)).qr i (in32 l) else 0 := by
  have e : (⟨256 + (128 + (l : ℕ) - 128), by omega⟩ : Fin 384) = ⟨256 + l, by omega⟩ := Fin.ext (show 256 + (128 + (l : ℕ) - 128) = 256 + l by omega)
  unfold qc
  rw [dif_neg (show ¬ 128 + (l : ℕ) < 128 by omega), e, I_qr, mul_lane, show 128 + (l : ℕ) - 128 = l by omega]
  split
  · next h => rw [hdr_eq g t hh l h]
  · rfl

theorem kc_lo (j : Fin 2048) (l : Fin 128) : kc (quad m c g) t j ⟨l, by omega⟩ = (hd m c (hdn g t l)).kn j (in64 l) := by
  unfold kc
  rw [dif_pos (show (l : ℕ) < 128 by omega), I_kn]

theorem kc_hi (j : Fin 2048) (l : Fin 128) : kc (quad m c g) t j ⟨128 + l, by omega⟩ = (hd m c (hq g t hh)).kr j (in32 l) := by
  have e : (⟨128 + (l : ℕ) - 128, by omega⟩ : Fin 128) = l := Fin.ext (show 128 + (l : ℕ) - 128 = l by omega)
  unfold kc
  rw [dif_neg (show ¬ 128 + (l : ℕ) < 128 by omega), e, I_kr]

theorem db_at (i : Fin 2048) (l : Fin 128) : db (quad m c g) t hh i l =
    if (l : ℕ) / 64 = hh then (hd m c (hq g t hh)).d i (in64 l) else 0 := by
  unfold db
  rw [I_d, mul_lane]
  split
  · next h => rw [hdn_eq g t hh l h]
  · rfl

theorem in64_at (d : Fin 64) : in64 ⟨64 * (hh : ℕ) + d, by omega⟩ = d := Fin.ext (show (64 * (hh : ℕ) + d) % 64 = d by omega)

theorem in32_at (d : Fin 32) : in32 ⟨32 * (2 * (t : ℕ) + hh) + d, by omega⟩ = d :=
  Fin.ext (show (32 * (2 * (t : ℕ) + hh) + d) % 32 = d by omega)

/-- The product of a masked query row and a key row is the head's own. -/
theorem score_lanes (i j : Fin 2048) : (∑ l : Fin 256, qc (quad m c g) t hh i l * kc (quad m c g) t j l) =
    (∑ l : Fin 64, (hd m c (hq g t hh)).qn i l * (hd m c (hq g t hh)).kn j l) +
      ∑ l : Fin 32, (hd m c (hq g t hh)).qr i l * (hd m c (hq g t hh)).kr j l := by
  refine (Fin.sum_univ_add (a := 128) (b := 128) fun l => qc (quad m c g) t hh i l * kc (quad m c g) t j l).trans ?_
  refine congrArg₂ (· + ·) ?_ ?_
  · have e : ∀ l : Fin 128, qc (quad m c g) t hh i (Fin.castAdd 128 l) * kc (quad m c g) t j (Fin.castAdd 128 l) =
        if (l : ℕ) / 64 = hh then (hd m c (hq g t hh)).qn i (in64 l) * (hd m c (hq g t hh)).kn j (in64 l) else 0 := by
      intro l
      refine (congrArg₂ (· * ·) (qc_lo m c g t hh i l) (kc_lo m c g t j l)).trans ?_
      split
      · next h => rw [hdn_eq g t hh l h]
      · exact zero_mul _
    rw [Finset.sum_congr rfl fun l _ => e l,
      sum_lane64 hh fun l => (hd m c (hq g t hh)).qn i (in64 l) * (hd m c (hq g t hh)).kn j (in64 l)]
    exact Finset.sum_congr rfl fun d _ => by rw [in64_at]
  · have e : ∀ l : Fin 128, qc (quad m c g) t hh i (Fin.natAdd 128 l) * kc (quad m c g) t j (Fin.natAdd 128 l) =
        if (l : ℕ) / 32 = (⟨2 * t + hh, by omega⟩ : Fin 4) then (hd m c (hq g t hh)).qr i (in32 l) * (hd m c (hq g t hh)).kr j (in32 l) else 0 := by
      intro l
      refine (congrArg₂ (· * ·) (qc_hi m c g t hh i l) (kc_hi m c g t hh j l)).trans ?_
      show (if (l : ℕ) / 32 = 2 * t + hh then (hd m c (hq g t hh)).qr i (in32 l) else 0) * _ = if (l : ℕ) / 32 = 2 * t + hh then _ else _
      split
      · rfl
      · exact zero_mul _
    rw [Finset.sum_congr rfl fun l _ => e l,
      sum_lane32 ⟨2 * t + hh, by omega⟩ fun l => (hd m c (hq g t hh)).qr i (in32 l) * (hd m c (hq g t hh)).kr j (in32 l)]
    exact Finset.sum_congr rfl fun d _ => by rw [in32_at]

theorem dp_lanes (i j : Fin 2048) :
    (∑ l : Fin 128, db (quad m c g) t hh i l * (quad m c g).kv (ix2 j ⟨256 + 128 * t + l, by omega⟩)) = dp (hd m c (hq g t hh)) i j := by
  have e : ∀ l : Fin 128, db (quad m c g) t hh i l * (quad m c g).kv (ix2 j ⟨256 + 128 * t + l, by omega⟩) =
      if (l : ℕ) / 64 = hh then (hd m c (hq g t hh)).d i (in64 l) * (hd m c (hq g t hh)).v j (in64 l) else 0 := by
    intro l
    rw [db_at, I_v]
    split
    · next h => rw [hdn_eq g t hh l h]
    · exact zero_mul _
  rw [Finset.sum_congr rfl fun l _ => e l, sum_lane64 hh fun l => (hd m c (hq g t hh)).d i (in64 l) * (hd m c (hq g t hh)).v j (in64 l)]
  exact Finset.sum_congr rfl fun d _ => by rw [in64_at]

theorem dl_lanes (i : Fin 2048) : dl (quad m c g) t hh i = ∑ l, (hd m c (hq g t hh)).d i l * Attention.out (hd m c (hq g t hh)) i l := by
  have e : ∀ l : Fin 128, db (quad m c g) t hh i l * (quad m c g).o (ix2 i ⟨128 * t + l, by omega⟩) =
      if (l : ℕ) / 64 = hh then (hd m c (hq g t hh)).d i (in64 l) * Attention.out (hd m c (hq g t hh)) i (in64 l) else 0 := by
    intro l
    rw [db_at, I_o]
    split
    · next h => rw [hdn_eq g t hh l h]
    · exact zero_mul _
  unfold dl
  rw [Finset.sum_congr rfl fun l _ => e l,
    sum_lane64 hh fun l => (hd m c (hq g t hh)).d i (in64 l) * Attention.out (hd m c (hq g t hh)) i (in64 l)]
  exact Finset.sum_congr rfl fun d _ => by rw [in64_at]

theorem ls_lanes (i : Fin 2048) : ls (quad m c g) t hh i = Attention.lse (hd m c (hq g t hh)) i := by
  unfold ls
  rw [I_lse m c i g t ⟨64 * hh, by omega⟩, hdn_eq g t hh _ (show 64 * (hh : ℕ) / 64 = hh by omega)]

/-- The probability of a quad's head. -/
theorem P_head (i j : Fin 2048) : P (quad m c g) t hh i j = Attention.prob (hd m c (hq g t hh)) i j := by
  unfold P Attention.prob masked Attention.score
  rw [score_lanes, ls_lanes]

/-- The score's gradient of a quad's head. -/
theorem D_head (i j : Fin 2048) : D (quad m c g) t hh i j = Attention.ds (hd m c (hq g t hh)) i j := by
  unfold D Attention.ds
  rw [P_head, dp_lanes, dl_lanes]

theorem QA_lo (i : Fin 2048) (l : Fin 128) (h : (l : ℕ) / 64 = hh) : QA (quad m c g) t hh i ⟨l, by omega⟩ =
    ∑ j, Attention.ds (hd m c (hq g t hh)) i j * (hd m c (hq g t hh)).kn j (in64 l) := by
  unfold QA
  exact Finset.sum_congr rfl fun j _ => by rw [D_head, kc_lo, hdn_eq g t hh l h]

theorem QA_hi (i : Fin 2048) (l : Fin 128) : QA (quad m c g) t hh i ⟨128 + l, by omega⟩ =
    ∑ j, Attention.ds (hd m c (hq g t hh)) i j * (hd m c (hq g t hh)).kr j (in32 l) := by
  unfold QA
  exact Finset.sum_congr rfl fun j _ => by rw [D_head, kc_hi m c g t hh]

theorem KA_lo (j : Fin 2048) (l : Fin 128) : KA (quad m c g) t hh j ⟨l, by omega⟩ =
    if (l : ℕ) / 64 = hh then ∑ i, Attention.ds (hd m c (hq g t hh)) i j * (hd m c (hq g t hh)).qn i (in64 l) else 0 := by
  unfold KA
  split
  · next h => exact Finset.sum_congr rfl fun i _ => by rw [D_head, qc_lo, if_pos h]
  · next h => exact Finset.sum_eq_zero fun i _ => by rw [qc_lo, if_neg h, mul_zero]

theorem KA_hi (j : Fin 2048) (l : Fin 128) : KA (quad m c g) t hh j ⟨128 + l, by omega⟩ =
    if (l : ℕ) / 32 = 2 * t + hh then ∑ i, Attention.ds (hd m c (hq g t hh)) i j * (hd m c (hq g t hh)).qr i (in32 l) else 0 := by
  unfold KA
  split
  · next h => exact Finset.sum_congr rfl fun i _ => by rw [D_head, qc_hi, if_pos h]
  · next h => exact Finset.sum_eq_zero fun i _ => by rw [qc_hi, if_neg h, mul_zero]

theorem VA_at (j : Fin 2048) (l : Fin 128) : VA (quad m c g) t hh j l =
    if (l : ℕ) / 64 = hh then ∑ i, Attention.prob (hd m c (hq g t hh)) i j * (hd m c (hq g t hh)).d i (in64 l) else 0 := by
  unfold VA
  split
  · next h => exact Finset.sum_congr rfl fun i _ => by rw [P_head, db_at, if_pos h]
  · next h => exact Finset.sum_eq_zero fun i _ => by rw [db_at, if_neg h, mul_zero]

/-- Of two terms masked to the halves of the lanes, the lane's own stays. -/
theorem pick64 (f : Fin 2 → EReal) (l : Fin 128) :
    ((if (l : ℕ) / 64 = (0 : Fin 2) then f 0 else 0) + if (l : ℕ) / 64 = (1 : Fin 2) then f 1 else 0) = f ⟨l / 64, by omega⟩ := by
  have h : ∀ (a b : Fin 2), (⟨(l : ℕ) / 64, by omega⟩ : Fin 2) = a →
      (if (l : ℕ) / 64 = b then f b else 0) = if a = b then f a else 0 := by
    intro a b e
    subst e
    by_cases g : (⟨(l : ℕ) / 64, by omega⟩ : Fin 2) = b
    · rw [if_pos g, if_pos (congrArg Fin.val g), g]
    · rw [if_neg g, if_neg fun g' => g (Fin.ext g')]
  generalize hk : (⟨(l : ℕ) / 64, by omega⟩ : Fin 2) = a
  rw [h a 0 hk, h a 1 hk]
  match a with
  | 0 => simp
  | 1 => simp

/-- The key gradient's lanes without rotation. -/
theorem outKV_k (j : Fin 2048) (l : Fin 128) : outKV (quad m c g) j ⟨128 * t + l, by omega⟩ =
    ∑ i, Attention.ds (hd m c (hdn g t l)) i j * (hd m c (hdn g t l)).qn i (in64 l) := by
  have ht : (⟨(128 * (t : ℕ) + l) / 128 % 2, by omega⟩ : Fin 2) = t := Fin.ext (show (128 * (t : ℕ) + l) / 128 % 2 = t by omega)
  have hl : (⟨(128 * (t : ℕ) + l) % 128, by omega⟩ : Fin 256) = ⟨l, by omega⟩ := Fin.ext (show (128 * (t : ℕ) + l) % 128 = l by omega)
  unfold outKV
  rw [if_pos (show 128 * (t : ℕ) + l < 256 by omega)]
  refine (congrArg₂ (· + ·) (by rw [ht, hl]) (by rw [ht, hl])).trans
    ((congrArg₂ (· + ·) (KA_lo m c g t 0 j l) (KA_lo m c g t 1 j l)).trans
      (pick64 (fun hh => ∑ i, Attention.ds (hd m c (hq g t hh)) i j * (hd m c (hq g t hh)).qn i (in64 l)) l))

/-- The value gradient's lanes. -/
theorem outKV_v (j : Fin 2048) (l : Fin 128) : outKV (quad m c g) j ⟨256 + 128 * t + l, by omega⟩ =
    ∑ i, Attention.prob (hd m c (hdn g t l)) i j * (hd m c (hdn g t l)).d i (in64 l) := by
  have ht : (⟨(256 + 128 * (t : ℕ) + l) / 128 % 2, by omega⟩ : Fin 2) = t := Fin.ext (show (256 + 128 * (t : ℕ) + l) / 128 % 2 = t by omega)
  have hl : (⟨(256 + 128 * (t : ℕ) + l) % 128, by omega⟩ : Fin 128) = l := Fin.ext (show (256 + 128 * (t : ℕ) + l) % 128 = l by omega)
  unfold outKV
  rw [if_neg (show ¬ 256 + 128 * (t : ℕ) + l < 256 by omega)]
  refine (congrArg₂ (· + ·) (by rw [ht, hl]) (by rw [ht, hl])).trans
    ((congrArg₂ (· + ·) (VA_at m c g t 0 j l) (VA_at m c g t 1 j l)).trans
      (pick64 (fun hh => ∑ i, Attention.prob (hd m c (hq g t hh)) i j * (hd m c (hq g t hh)).d i (in64 l)) l))

/-- Of four terms masked to the quarters of the lanes, the lane's own stays. -/
theorem pick32 (f : Fin 4 → EReal) (l : Fin 128) :
    ((if (l : ℕ) / 32 = (0 : Fin 4) then f 0 else 0) + if (l : ℕ) / 32 = (1 : Fin 4) then f 1 else 0) +
      ((if (l : ℕ) / 32 = (2 : Fin 4) then f 2 else 0) + if (l : ℕ) / 32 = (3 : Fin 4) then f 3 else 0) = f ⟨l / 32, by omega⟩ := by
  have h : ∀ (a b : Fin 4), (⟨(l : ℕ) / 32, by omega⟩ : Fin 4) = a →
      (if (l : ℕ) / 32 = b then f b else 0) = if a = b then f a else 0 := by
    intro a b e
    subst e
    by_cases g : (⟨(l : ℕ) / 32, by omega⟩ : Fin 4) = b
    · rw [if_pos g, if_pos (congrArg Fin.val g), g]
    · rw [if_neg g, if_neg fun g' => g (Fin.ext g')]
  generalize hk : (⟨(l : ℕ) / 32, by omega⟩ : Fin 4) = a
  rw [h a 0 hk, h a 1 hk, h a 2 hk, h a 3 hk]
  match a with
  | 0 => simp
  | 1 => simp
  | 2 => simp
  | 3 => simp

/-- The rotary key gradient's lanes. -/
theorem outKP_at (j : Fin 2048) (l : Fin 128) : outKP (quad m c g) j l =
    ∑ i, Attention.ds (hd m c (hdr g l)) i j * (hd m c (hdr g l)).qr i (in32 l) := by
  let f : Fin 4 → EReal := fun k => ∑ i, Attention.ds (hd m c ⟨4 * g + k, by omega⟩) i j * (hd m c ⟨4 * g + k, by omega⟩).qr i (in32 l)
  have h : ∀ (t hh : Fin 2) (k : Fin 4), (k : ℕ) = 2 * t + hh →
      KA (quad m c g) t hh j ⟨128 + l, by omega⟩ = if (l : ℕ) / 32 = k then f k else 0 := by
    intro t hh k hk
    have e : hq g t hh = ⟨4 * g + k, by omega⟩ := Fin.ext (show 4 * (g : ℕ) + 2 * t + hh = 4 * g + k by omega)
    rw [KA_hi, hk, e]
  unfold outKP
  rw [h 0 0 0 rfl, h 0 1 1 rfl, h 1 0 2 rfl, h 1 1 3 rfl]
  exact pick32 f l

theorem one_ne : (1 : Fin 2) ≠ 0 := by decide

theorem upd_own (I : Ins Ideal) (i : Fin 2048) (l : Fin 128) (x : EReal) : upd I t hh i ⟨128 * t + l, by omega⟩ x =
    (if hh = 0 then 0 else x) + if (l : ℕ) / 64 = hh then QA I t hh i ⟨l, by omega⟩ else 0 := by
  have hl : (128 * (t : ℕ) + l) % 128 = l := by omega
  have e : (⟨(128 * (t : ℕ) + l) % 128, by omega⟩ : Fin 256) = ⟨l, by omega⟩ := Fin.ext hl
  unfold upd
  rw [dif_pos (show 128 * (t : ℕ) + l < 256 by omega), if_pos (show (128 * (t : ℕ) + l) / 128 = t by omega), e, mul_lane, hl]

theorem upd_other (I : Ins Ideal) (t' : Fin 2) (h : t' ≠ t) (i : Fin 2048) (l : Fin 128) (x : EReal) :
    upd I t' hh i ⟨128 * t + l, by omega⟩ x = x := by
  unfold upd
  rw [dif_pos (show 128 * (t : ℕ) + l < 256 by omega), if_neg]
  show ¬ (128 * (t : ℕ) + l) / 128 = t'
  have : (t' : ℕ) ≠ t := fun e => h (Fin.ext e)
  omega

theorem upd_rotary (I : Ins Ideal) (i : Fin 2048) (l : Fin 128) (x : EReal) : upd I t hh i ⟨256 + l, by omega⟩ x =
    (if t = 0 ∧ hh = 0 then 0 else x) + if (l : ℕ) / 32 = 2 * t + hh then QA I t hh i ⟨128 + l, by omega⟩ else 0 := by
  have hl : 256 + (l : ℕ) - 256 = l := by omega
  have e : (⟨128 + (256 + (l : ℕ) - 256), by omega⟩ : Fin 256) = ⟨128 + l, by omega⟩ := Fin.ext (congrArg (128 + ·) hl)
  unfold upd
  rw [dif_neg (show ¬ 256 + (l : ℕ) < 256 by omega), e, mul_lane, hl]

/-- The query gradient's lanes without rotation. -/
theorem outQ_n (i : Fin 2048) (l : Fin 128) : outQ (quad m c g) i ⟨128 * t + l, by omega⟩ =
    ∑ j, Attention.ds (hd m c (hdn g t l)) i j * (hd m c (hdn g t l)).kn j (in64 l) := by
  have own : ∀ x : EReal, upd (quad m c g) t 1 i ⟨128 * t + l, by omega⟩ (upd (quad m c g) t 0 i ⟨128 * t + l, by omega⟩ x) =
      ∑ j, Attention.ds (hd m c (hdn g t l)) i j * (hd m c (hdn g t l)).kn j (in64 l) := by
    intro x
    have h : ∀ hh : Fin 2, (if (l : ℕ) / 64 = hh then QA (quad m c g) t hh i ⟨l, by omega⟩ else 0) = if (l : ℕ) / 64 = hh then
        ∑ j, Attention.ds (hd m c (hq g t hh)) i j * (hd m c (hq g t hh)).kn j (in64 l) else 0 := by
      intro hh
      split
      · next e => exact QA_lo m c g t hh i l e
      · rfl
    rw [upd_own, upd_own, if_neg (show ¬ (1 : Fin 2) = 0 from one_ne), if_pos rfl, zero_add, h 0, h 1]
    exact pick64 (fun hh => ∑ j, Attention.ds (hd m c (hq g t hh)) i j * (hd m c (hq g t hh)).kn j (in64 l)) l
  unfold outQ
  rcases (by omega : (t : ℕ) = 0 ∨ (t : ℕ) = 1) with h | h
  · obtain rfl : t = 0 := Fin.ext h
    rw [upd_other 0 1 _ 1 one_ne, upd_other 0 0 _ 1 one_ne]
    exact own 0
  · obtain rfl : t = 1 := Fin.ext h
    exact own _

/-- The query gradient's rotary lanes. -/
theorem outQ_r (i : Fin 2048) (l : Fin 128) : outQ (quad m c g) i ⟨256 + l, by omega⟩ =
    ∑ j, Attention.ds (hd m c (hdr g l)) i j * (hd m c (hdr g l)).kr j (in32 l) := by
  let f : Fin 4 → EReal := fun k => ∑ j, Attention.ds (hd m c ⟨4 * g + k, by omega⟩) i j * (hd m c ⟨4 * g + k, by omega⟩).kr j (in32 l)
  have h : ∀ (t hh : Fin 2) (k : Fin 4), (k : ℕ) = 2 * t + hh →
      (if (l : ℕ) / 32 = 2 * t + hh then QA (quad m c g) t hh i ⟨128 + l, by omega⟩ else 0) = if (l : ℕ) / 32 = k then f k else 0 := by
    intro t hh k hk
    have e : hq g t hh = ⟨4 * g + k, by omega⟩ := Fin.ext (show 4 * (g : ℕ) + 2 * t + hh = 4 * g + k by omega)
    rw [QA_hi, hk, e]
  unfold outQ
  rw [upd_rotary, upd_rotary, upd_rotary, upd_rotary, h 0 0 0 rfl, h 0 1 1 rfl, h 1 0 2 rfl, h 1 1 3 rfl,
    if_neg (fun e => absurd e.1 one_ne), if_neg (fun e => absurd e.1 one_ne),
    if_neg (fun e => absurd e.2 one_ne), if_pos ⟨rfl, rfl⟩, zero_add, add_assoc]
  exact pick32 f l

end Cert.KernelIdeal.Attn
-- ==== Proof.Out.lean ====
/- What the launch leaves in the kernel's three result arrays, and the host's gradients read from them. -/
module

public import proofs.«01_k».proof.Proof.Lanes

@[expose] public section

set_option maxRecDepth 16384

noncomputable section

namespace Cert.KernelIdeal.Attn

open Cert.KernelIdeal Cert.KernelIdeal.Gen Cert.Attention
open Idealize.ShloMosaic Idealize.ShloMosaic.TcCoe Idealize.ShloMosaic.StableHlo

variable (m : (ℓ : Loc nD τ sig) → Buf (Elt Ideal) ℓ) (c : Dev nD)

/-- The output windows' places. -/
theorem idxO : ∀ t : Fin cfg0.N, (cfg0.win 6).index t = ![0, t.val] ∧ (cfg0.win 7).index t = ![0, t.val] ∧ (cfg0.win 8).index t = ![0, t.val] := by
  decide +kernel

/-- The query gradient's array. -/
def arrQ : FVec Ideal S2048x768 .f32 := fun y => outQ (quad m c ⟨y 1 / 384, by have := (y 1).isLt; change _ < 768 at this; omega⟩) (y 0) ⟨y 1 % 384, by omega⟩

/-- The key and value gradients' array. -/
def arrKV : FVec Ideal S2048x1024 .bf16 := fun y => outKV (quad m c ⟨y 1 / 512, by have := (y 1).isLt; change _ < 1024 at this; omega⟩) (y 0) ⟨y 1 % 512, by omega⟩

/-- The rotary key gradient's array. -/
def arrKP : FVec Ideal S2048x256 .f32 := fun y => outKP (quad m c ⟨y 1 / 128, by have := (y 1).isLt; change _ < 256 at this; omega⟩) (y 0) ⟨y 1 % 128, by omega⟩

theorem arrQ_at (g : Fin 2) (i : Fin 2048) (x : Fin 384) : arrQ m c (ix2 i ⟨384 * g + x, by omega⟩) = outQ (quad m c g) i x :=
  congrArg₂ (fun (a : Fin 2) (b : Fin 384) => outQ (quad m c a) i b)
    (Fin.ext (show (384 * (g : ℕ) + x) / 384 = g by omega)) (Fin.ext (show (384 * (g : ℕ) + x) % 384 = x by omega))

theorem arrKV_at (g : Fin 2) (i : Fin 2048) (x : Fin 512) : arrKV m c (ix2 i ⟨512 * g + x, by omega⟩) = outKV (quad m c g) i x :=
  congrArg₂ (fun (a : Fin 2) (b : Fin 512) => outKV (quad m c a) i b)
    (Fin.ext (show (512 * (g : ℕ) + x) / 512 = g by omega)) (Fin.ext (show (512 * (g : ℕ) + x) % 512 = x by omega))

theorem arrKP_at (g : Fin 2) (i : Fin 2048) (x : Fin 128) : arrKP m c (ix2 i ⟨128 * g + x, by omega⟩) = outKP (quad m c g) i x :=
  congrArg₂ (fun (a : Fin 2) (b : Fin 128) => outKP (quad m c a) i b)
    (Fin.ext (show (128 * (g : ℕ) + x) / 128 = g by omega)) (Fin.ext (show (128 * (g : ℕ) + x) % 128 = x by omega))

theorem place6 (x : FVec Ideal S2048x768 .f32) (g : Fin 2) (i : Fin 2048) (y : Fin 384) :
    x (((cfg0.win 6).blk g).view.emb (ix2 i y)) = x (ix2 i ⟨384 * g + y, by omega⟩) := by
  have := idxO g
  refine congrArg x ?_
  blk_ext [this]

theorem place7 (x : FVec Ideal S2048x1024 .bf16) (g : Fin 2) (i : Fin 2048) (y : Fin 512) :
    x (((cfg0.win 7).blk g).view.emb (ix2 i y)) = x (ix2 i ⟨512 * g + y, by omega⟩) := by
  have := idxO g
  refine congrArg x ?_
  blk_ext [this]

theorem place8 (x : FVec Ideal S2048x256 .f32) (g : Fin 2) (i : Fin 2048) (y : Fin 128) :
    x (((cfg0.win 8).blk g).view.emb (ix2 i y)) = x (ix2 i ⟨128 * g + y, by omega⟩) := by
  have := idxO g
  refine congrArg x ?_
  blk_ext [this]

theorem out6 : (dat m 0 c).arrAt 6 cfg0.N = arrQ m c := by
  refine (dat m 0 c).arrAt_eq_of_covers 6 (arrQ m c) (by decide +kernel) fun t hf y => ?_
  obtain ⟨i, x, rfl⟩ : ∃ (i : Fin 2048) (x : Fin 384), y = ix2 i x := ⟨y 0, y 1, eq_ix2 y⟩
  refine Eq.trans ?_ ((place6 (arrQ m c) t i x).trans (arrQ_at m c t i x)).symm
  rw [dat_6]
  rfl

theorem out7 : (dat m 0 c).arrAt 7 cfg0.N = arrKV m c := by
  refine (dat m 0 c).arrAt_eq_of_covers 7 (arrKV m c) (by decide +kernel) fun t hf y => ?_
  obtain ⟨i, x, rfl⟩ : ∃ (i : Fin 2048) (x : Fin 512), y = ix2 i x := ⟨y 0, y 1, eq_ix2 y⟩
  refine Eq.trans ?_ ((place7 (arrKV m c) t i x).trans (arrKV_at m c t i x)).symm
  rw [dat_7]
  rfl

theorem out8 : (dat m 0 c).arrAt 8 cfg0.N = arrKP m c := by
  refine (dat m 0 c).arrAt_eq_of_covers 8 (arrKP m c) (by decide +kernel) fun t hf y => ?_
  obtain ⟨i, x, rfl⟩ : ∃ (i : Fin 2048) (x : Fin 128), y = ix2 i x := ⟨y 0, y 1, eq_ix2 y⟩
  refine Eq.trans ?_ ((place8 (arrKP m c) t i x).trans (arrKP_at m c t i x)).symm
  rw [dat_8]
  rfl

end Cert.KernelIdeal.Attn
-- ==== Proof.Tail.lean ====
/- The host's gradients read from the kernel's result arrays: the lanes of each head back in their places. -/
module

public import proofs.«01_k».proof.Proof.Lanes

@[expose] public section

set_option maxRecDepth 16384

noncomputable section

namespace Cert.KernelIdeal.Attn

open Cert.KernelIdeal Cert.KernelIdeal.Gen Cert.Attention
open Idealize.ShloMosaic Idealize.ShloMosaic.TcCoe Idealize.ShloMosaic.StableHlo

variable (W : Valuation τ sig (Elt Ideal)) (i : Fin 2048) (h : Fin 8)

/-- The memory after the host's operations that follow the kernel. -/
abbrev tail (b : Ref sig .tc) : b.ty.Contents (Elt Ideal) := after (hostOps1 (F := Ideal)) W (Proc.devRef .tc b)

theorem tail_qn (l : Fin 64) : tail W main_v57 (ix3 i h ⟨l, by omega⟩) =
    W (Proc.devRef .tc main_v49_0) (ix2 i ⟨384 * (h / 4) + (128 * (h % 4 / 2) + (64 * (h % 2) + l)), by omega⟩) := by
  unfold tail
  after_reads_at
  refine congrArg (fun k => W (Proc.devRef .tc main_v49_0) (ix2 i k)) (Fin.ext ?_)
  dsimp only
  omega

theorem tail_qr (l : Fin 32) : tail W main_v57 (ix3 i h ⟨64 + l, by omega⟩) =
    W (Proc.devRef .tc main_v49_0) (ix2 i ⟨384 * (h / 4) + (256 + (32 * (h % 4) + l)), by omega⟩) := by
  unfold tail
  after_reads_at
  refine congrArg (fun k => W (Proc.devRef .tc main_v49_0) (ix2 i k)) (Fin.ext ?_)
  dsimp only
  omega

theorem tail_kn (l : Fin 64) : tail W main_v61 (ix3 i h ⟨l, by omega⟩) =
    W (Proc.devRef .tc main_v49_1) (ix2 i ⟨512 * (h / 4) + (128 * (h % 4 / 2) + (64 * (h % 2) + l)), by omega⟩) := by
  unfold tail
  after_reads_at
  refine congrArg (fun k => W (Proc.devRef .tc main_v49_1) (ix2 i k)) (Fin.ext ?_)
  dsimp only
  omega

theorem tail_kr (l : Fin 32) : tail W main_v61 (ix3 i h ⟨64 + l, by omega⟩) =
    W (Proc.devRef .tc main_v49_2) (ix2 i ⟨128 * (h / 4) + (32 * (h % 4) + l), by omega⟩) := by
  unfold tail
  after_reads_at
  refine congrArg (fun k => W (Proc.devRef .tc main_v49_2) (ix2 i k)) (Fin.ext ?_)
  dsimp only
  omega

theorem tail_v (l : Fin 64) : tail W main_v63 (ix3 i h l) =
    W (Proc.devRef .tc main_v49_1) (ix2 i ⟨512 * (h / 4) + (256 + 128 * (h % 4 / 2) + (64 * (h % 2) + l)), by omega⟩) := by
  unfold tail
  after_reads_at
  refine congrArg (fun k => W (Proc.devRef .tc main_v49_1) (ix2 i k)) (Fin.ext ?_)
  dsimp only
  omega

end Cert.KernelIdeal.Attn
-- ==== Proof.Grads.lean ====
/- The host's gradients after the kernel, in the heads' arrays. -/
module

public import proofs.«01_k».proof.Proof.Out
public import proofs.«01_k».proof.Proof.Tail

@[expose] public section

set_option maxRecDepth 16384

noncomputable section

namespace Cert.KernelIdeal.Attn

open Cert.KernelIdeal Cert.KernelIdeal.Gen Cert.Attention
open Idealize.ShloMosaic Idealize.ShloMosaic.TcCoe Idealize.ShloMosaic.StableHlo

variable (m : (ℓ : Loc nD τ sig) → Buf (Elt Ideal) ℓ) (c : Dev nD) (i : Fin 2048) (h : Fin 8)

/-- The memory when the kernel has ended. -/
abbrev ended : Valuation τ sig (Elt Ideal) := Pipeline.withArrays spec0 c (V0 m c) fun w => (dat m 0 c).arrAt w cfg0.N

theorem arr_inj : Function.Injective (Pipeline.arrRef spec0) := by decide

theorem ended6 : ended m c (Proc.devRef .tc main_v49_0) = arrQ m c := (Pipeline.withArrays_arr spec0 arr_inj c _ _ 6).trans (out6 m c)
theorem ended7 : ended m c (Proc.devRef .tc main_v49_1) = arrKV m c := (Pipeline.withArrays_arr spec0 arr_inj c _ _ 7).trans (out7 m c)
theorem ended8 : ended m c (Proc.devRef .tc main_v49_2) = arrKP m c := (Pipeline.withArrays_arr spec0 arr_inj c _ _ 8).trans (out8 m c)

/-- The quad of a head, its pair in the quad, and the lane of a head's entry. -/
abbrev gOf : Fin 2 := ⟨h / 4, by omega⟩
abbrev tOf : Fin 2 := ⟨h % 4 / 2, by omega⟩
abbrev lnOf (l : Fin 64) : Fin 128 := ⟨64 * (h % 2) + l, by omega⟩
abbrev lrOf (l : Fin 32) : Fin 128 := ⟨32 * (h % 4) + l, by omega⟩

theorem hdn_of (l : Fin 64) : hdn (gOf h) (tOf h) (lnOf h l) = h :=
  Fin.ext (show 4 * ((h : ℕ) / 4) + 2 * (h % 4 / 2) + (64 * (h % 2) + l) / 64 = h by omega)
theorem hdr_of (l : Fin 32) : hdr (gOf h) (lrOf h l) = h :=
  Fin.ext (show 4 * ((h : ℕ) / 4) + (32 * (h % 4) + l) / 32 = h by omega)
theorem in64_of (l : Fin 64) : in64 (lnOf h l) = l := Fin.ext (show (64 * ((h : ℕ) % 2) + l) % 64 = l by omega)
theorem in32_of (l : Fin 32) : in32 (lrOf h l) = l := Fin.ext (show (32 * ((h : ℕ) % 4) + l) % 32 = l by omega)

theorem dq_n (l : Fin 64) : tail (ended m c) main_v57 (ix3 i h ⟨l, by omega⟩) =
    ∑ j, Attention.ds (hd m c h) i j * (hd m c h).kn j l := by
  rw [tail_qn, ended6]
  refine (arrQ_at m c (gOf h) i ⟨128 * (h % 4 / 2) + (64 * (h % 2) + l), by omega⟩).trans
    ((outQ_n m c (gOf h) (tOf h) i (lnOf h l)).trans ?_)
  rw [hdn_of, in64_of]

theorem dq_r (l : Fin 32) : tail (ended m c) main_v57 (ix3 i h ⟨64 + l, by omega⟩) =
    ∑ j, Attention.ds (hd m c h) i j * (hd m c h).kr j l := by
  rw [tail_qr, ended6]
  refine (arrQ_at m c (gOf h) i ⟨256 + (32 * (h % 4) + l), by omega⟩).trans ((outQ_r m c (gOf h) i (lrOf h l)).trans ?_)
  rw [hdr_of, in32_of]

theorem dk_n (l : Fin 64) : tail (ended m c) main_v61 (ix3 i h ⟨l, by omega⟩) =
    ∑ j, Attention.ds (hd m c h) j i * (hd m c h).qn j l := by
  rw [tail_kn, ended7]
  refine (arrKV_at m c (gOf h) i ⟨128 * (h % 4 / 2) + (64 * (h % 2) + l), by omega⟩).trans
    ((outKV_k m c (gOf h) (tOf h) i (lnOf h l)).trans ?_)
  rw [hdn_of, in64_of]

theorem dk_r (l : Fin 32) : tail (ended m c) main_v61 (ix3 i h ⟨64 + l, by omega⟩) =
    ∑ j, Attention.ds (hd m c h) j i * (hd m c h).qr j l := by
  rw [tail_kr, ended8]
  refine (arrKP_at m c (gOf h) i (lrOf h l)).trans ((outKP_at m c (gOf h) i (lrOf h l)).trans ?_)
  rw [hdr_of, in32_of]

theorem dv_n (l : Fin 64) : tail (ended m c) main_v63 (ix3 i h l) =
    ∑ j, Attention.prob (hd m c h) j i * (hd m c h).d j l := by
  rw [tail_v, ended7]
  refine (arrKV_at m c (gOf h) i ⟨256 + 128 * (h % 4 / 2) + (64 * (h % 2) + l), by omega⟩).trans
    ((outKV_v m c (gOf h) (tOf h) i (lnOf h l)).trans ?_)
  rw [hdn_of, in64_of]

end Cert.KernelIdeal.Attn
-- ==== Proof.Math.lean ====
/- On finite arrays the score's gradient from the output and the log-sum-exp is the derivative of the softmax taken through
   the unnormalised weights and their sum. -/
module

public import proofs.«01_k».proof.Proof.Spec

@[expose] public section

noncomputable section

namespace Cert.Attention

open Idealize.ShloMosaic
open Cert.KernelIdeal.Attn (scl scl_real)

variable (H : Head) (i j : Fin 2048)

/-- The score's gradient by the chain rule: through the quotient of weight and sum, then the exponential. -/
def chain : EReal :=
  (if (j : ℕ) ≤ i then
    (Ideal.div (dp H i j) (tot H i) + -(∑ j, dp H i j * Ideal.div 1 (tot H i * tot H i) * wt H i j)) * wt H i j
  else 0) * scl

/-- Every entry is a real number. -/
structure Head.Finite : Prop where
  qn : ∀ i l, ∃ r : ℝ, H.qn i l = r
  qr : ∀ i l, ∃ r : ℝ, H.qr i l = r
  kn : ∀ i l, ∃ r : ℝ, H.kn i l = r
  kr : ∀ i l, ∃ r : ℝ, H.kr i l = r
  v : ∀ i l, ∃ r : ℝ, H.v i l = r
  d : ∀ i l, ∃ r : ℝ, H.d i l = r

theorem coe_sum {ι : Type} [Fintype ι] (f : ι → ℝ) : (∑ i, (f i : EReal)) = ((∑ i, f i : ℝ) : EReal) := by
  classical
  induction (Finset.univ : Finset ι) using Finset.induction_on with
  | empty => rfl
  | insert a s h ih => rw [Finset.sum_insert h, Finset.sum_insert h, ih, EReal.coe_add]

variable {H}

theorem score_real (hH : H.Finite) : ∃ s : ℝ, score H i j = s := by
  obtain ⟨c, hc⟩ := scl_real
  choose a ha using hH.qn
  choose b hb using hH.qr
  choose p hp using hH.kn
  choose r hr using hH.kr
  refine ⟨((∑ l, a i l * p j l) + ∑ l, b i l * r j l) * c, ?_⟩
  unfold score
  simp only [ha, hb, hp, hr, hc, ← EReal.coe_mul, coe_sum, ← EReal.coe_add]

theorem dp_real (hH : H.Finite) : ∃ f : Fin 2048 → Fin 64 → ℝ, ∃ g : Fin 2048 → Fin 64 → ℝ,
    (∀ i l, H.d i l = f i l) ∧ (∀ i l, H.v i l = g i l) ∧ ∀ i j, dp H i j = ((∑ l, f i l * g j l : ℝ) : EReal) := by
  choose f hf using hH.d
  choose g hg using hH.v
  refine ⟨f, g, hf, hg, fun i j => ?_⟩
  unfold dp
  simp only [hf, hg, ← EReal.coe_mul, coe_sum]

theorem top_real (hH : H.Finite) : ∃ t : ℝ, top H i = t := by
  have e : top H i = Finset.univ.sup fun j => masked H i j := by
    rfl
  obtain ⟨j, -, hj⟩ := Finset.exists_mem_eq_sup Finset.univ ⟨i, Finset.mem_univ i⟩ fun j => masked H i j
  rw [e, hj]
  obtain ⟨s, hs⟩ := score_real i j hH
  obtain ⟨s', hs'⟩ := score_real i i hH
  have h := Finset.le_sup (f := fun j => masked H i j) (Finset.mem_univ i)
  rw [hj] at h
  unfold masked at h ⊢
  rw [if_pos le_rfl, hs'] at h
  split
  · exact ⟨s, hs⟩
  · next g =>
    rw [if_neg g] at h
    exact absurd (le_bot_iff.mp h) (EReal.coe_ne_bot s')

/-- The weights are real, zero after the query, and their sum is positive. -/
theorem wt_real (hH : H.Finite) : ∃ w : Fin 2048 → ℝ, ∃ T : ℝ, 0 < T ∧ (∀ j, wt H i j = w j) ∧ tot H i = T ∧
    (∀ j : Fin 2048, ¬ (j : ℕ) ≤ i → w j = 0) ∧ ∀ j, prob H i j = ((w j / T : ℝ) : EReal) := by
  obtain ⟨t, ht⟩ := top_real i hH
  choose s hs using fun j => score_real i j hH
  let w : Fin 2048 → ℝ := fun j => if (j : ℕ) ≤ i then Real.exp (s j - t) else 0
  have hw : ∀ j, wt H i j = w j := by
    intro j
    unfold wt masked
    rw [ht]
    by_cases h : (j : ℕ) ≤ i
    · rw [if_pos h, hs, ← EReal.coe_sub, Ideal.exp_coe]
      exact congrArg _ (if_pos h).symm
    · rw [if_neg h, EReal.bot_sub, Ideal.exp_bot]
      exact (congrArg ((↑) : ℝ → EReal) (if_neg h)).symm
  have hn : ∀ j, 0 ≤ w j := by
    intro j
    show (0 : ℝ) ≤ if _ then _ else _
    split
    · exact (Real.exp_pos _).le
    · exact le_rfl
  have hT : 0 < ∑ j, w j := by
    refine Finset.sum_pos' (fun j _ => hn j) ⟨i, Finset.mem_univ i, ?_⟩
    show (0 : ℝ) < if _ then _ else _
    rw [if_pos le_rfl]
    exact Real.exp_pos _
  have htot : tot H i = ((∑ j, w j : ℝ) : EReal) := by
    unfold tot
    rw [← coe_sum]
    exact Finset.sum_congr rfl fun j _ => hw j
  refine ⟨w, ∑ j, w j, hT, hw, htot, fun j h => if_neg h, fun j => ?_⟩
  unfold prob lse masked
  rw [htot, ht, Ideal.log_coe, if_neg (not_le.mpr hT), ← EReal.coe_add]
  by_cases h : (j : ℕ) ≤ i
  · rw [if_pos h, hs, ← EReal.coe_sub, Ideal.exp_coe]
    refine congrArg _ ?_
    show _ = (if _ then _ else _) / _
    rw [if_pos h, ← sub_sub, Real.exp_sub, Real.exp_log hT]
  · rw [if_neg h, EReal.bot_sub, Ideal.exp_bot]
    have : w j = 0 := if_neg h
    rw [this, _root_.zero_div, EReal.coe_zero]

theorem div_real (x : ℝ) {y : ℝ} (h : y ≠ 0) : Ideal.div (x : EReal) (y : EReal) = ((x / y : ℝ) : EReal) := by
  rw [Ideal.div_coe h, ← EReal.coe_mul, mul_one_div]

/-- The rebuilt probability is the normalised weight. -/
theorem prob_eq (hH : H.Finite) : prob H i j = Ideal.div (wt H i j) (tot H i) := by
  obtain ⟨w, T, hT, hw, htot, -, hp⟩ := wt_real i hH
  rw [hp, hw, htot, div_real _ hT.ne']

/-- The two forms of the score's gradient agree. -/
theorem ds_eq (hH : H.Finite) : ds H i j = chain H i j := by
  obtain ⟨w, T, hT, hw, htot, hz, hp⟩ := wt_real i hH
  obtain ⟨f, g, hf, hg, hd⟩ := dp_real hH
  obtain ⟨c, hc⟩ := scl_real
  have hout : ∀ l, out H i l = ((∑ j, g j l * (w j / T) : ℝ) : EReal) := by
    intro l
    unfold out
    rw [← coe_sum]
    refine Finset.sum_congr rfl fun j _ => ?_
    rw [hg, hw, htot, div_real _ hT.ne', EReal.coe_mul]
  have hdl : (∑ l, H.d i l * out H i l) = ((∑ j, (∑ l, f i l * g j l) * (w j / T) : ℝ) : EReal) := by
    simp only [hf, hout, ← EReal.coe_mul, coe_sum]
    refine congrArg _ ?_
    simp only [Finset.mul_sum, Finset.sum_mul]
    rw [Finset.sum_comm]
    exact Finset.sum_congr rfl fun j _ => Finset.sum_congr rfl fun l _ => by ring
  have hsum : (∑ j, dp H i j * Ideal.div 1 (tot H i * tot H i) * wt H i j) =
      ((∑ j, (∑ l, f i l * g j l) * (1 / (T * T)) * w j : ℝ) : EReal) := by
    rw [← coe_sum]
    refine Finset.sum_congr rfl fun j _ => ?_
    rw [hd, htot, hw, ← EReal.coe_mul, ← EReal.coe_one, div_real 1 (mul_pos hT hT).ne', ← EReal.coe_mul, ← EReal.coe_mul]
  unfold ds chain
  rw [hdl, hsum, hp, hd, htot, hw, hc, div_real _ hT.ne', ← EReal.coe_neg, ← EReal.coe_add, ← EReal.coe_sub]
  by_cases h : (j : ℕ) ≤ i
  · rw [if_pos h]
    simp only [← EReal.coe_mul]
    refine congrArg _ ?_
    have e : (∑ j, (∑ l, f i l * g j l) * (1 / (T * T)) * w j) = (∑ j, (∑ l, f i l * g j l) * (w j / T)) / T := by
      rw [Finset.sum_div]
      refine Finset.sum_congr rfl fun j _ => ?_
      field_simp
    rw [e]
    ring
  · rw [if_neg h, hz j h, _root_.zero_div, EReal.coe_zero, zero_mul]

end Cert.Attention
-- ==== Proof.Finite.lean ====
/- The precondition read back: every entry of every argument is a real number. -/
module

public import proofs.«01_k».proof.Proof.Math
public import proofs.«01_k».proof.Pre_finite
public import Idealize.ShloMosaic.Lib.ReduceAll
public import Idealize.ShloMosaic.Lib.Pointwise

@[expose] public section

set_option maxRecDepth 16384

noncomputable section

namespace Cert.Pre_finite

open Idealize.ShloMosaic Cert.Attention
open Cert.KernelIdeal.Attn (ofBits_plus_infinity)

theorem facts : Facts where
  bcast_S_S2048x8x96 := by decide
  reducesTo_S2048x8x96_S_d0_1_2 := by decide
  h_S_ := by decide
  bcast_S_S2048x8x64 := by decide
  reducesTo_S2048x8x64_S_d0_1_2 := by decide
  bcast_S_S2048x32 := by decide
  reducesTo_S2048x32_S_d0_1 := by decide

attribute [local instance] facts

theorem real_of_abs {x : EReal} (h : (FloatOps.absf (F := Ideal) (φ := .f32) x : EReal) < ⊤) : ∃ r : ℝ, x = r := by
  induction x using EReal.rec with
  | bot => exact absurd h (by first | decide | simp [FloatOps.absf])
  | top => exact absurd h (by first | decide | simp [FloatOps.absf])
  | coe r => exact ⟨r, rfl⟩

theorem one_and {a b : BitVec 1} (h : a &&& b = 1#1) : a = 1#1 ∧ b = 1#1 := by
  revert h; revert a b; decide

theorem entry {s : Shape} (bc : S_.BroadcastsInDim s (![] : Fin 0 → Fin s.rank)) (x : FVec Ideal s .f32) (y : s.Idx)
    (h : cmpf .olt (Host.absf x) (broadcastInDim s ![] bc (constant S_ .f32 0x7F800000#32)) y = 1#1) : ∃ r : ℝ, x y = r := by
  have e : cmpf .olt (Host.absf x) (broadcastInDim s ![] bc (constant S_ .f32 0x7F800000#32)) y =
      BitVec.ofBool (decide ((FloatOps.absf (x y) : EReal) < Ideal.ofBits .f32 0x7F800000#32)) := by
    pointwise
  rw [e, ofBits_plus_infinity] at h
  refine real_of_abs ?_
  by_contra g
  rw [decide_eq_false g] at h
  exact absurd h (by decide)

variable (x0 : FVec Ideal S2048x8x96 .f32) (x1 : FVec Ideal S2048x8x64 .f32) (x2 : FVec Ideal S2048x32 .f32)
  (x3 x4 : FVec Ideal S2048x8x64 .f32)

/-- Under the precondition every head's arrays are real. -/
theorem heads_finite (hp : fn (F := Ideal) x0 x1 x2 x3 x4 = fun _ => 1#1) (h : Fin 8) : (headOf x0 x1 x2 x3 x4 h).Finite := by
  have hs : Subsingleton S_.Idx := ⟨fun a b => funext fun k => k.elim0⟩
  have e := congrFun hp (fun k => k.elim0)
  unfold fn fn_part1 at e
  obtain ⟨e, e4⟩ := one_and e
  obtain ⟨e, e3⟩ := one_and e
  obtain ⟨e, e2⟩ := one_and e
  obtain ⟨e0, e1⟩ := one_and e
  have r0 := fun i => entry _ x0 i (Host.reduce_andi_all _ _ _ _ _ e0 i)
  have r1 := fun i => entry _ x1 i (Host.reduce_andi_all _ _ _ _ _ e1 i)
  have r2 := fun i => entry _ x2 i (Host.reduce_andi_all _ _ _ _ _ e2 i)
  have r3 := fun i => entry _ x3 i (Host.reduce_andi_all _ _ _ _ _ e3 i)
  have r4 := fun i => entry _ x4 i (Host.reduce_andi_all _ _ _ _ _ e4 i)
  exact ⟨fun _ _ => r0 _, fun _ _ => r0 _, fun _ _ => r1 _, fun _ _ => r2 _, fun _ _ => r3 _, fun _ _ => r4 _⟩

end Cert.Pre_finite
-- ==== Proof.RefTop.lean ====
/- The reference's results at an index, in the heads' arrays. -/
module

public import proofs.«01_k».proof.Proof.Math
public import proofs.«01_k».proof.Proof.Gen.ReferenceIdeal.Read
public import Idealize.ShloMosaic.Lib.Pointwise
public import Idealize.ShloMosaic.Lib.Tactic.CleanTypes

@[expose] public section

set_option maxRecDepth 16384

noncomputable section

namespace Cert.ReferenceIdeal.Attn

open Cert.ReferenceIdeal Cert.ReferenceIdeal.Read Cert.Attention
open Idealize.ShloMosaic Idealize.ShloMosaic.TcCoe
open Cert.KernelIdeal.Attn (scl)

variable (x0 : FVec Ideal S2048x8x96 .f32) (x1 : FVec Ideal S2048x8x64 .f32) (x2 : FVec Ideal S2048x32 .f32)
  (x3 x4 : FVec Ideal S2048x8x64 .f32) (h : Fin 8) (i j : Fin 2048)

theorem mask_at (i j : Fin 2048) : val_main_v14_1 (F := Ideal) (ix3 h i j) = IntOp.cmpi CmpIPredicate.sle (BitVec.ofNat 32 j) (BitVec.ofNat 32 i) := by
  pointwise [val_main_v14_1, val_main_v13, val_main_v12, val_main_v11, val_main_v10, val_main_v9, val_main_v8, val_main_v7, val_main_v6]

theorem masked_at : val_main_v14_0 (F := Ideal) x0 x1 x2 (ix3 h i j) = masked (headOf x0 x1 x2 x3 x4 h) i j := by
  have e : val_main_v5 (F := Ideal) x0 x1 x2 (ix3 h i j) = Attention.score (headOf x0 x1 x2 x3 x4 h) i j := by
    pointwise [val_main_v5, val_main_v4, val_main_v3, val_main_v2, val_main_v1, val_main_v0, val_main_cst]
    rfl
  have e' : val_main_call0_v2 (F := Ideal) (ix3 h i j) = (⊥ : EReal) := by
    pointwise [val_main_call0_v2, val_main_call0_v0, val_main_cst_0]
    exact Cert.KernelIdeal.Attn.ofBits_minus_infinity
  rw [val_main_v14_0_apply, mask_at, e, e']
  exact select_le j i _ _

theorem top_at : val_main_v15 (F := Ideal) x0 x1 x2 (ix2 h i) = top (headOf x0 x1 x2 x3 x4 h) i := by
  unfold val_main_v15 top
  rw [← funext fun j => masked_at x0 x1 x2 x3 x4 h i j]
  generalize val_main_v14_0 (F := Ideal) x0 x1 x2 = y
  pointwise [val_main_cst_1]
  rw [Cert.KernelIdeal.Attn.ofBits_minus_infinity]

theorem max_bot (y : FVec Ideal S8x2048 .f32) (h : Fin 8) (i : Fin 2048) :
    maximumf (val_main_v21 (F := Ideal)) y (ix2 h i) = y (ix2 h i) := by
  have e : val_main_v21 (F := Ideal) (ix2 h i) = (⊥ : EReal) := by
    pointwise [val_main_v21, val_main_cst_3]
    exact Cert.KernelIdeal.Attn.ofBits_minus_infinity
  refine Eq.trans (show _ = max (val_main_v21 (F := Ideal) (ix2 h i) : EReal) (y (ix2 h i)) from rfl) ?_
  rw [e]
  exact max_eq_right bot_le

theorem max_at : val_main_v22 (F := Ideal) x0 x1 x2 (ix2 h i) = val_main_v15 (F := Ideal) x0 x1 x2 (ix2 h i) := by
  unfold val_main_v22
  exact max_bot _ h i

theorem bound_at : val_main_v33 (F := Ideal) x0 x1 x2 (ix3 h i j) = val_main_v22 (F := Ideal) x0 x1 x2 (ix2 h i) := by
  unfold val_main_v33 val_main_v32
  generalize val_main_v22 (F := Ideal) x0 x1 x2 = y
  pointwise

theorem exp_at : val_main_v35 (F := Ideal) x0 x1 x2 (ix3 h i j) =
    Ideal.exp ((val_main_v14_0 (F := Ideal) x0 x1 x2 (ix3 h i j) : EReal) - val_main_v33 (F := Ideal) x0 x1 x2 (ix3 h i j)) := by
  unfold val_main_v35 val_main_v34
  generalize val_main_v14_0 (F := Ideal) x0 x1 x2 = a
  generalize val_main_v33 (F := Ideal) x0 x1 x2 = b
  pointwise

theorem wt_at : val_main_v35 (F := Ideal) x0 x1 x2 (ix3 h i j) = wt (headOf x0 x1 x2 x3 x4 h) i j :=
  (exp_at x0 x1 x2 h i j).trans (congrArg₂ (fun a b : EReal => Ideal.exp (a - b)) (masked_at x0 x1 x2 x3 x4 h i j)
    ((bound_at x0 x1 x2 h i j).trans ((max_at x0 x1 x2 h i).trans (top_at x0 x1 x2 x3 x4 h i))))

end Cert.ReferenceIdeal.Attn
-- ==== Proof.RefRead.lean ====
/- The reference's results at an index, in the heads' arrays. -/
module

public import proofs.«01_k».proof.Proof.RefTop
public import proofs.«01_k».proof.Proof.Gen.ReferenceIdeal.Read
public import Idealize.ShloMosaic.Lib.Pointwise
public import Idealize.ShloMosaic.Lib.Tactic.CleanTypes

@[expose] public section

set_option maxRecDepth 16384

noncomputable section

namespace Cert.ReferenceIdeal.Attn

open Cert.ReferenceIdeal Cert.ReferenceIdeal.Read Cert.Attention
open Idealize.ShloMosaic Idealize.ShloMosaic.TcCoe
open Cert.KernelIdeal.Attn (scl)

variable (x0 : FVec Ideal S2048x8x96 .f32) (x1 : FVec Ideal S2048x8x64 .f32) (x2 : FVec Ideal S2048x32 .f32)
  (x3 x4 : FVec Ideal S2048x8x64 .f32) (h : Fin 8) (i j : Fin 2048)

theorem tot_at : val_main_v37 (F := Ideal) x0 x1 x2 (ix3 h i 0) = tot (headOf x0 x1 x2 x3 x4 h) i := by
  unfold tot
  rw [← Finset.sum_congr rfl fun j _ => wt_at x0 x1 x2 x3 x4 h i j]
  unfold val_main_v37 val_main_v36
  generalize val_main_v35 (F := Ideal) x0 x1 x2 = y
  pointwise [val_main_cst_9]

theorem prob_at : val_main_v39 (F := Ideal) x0 x1 x2 (ix3 h i j) =
    Ideal.div (wt (headOf x0 x1 x2 x3 x4 h) i j) (tot (headOf x0 x1 x2 x3 x4 h) i) := by
  have e : val_main_v38 (F := Ideal) x0 x1 x2 (ix3 h i j) = val_main_v37 (F := Ideal) x0 x1 x2 (ix3 h i 0) := by
    unfold val_main_v38
    generalize val_main_v37 (F := Ideal) x0 x1 x2 = y
    pointwise
  rw [val_main_v39_apply, wt_at x0 x1 x2 x3 x4, e, tot_at x0 x1 x2 x3 x4]
  rfl

theorem dp_at : val_main_v46 (F := Ideal) x3 x4 (ix3 h i j) = dp (headOf x0 x1 x2 x3 x4 h) i j := by
  unfold dp
  pointwise [val_main_v46, val_main_v45]
  rfl

theorem inv_at : val_main_v49 (F := Ideal) x0 x1 x2 (ix3 h i j) =
    Ideal.div 1 (tot (headOf x0 x1 x2 x3 x4 h) i * tot (headOf x0 x1 x2 x3 x4 h) i) := by
  rw [← tot_at]
  unfold val_main_v49 val_main_v42 val_main_v40
  generalize val_main_v37 (F := Ideal) x0 x1 x2 = y
  pointwise [val_main_v41, val_main_cst_10]

theorem sum_at : val_main_v52 (F := Ideal) x0 x1 x2 x3 x4 (ix2 h i) = ∑ j, dp (headOf x0 x1 x2 x3 x4 h) i j *
    Ideal.div 1 (tot (headOf x0 x1 x2 x3 x4 h) i * tot (headOf x0 x1 x2 x3 x4 h) i) * wt (headOf x0 x1 x2 x3 x4 h) i j := by
  have e : ∀ j, val_main_v51 (F := Ideal) x0 x1 x2 x3 x4 (ix3 h i j) = dp (headOf x0 x1 x2 x3 x4 h) i j *
      Ideal.div 1 (tot (headOf x0 x1 x2 x3 x4 h) i * tot (headOf x0 x1 x2 x3 x4 h) i) * wt (headOf x0 x1 x2 x3 x4 h) i j := by
    intro j
    rw [val_main_v51_apply, val_main_v50_apply, dp_at x0 x1 x2 x3 x4, inv_at x0 x1 x2 x3 x4, wt_at x0 x1 x2 x3 x4]
    rfl
  rw [← Finset.sum_congr rfl fun j _ => e j]
  unfold val_main_v52
  generalize val_main_v51 (F := Ideal) x0 x1 x2 x3 x4 = y
  pointwise [val_main_cst_11]

theorem ds_at : val_main_v63 (F := Ideal) x0 x1 x2 x3 x4 (ix3 h i j) = chain (headOf x0 x1 x2 x3 x4 h) i j := by
  have e : val_main_v58 (F := Ideal) x0 x1 x2 x3 x4 (ix3 h i j) = -(val_main_v52 (F := Ideal) x0 x1 x2 x3 x4 (ix2 h i) : EReal) := by
    unfold val_main_v58 val_main_v57 val_main_v54 val_main_v53
    generalize val_main_v52 (F := Ideal) x0 x1 x2 x3 x4 = y
    pointwise [val_main_cst_12]
    exact Fin.sum_univ_one _
  have e' : val_main_v55 (F := Ideal) x0 x1 x2 (ix3 h i j) = val_main_v37 (F := Ideal) x0 x1 x2 (ix3 h i 0) := by
    unfold val_main_v55
    generalize val_main_v37 (F := Ideal) x0 x1 x2 = y
    pointwise
  have e60 : val_main_v60 (F := Ideal) x0 x1 x2 x3 x4 (ix3 h i j) =
      (Ideal.div (dp (headOf x0 x1 x2 x3 x4 h) i j) (tot (headOf x0 x1 x2 x3 x4 h) i) +
        -(∑ j, dp (headOf x0 x1 x2 x3 x4 h) i j * Ideal.div 1 (tot (headOf x0 x1 x2 x3 x4 h) i * tot (headOf x0 x1 x2 x3 x4 h) i) *
          wt (headOf x0 x1 x2 x3 x4 h) i j)) * wt (headOf x0 x1 x2 x3 x4 h) i j := by
    rw [val_main_v60_apply, val_main_v59_apply, val_main_v56_apply, e, e', sum_at, tot_at x0 x1 x2 x3 x4, dp_at x0 x1 x2 x3 x4,
      wt_at x0 x1 x2 x3 x4]
    rfl
  have e61 : val_main_v61 (F := Ideal) x0 x1 x2 x3 x4 (ix3 h i j) =
      if (j : ℕ) ≤ i then (Ideal.div (dp (headOf x0 x1 x2 x3 x4 h) i j) (tot (headOf x0 x1 x2 x3 x4 h) i) +
        -(∑ j, dp (headOf x0 x1 x2 x3 x4 h) i j * Ideal.div 1 (tot (headOf x0 x1 x2 x3 x4 h) i * tot (headOf x0 x1 x2 x3 x4 h) i) *
          wt (headOf x0 x1 x2 x3 x4 h) i j)) * wt (headOf x0 x1 x2 x3 x4 h) i j else 0 := by
    have z : val_main_call1_v0 (F := Ideal) (ix3 h i j) = (0 : EReal) := by
      pointwise [val_main_call1_v0, val_main_call1_cst]
    rw [val_main_v61_apply, mask_at, e60, z]
    exact select_le j i _ _
  have c : val_main_v62 (F := Ideal) (ix3 h i j) = scl := by
    pointwise [val_main_v62, val_main_cst_13]
  rw [val_main_v63_apply, e61, c]
  rfl

/-- The value gradient. -/
theorem dv_at (l : Fin 64) : val_main_v48 (F := Ideal) x0 x1 x2 x4 (ix3 j h l) =
    ∑ i, (headOf x0 x1 x2 x3 x4 h).d i l * Ideal.div (wt (headOf x0 x1 x2 x3 x4 h) i j) (tot (headOf x0 x1 x2 x3 x4 h) i) := by
  rw [← Finset.sum_congr rfl fun i _ => congrArg (fun y : EReal => (headOf x0 x1 x2 x3 x4 h).d i l * y) (prob_at x0 x1 x2 x3 x4 h i j)]
  unfold val_main_v48 val_main_v47
  generalize val_main_v39 (F := Ideal) x0 x1 x2 = y
  pointwise [val_main_v45]
  rfl

/-- The key gradient. -/
theorem dk_at (l : Fin 96) : val_main_v65 (F := Ideal) x0 x1 x2 x3 x4 (ix3 j h l) =
    ∑ i, chain (headOf x0 x1 x2 x3 x4 h) i j * (x0 (ix3 i h l) : EReal) := by
  rw [← Finset.sum_congr rfl fun i _ => congrArg (fun y : EReal => y * (x0 (ix3 i h l) : EReal)) (ds_at x0 x1 x2 x3 x4 h i j)]
  unfold val_main_v65 val_main_v64
  generalize val_main_v63 (F := Ideal) x0 x1 x2 x3 x4 = y
  pointwise

/-- The query gradient. -/
theorem dq_at (l : Fin 96) : val_main_v67 (F := Ideal) x0 x1 x2 x3 x4 (ix3 i h l) =
    ∑ j, chain (headOf x0 x1 x2 x3 x4 h) i j * (val_main_v2 (F := Ideal) x1 x2 (ix3 j h l) : EReal) := by
  rw [← Finset.sum_congr rfl fun j _ => congrArg (fun y : EReal => y * (val_main_v2 (F := Ideal) x1 x2 (ix3 j h l) : EReal)) (ds_at x0 x1 x2 x3 x4 h i j)]
  unfold val_main_v67 val_main_v66
  generalize val_main_v63 (F := Ideal) x0 x1 x2 x3 x4 = y
  generalize val_main_v2 (F := Ideal) x1 x2 = k
  pointwise

theorem key_n (l : Fin 64) : val_main_v2 (F := Ideal) x1 x2 (ix3 j h ⟨l, by omega⟩) = (headOf x0 x1 x2 x3 x4 h).kn j l := by
  pointwise [val_main_v2, val_main_v1, val_main_v0]
  rfl

theorem key_r (l : Fin 32) : val_main_v2 (F := Ideal) x1 x2 (ix3 j h ⟨64 + l, by omega⟩) = (headOf x0 x1 x2 x3 x4 h).kr j l := by
  pointwise [val_main_v2, val_main_v1, val_main_v0]
  rfl

end Cert.ReferenceIdeal.Attn
-- ==== Proof.Value.lean ====
/- The kernel's gradients are the reference's: on real arguments, entry by entry. -/
module

public import proofs.«01_k».proof.Proof.Grads
public import proofs.«01_k».proof.Proof.Finite
public import proofs.«01_k».proof.Proof.RefRead

@[expose] public section

set_option maxRecDepth 16384

noncomputable section

namespace Cert.KernelIdeal.Attn

open Cert.KernelIdeal Cert.KernelIdeal.Gen Cert.Attention
open Idealize.ShloMosaic Idealize.ShloMosaic.TcCoe Idealize.ShloMosaic.StableHlo Idealize.SL.Sem
open Cert.ReferenceIdeal.Read (val_main_v67 val_main_v65 val_main_v48)

variable (m : (ℓ : Loc nD τ sig) → Buf (Elt Ideal) ℓ) (ρ : Dev nD → PrngReg) (c : Dev nD)

/-- The arguments. -/
abbrev a0 : FVec Ideal S2048x8x96 .f32 := m (c.tc.loc main_arg0)
abbrev a1 : FVec Ideal S2048x8x64 .f32 := m (c.tc.loc main_arg1)
abbrev a2 : FVec Ideal S2048x32 .f32 := m (c.tc.loc main_arg2)
abbrev a3 : FVec Ideal S2048x8x64 .f32 := m (c.tc.loc main_arg3)
abbrev a4 : FVec Ideal S2048x8x64 .f32 := m (c.tc.loc main_arg4)

theorem sum_eq {f g : Fin 2048 → EReal} (h : ∀ j, f j = g j) : ∑ j, f j = ∑ j, g j := Finset.sum_congr rfl fun j _ => h j

/-- A lane of a key belongs to its part without rotation or to its rotary part. -/
theorem lane96 (l : Fin 96) : (∃ k : Fin 64, l = ⟨k, by omega⟩) ∨ ∃ k : Fin 32, l = ⟨64 + k, by omega⟩ := by
  rcases (by omega : (l : ℕ) < 64 ∨ 64 ≤ (l : ℕ)) with g | g
  · exact .inl ⟨⟨l, g⟩, rfl⟩
  · exact .inr ⟨⟨l - 64, by omega⟩, Fin.ext (show (l : ℕ) = 64 + (l - 64) by omega)⟩

variable (hH : ∀ h, (hd m c h).Finite)
include hH

theorem dq_entry (i : Fin 2048) (h : Fin 8) (l : Fin 96) : tail (ended m c) main_v57 (ix3 i h l) =
    val_main_v67 (F := Ideal) (a0 m c) (a1 m c) (a2 m c) (a3 m c) (a4 m c) (ix3 i h l) := by
  refine Eq.trans ?_ (Cert.ReferenceIdeal.Attn.dq_at (a0 m c) (a1 m c) (a2 m c) (a3 m c) (a4 m c) h i l).symm
  rcases lane96 l with ⟨k, rfl⟩ | ⟨k, rfl⟩
  · refine (dq_n m c i h k).trans (sum_eq fun j => ?_)
    exact congrArg₂ (fun a b : EReal => a * b) (ds_eq i j (hH h)) (Cert.ReferenceIdeal.Attn.key_n (a0 m c) (a1 m c) (a2 m c) (a3 m c) (a4 m c) h j k).symm
  · refine (dq_r m c i h k).trans (sum_eq fun j => ?_)
    exact congrArg₂ (fun a b : EReal => a * b) (ds_eq i j (hH h)) (Cert.ReferenceIdeal.Attn.key_r (a0 m c) (a1 m c) (a2 m c) (a3 m c) (a4 m c) h j k).symm

theorem dk_entry (i : Fin 2048) (h : Fin 8) (l : Fin 96) : tail (ended m c) main_v61 (ix3 i h l) =
    val_main_v65 (F := Ideal) (a0 m c) (a1 m c) (a2 m c) (a3 m c) (a4 m c) (ix3 i h l) := by
  refine Eq.trans ?_ (Cert.ReferenceIdeal.Attn.dk_at (a0 m c) (a1 m c) (a2 m c) (a3 m c) (a4 m c) h i l).symm
  rcases lane96 l with ⟨k, rfl⟩ | ⟨k, rfl⟩
  · refine (dk_n m c i h k).trans (sum_eq fun j => ?_)
    exact congrArg (fun a : EReal => a * (hd m c h).qn j k) (ds_eq j i (hH h))
  · refine (dk_r m c i h k).trans (sum_eq fun j => ?_)
    exact congrArg (fun a : EReal => a * (hd m c h).qr j k) (ds_eq j i (hH h))

theorem dv_entry (i : Fin 2048) (h : Fin 8) (l : Fin 64) : tail (ended m c) main_v63 (ix3 i h l) =
    val_main_v48 (F := Ideal) (a0 m c) (a1 m c) (a2 m c) (a4 m c) (ix3 i h l) := by
  have e : (∑ j, Attention.prob (hd m c h) j i * (hd m c h).d j l) =
      ∑ j, (hd m c h).d j l * Ideal.div (wt (hd m c h) j i) (tot (hd m c h) j) :=
    Finset.sum_congr rfl fun j _ => (congrArg (fun a : EReal => a * (hd m c h).d j l) (prob_eq j i (hH h))).trans (mul_comm _ _)
  exact (dv_n m c i h l).trans (e.trans (Cert.ReferenceIdeal.Attn.dv_at (a0 m c) (a1 m c) (a2 m c) (a3 m c) (a4 m c) h i l).symm)

omit hH in
theorem tail_eq (b : Ref sig .tc) : Pipeline.afterTail₀ cfgs (dat m) 0 (V0 m) [hostOps1] c b = tail (ended m c) b := by
  unfold Pipeline.afterTail₀ tail ended
  rw [List.flatten_singleton]

theorem dq_all : Pipeline.afterTail₀ cfgs (dat m) 0 (V0 m) [hostOps1] c main_v57 =
    val_main_v67 (F := Ideal) (a0 m c) (a1 m c) (a2 m c) (a3 m c) (a4 m c) := by
  rw [tail_eq]
  refine funext fun y => ?_
  rw [eq_ix3 y]
  exact dq_entry m c hH _ _ _

theorem dk_all : Pipeline.afterTail₀ cfgs (dat m) 0 (V0 m) [hostOps1] c main_v61 =
    val_main_v65 (F := Ideal) (a0 m c) (a1 m c) (a2 m c) (a3 m c) (a4 m c) := by
  rw [tail_eq]
  refine funext fun y => ?_
  rw [eq_ix3 y]
  exact dk_entry m c hH _ _ _

theorem dv_all : Pipeline.afterTail₀ cfgs (dat m) 0 (V0 m) [hostOps1] c main_v63 =
    val_main_v48 (F := Ideal) (a0 m c) (a1 m c) (a2 m c) (a4 m c) := by
  rw [tail_eq]
  refine funext fun y => ?_
  rw [eq_ix3 y]
  exact dv_entry m c hH _ _ _

omit hH in
/-- The kernel's run: its three results are the reference's terms, its arguments stay. -/
theorem run_value (hf : ∀ c h, (hd m c h).Finite) :
    θ_run defs (onTc (τ := τ) (main (F := Ideal))) ⟨m, fun _ => 0, ρ⟩ (fun r => ∀ c : Dev nD,
      r.2.mem ((c.tc : Thread nD τ).loc main_v57) = val_main_v67 (F := Ideal) (a0 m c) (a1 m c) (a2 m c) (a3 m c) (a4 m c)
      ∧ r.2.mem ((c.tc : Thread nD τ).loc main_v61) = val_main_v65 (F := Ideal) (a0 m c) (a1 m c) (a2 m c) (a3 m c) (a4 m c)
      ∧ r.2.mem ((c.tc : Thread nD τ).loc main_v63) = val_main_v48 (F := Ideal) (a0 m c) (a1 m c) (a2 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
    obtain ⟨h, -⟩ := h
    exact ⟨((h c).2 main_v57 (Pipeline.mem_restRefs_of main_v57 (by decide) (by decide))).trans (dq_all m c (hf c)),
      ((h c).2 main_v61 (Pipeline.mem_restRefs_of main_v61 (by decide) (by decide))).trans (dk_all m c (hf c)),
      ((h c).2 main_v63 (Pipeline.mem_restRefs_of main_v63 (by decide) (by decide))).trans (dv_all m c (hf c)),
      ((h c).2 main_arg0 (Pipeline.mem_restRefs_of main_arg0 (by decide) (by decide))).trans (W_main_arg0 m (dat m) c),
      ((h c).2 main_arg1 (Pipeline.mem_restRefs_of main_arg1 (by decide) (by decide))).trans (W_main_arg1 m (dat m) c),
      ((h c).2 main_arg2 (Pipeline.mem_restRefs_of main_arg2 (by decide) (by decide))).trans (W_main_arg2 m (dat m) c),
      ((h c).2 main_arg3 (Pipeline.mem_restRefs_of main_arg3 (by decide) (by decide))).trans (W_main_arg3 m (dat m) c),
      ((h c).2 main_arg4 (Pipeline.mem_restRefs_of main_arg4 (by decide) (by decide))).trans (W_main_arg4 m (dat m) c)⟩) (launch m ρ)

end Cert.KernelIdeal.Attn
-- ==== Proof.In.Cols.lean ====
/- The columns of the input projection: where the kernel keeps each of the reference's 7840 columns among its 8192.

   The kernel orders the parts of the projection by the calls that read them, mixes the two halves of a gated pair by lanes
   of 128, and pads two parts with zeros. -/
module

public import Idealize.ShloMosaic.Lib.Pipeline.ValueKit
public import Idealize.ShloMosaic.Lib.MatmulPlain

@[expose] public section

noncomputable section

namespace Cert.Cols

/-- The kernel's column of the reference's column `k`. -/
def at' (k : ℕ) : ℕ :=
  if k < 512 then 3072 + 256 * (k / 128) + k % 128
  else if k < 1024 then 3200 + 256 * ((k - 512) / 128) + k % 128
  else if k < 1536 then k + 3072
  else if k < 2048 then 4608 + 256 * ((k - 1536) / 128) + k % 128
  else if k < 2560 then k + 4096
  else if k < 3072 then 4736 + 256 * ((k - 2560) / 128) + k % 128
  else if k < 3584 then k + 3584
  else if k < 3968 then k + 4096
  else if k < 4256 then k + 3200
  else if k < 4768 then k + 1376
  else k - 4768

theorem at_lt (k : Fin 7840) : at' k < 8192 := by
  unfold at'
  split_ifs <;> omega

/-- The same among the 8192 columns. -/
def place (k : Fin 7840) : Fin 8192 := ⟨at' k, at_lt k⟩

/-- The reference's column of a kernel's column that is not padding. -/
def back (p : ℕ) : ℕ :=
  if p < 3072 then p + 4768
  else if p < 4096 then (p - 3072) / 256 * 128 + (p - 3072) % 256 / 128 * 512 + p % 128
  else if p < 4608 then p - 3072
  else if p < 5632 then 1536 + (p - 4608) / 256 * 128 + (p - 4608) % 256 / 128 * 1024 + p % 128
  else if p < 6144 then p - 1376
  else if p < 6656 then p - 4096
  else if p < 7168 then p - 3584
  else if p < 7456 then p - 3200
  else p - 4096

theorem back_at_lanes : ∀ (a : Fin 62) (b : Fin 128), 128 * (a : ℕ) + b < 7840 → back (at' (128 * a + b)) = 128 * a + b := by
  decide +kernel

theorem at_back_lanes : ∀ (a : Fin 64) (b : Fin 128), ¬ (7456 ≤ 128 * (a : ℕ) + b ∧ 128 * (a : ℕ) + b < 7680 ∨ 8064 ≤ 128 * (a : ℕ) + b) →
    at' (back (128 * a + b)) = 128 * a + b ∧ back (128 * a + b) < 7840 := by
  decide +kernel

theorem back_at (k : Fin 7840) : back (at' k) = k := by
  have h := back_at_lanes ⟨k / 128, by omega⟩ ⟨k % 128, by omega⟩
  simp only [Nat.div_add_mod] at h
  exact h k.isLt

theorem at_back (p : Fin 8192) (hp : ¬ (7456 ≤ (p : ℕ) ∧ (p : ℕ) < 7680 ∨ 8064 ≤ (p : ℕ))) : at' (back p) = p ∧ back p < 7840 := by
  have h := at_back_lanes ⟨p / 128, by omega⟩ ⟨p % 128, by omega⟩
  simp only [Nat.div_add_mod] at h
  exact h hp

theorem place_inj : Function.Injective place := fun a b h => Fin.ext <| by
  rw [← back_at a, ← back_at b]
  exact congrArg back (congrArg Fin.val h)

/-- A sum over the kernel's columns of what is zero at the padding is the sum over the reference's columns. -/
theorem sum_place (f : Fin 7840 → EReal) (g : Fin 8192 → EReal) (hp : ∀ k, g (place k) = f k)
    (hz : ∀ p : Fin 8192, 7456 ≤ (p : ℕ) ∧ (p : ℕ) < 7680 ∨ 8064 ≤ (p : ℕ) → g p = 0) : ∑ p, g p = ∑ k, f k := by
  refine (Fintype.sum_of_injective place place_inj f g (fun p hr => ?_) fun k => (hp k).symm).symm
  by_contra hne
  have h : ¬ (7456 ≤ (p : ℕ) ∧ (p : ℕ) < 7680 ∨ 8064 ≤ (p : ℕ)) := fun h => hne (hz p h)
  exact hr ⟨⟨back p, (at_back p h).2⟩, Fin.ext (at_back p h).1⟩

/-- Of which part a column is. -/
theorem part (k : Fin 7840) : (∃ j : Fin 512, k = ⟨j, by omega⟩) ∨ (∃ j : Fin 512, k = ⟨512 + j, by omega⟩)
    ∨ (∃ j : Fin 512, k = ⟨1024 + j, by omega⟩) ∨ (∃ j : Fin 512, k = ⟨1536 + j, by omega⟩)
    ∨ (∃ j : Fin 512, k = ⟨2048 + j, by omega⟩) ∨ (∃ j : Fin 512, k = ⟨2560 + j, by omega⟩)
    ∨ (∃ j : Fin 512, k = ⟨3072 + j, by omega⟩) ∨ (∃ j : Fin 384, k = ⟨3584 + j, by omega⟩)
    ∨ (∃ j : Fin 288, k = ⟨3968 + j, by omega⟩) ∨ (∃ j : Fin 512, k = ⟨4256 + j, by omega⟩)
    ∨ (∃ j : Fin 3072, k = ⟨4768 + j, by omega⟩) := by
  have hk := k.isLt
  rcases (by omega : (k : ℕ) < 512 ∨ 512 ≤ (k : ℕ) ∧ (k : ℕ) < 1024 ∨ 1024 ≤ (k : ℕ) ∧ (k : ℕ) < 1536 ∨ 1536 ≤ (k : ℕ) ∧ (k : ℕ) < 2048
    ∨ 2048 ≤ (k : ℕ) ∧ (k : ℕ) < 2560 ∨ 2560 ≤ (k : ℕ) ∧ (k : ℕ) < 3072 ∨ 3072 ≤ (k : ℕ) ∧ (k : ℕ) < 3584 ∨ 3584 ≤ (k : ℕ) ∧ (k : ℕ) < 3968
    ∨ 3968 ≤ (k : ℕ) ∧ (k : ℕ) < 4256 ∨ 4256 ≤ (k : ℕ) ∧ (k : ℕ) < 4768 ∨ 4768 ≤ (k : ℕ)) with h | h | h | h | h | h | h | h | h | h | h
  · exact .inl ⟨⟨k, h⟩, rfl⟩
  · exact .inr (.inl ⟨⟨k - 512, by omega⟩, Fin.ext (show (k : ℕ) = 512 + (k - 512) by omega)⟩)
  · exact .inr (.inr (.inl ⟨⟨k - 1024, by omega⟩, Fin.ext (show (k : ℕ) = 1024 + (k - 1024) by omega)⟩))
  · exact .inr (.inr (.inr (.inl ⟨⟨k - 1536, by omega⟩, Fin.ext (show (k : ℕ) = 1536 + (k - 1536) by omega)⟩)))
  · exact .inr (.inr (.inr (.inr (.inl ⟨⟨k - 2048, by omega⟩, Fin.ext (show (k : ℕ) = 2048 + (k - 2048) by omega)⟩))))
  · exact .inr (.inr (.inr (.inr (.inr (.inl ⟨⟨k - 2560, by omega⟩, Fin.ext (show (k : ℕ) = 2560 + (k - 2560) by omega)⟩)))))
  · exact .inr (.inr (.inr (.inr (.inr (.inr (.inl ⟨⟨k - 3072, by omega⟩, Fin.ext (show (k : ℕ) = 3072 + (k - 3072) by omega)⟩))))))
  · exact .inr (.inr (.inr (.inr (.inr (.inr (.inr (.inl ⟨⟨k - 3584, by omega⟩, Fin.ext (show (k : ℕ) = 3584 + (k - 3584) by omega)⟩)))))))
  · exact .inr (.inr (.inr (.inr (.inr (.inr (.inr (.inr (.inl ⟨⟨k - 3968, by omega⟩, Fin.ext (show (k : ℕ) = 3968 + (k - 3968) by omega)⟩))))))))
  · exact .inr (.inr (.inr (.inr (.inr (.inr (.inr (.inr (.inr (.inl ⟨⟨k - 4256, by omega⟩, Fin.ext (show (k : ℕ) = 4256 + (k - 4256) by omega)⟩)))))))))
  · exact .inr (.inr (.inr (.inr (.inr (.inr (.inr (.inr (.inr (.inr ⟨⟨k - 4768, by omega⟩, Fin.ext (show (k : ℕ) = 4768 + (k - 4768) by omega)⟩)))))))))

theorem place_0 (j : Fin 512) : place ⟨j, by omega⟩ = ⟨3072 + 256 * (j / 128) + j % 128, by omega⟩ :=
  Fin.ext (show at' (j) = 3072 + 256 * (j / 128) + j % 128 by unfold at'; split_ifs <;> omega)

theorem place_1 (j : Fin 512) : place ⟨512 + j, by omega⟩ = ⟨3200 + 256 * (j / 128) + j % 128, by omega⟩ :=
  Fin.ext (show at' (512 + j) = 3200 + 256 * (j / 128) + j % 128 by unfold at'; split_ifs <;> omega)

theorem place_2 (j : Fin 512) : place ⟨1024 + j, by omega⟩ = ⟨4096 + j, by omega⟩ :=
  Fin.ext (show at' (1024 + j) = 4096 + j by unfold at'; split_ifs <;> omega)

theorem place_3 (j : Fin 512) : place ⟨1536 + j, by omega⟩ = ⟨4608 + 256 * (j / 128) + j % 128, by omega⟩ :=
  Fin.ext (show at' (1536 + j) = 4608 + 256 * (j / 128) + j % 128 by unfold at'; split_ifs <;> omega)

theorem place_4 (j : Fin 512) : place ⟨2048 + j, by omega⟩ = ⟨6144 + j, by omega⟩ :=
  Fin.ext (show at' (2048 + j) = 6144 + j by unfold at'; split_ifs <;> omega)

theorem place_5 (j : Fin 512) : place ⟨2560 + j, by omega⟩ = ⟨4736 + 256 * (j / 128) + j % 128, by omega⟩ :=
  Fin.ext (show at' (2560 + j) = 4736 + 256 * (j / 128) + j % 128 by unfold at'; split_ifs <;> omega)

theorem place_6 (j : Fin 512) : place ⟨3072 + j, by omega⟩ = ⟨6656 + j, by omega⟩ :=
  Fin.ext (show at' (3072 + j) = 6656 + j by unfold at'; split_ifs <;> omega)

theorem place_7 (j : Fin 384) : place ⟨3584 + j, by omega⟩ = ⟨7680 + j, by omega⟩ :=
  Fin.ext (show at' (3584 + j) = 7680 + j by unfold at'; split_ifs <;> omega)

theorem place_8 (j : Fin 288) : place ⟨3968 + j, by omega⟩ = ⟨7168 + j, by omega⟩ :=
  Fin.ext (show at' (3968 + j) = 7168 + j by unfold at'; split_ifs <;> omega)

theorem place_9 (j : Fin 512) : place ⟨4256 + j, by omega⟩ = ⟨5632 + j, by omega⟩ :=
  Fin.ext (show at' (4256 + j) = 5632 + j by unfold at'; split_ifs <;> omega)

theorem place_10 (j : Fin 3072) : place ⟨4768 + j, by omega⟩ = ⟨j, by omega⟩ :=
  Fin.ext (show at' (4768 + j) = j by unfold at'; split_ifs <;> omega)

end Cert.Cols
-- ==== Proof.In.Laid2.lean ====
/- The columns of the projection's cotangent as the host lays them out for the gradient of the input. -/
module

public import proofs.«01_k».proof.Proof.Gen.Kernel2Ideal.Frame
public import proofs.«01_k».proof.Proof.In.Cols
public import Idealize.ShloMosaic.Lib.StableHlo.ReadAt
public import Idealize.ShloMosaic.Lib.Pipeline.ValueKit.Geometry

@[expose] public section

set_option maxRecDepth 16384

noncomputable section

namespace Cert.Kernel2Ideal.In

open Cert.Kernel2Ideal Cert.Kernel2Ideal.Gen Cert.Cols
open Idealize.ShloMosaic Idealize.ShloMosaic.TcCoe Idealize.ShloMosaic.StableHlo

variable (m : (ℓ : Loc nD τ sig) → Buf (Elt Ideal) ℓ) (c : Dev nD) (i : Fin 2048)

theorem VD_0 (j : Fin 512) (p : Fin 8192) (hp : (p : ℕ) = 3072 + 256 * (j / 128) + j % 128) : V m c main_v22 (ix2 i p) = m (c.tc.loc main_arg2) (ix2 i ⟨j, by omega⟩) := by
  unfold V
  after_reads_at
  refine Eq.trans (dif_neg (by omega)) ?_
  refine Eq.trans (dif_pos (by omega)) ?_
  after_reads_at
  refine Eq.trans (dif_pos (by omega)) ?_
  after_reads_at
  all_goals
    refine congrArg (m (c.tc.loc main_arg2)) ?_
    blk_ext <;> rfl

theorem VD_1 (j : Fin 512) (p : Fin 8192) (hp : (p : ℕ) = 3200 + 256 * (j / 128) + j % 128) : V m c main_v22 (ix2 i p) = m (c.tc.loc main_arg2) (ix2 i ⟨512 + j, by omega⟩) := by
  unfold V
  after_reads_at
  refine Eq.trans (dif_neg (by omega)) ?_
  refine Eq.trans (dif_pos (by omega)) ?_
  after_reads_at
  refine Eq.trans (dif_neg (by omega)) ?_
  after_reads_at
  all_goals
    refine congrArg (m (c.tc.loc main_arg2)) ?_
    blk_ext <;> rfl

theorem VD_2 (j : Fin 512) (p : Fin 8192) (hp : (p : ℕ) = 4096 + j) : V m c main_v22 (ix2 i p) = m (c.tc.loc main_arg2) (ix2 i ⟨1024 + j, by omega⟩) := by
  unfold V
  after_reads_at
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem VD_3 (j : Fin 512) (p : Fin 8192) (hp : (p : ℕ) = 4608 + 256 * (j / 128) + j % 128) : V m c main_v22 (ix2 i p) = m (c.tc.loc main_arg2) (ix2 i ⟨1536 + j, by omega⟩) := by
  unfold V
  after_reads_at
  refine Eq.trans (dif_neg (by omega)) ?_
  refine Eq.trans (dif_neg (by omega)) ?_
  refine Eq.trans (dif_neg (by omega)) ?_
  refine Eq.trans (dif_pos (by omega)) ?_
  obtain ⟨q, hq⟩ : ∃ q : Fin 1024, (q : ℕ) = p - 3072 - 1024 - 512 := ⟨⟨p - 3072 - 1024 - 512, by omega⟩, rfl⟩
  simp only [← hq]
  after_reads_at
  refine Eq.trans (dif_pos (by omega)) ?_
  after_reads_at
  all_goals
    refine congrArg (m (c.tc.loc main_arg2)) ?_
    blk_ext <;> rfl

theorem VD_4 (j : Fin 512) (p : Fin 8192) (hp : (p : ℕ) = 6144 + j) : V m c main_v22 (ix2 i p) = m (c.tc.loc main_arg2) (ix2 i ⟨2048 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem VD_5 (j : Fin 512) (p : Fin 8192) (hp : (p : ℕ) = 4736 + 256 * (j / 128) + j % 128) : V m c main_v22 (ix2 i p) = m (c.tc.loc main_arg2) (ix2 i ⟨2560 + j, by omega⟩) := by
  unfold V
  after_reads_at
  refine Eq.trans (dif_neg (by omega)) ?_
  refine Eq.trans (dif_neg (by omega)) ?_
  refine Eq.trans (dif_neg (by omega)) ?_
  refine Eq.trans (dif_pos (by omega)) ?_
  obtain ⟨q, hq⟩ : ∃ q : Fin 1024, (q : ℕ) = p - 3072 - 1024 - 512 := ⟨⟨p - 3072 - 1024 - 512, by omega⟩, rfl⟩
  simp only [← hq]
  after_reads_at
  refine Eq.trans (dif_neg (by omega)) ?_
  after_reads_at
  all_goals
    refine congrArg (m (c.tc.loc main_arg2)) ?_
    blk_ext <;> rfl

theorem VD_6 (j : Fin 512) (p : Fin 8192) (hp : (p : ℕ) = 6656 + j) : V m c main_v22 (ix2 i p) = m (c.tc.loc main_arg2) (ix2 i ⟨3072 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem VD_7 (j : Fin 384) (p : Fin 8192) (hp : (p : ℕ) = 7680 + j) : V m c main_v22 (ix2 i p) = m (c.tc.loc main_arg2) (ix2 i ⟨3584 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem VD_8 (j : Fin 288) (p : Fin 8192) (hp : (p : ℕ) = 7168 + j) : V m c main_v22 (ix2 i p) = m (c.tc.loc main_arg2) (ix2 i ⟨3968 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem VD_9 (j : Fin 512) (p : Fin 8192) (hp : (p : ℕ) = 5632 + j) : V m c main_v22 (ix2 i p) = m (c.tc.loc main_arg2) (ix2 i ⟨4256 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem VD_10 (j : Fin 3072) (p : Fin 8192) (hp : (p : ℕ) = j) : V m c main_v22 (ix2 i p) = m (c.tc.loc main_arg2) (ix2 i ⟨4768 + j, by omega⟩) := by
  unfold V
  after_reads_at
  refine Eq.trans (dif_pos (by omega)) ?_
  after_reads_at
  all_goals
    refine congrArg (m (c.tc.loc main_arg2)) ?_
    blk_ext <;> rfl

/-- The kernel's column of the reference's column `k` is that column. -/
theorem VD_place (k : Fin 7840) : V m c main_v22 (ix2 i (place k)) = m (c.tc.loc main_arg2) (ix2 i k) := by
  rcases part k with ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩
  · exact VD_0 m c i j _ (congrArg Fin.val (place_0 j))
  · exact VD_1 m c i j _ (congrArg Fin.val (place_1 j))
  · exact VD_2 m c i j _ (congrArg Fin.val (place_2 j))
  · exact VD_3 m c i j _ (congrArg Fin.val (place_3 j))
  · exact VD_4 m c i j _ (congrArg Fin.val (place_4 j))
  · exact VD_5 m c i j _ (congrArg Fin.val (place_5 j))
  · exact VD_6 m c i j _ (congrArg Fin.val (place_6 j))
  · exact VD_7 m c i j _ (congrArg Fin.val (place_7 j))
  · exact VD_8 m c i j _ (congrArg Fin.val (place_8 j))
  · exact VD_9 m c i j _ (congrArg Fin.val (place_9 j))
  · exact VD_10 m c i j _ (congrArg Fin.val (place_10 j))

theorem VD_a (p : Fin 8192) (hp : 7456 ≤ (p : ℕ) ∧ (p : ℕ) < 7680) : V m c main_v22 (ix2 i p) = (0 : EReal) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals pointwise

theorem VD_b (p : Fin 8192) (hp : 8064 ≤ (p : ℕ)) : V m c main_v22 (ix2 i p) = (0 : EReal) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  after_reads_at
  all_goals pointwise

/-- The padding is zero. -/
theorem VD_pad (p : Fin 8192) (h : 7456 ≤ (p : ℕ) ∧ (p : ℕ) < 7680 ∨ 8064 ≤ (p : ℕ)) : V m c main_v22 (ix2 i p) = (0 : EReal) := by
  rcases h with h | h
  · exact VD_a m c i p h
  · exact VD_b m c i p h

end Cert.Kernel2Ideal.In
-- ==== Proof.In.Laid2W.lean ====
/- The columns of the weights as the host lays them out for the gradient of the input. -/
module

public import proofs.«01_k».proof.Proof.Gen.Kernel2Ideal.Frame
public import proofs.«01_k».proof.Proof.In.Cols
public import Idealize.ShloMosaic.Lib.StableHlo.ReadAt
public import Idealize.ShloMosaic.Lib.Pipeline.ValueKit.Geometry

@[expose] public section

set_option maxRecDepth 16384

noncomputable section

namespace Cert.Kernel2Ideal.In

open Cert.Kernel2Ideal Cert.Kernel2Ideal.Gen Cert.Cols
open Idealize.ShloMosaic Idealize.ShloMosaic.TcCoe Idealize.ShloMosaic.StableHlo

variable (m : (ℓ : Loc nD τ sig) → Buf (Elt Ideal) ℓ) (c : Dev nD) (i : Fin 1024)

theorem VW_0 (j : Fin 512) (p : Fin 8192) (hp : (p : ℕ) = 3072 + 256 * (j / 128) + j % 128) : V m c main_v45 (ix2 i p) = m (c.tc.loc main_arg1) (ix2 i ⟨j, by omega⟩) := by
  unfold V
  after_reads_at
  refine Eq.trans (dif_neg (by omega)) ?_
  refine Eq.trans (dif_pos (by omega)) ?_
  after_reads_at
  refine Eq.trans (dif_pos (by omega)) ?_
  after_reads_at
  all_goals
    refine congrArg (m (c.tc.loc main_arg1)) ?_
    blk_ext <;> rfl

theorem VW_1 (j : Fin 512) (p : Fin 8192) (hp : (p : ℕ) = 3200 + 256 * (j / 128) + j % 128) : V m c main_v45 (ix2 i p) = m (c.tc.loc main_arg1) (ix2 i ⟨512 + j, by omega⟩) := by
  unfold V
  after_reads_at
  refine Eq.trans (dif_neg (by omega)) ?_
  refine Eq.trans (dif_pos (by omega)) ?_
  after_reads_at
  refine Eq.trans (dif_neg (by omega)) ?_
  after_reads_at
  all_goals
    refine congrArg (m (c.tc.loc main_arg1)) ?_
    blk_ext <;> rfl

theorem VW_2 (j : Fin 512) (p : Fin 8192) (hp : (p : ℕ) = 4096 + j) : V m c main_v45 (ix2 i p) = m (c.tc.loc main_arg1) (ix2 i ⟨1024 + j, by omega⟩) := by
  unfold V
  after_reads_at
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem VW_3 (j : Fin 512) (p : Fin 8192) (hp : (p : ℕ) = 4608 + 256 * (j / 128) + j % 128) : V m c main_v45 (ix2 i p) = m (c.tc.loc main_arg1) (ix2 i ⟨1536 + j, by omega⟩) := by
  unfold V
  after_reads_at
  refine Eq.trans (dif_neg (by omega)) ?_
  refine Eq.trans (dif_neg (by omega)) ?_
  refine Eq.trans (dif_neg (by omega)) ?_
  refine Eq.trans (dif_pos (by omega)) ?_
  obtain ⟨q, hq⟩ : ∃ q : Fin 1024, (q : ℕ) = p - 3072 - 1024 - 512 := ⟨⟨p - 3072 - 1024 - 512, by omega⟩, rfl⟩
  simp only [← hq]
  after_reads_at
  refine Eq.trans (dif_pos (by omega)) ?_
  after_reads_at
  all_goals
    refine congrArg (m (c.tc.loc main_arg1)) ?_
    blk_ext <;> rfl

theorem VW_4 (j : Fin 512) (p : Fin 8192) (hp : (p : ℕ) = 6144 + j) : V m c main_v45 (ix2 i p) = m (c.tc.loc main_arg1) (ix2 i ⟨2048 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem VW_5 (j : Fin 512) (p : Fin 8192) (hp : (p : ℕ) = 4736 + 256 * (j / 128) + j % 128) : V m c main_v45 (ix2 i p) = m (c.tc.loc main_arg1) (ix2 i ⟨2560 + j, by omega⟩) := by
  unfold V
  after_reads_at
  refine Eq.trans (dif_neg (by omega)) ?_
  refine Eq.trans (dif_neg (by omega)) ?_
  refine Eq.trans (dif_neg (by omega)) ?_
  refine Eq.trans (dif_pos (by omega)) ?_
  obtain ⟨q, hq⟩ : ∃ q : Fin 1024, (q : ℕ) = p - 3072 - 1024 - 512 := ⟨⟨p - 3072 - 1024 - 512, by omega⟩, rfl⟩
  simp only [← hq]
  after_reads_at
  refine Eq.trans (dif_neg (by omega)) ?_
  after_reads_at
  all_goals
    refine congrArg (m (c.tc.loc main_arg1)) ?_
    blk_ext <;> rfl

theorem VW_6 (j : Fin 512) (p : Fin 8192) (hp : (p : ℕ) = 6656 + j) : V m c main_v45 (ix2 i p) = m (c.tc.loc main_arg1) (ix2 i ⟨3072 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem VW_7 (j : Fin 384) (p : Fin 8192) (hp : (p : ℕ) = 7680 + j) : V m c main_v45 (ix2 i p) = m (c.tc.loc main_arg1) (ix2 i ⟨3584 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem VW_8 (j : Fin 288) (p : Fin 8192) (hp : (p : ℕ) = 7168 + j) : V m c main_v45 (ix2 i p) = m (c.tc.loc main_arg1) (ix2 i ⟨3968 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem VW_9 (j : Fin 512) (p : Fin 8192) (hp : (p : ℕ) = 5632 + j) : V m c main_v45 (ix2 i p) = m (c.tc.loc main_arg1) (ix2 i ⟨4256 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem VW_10 (j : Fin 3072) (p : Fin 8192) (hp : (p : ℕ) = j) : V m c main_v45 (ix2 i p) = m (c.tc.loc main_arg1) (ix2 i ⟨4768 + j, by omega⟩) := by
  unfold V
  after_reads_at
  refine Eq.trans (dif_pos (by omega)) ?_
  after_reads_at
  all_goals
    refine congrArg (m (c.tc.loc main_arg1)) ?_
    blk_ext <;> rfl

/-- The kernel's column of the reference's column `k` is that column. -/
theorem VW_place (k : Fin 7840) : V m c main_v45 (ix2 i (place k)) = m (c.tc.loc main_arg1) (ix2 i k) := by
  rcases part k with ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩
  · exact VW_0 m c i j _ (congrArg Fin.val (place_0 j))
  · exact VW_1 m c i j _ (congrArg Fin.val (place_1 j))
  · exact VW_2 m c i j _ (congrArg Fin.val (place_2 j))
  · exact VW_3 m c i j _ (congrArg Fin.val (place_3 j))
  · exact VW_4 m c i j _ (congrArg Fin.val (place_4 j))
  · exact VW_5 m c i j _ (congrArg Fin.val (place_5 j))
  · exact VW_6 m c i j _ (congrArg Fin.val (place_6 j))
  · exact VW_7 m c i j _ (congrArg Fin.val (place_7 j))
  · exact VW_8 m c i j _ (congrArg Fin.val (place_8 j))
  · exact VW_9 m c i j _ (congrArg Fin.val (place_9 j))
  · exact VW_10 m c i j _ (congrArg Fin.val (place_10 j))

theorem VW_a (p : Fin 8192) (hp : 7456 ≤ (p : ℕ) ∧ (p : ℕ) < 7680) : V m c main_v45 (ix2 i p) = (0 : EReal) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals pointwise

theorem VW_b (p : Fin 8192) (hp : 8064 ≤ (p : ℕ)) : V m c main_v45 (ix2 i p) = (0 : EReal) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  after_reads_at
  all_goals pointwise

/-- The padding is zero. -/
theorem VW_pad (p : Fin 8192) (h : 7456 ≤ (p : ℕ) ∧ (p : ℕ) < 7680 ∨ 8064 ≤ (p : ℕ)) : V m c main_v45 (ix2 i p) = (0 : EReal) := by
  rcases h with h | h
  · exact VW_a m c i p h
  · exact VW_b m c i p h

end Cert.Kernel2Ideal.In
-- ==== Proof.In.Out2.lean ====
/- The launch of the input's gradient: the products of the four parts of the columns, added up in the scratch array. -/
module

public import proofs.«01_k».proof.Proof.Gen.Kernel2Ideal.Frame
public import Idealize.ShloMosaic.Lib.MatmulPlain
public import Idealize.ShloMosaic.Lib.Pipeline.ValueKit
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Kernel2Ideal.In

open Cert.Kernel2Ideal Cert.Kernel2Ideal.Gen
open Idealize.ShloMosaic Idealize.ShloMosaic.TcCoe

variable (m : (ℓ : Loc nD τ sig) → Buf (Elt Ideal) ℓ) (c : Dev nD)

/-- The product of one part of the columns. -/
def dot (x0 x1 : FVec Ideal S1024x2048 .bf16) (i j : Fin 1024) : EReal := ∑ s : Fin 2048, (x0 (ix2 i s) * x1 (ix2 j s) : EReal)

theorem pay1_at (x0 x1 : FVec Ideal S1024x2048 .bf16) (i j : Fin 1024) : k0_pay1 (F := Ideal) x0 x1 (ix2 i j) = dot x0 x1 i j := by
  unfold dot
  pointwise [k0_pay1]

theorem pay2_at (x0 x1 : FVec Ideal S1024x2048 .bf16) (i j : Fin 1024) : k0_pay2 (F := Ideal) x0 x1 (ix2 i j) = dot x0 x1 i j := by
  refine Eq.trans ?_ (pay1_at x0 x1 i j)
  unfold k0_pay2
  generalize k0_pay1 (F := Ideal) x0 x1 = y
  pointwise

theorem pay3_at (x0 x1 : FVec Ideal S1024x2048 .bf16) (a : FVec Ideal S1024x1024 .f32) (i j : Fin 1024) :
    k0_pay3 (F := Ideal) x0 x1 a (ix2 i j) = (a (ix2 i j) + dot x0 x1 i j : EReal) := by
  rw [← pay1_at x0 x1 i j]
  unfold k0_pay3
  generalize k0_pay1 (F := Ideal) x0 x1 = y
  pointwise

theorem accA (t : Fin cfg0.N) (h0 : t.val % 4 = 0) (i j : Fin 1024) :
    (outsAt0 m c t.val t.isLt).2 (ix2 i j) = dot (iblk m c 0 t) (iblk m c 1 t) i j := by
  rw [outsAt0_A m c t h0 (by omega) (by omega)]
  frame_out
  exact pay2_at _ _ i j

theorem accB (t : Fin cfg0.N) (h0 : ¬ t.val % 4 = 0) (i j : Fin 1024) :
    (outsAt0 m c t.val t.isLt).2 (ix2 i j) = ((outsAt0 m c (t.val - 1) (Nat.lt_of_le_of_lt (Nat.sub_le _ _) t.isLt)).2 (ix2 i j)
      + dot (iblk m c 0 t) (iblk m c 1 t) i j : EReal) := by
  by_cases h2 : t.val % 4 = 3
  · rw [outsAt0_C m c t h0 (by omega) h2]
    frame_out
    rw [read_unread_whole]
    exact pay3_at _ _ _ i j
  · rw [outsAt0_B m c t h0 (by omega) h2]
    frame_out
    rw [read_unread_whole]
    exact pay3_at _ _ _ i j

theorem outC (t : Fin cfg0.N) (h2 : t.val % 4 = 3) : (outsAt0 m c t.val t.isLt).1 = (outsAt0 m c t.val t.isLt).2 := by
  rw [outsAt0_C m c t (by omega) (by omega) h2]
  frame_out

theorem idx : ∀ t : Fin cfg0.N, (cfg0.win 0).index t = ![t.val / 4, t.val % 4] ∧ (cfg0.win 1).index t = ![0, t.val % 4]
    ∧ (cfg0.win 2).index t = ![t.val / 4, 0] := by
  decide +kernel

theorem blk0 (x : (⟨S2048x8192, .bf16⟩ : BufTy).Contents (Elt Ideal)) (t : Fin 8) (i : Fin 1024) (l : Fin 2048) :
    ((cfg0.win 0).blk t).view.read (Elt Ideal) x (ix2 i l) = x (ix2 ⟨1024 * (t / 4) + i, by omega⟩ ⟨t % 4 * 2048 + l, by omega⟩) := by
  have := idx t
  refine congrArg x ?_
  blk_ext [this]

theorem blk1 (x : (⟨S1024x8192, .bf16⟩ : BufTy).Contents (Elt Ideal)) (t : Fin 8) (j : Fin 1024) (l : Fin 2048) :
    ((cfg0.win 1).blk t).view.read (Elt Ideal) x (ix2 j l) = x (ix2 j ⟨t % 4 * 2048 + l, by omega⟩) := by
  have := idx t
  refine congrArg x ?_
  blk_ext [this]

theorem place2 (x : FVec Ideal S2048x1024 .f32) (t : Fin 8) (i j : Fin 1024) :
    x (((cfg0.win 2).blk t).view.emb (ix2 i j)) = x (ix2 ⟨1024 * (t / 4) + i, by omega⟩ j) := by
  have := idx t
  refine congrArg x ?_
  blk_ext [this]

/-- The product over all columns. -/
def arr (a : FVec Ideal S2048x8192 .bf16) (b : FVec Ideal S1024x8192 .bf16) : FVec Ideal S2048x1024 .f32 :=
  fun y => ∑ p : Fin 8192, (a (ix2 (y 0) p) * b (ix2 (y 1) p) : EReal)

theorem arr_at (a : FVec Ideal S2048x8192 .bf16) (b : FVec Ideal S1024x8192 .bf16) (i : Fin 2048) (j : Fin 1024) :
    arr a b (ix2 i j) = ∑ p : Fin 8192, (a (ix2 i p) * b (ix2 j p) : EReal) := rfl

/-- One part's product, of the arrays its windows read. -/
theorem dot_at (a : FVec Ideal S2048x8192 .bf16) (b : FVec Ideal S1024x8192 .bf16) (r : Fin 2) (s : Fin 4) (t : Fin 8)
    (ht : (t : ℕ) = 4 * r + s) (i j : Fin 1024) :
    dot (((cfg0.win 0).blk t).view.read (Elt Ideal) a) (((cfg0.win 1).blk t).view.read (Elt Ideal) b) i j =
      ∑ l : Fin 2048, (a (ix2 ⟨1024 * r + i, by omega⟩ ⟨s * 2048 + l, by omega⟩) * b (ix2 j ⟨s * 2048 + l, by omega⟩) : EReal) := by
  have hd : (t : ℕ) / 4 = r := by omega
  have hm : (t : ℕ) % 4 = s := by omega
  refine Finset.sum_congr rfl fun l _ => congrArg₂ (fun a b : EReal => a * b) ((blk0 a t i l).trans ?_) ((blk1 b t j l).trans ?_)
  · simp only [hd, hm]
  · simp only [hm]

/-- The four parts together are all columns. -/
theorem parts (a : FVec Ideal S2048x8192 .bf16) (b : FVec Ideal S1024x8192 .bf16) (i : Fin 2048) (j : Fin 1024) :
    (∑ s : Fin 4, ∑ l : Fin 2048, (a (ix2 i ⟨s * 2048 + l, by omega⟩) * b (ix2 j ⟨s * 2048 + l, by omega⟩) : EReal)) =
      arr a b (ix2 i j) :=
  Fin.sum_mul_add_fin 4 2048 fun p : Fin 8192 => (a (ix2 i p) * b (ix2 j p) : EReal)

theorem cover2 : (cfg0.win 2).Covers := by decide +kernel

/-- What the scratch array holds when a band of rows is done. -/
theorem acc (t : Fin cfg0.N) (h2 : t.val % 4 = 3) (i j : Fin 1024) : (outsAt0 m c t.val t.isLt).2 (ix2 i j) =
    (0 : EReal) + ∑ s : Fin 4, dot (iblk m c 0 ⟨4 * (t.val / 4) + s.val, Pipeline.run_point_lt_of_flush t h2 s⟩)
      (iblk m c 1 ⟨4 * (t.val / 4) + s.val, Pipeline.run_point_lt_of_flush t h2 s⟩) i j :=
  Pipeline.eq_sum_fin_of_reset_step_of_flush (M := EReal) (fun n h => (outsAt0 m c n h).2 (ix2 i j)) 4 0
    (fun t => dot (iblk m c 0 t) (iblk m c 1 t) i j)
    (fun t h => (accA m c t h i j).trans (zero_add _).symm) (fun t h => accB m c t h i j) t h2

theorem after2 (t : Fin cfg0.N) (h2 : t.val % 4 = 3) (i j : Fin 1024) : (dats m 0 c).after 2 t (ix2 i j) =
    arr (V m c main_v22) (V m c main_v45) (((cfg0.win 2).blk t).view.emb (ix2 i j)) := by
  have hN : t.val < 8 := t.isLt
  rw [after0_2, outC m c t h2]
  refine (acc m c t h2 i j).trans ((zero_add _).trans (Eq.trans ?_ (place2 (arr (V m c main_v22) (V m c main_v45)) t i j).symm))
  refine Eq.trans ?_ (parts (V m c main_v22) (V m c main_v45) ⟨1024 * (t.val / 4) + i, by omega⟩ j)
  exact Finset.sum_congr rfl fun s _ => dot_at (V m c main_v22) (V m c main_v45) ⟨t.val / 4, by omega⟩ s
    ⟨4 * (t.val / 4) + s.val, Pipeline.run_point_lt_of_flush t h2 s⟩ rfl i j

/-- The launch leaves the product. -/
theorem out2 : (dats m 0 c).arrAt 2 cfg0.N = arr (V m c main_v22) (V m c main_v45) := by
  refine (dats m 0 c).arrAt_eq_of_covers 2 (arr (V m c main_v22) (V m c main_v45)) cover2 fun t hf y => ?_
  obtain ⟨i, j, rfl⟩ : ∃ (i j : Fin 1024), y = ix2 i j := ⟨y 0, y 1, eq_ix2 y⟩
  exact after2 m c t ((flush0_2 t).mp hf) i j

end Cert.Kernel2Ideal.In
-- ==== Proof.In.Value2.lean ====
/- The gradient of the input is the reference's, entry by entry. -/
module

public import proofs.«01_k».proof.Proof.In.Laid2
public import proofs.«01_k».proof.Proof.In.Laid2W
public import proofs.«01_k».proof.Proof.In.Out2
public import proofs.«01_k».proof.Proof.Gen.Reference2Ideal.Read

@[expose] public section

set_option maxRecDepth 16384

noncomputable section

namespace Cert.Kernel2Ideal.In

open Cert.Kernel2Ideal Cert.Kernel2Ideal.Gen Cert.Cols
open Idealize.ShloMosaic Idealize.ShloMosaic.TcCoe Idealize.ShloMosaic.StableHlo Idealize.SL.Sem
open Cert.Reference2Ideal.Read (val_main_v1)

variable (m : (ℓ : Loc nD τ sig) → Buf (Elt Ideal) ℓ) (ρ : Dev nD → PrngReg) (c : Dev nD)

/-- The reference's entry: the product over the projection's columns. -/
theorem ref_at (x1 : FVec Ideal S1024x7840 .f32) (x2 : FVec Ideal S2048x7840 .f32) (i : Fin 2048) (d : Fin 1024) :
    val_main_v1 (F := Ideal) x1 x2 (ix2 i d) = ∑ k : Fin 7840, (x2 (ix2 i k) * x1 (ix2 d k) : EReal) := by
  refine (Cert.Reference2Ideal.Read.val_main_v1_apply x1 x2 _).trans ?_
  refine Finset.sum_congr rfl fun s _ => congrArg₂ (fun a b : EReal => a * b) (congrArg x2 ?_) (congrArg x1 ?_)
  · funext a; fin_cases a <;> rfl
  · funext a; fin_cases a <;> rfl

theorem entry (i : Fin 2048) (d : Fin 1024) : arr (V m c main_v22) (V m c main_v45) (ix2 i d) =
    val_main_v1 (F := Ideal) (m (c.tc.loc main_arg1)) (m (c.tc.loc main_arg2)) (ix2 i d) := by
  refine (arr_at _ _ i d).trans (Eq.trans ?_ (ref_at (m (c.tc.loc main_arg1)) (m (c.tc.loc main_arg2)) i d).symm)
  refine sum_place _ _ (fun k => congrArg₂ (fun a b : EReal => a * b) (VD_place m c i k) (VW_place m c d k)) fun p hp => ?_
  exact (congrArg₂ (fun a b : EReal => a * b) (VD_pad m c i p hp) (VW_pad m c d p hp)).trans (zero_mul _)

theorem all : (dats m 0 c).arrAt 2 cfg0.N = val_main_v1 (F := Ideal) (m (c.tc.loc main_arg1)) (m (c.tc.loc main_arg2)) := by
  rw [out2]
  refine funext fun y => ?_
  rw [eq_ix2 y]
  exact entry m c _ _

/-- The kernel's run: its result is the reference's term, its arguments stay. -/
theorem run_value : θ_run defs (onTc (τ := τ) (main (F := Ideal))) ⟨m, fun _ => 0, ρ⟩ (fun r => ∀ c : Dev nD,
      r.2.mem ((c.tc : Thread nD τ).loc main_v46) = val_main_v1 (F := Ideal) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).1 2).trans (all m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main_quiescent m ρ)

end Cert.Kernel2Ideal.In
-- ==== Proof.In.Laid3.lean ====
/- The columns of the projection's cotangent as the host lays them out for the weight gradient. -/
module

public import proofs.«01_k».proof.Proof.Gen.Kernel3Ideal.Frame
public import proofs.«01_k».proof.Proof.In.Cols
public import Idealize.ShloMosaic.Lib.StableHlo.ReadAt
public import Idealize.ShloMosaic.Lib.Pipeline.ValueKit.Geometry

@[expose] public section

set_option maxRecDepth 16384

noncomputable section

namespace Cert.Kernel3Ideal.In

open Cert.Kernel3Ideal Cert.Kernel3Ideal.Gen Cert.Cols
open Idealize.ShloMosaic Idealize.ShloMosaic.TcCoe Idealize.ShloMosaic.StableHlo

variable (m : (ℓ : Loc nD τ sig) → Buf (Elt Ideal) ℓ) (c : Dev nD) (i : Fin 2048)

theorem V_0 (j : Fin 512) (p : Fin 8192) (hp : (p : ℕ) = 3072 + 256 * (j / 128) + j % 128) : V m c main_v23 (ix2 i p) = m (c.tc.loc main_arg2) (ix2 i ⟨j, by omega⟩) := by
  unfold V
  after_reads_at
  refine Eq.trans (dif_neg (by omega)) ?_
  refine Eq.trans (dif_pos (by omega)) ?_
  after_reads_at
  refine Eq.trans (dif_pos (by omega)) ?_
  after_reads_at
  all_goals
    refine congrArg (m (c.tc.loc main_arg2)) ?_
    blk_ext <;> rfl

theorem V_1 (j : Fin 512) (p : Fin 8192) (hp : (p : ℕ) = 3200 + 256 * (j / 128) + j % 128) : V m c main_v23 (ix2 i p) = m (c.tc.loc main_arg2) (ix2 i ⟨512 + j, by omega⟩) := by
  unfold V
  after_reads_at
  refine Eq.trans (dif_neg (by omega)) ?_
  refine Eq.trans (dif_pos (by omega)) ?_
  after_reads_at
  refine Eq.trans (dif_neg (by omega)) ?_
  after_reads_at
  all_goals
    refine congrArg (m (c.tc.loc main_arg2)) ?_
    blk_ext <;> rfl

theorem V_2 (j : Fin 512) (p : Fin 8192) (hp : (p : ℕ) = 4096 + j) : V m c main_v23 (ix2 i p) = m (c.tc.loc main_arg2) (ix2 i ⟨1024 + j, by omega⟩) := by
  unfold V
  after_reads_at
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem V_3 (j : Fin 512) (p : Fin 8192) (hp : (p : ℕ) = 4608 + 256 * (j / 128) + j % 128) : V m c main_v23 (ix2 i p) = m (c.tc.loc main_arg2) (ix2 i ⟨1536 + j, by omega⟩) := by
  unfold V
  after_reads_at
  refine Eq.trans (dif_neg (by omega)) ?_
  refine Eq.trans (dif_neg (by omega)) ?_
  refine Eq.trans (dif_neg (by omega)) ?_
  refine Eq.trans (dif_pos (by omega)) ?_
  obtain ⟨q, hq⟩ : ∃ q : Fin 1024, (q : ℕ) = p - 3072 - 1024 - 512 := ⟨⟨p - 3072 - 1024 - 512, by omega⟩, rfl⟩
  simp only [← hq]
  after_reads_at
  refine Eq.trans (dif_pos (by omega)) ?_
  after_reads_at
  all_goals
    refine congrArg (m (c.tc.loc main_arg2)) ?_
    blk_ext <;> rfl

theorem V_4 (j : Fin 512) (p : Fin 8192) (hp : (p : ℕ) = 6144 + j) : V m c main_v23 (ix2 i p) = m (c.tc.loc main_arg2) (ix2 i ⟨2048 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem V_5 (j : Fin 512) (p : Fin 8192) (hp : (p : ℕ) = 4736 + 256 * (j / 128) + j % 128) : V m c main_v23 (ix2 i p) = m (c.tc.loc main_arg2) (ix2 i ⟨2560 + j, by omega⟩) := by
  unfold V
  after_reads_at
  refine Eq.trans (dif_neg (by omega)) ?_
  refine Eq.trans (dif_neg (by omega)) ?_
  refine Eq.trans (dif_neg (by omega)) ?_
  refine Eq.trans (dif_pos (by omega)) ?_
  obtain ⟨q, hq⟩ : ∃ q : Fin 1024, (q : ℕ) = p - 3072 - 1024 - 512 := ⟨⟨p - 3072 - 1024 - 512, by omega⟩, rfl⟩
  simp only [← hq]
  after_reads_at
  refine Eq.trans (dif_neg (by omega)) ?_
  after_reads_at
  all_goals
    refine congrArg (m (c.tc.loc main_arg2)) ?_
    blk_ext <;> rfl

theorem V_6 (j : Fin 512) (p : Fin 8192) (hp : (p : ℕ) = 6656 + j) : V m c main_v23 (ix2 i p) = m (c.tc.loc main_arg2) (ix2 i ⟨3072 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem V_7 (j : Fin 384) (p : Fin 8192) (hp : (p : ℕ) = 7680 + j) : V m c main_v23 (ix2 i p) = m (c.tc.loc main_arg2) (ix2 i ⟨3584 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem V_8 (j : Fin 288) (p : Fin 8192) (hp : (p : ℕ) = 7168 + j) : V m c main_v23 (ix2 i p) = m (c.tc.loc main_arg2) (ix2 i ⟨3968 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem V_9 (j : Fin 512) (p : Fin 8192) (hp : (p : ℕ) = 5632 + j) : V m c main_v23 (ix2 i p) = m (c.tc.loc main_arg2) (ix2 i ⟨4256 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg2)) ?_
    blk_ext <;> rfl

theorem V_10 (j : Fin 3072) (p : Fin 8192) (hp : (p : ℕ) = j) : V m c main_v23 (ix2 i p) = m (c.tc.loc main_arg2) (ix2 i ⟨4768 + j, by omega⟩) := by
  unfold V
  after_reads_at
  refine Eq.trans (dif_pos (by omega)) ?_
  after_reads_at
  all_goals
    refine congrArg (m (c.tc.loc main_arg2)) ?_
    blk_ext <;> rfl

/-- The kernel's column of the reference's column `k` is that column. -/
theorem V_place (k : Fin 7840) : V m c main_v23 (ix2 i (place k)) = m (c.tc.loc main_arg2) (ix2 i k) := by
  rcases part k with ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩
  · exact V_0 m c i j _ (congrArg Fin.val (place_0 j))
  · exact V_1 m c i j _ (congrArg Fin.val (place_1 j))
  · exact V_2 m c i j _ (congrArg Fin.val (place_2 j))
  · exact V_3 m c i j _ (congrArg Fin.val (place_3 j))
  · exact V_4 m c i j _ (congrArg Fin.val (place_4 j))
  · exact V_5 m c i j _ (congrArg Fin.val (place_5 j))
  · exact V_6 m c i j _ (congrArg Fin.val (place_6 j))
  · exact V_7 m c i j _ (congrArg Fin.val (place_7 j))
  · exact V_8 m c i j _ (congrArg Fin.val (place_8 j))
  · exact V_9 m c i j _ (congrArg Fin.val (place_9 j))
  · exact V_10 m c i j _ (congrArg Fin.val (place_10 j))

end Cert.Kernel3Ideal.In
-- ==== Proof.In.Tail3.lean ====
/- The weight gradient read back from the kernel's columns. -/
module

public import proofs.«01_k».proof.Proof.Gen.Kernel3Ideal.Frame
public import proofs.«01_k».proof.Proof.In.Cols
public import Idealize.ShloMosaic.Lib.StableHlo.ReadAt
public import Idealize.ShloMosaic.Lib.Pipeline.ValueKit.Geometry

@[expose] public section

set_option maxRecDepth 16384

noncomputable section

namespace Cert.Kernel3Ideal.In

open Cert.Kernel3Ideal Cert.Kernel3Ideal.Gen Cert.Cols
open Idealize.ShloMosaic Idealize.ShloMosaic.TcCoe Idealize.ShloMosaic.StableHlo

variable (W : Valuation τ sig (Elt Ideal)) (i : Fin 1024)

/-- The memory after the host's operations that follow the kernel. -/
abbrev tail (b : Ref sig .tc) : b.ty.Contents (Elt Ideal) := after (hostOps1 (F := Ideal)) W (Proc.devRef .tc b)

theorem tail_0 (j : Fin 512) (k : Fin 7840) (hk : (k : ℕ) = j) : tail W main_v53 (ix2 i k) = W (Proc.devRef .tc main_v24) (ix2 i ⟨3072 + 256 * (j / 128) + j % 128, by omega⟩) := by
  unfold tail
  after_reads_at
  refine Eq.trans (dif_pos (by omega)) ?_
  after_reads_at
  all_goals
    refine congrArg (W (Proc.devRef .tc main_v24)) ?_
    blk_ext <;> rfl

theorem tail_1 (j : Fin 512) (k : Fin 7840) (hk : (k : ℕ) = 512 + j) : tail W main_v53 (ix2 i k) = W (Proc.devRef .tc main_v24) (ix2 i ⟨3200 + 256 * (j / 128) + j % 128, by omega⟩) := by
  unfold tail
  after_reads_at
  refine Eq.trans (dif_neg (by omega)) ?_
  refine Eq.trans (dif_pos (by omega)) ?_
  after_reads_at
  all_goals
    refine congrArg (W (Proc.devRef .tc main_v24)) ?_
    blk_ext <;> rfl

theorem tail_2 (j : Fin 512) (k : Fin 7840) (hk : (k : ℕ) = 1024 + j) : tail W main_v53 (ix2 i k) = W (Proc.devRef .tc main_v24) (ix2 i ⟨4096 + j, by omega⟩) := by
  unfold tail
  after_reads_at
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_3 (j : Fin 512) (k : Fin 7840) (hk : (k : ℕ) = 1536 + j) : tail W main_v53 (ix2 i k) = W (Proc.devRef .tc main_v24) (ix2 i ⟨4608 + 256 * (j / 128) + j % 128, by omega⟩) := by
  unfold tail
  after_reads_at
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_4 (j : Fin 512) (k : Fin 7840) (hk : (k : ℕ) = 2048 + j) : tail W main_v53 (ix2 i k) = W (Proc.devRef .tc main_v24) (ix2 i ⟨6144 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_5 (j : Fin 512) (k : Fin 7840) (hk : (k : ℕ) = 2560 + j) : tail W main_v53 (ix2 i k) = W (Proc.devRef .tc main_v24) (ix2 i ⟨4736 + 256 * (j / 128) + j % 128, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_6 (j : Fin 512) (k : Fin 7840) (hk : (k : ℕ) = 3072 + j) : tail W main_v53 (ix2 i k) = W (Proc.devRef .tc main_v24) (ix2 i ⟨6656 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_7 (j : Fin 384) (k : Fin 7840) (hk : (k : ℕ) = 3584 + j) : tail W main_v53 (ix2 i k) = W (Proc.devRef .tc main_v24) (ix2 i ⟨7680 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_8 (j : Fin 288) (k : Fin 7840) (hk : (k : ℕ) = 3968 + j) : tail W main_v53 (ix2 i k) = W (Proc.devRef .tc main_v24) (ix2 i ⟨7168 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_9 (j : Fin 512) (k : Fin 7840) (hk : (k : ℕ) = 4256 + j) : tail W main_v53 (ix2 i k) = W (Proc.devRef .tc main_v24) (ix2 i ⟨5632 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_10 (j : Fin 3072) (k : Fin 7840) (hk : (k : ℕ) = 4768 + j) : tail W main_v53 (ix2 i k) = W (Proc.devRef .tc main_v24) (ix2 i ⟨j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  after_reads_at
  all_goals
    refine congrArg (W (Proc.devRef .tc main_v24)) ?_
    blk_ext <;> rfl

/-- The host reads the reference's column `k` from the kernel's column of it. -/
theorem tail_place (k : Fin 7840) : tail W main_v53 (ix2 i k) = W (Proc.devRef .tc main_v24) (ix2 i (place k)) := by
  rcases part k with ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩
  · rw [place_0]; exact tail_0 W i j _ rfl
  · rw [place_1]; exact tail_1 W i j _ rfl
  · rw [place_2]; exact tail_2 W i j _ rfl
  · rw [place_3]; exact tail_3 W i j _ rfl
  · rw [place_4]; exact tail_4 W i j _ rfl
  · rw [place_5]; exact tail_5 W i j _ rfl
  · rw [place_6]; exact tail_6 W i j _ rfl
  · rw [place_7]; exact tail_7 W i j _ rfl
  · rw [place_8]; exact tail_8 W i j _ rfl
  · rw [place_9]; exact tail_9 W i j _ rfl
  · rw [place_10]; exact tail_10 W i j _ rfl

end Cert.Kernel3Ideal.In
-- ==== Proof.In.Out3.lean ====
/- The launch of the weight gradient: a product of the input's columns with a tile of the cotangent's at every point. -/
module

public import proofs.«01_k».proof.Proof.Gen.Kernel3Ideal.Frame
public import Idealize.ShloMosaic.Lib.MatmulPlain
public import Idealize.ShloMosaic.Lib.Pipeline.ValueKit

@[expose] public section

set_option maxRecDepth 16384

noncomputable section

namespace Cert.Kernel3Ideal.In

open Cert.Kernel3Ideal Cert.Kernel3Ideal.Gen
open Idealize.ShloMosaic Idealize.ShloMosaic.TcCoe

variable (m : (ℓ : Loc nD τ sig) → Buf (Elt Ideal) ℓ) (c : Dev nD)

theorem pay_at (x0 x1 : FVec Ideal S2048x1024 .bf16) (i j : Fin 1024) :
    k0_pay1 (F := Ideal) x0 x1 (ix2 i j) = ∑ s : Fin 2048, (x0 (ix2 s i) * x1 (ix2 s j) : EReal) := by
  pointwise [k0_pay1]

theorem out_at (x0 x1 : FVec Ideal S2048x1024 .bf16) (i j : Fin 1024) :
    out0_2 (F := Ideal) x0 x1 (ix2 i j) = ∑ s : Fin 2048, (x0 (ix2 s i) * x1 (ix2 s j) : EReal) := by
  frame_out
  exact pay_at x0 x1 i j

theorem idx : ∀ t : Fin cfg0.N, (cfg0.win 0).index t = ![0, 0] ∧ (cfg0.win 1).index t = ![0, t.val] ∧ (cfg0.win 2).index t = ![0, t.val] := by
  decide +kernel

theorem blk0 (x : (⟨S2048x1024, .bf16⟩ : BufTy).Contents (Elt Ideal)) (t : Fin cfg0.N) (s : Fin 2048) (i : Fin 1024) :
    ((cfg0.win 0).blk t).view.read (Elt Ideal) x (ix2 s i) = x (ix2 s i) := by
  have := idx t
  refine congrArg x ?_
  blk_ext [this]

theorem blk1 (x : (⟨S2048x8192, .bf16⟩ : BufTy).Contents (Elt Ideal)) (t : Fin 8) (s : Fin 2048) (j : Fin 1024) :
    ((cfg0.win 1).blk t).view.read (Elt Ideal) x (ix2 s j) = x (ix2 s ⟨1024 * t + j, by omega⟩) := by
  have := idx t
  refine congrArg x ?_
  blk_ext [this]

theorem place2 (x : FVec Ideal S1024x8192 .bf16) (t : Fin 8) (i j : Fin 1024) :
    x (((cfg0.win 2).blk t).view.emb (ix2 i j)) = x (ix2 i ⟨1024 * t + j, by omega⟩) := by
  have := idx t
  refine congrArg x ?_
  blk_ext [this]

/-- The product over the rows, of all columns. -/
def arr (a : FVec Ideal S2048x1024 .bf16) (b : FVec Ideal S2048x8192 .bf16) : FVec Ideal S1024x8192 .bf16 :=
  fun y => ∑ s : Fin 2048, (a (ix2 s (y 0)) * b (ix2 s (y 1)) : EReal)

theorem arr_at (a : FVec Ideal S2048x1024 .bf16) (b : FVec Ideal S2048x8192 .bf16) (i : Fin 1024) (p : Fin 8192) :
    arr a b (ix2 i p) = ∑ s : Fin 2048, (a (ix2 s i) * b (ix2 s p) : EReal) := rfl

/-- What a point leaves, of the arrays its windows read. -/
theorem point (a : FVec Ideal S2048x1024 .bf16) (b : FVec Ideal S2048x8192 .bf16) (t : Fin 8) (i j : Fin 1024) :
    out0_2 (F := Ideal) (((cfg0.win 0).blk t).view.read (Elt Ideal) a) (((cfg0.win 1).blk t).view.read (Elt Ideal) b) (ix2 i j) =
      arr a b (((cfg0.win 2).blk t).view.emb (ix2 i j)) := by
  refine (out_at _ _ i j).trans (Eq.trans ?_ ((place2 (arr a b) t i j).trans (arr_at a b _ _)).symm)
  exact Finset.sum_congr rfl fun s _ => congrArg₂ (fun a b : EReal => a * b) (blk0 a t s i) (blk1 b t s j)

theorem cover2 : (cfg0.win 2).Covers := by decide +kernel

theorem after2 (t : Fin cfg0.N) (i j : Fin 1024) : (dats m 0 c).after 2 t (ix2 i j) =
    arr (V m c main_v0) (V m c main_v23) (((cfg0.win 2).blk t).view.emb (ix2 i j)) := by
  rw [after0_2]
  exact point (V m c main_v0) (V m c main_v23) t i j

/-- The launch leaves the product. -/
theorem out2 : (dats m 0 c).arrAt 2 cfg0.N = arr (V m c main_v0) (V m c main_v23) := by
  refine (dats m 0 c).arrAt_eq_of_covers 2 (arr (V m c main_v0) (V m c main_v23)) cover2 fun t hf y => ?_
  obtain ⟨i, j, rfl⟩ : ∃ (i j : Fin 1024), y = ix2 i j := ⟨y 0, y 1, eq_ix2 y⟩
  exact after2 m c t i j

end Cert.Kernel3Ideal.In
-- ==== Proof.In.Value3.lean ====
/- The weight gradient is the reference's, entry by entry. -/
module

public import proofs.«01_k».proof.Proof.In.Laid3
public import proofs.«01_k».proof.Proof.In.Tail3
public import proofs.«01_k».proof.Proof.In.Out3
public import proofs.«01_k».proof.Proof.Gen.Reference3Ideal.Read

@[expose] public section

set_option maxRecDepth 16384

noncomputable section

namespace Cert.Kernel3Ideal.In

open Cert.Kernel3Ideal Cert.Kernel3Ideal.Gen Cert.Cols
open Idealize.ShloMosaic Idealize.ShloMosaic.TcCoe Idealize.ShloMosaic.StableHlo Idealize.SL.Sem
open Cert.Reference3Ideal.Read (val_main_v2)

variable (m : (ℓ : Loc nD τ sig) → Buf (Elt Ideal) ℓ) (ρ : Dev nD → PrngReg) (c : Dev nD)

theorem V_u (s : Fin 2048) (d : Fin 1024) : V m c main_v0 (ix2 s d) = m (c.tc.loc main_arg0) (ix2 s d) := by
  unfold V
  after_reads_at

/-- The reference's entry: the product over the rows. -/
theorem ref_at (x0 : FVec Ideal S2048x1024 .f32) (x2 : FVec Ideal S2048x7840 .f32) (d : Fin 1024) (p : Fin 7840) :
    val_main_v2 (F := Ideal) x0 x2 (ix2 d p) = ∑ s : Fin 2048, (x2 (ix2 s p) * x0 (ix2 s d) : EReal) := by
  refine (Cert.Reference3Ideal.Read.val_main_v2_apply (F := Ideal) x0 x2 _).trans ((Cert.Reference3Ideal.Read.val_main_v1_apply x0 x2 _).trans ?_)
  refine Finset.sum_congr rfl fun s _ => congrArg₂ (fun a b : EReal => a * b) (congrArg x2 ?_) (congrArg x0 ?_)
  · funext a; fin_cases a <;> rfl
  · funext a; fin_cases a <;> rfl

/-- The memory when the kernel has ended. -/
abbrev ended : Valuation τ sig (Elt Ideal) := Pipeline.withArrays spec0 c (V0 m c) fun w => (dats m 0 c).arrAt w cfg0.N

theorem arr_inj : Function.Injective (Pipeline.arrRef spec0) := by decide

theorem ended2 : ended m c (Proc.devRef .tc main_v24) = arr (V m c main_v0) (V m c main_v23) :=
  (Pipeline.withArrays_arr spec0 arr_inj c _ _ 2).trans (out2 m c)

theorem entry (d : Fin 1024) (p : Fin 7840) : tail (ended m c) main_v53 (ix2 d p) =
    val_main_v2 (F := Ideal) (m (c.tc.loc main_arg0)) (m (c.tc.loc main_arg2)) (ix2 d p) := by
  rw [tail_place, ended2]
  refine (arr_at _ _ d (place p)).trans (Eq.trans ?_ (ref_at (m (c.tc.loc main_arg0)) (m (c.tc.loc main_arg2)) d p).symm)
  exact Finset.sum_congr rfl fun s _ => (congrArg₂ (fun a b : EReal => a * b) (V_u m c s d) (V_place m c s p)).trans (mul_comm _ _)

theorem tail_eq (b : Ref sig .tc) : Pipeline.afterTail₀ cfgs (dats m) 0 (V0 m) [hostOps1] c b = tail (ended m c) b := by
  unfold Pipeline.afterTail₀ tail ended
  rw [List.flatten_singleton]

theorem all : Pipeline.afterTail₀ cfgs (dats m) 0 (V0 m) [hostOps1] c main_v53 =
    val_main_v2 (F := Ideal) (m (c.tc.loc main_arg0)) (m (c.tc.loc main_arg2)) := by
  rw [tail_eq]
  refine funext fun y => ?_
  rw [eq_ix2 y]
  exact entry m c _ _

/-- The kernel's run: its result is the reference's term, its arguments stay. -/
theorem run_value : θ_run defs (onTc (τ := τ) (main (F := Ideal))) ⟨m, fun _ => 0, ρ⟩ (fun r => ∀ c : Dev nD,
      r.2.mem ((c.tc : Thread nD τ).loc main_v53) = val_main_v2 (F := Ideal) (m (c.tc.loc main_arg0)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v53 (Pipeline.mem_restRefs_of main_v53 (by decide) (by decide))).trans (all m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩)
    (run_main_quiescent m ρ)

end Cert.Kernel3Ideal.In
-- ==== Proof.In.Out4.lean ====
/- The launch of a branch's two gradients: at each band of rows the gradient of the rows, and the weight gradient added up. -/
module

public import proofs.«01_k».proof.Proof.Gen.Kernel4Ideal.Frame
public import Idealize.ShloMosaic.Lib.MatmulPlain
public import Idealize.ShloMosaic.Lib.Pipeline.ValueKit
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Kernel4Ideal.In

open Cert.Kernel4Ideal Cert.Kernel4Ideal.Gen
open Idealize.ShloMosaic Idealize.ShloMosaic.TcCoe

variable (m : (ℓ : Loc nD τ sig) → Buf (Elt Ideal) ℓ) (c : Dev nD)

/-- One band's part of the weight gradient. -/
def dot (x0 : FVec Ideal S1024x1024 .bf16) (x2 : FVec Ideal S1024x512 .bf16) (i : Fin 512) (j : Fin 1024) : EReal :=
  ∑ s : Fin 1024, (x2 (ix2 s i) * x0 (ix2 s j) : EReal)

theorem pay1_eq (x0 : FVec Ideal S1024x1024 .bf16) : k0_pay1 (F := Ideal) x0 = x0 := by
  unfold k0_pay1
  exact shapeCast_self _ _

/-- The gradient of a band of rows. -/
theorem pay2_at (x0 : FVec Ideal S1024x1024 .bf16) (x1 : FVec Ideal S512x1024 .bf16) (i : Fin 1024) (j : Fin 512) :
    k0_pay2 (F := Ideal) x0 x1 (ix2 i j) = ∑ s : Fin 1024, (x0 (ix2 i s) * x1 (ix2 j s) : EReal) := by
  unfold k0_pay2
  rw [pay1_eq]
  pointwise

theorem pay3_at (x0 : FVec Ideal S1024x1024 .bf16) (x2 : FVec Ideal S1024x512 .bf16) (i : Fin 512) (j : Fin 1024) :
    k0_pay3 (F := Ideal) x0 x2 (ix2 i j) = dot x0 x2 i j := by
  unfold k0_pay3 dot
  rw [pay1_eq]
  pointwise

theorem pay4_at (x0 : FVec Ideal S1024x1024 .bf16) (x2 : FVec Ideal S1024x512 .bf16) (i : Fin 512) (j : Fin 1024) :
    k0_pay4 (F := Ideal) x0 x2 (ix2 i j) = dot x0 x2 i j := by
  refine Eq.trans ?_ (pay3_at x0 x2 i j)
  unfold k0_pay4
  generalize k0_pay3 (F := Ideal) x0 x2 = y
  pointwise

theorem pay5_at (x0 : FVec Ideal S1024x1024 .bf16) (x2 : FVec Ideal S1024x512 .bf16) (a : FVec Ideal S512x1024 .f32) (i : Fin 512) (j : Fin 1024) :
    k0_pay5 (F := Ideal) x0 x2 a (ix2 i j) = (a (ix2 i j) + dot x0 x2 i j : EReal) := by
  rw [← pay3_at x0 x2 i j]
  unfold k0_pay5
  generalize k0_pay3 (F := Ideal) x0 x2 = y
  pointwise

theorem pay6_at (a : FVec Ideal S512x1024 .f32) (i : Fin 512) (j : Fin 1024) : k0_pay6 (F := Ideal) a (ix2 i j) = a (ix2 i j) := by
  pointwise [k0_pay6]

theorem rows_at (t : Fin cfg0.N) (i : Fin 1024) (j : Fin 512) : (outsAt0 m c t.val t.isLt).1 (ix2 i j) =
    k0_pay2 (F := Ideal) (iblk m c 0 t) (iblk m c 1 t) (ix2 i j) := by
  by_cases h : t.val % 2 = 0
  · rw [outsAt0_A m c t h (by omega) (by omega)]
    frame_out
  · rw [outsAt0_B m c t h (by omega) (by omega)]
    frame_out

theorem accA (t : Fin cfg0.N) (h : t.val % 2 = 0) (i : Fin 512) (j : Fin 1024) :
    (outsAt0 m c t.val t.isLt).2.2 (ix2 i j) = dot (iblk m c 0 t) (iblk m c 2 t) i j := by
  rw [outsAt0_A m c t h (by omega) (by omega)]
  frame_out
  exact pay4_at _ _ i j

theorem accB (t : Fin cfg0.N) (h : ¬ t.val % 2 = 0) (i : Fin 512) (j : Fin 1024) :
    (outsAt0 m c t.val t.isLt).2.2 (ix2 i j) = ((outsAt0 m c (t.val - 1) (Nat.lt_of_le_of_lt (Nat.sub_le _ _) t.isLt)).2.2 (ix2 i j)
      + dot (iblk m c 0 t) (iblk m c 2 t) i j : EReal) := by
  rw [outsAt0_B m c t h (by omega) (by omega)]
  frame_out
  rw [read_unread_whole]
  exact pay5_at _ _ _ i j

theorem outB (t : Fin cfg0.N) (h : t.val % 2 = 1) (i : Fin 512) (j : Fin 1024) :
    (outsAt0 m c t.val t.isLt).2.1 (ix2 i j) = (outsAt0 m c t.val t.isLt).2.2 (ix2 i j) := by
  rw [outsAt0_B m c t (by omega) h h]
  frame_out
  exact pay6_at _ i j

theorem idx : ∀ t : Fin cfg0.N, (cfg0.win 0).index t = ![t.val, 0] ∧ (cfg0.win 1).index t = ![0, 0] ∧ (cfg0.win 2).index t = ![t.val, 0]
    ∧ (cfg0.win 3).index t = ![t.val, 0] ∧ (cfg0.win 4).index t = ![0, 0] := by
  decide +kernel

theorem blk0 (x : (⟨S2048x1024, .bf16⟩ : BufTy).Contents (Elt Ideal)) (t : Fin 2) (i j : Fin 1024) :
    ((cfg0.win 0).blk t).view.read (Elt Ideal) x (ix2 i j) = x (ix2 ⟨t * 1024 + i, by omega⟩ j) := by
  have := idx t
  refine congrArg x ?_
  blk_ext [this]

theorem blk1 (x : (⟨S512x1024, .bf16⟩ : BufTy).Contents (Elt Ideal)) (t : Fin 2) (i : Fin 512) (j : Fin 1024) :
    ((cfg0.win 1).blk t).view.read (Elt Ideal) x (ix2 i j) = x (ix2 i j) := by
  have := idx t
  refine congrArg x ?_
  blk_ext [this]

theorem blk2 (x : (⟨S2048x512, .bf16⟩ : BufTy).Contents (Elt Ideal)) (t : Fin 2) (i : Fin 1024) (j : Fin 512) :
    ((cfg0.win 2).blk t).view.read (Elt Ideal) x (ix2 i j) = x (ix2 ⟨t * 1024 + i, by omega⟩ j) := by
  have := idx t
  refine congrArg x ?_
  blk_ext [this]

theorem place3 (x : FVec Ideal S2048x512 .bf16) (t : Fin 2) (i : Fin 1024) (j : Fin 512) :
    x (((cfg0.win 3).blk t).view.emb (ix2 i j)) = x (ix2 ⟨t * 1024 + i, by omega⟩ j) := by
  have := idx t
  refine congrArg x ?_
  blk_ext [this]

theorem place4 (x : FVec Ideal S512x1024 .bf16) (t : Fin 2) (i : Fin 512) (j : Fin 1024) :
    x (((cfg0.win 4).blk t).view.emb (ix2 i j)) = x (ix2 i j) := by
  have := idx t
  refine congrArg x ?_
  blk_ext [this]

/-- The gradient of the rows. -/
def arrR (d : FVec Ideal S2048x1024 .bf16) (w : FVec Ideal S512x1024 .bf16) : FVec Ideal S2048x512 .bf16 :=
  fun y => ∑ s : Fin 1024, (d (ix2 (y 0) s) * w (ix2 (y 1) s) : EReal)

theorem arrR_at (d : FVec Ideal S2048x1024 .bf16) (w : FVec Ideal S512x1024 .bf16) (i : Fin 2048) (j : Fin 512) :
    arrR d w (ix2 i j) = ∑ s : Fin 1024, (d (ix2 i s) * w (ix2 j s) : EReal) := rfl

/-- The weight gradient. -/
def arrW (d : FVec Ideal S2048x1024 .bf16) (h : FVec Ideal S2048x512 .bf16) : FVec Ideal S512x1024 .bf16 :=
  fun y => ∑ s : Fin 2048, (h (ix2 s (y 0)) * d (ix2 s (y 1)) : EReal)

theorem arrW_at (d : FVec Ideal S2048x1024 .bf16) (h : FVec Ideal S2048x512 .bf16) (i : Fin 512) (j : Fin 1024) :
    arrW d h (ix2 i j) = ∑ s : Fin 2048, (h (ix2 s i) * d (ix2 s j) : EReal) := rfl

/-- What a point leaves of the rows' gradient, of the arrays its windows read. -/
theorem point3 (d : FVec Ideal S2048x1024 .bf16) (w : FVec Ideal S512x1024 .bf16) (t : Fin 2) (i : Fin 1024) (j : Fin 512) :
    k0_pay2 (F := Ideal) (((cfg0.win 0).blk t).view.read (Elt Ideal) d) (((cfg0.win 1).blk t).view.read (Elt Ideal) w) (ix2 i j) =
      arrR d w (((cfg0.win 3).blk t).view.emb (ix2 i j)) := by
  refine (pay2_at _ _ i j).trans (Eq.trans ?_ ((place3 (arrR d w) t i j).trans (arrR_at d w _ _)).symm)
  exact Finset.sum_congr rfl fun s _ => congrArg₂ (fun a b : EReal => a * b) (blk0 d t i s) (blk1 w t j s)

/-- One band's part, of the arrays its windows read. -/
theorem dot_at (d : FVec Ideal S2048x1024 .bf16) (h : FVec Ideal S2048x512 .bf16) (t : Fin 2) (i : Fin 512) (j : Fin 1024) :
    dot (((cfg0.win 0).blk t).view.read (Elt Ideal) d) (((cfg0.win 2).blk t).view.read (Elt Ideal) h) i j =
      ∑ l : Fin 1024, (h (ix2 ⟨t * 1024 + l, by omega⟩ i) * d (ix2 ⟨t * 1024 + l, by omega⟩ j) : EReal) :=
  Finset.sum_congr rfl fun l _ => congrArg₂ (fun a b : EReal => a * b) (blk2 h t l i) (blk0 d t l j)

/-- The two bands together are all rows. -/
theorem parts (d : FVec Ideal S2048x1024 .bf16) (h : FVec Ideal S2048x512 .bf16) (i : Fin 512) (j : Fin 1024) :
    (∑ t : Fin 2, ∑ l : Fin 1024, (h (ix2 ⟨t * 1024 + l, by omega⟩ i) * d (ix2 ⟨t * 1024 + l, by omega⟩ j) : EReal)) =
      arrW d h (ix2 i j) :=
  Fin.sum_mul_add_fin 2 1024 fun p : Fin 2048 => (h (ix2 p i) * d (ix2 p j) : EReal)

theorem cover3 : (cfg0.win 3).Covers := by decide +kernel
theorem cover4 : (cfg0.win 4).Covers := by decide +kernel

/-- What the scratch array holds at the last band. -/
theorem acc (t : Fin cfg0.N) (h : t.val % 2 = 1) (i : Fin 512) (j : Fin 1024) : (outsAt0 m c t.val t.isLt).2.2 (ix2 i j) =
    (0 : EReal) + ∑ s : Fin 2, dot (iblk m c 0 ⟨2 * (t.val / 2) + s.val, Pipeline.run_point_lt_of_flush t h s⟩)
      (iblk m c 2 ⟨2 * (t.val / 2) + s.val, Pipeline.run_point_lt_of_flush t h s⟩) i j :=
  Pipeline.eq_sum_fin_of_reset_step_of_flush (M := EReal) (fun n h => (outsAt0 m c n h).2.2 (ix2 i j)) 2 0
    (fun t => dot (iblk m c 0 t) (iblk m c 2 t) i j)
    (fun t h => (accA m c t h i j).trans (zero_add _).symm) (fun t h => accB m c t h i j) t h

theorem after3 (t : Fin cfg0.N) (i : Fin 1024) (j : Fin 512) : (dats m 0 c).after 3 t (ix2 i j) =
    arrR (V m c main_v0) (V m c main_v1) (((cfg0.win 3).blk t).view.emb (ix2 i j)) := by
  rw [after0_3]
  exact (rows_at m c t i j).trans (point3 (V m c main_v0) (V m c main_v1) t i j)

theorem after4 (t : Fin cfg0.N) (h : t.val % 2 = 1) (i : Fin 512) (j : Fin 1024) : (dats m 0 c).after 4 t (ix2 i j) =
    arrW (V m c main_v0) (V m c main_v2) (((cfg0.win 4).blk t).view.emb (ix2 i j)) := by
  have hN : t.val < 2 := t.isLt
  have h0 : t.val / 2 = 0 := by omega
  rw [after0_4]
  refine (outB m c t h i j).trans ((acc m c t h i j).trans ((zero_add _).trans
    (Eq.trans ?_ (place4 (arrW (V m c main_v0) (V m c main_v2)) t i j).symm)))
  refine Eq.trans ?_ (parts (V m c main_v0) (V m c main_v2) i j)
  refine Finset.sum_congr rfl fun s _ => ?_
  have e : (⟨2 * (t.val / 2) + s.val, Pipeline.run_point_lt_of_flush t h s⟩ : Fin cfg0.N) = s :=
    Fin.ext (show 2 * (t.val / 2) + s.val = s.val by omega)
  rw [e]
  exact dot_at (V m c main_v0) (V m c main_v2) s i j

/-- The launch leaves the two gradients. -/
theorem out3 : (dats m 0 c).arrAt 3 cfg0.N = arrR (V m c main_v0) (V m c main_v1) := by
  refine (dats m 0 c).arrAt_eq_of_covers 3 (arrR (V m c main_v0) (V m c main_v1)) cover3 fun t hf y => ?_
  obtain ⟨i, j, rfl⟩ : ∃ (i : Fin 1024) (j : Fin 512), y = ix2 i j := ⟨y 0, y 1, eq_ix2 y⟩
  exact after3 m c t i j

theorem out4 : (dats m 0 c).arrAt 4 cfg0.N = arrW (V m c main_v0) (V m c main_v2) := by
  refine (dats m 0 c).arrAt_eq_of_covers 4 (arrW (V m c main_v0) (V m c main_v2)) cover4 fun t hf y => ?_
  obtain ⟨i, j, rfl⟩ : ∃ (i : Fin 512) (j : Fin 1024), y = ix2 i j := ⟨y 0, y 1, eq_ix2 y⟩
  exact after4 m c t ((flush0_4 t).mp hf) i j

end Cert.Kernel4Ideal.In
-- ==== Proof.In.Value4.lean ====
/- The two gradients of a branch's product are the reference's, entry by entry. -/
module

public import proofs.«01_k».proof.Proof.In.Out4
public import proofs.«01_k».proof.Proof.Gen.Reference4Ideal.Read
public import Idealize.ShloMosaic.Lib.StableHlo.ReadAt

@[expose] public section

set_option maxRecDepth 16384

noncomputable section

namespace Cert.Kernel4Ideal.In

open Cert.Kernel4Ideal Cert.Kernel4Ideal.Gen
open Idealize.ShloMosaic Idealize.ShloMosaic.TcCoe Idealize.ShloMosaic.StableHlo Idealize.SL.Sem
open Cert.Reference4Ideal.Read (val_main_v2 val_main_v3)

variable (m : (ℓ : Loc nD τ sig) → Buf (Elt Ideal) ℓ) (ρ : Dev nD → PrngReg) (c : Dev nD)

theorem V_d (s : Fin 2048) (j : Fin 1024) : V m c main_v0 (ix2 s j) = m (c.tc.loc main_arg2) (ix2 s j) := by
  unfold V
  after_reads_at

theorem V_w (i : Fin 512) (j : Fin 1024) : V m c main_v1 (ix2 i j) = m (c.tc.loc main_arg1) (ix2 i j) := by
  unfold V
  after_reads_at

theorem V_h (s : Fin 2048) (i : Fin 512) : V m c main_v2 (ix2 s i) = m (c.tc.loc main_arg0) (ix2 s i) := by
  unfold V
  after_reads_at

/-- The reference's entries. -/
theorem refR_at (x1 : FVec Ideal S512x1024 .f32) (x2 : FVec Ideal S2048x1024 .f32) (i : Fin 2048) (j : Fin 512) :
    val_main_v3 (F := Ideal) x1 x2 (ix2 i j) = ∑ s : Fin 1024, (x2 (ix2 i s) * x1 (ix2 j s) : EReal) := by
  refine (Cert.Reference4Ideal.Read.val_main_v3_apply x1 x2 _).trans ?_
  refine Finset.sum_congr rfl fun s _ => congrArg₂ (fun a b : EReal => a * b) (congrArg x2 ?_) (congrArg x1 ?_)
  · funext a; fin_cases a <;> rfl
  · funext a; fin_cases a <;> rfl

theorem refW_at (x0 : FVec Ideal S2048x512 .f32) (x2 : FVec Ideal S2048x1024 .f32) (i : Fin 512) (j : Fin 1024) :
    val_main_v2 (F := Ideal) x0 x2 (ix2 i j) = ∑ s : Fin 2048, (x2 (ix2 s j) * x0 (ix2 s i) : EReal) := by
  refine (Cert.Reference4Ideal.Read.val_main_v2_apply (F := Ideal) x0 x2 _).trans ((Cert.Reference4Ideal.Read.val_main_v1_apply x0 x2 _).trans ?_)
  refine Finset.sum_congr rfl fun s _ => congrArg₂ (fun a b : EReal => a * b) (congrArg x2 ?_) (congrArg x0 ?_)
  · funext a; fin_cases a <;> rfl
  · funext a; fin_cases a <;> rfl

/-- The memory when the kernel has ended. -/
abbrev ended : Valuation τ sig (Elt Ideal) := Pipeline.withArrays spec0 c (V0 m c) fun w => (dats m 0 c).arrAt w cfg0.N

/-- The memory after the host's operations that follow the kernel. -/
abbrev tail (W : Valuation τ sig (Elt Ideal)) (b : Ref sig .tc) : b.ty.Contents (Elt Ideal) := after (hostOps1 (F := Ideal)) W (Proc.devRef .tc b)

theorem tail_eq (b : Ref sig .tc) : Pipeline.afterTail₀ cfgs (dats m) 0 (V0 m) [hostOps1] c b = tail (ended m c) b := by
  unfold Pipeline.afterTail₀ tail ended
  rw [List.flatten_singleton]

theorem tail_R (W : Valuation τ sig (Elt Ideal)) (i : Fin 2048) (j : Fin 512) :
    tail W main_v4 (ix2 i j) = W (Proc.devRef .tc main_v3_0) (ix2 i j) := by
  unfold tail
  after_reads_at

theorem tail_W (W : Valuation τ sig (Elt Ideal)) (i : Fin 512) (j : Fin 1024) :
    tail W main_v5 (ix2 i j) = W (Proc.devRef .tc main_v3_1) (ix2 i j) := by
  unfold tail
  after_reads_at

theorem arr_inj : Function.Injective (Pipeline.arrRef spec0) := by decide

theorem ended3 : ended m c (Proc.devRef .tc main_v3_0) = arrR (V m c main_v0) (V m c main_v1) :=
  (Pipeline.withArrays_arr spec0 arr_inj c _ _ 3).trans (out3 m c)

theorem ended4 : ended m c (Proc.devRef .tc main_v3_1) = arrW (V m c main_v0) (V m c main_v2) :=
  (Pipeline.withArrays_arr spec0 arr_inj c _ _ 4).trans (out4 m c)

theorem entryR (i : Fin 2048) (j : Fin 512) : tail (ended m c) main_v4 (ix2 i j) =
    val_main_v3 (F := Ideal) (m (c.tc.loc main_arg1)) (m (c.tc.loc main_arg2)) (ix2 i j) := by
  rw [tail_R, ended3]
  refine (arrR_at _ _ i j).trans (Eq.trans ?_ (refR_at (m (c.tc.loc main_arg1)) (m (c.tc.loc main_arg2)) i j).symm)
  exact Finset.sum_congr rfl fun s _ => congrArg₂ (fun a b : EReal => a * b) (V_d m c i s) (V_w m c j s)

theorem entryW (i : Fin 512) (j : Fin 1024) : tail (ended m c) main_v5 (ix2 i j) =
    val_main_v2 (F := Ideal) (m (c.tc.loc main_arg0)) (m (c.tc.loc main_arg2)) (ix2 i j) := by
  rw [tail_W, ended4]
  refine (arrW_at _ _ i j).trans (Eq.trans ?_ (refW_at (m (c.tc.loc main_arg0)) (m (c.tc.loc main_arg2)) i j).symm)
  exact Finset.sum_congr rfl fun s _ => (congrArg₂ (fun a b : EReal => a * b) (V_h m c s i) (V_d m c s j)).trans (mul_comm _ _)

theorem allR : Pipeline.afterTail₀ cfgs (dats m) 0 (V0 m) [hostOps1] c main_v4 =
    val_main_v3 (F := Ideal) (m (c.tc.loc main_arg1)) (m (c.tc.loc main_arg2)) := by
  rw [tail_eq]
  refine funext fun y => ?_
  rw [eq_ix2 y]
  exact entryR m c _ _

theorem allW : Pipeline.afterTail₀ cfgs (dats m) 0 (V0 m) [hostOps1] c main_v5 =
    val_main_v2 (F := Ideal) (m (c.tc.loc main_arg0)) (m (c.tc.loc main_arg2)) := by
  rw [tail_eq]
  refine funext fun y => ?_
  rw [eq_ix2 y]
  exact entryW m c _ _

/-- The kernel's run: its results are the reference's terms, its arguments stay. -/
theorem run_value : θ_run defs (onTc (τ := τ) (main (F := Ideal))) ⟨m, fun _ => 0, ρ⟩ (fun r => ∀ c : Dev nD,
      r.2.mem ((c.tc : Thread nD τ).loc main_v4) = val_main_v3 (F := Ideal) (m (c.tc.loc main_arg1)) (m (c.tc.loc main_arg2))
      ∧ r.2.mem ((c.tc : Thread nD τ).loc main_v5) = val_main_v2 (F := Ideal) (m (c.tc.loc main_arg0)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v4 (Pipeline.mem_restRefs_of main_v4 (by decide) (by decide))).trans (allR m c),
      ((h.1 c).2 main_v5 (Pipeline.mem_restRefs_of main_v5 (by decide) (by decide))).trans (allW m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩)
    (run_main_quiescent m ρ)

end Cert.Kernel4Ideal.In
-- ==== Proof.In.Out5.lean ====
/- The launch of the output's two gradients: at each band of rows the gradient of the rows, and the weight gradient added up. -/
module

public import proofs.«01_k».proof.Proof.Gen.Kernel5Ideal.Frame
public import Idealize.ShloMosaic.Lib.MatmulPlain
public import Idealize.ShloMosaic.Lib.Pipeline.ValueKit
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Kernel5Ideal.In

open Cert.Kernel5Ideal Cert.Kernel5Ideal.Gen
open Idealize.ShloMosaic Idealize.ShloMosaic.TcCoe

variable (m : (ℓ : Loc nD τ sig) → Buf (Elt Ideal) ℓ) (c : Dev nD)

/-- One band's part of the weight gradient. -/
def dot (x0 : FVec Ideal S1024x1024 .bf16) (x2 : FVec Ideal S1024x1024 .bf16) (i : Fin 1024) (j : Fin 1024) : EReal :=
  ∑ s : Fin 1024, (x2 (ix2 s i) * x0 (ix2 s j) : EReal)

theorem pay1_eq (x0 : FVec Ideal S1024x1024 .bf16) : k0_pay1 (F := Ideal) x0 = x0 := by
  unfold k0_pay1
  exact shapeCast_self _ _

/-- The gradient of a band of rows. -/
theorem pay2_at (x0 : FVec Ideal S1024x1024 .bf16) (x1 : FVec Ideal S1024x1024 .bf16) (i : Fin 1024) (j : Fin 1024) :
    k0_pay2 (F := Ideal) x0 x1 (ix2 i j) = ∑ s : Fin 1024, (x0 (ix2 i s) * x1 (ix2 j s) : EReal) := by
  unfold k0_pay2
  rw [pay1_eq]
  pointwise

theorem pay3_at (x0 : FVec Ideal S1024x1024 .bf16) (x2 : FVec Ideal S1024x1024 .bf16) (i : Fin 1024) (j : Fin 1024) :
    k0_pay3 (F := Ideal) x0 x2 (ix2 i j) = dot x0 x2 i j := by
  unfold k0_pay3 dot
  rw [pay1_eq]
  pointwise

theorem pay4_at (x0 : FVec Ideal S1024x1024 .bf16) (x2 : FVec Ideal S1024x1024 .bf16) (i : Fin 1024) (j : Fin 1024) :
    k0_pay4 (F := Ideal) x0 x2 (ix2 i j) = dot x0 x2 i j := by
  refine Eq.trans ?_ (pay3_at x0 x2 i j)
  unfold k0_pay4
  generalize k0_pay3 (F := Ideal) x0 x2 = y
  pointwise

theorem pay5_at (x0 : FVec Ideal S1024x1024 .bf16) (x2 : FVec Ideal S1024x1024 .bf16) (a : FVec Ideal S1024x1024 .f32) (i : Fin 1024) (j : Fin 1024) :
    k0_pay5 (F := Ideal) x0 x2 a (ix2 i j) = (a (ix2 i j) + dot x0 x2 i j : EReal) := by
  rw [← pay3_at x0 x2 i j]
  unfold k0_pay5
  generalize k0_pay3 (F := Ideal) x0 x2 = y
  pointwise

theorem pay6_at (a : FVec Ideal S1024x1024 .f32) (i : Fin 1024) (j : Fin 1024) : k0_pay6 (F := Ideal) a (ix2 i j) = a (ix2 i j) := by
  pointwise [k0_pay6]

theorem rows_at (t : Fin cfg0.N) (i : Fin 1024) (j : Fin 1024) : (outsAt0 m c t.val t.isLt).1 (ix2 i j) =
    k0_pay2 (F := Ideal) (iblk m c 0 t) (iblk m c 1 t) (ix2 i j) := by
  by_cases h : t.val % 2 = 0
  · rw [outsAt0_A m c t h (by omega) (by omega)]
    frame_out
  · rw [outsAt0_B m c t h (by omega) (by omega)]
    frame_out

theorem accA (t : Fin cfg0.N) (h : t.val % 2 = 0) (i : Fin 1024) (j : Fin 1024) :
    (outsAt0 m c t.val t.isLt).2.2 (ix2 i j) = dot (iblk m c 0 t) (iblk m c 2 t) i j := by
  rw [outsAt0_A m c t h (by omega) (by omega)]
  frame_out
  exact pay4_at _ _ i j

theorem accB (t : Fin cfg0.N) (h : ¬ t.val % 2 = 0) (i : Fin 1024) (j : Fin 1024) :
    (outsAt0 m c t.val t.isLt).2.2 (ix2 i j) = ((outsAt0 m c (t.val - 1) (Nat.lt_of_le_of_lt (Nat.sub_le _ _) t.isLt)).2.2 (ix2 i j)
      + dot (iblk m c 0 t) (iblk m c 2 t) i j : EReal) := by
  rw [outsAt0_B m c t h (by omega) (by omega)]
  frame_out
  rw [read_unread_whole]
  exact pay5_at _ _ _ i j

theorem outB (t : Fin cfg0.N) (h : t.val % 2 = 1) (i : Fin 1024) (j : Fin 1024) :
    (outsAt0 m c t.val t.isLt).2.1 (ix2 i j) = (outsAt0 m c t.val t.isLt).2.2 (ix2 i j) := by
  rw [outsAt0_B m c t (by omega) h h]
  frame_out
  exact pay6_at _ i j

theorem idx : ∀ t : Fin cfg0.N, (cfg0.win 0).index t = ![t.val, 0] ∧ (cfg0.win 1).index t = ![0, 0] ∧ (cfg0.win 2).index t = ![t.val, 0]
    ∧ (cfg0.win 3).index t = ![t.val, 0] ∧ (cfg0.win 4).index t = ![0, 0] := by
  decide +kernel

theorem blk0 (x : (⟨S2048x1024, .bf16⟩ : BufTy).Contents (Elt Ideal)) (t : Fin 2) (i j : Fin 1024) :
    ((cfg0.win 0).blk t).view.read (Elt Ideal) x (ix2 i j) = x (ix2 ⟨t * 1024 + i, by omega⟩ j) := by
  have := idx t
  refine congrArg x ?_
  blk_ext [this]

theorem blk1 (x : (⟨S1024x1024, .bf16⟩ : BufTy).Contents (Elt Ideal)) (t : Fin 2) (i : Fin 1024) (j : Fin 1024) :
    ((cfg0.win 1).blk t).view.read (Elt Ideal) x (ix2 i j) = x (ix2 i j) := by
  have := idx t
  refine congrArg x ?_
  blk_ext [this]

theorem blk2 (x : (⟨S2048x1024, .bf16⟩ : BufTy).Contents (Elt Ideal)) (t : Fin 2) (i : Fin 1024) (j : Fin 1024) :
    ((cfg0.win 2).blk t).view.read (Elt Ideal) x (ix2 i j) = x (ix2 ⟨t * 1024 + i, by omega⟩ j) := by
  have := idx t
  refine congrArg x ?_
  blk_ext [this]

theorem place3 (x : FVec Ideal S2048x1024 .bf16) (t : Fin 2) (i : Fin 1024) (j : Fin 1024) :
    x (((cfg0.win 3).blk t).view.emb (ix2 i j)) = x (ix2 ⟨t * 1024 + i, by omega⟩ j) := by
  have := idx t
  refine congrArg x ?_
  blk_ext [this]

theorem place4 (x : FVec Ideal S1024x1024 .bf16) (t : Fin 2) (i : Fin 1024) (j : Fin 1024) :
    x (((cfg0.win 4).blk t).view.emb (ix2 i j)) = x (ix2 i j) := by
  have := idx t
  refine congrArg x ?_
  blk_ext [this]

/-- The gradient of the rows. -/
def arrR (d : FVec Ideal S2048x1024 .bf16) (w : FVec Ideal S1024x1024 .bf16) : FVec Ideal S2048x1024 .bf16 :=
  fun y => ∑ s : Fin 1024, (d (ix2 (y 0) s) * w (ix2 (y 1) s) : EReal)

theorem arrR_at (d : FVec Ideal S2048x1024 .bf16) (w : FVec Ideal S1024x1024 .bf16) (i : Fin 2048) (j : Fin 1024) :
    arrR d w (ix2 i j) = ∑ s : Fin 1024, (d (ix2 i s) * w (ix2 j s) : EReal) := rfl

/-- The weight gradient. -/
def arrW (d : FVec Ideal S2048x1024 .bf16) (h : FVec Ideal S2048x1024 .bf16) : FVec Ideal S1024x1024 .bf16 :=
  fun y => ∑ s : Fin 2048, (h (ix2 s (y 0)) * d (ix2 s (y 1)) : EReal)

theorem arrW_at (d : FVec Ideal S2048x1024 .bf16) (h : FVec Ideal S2048x1024 .bf16) (i : Fin 1024) (j : Fin 1024) :
    arrW d h (ix2 i j) = ∑ s : Fin 2048, (h (ix2 s i) * d (ix2 s j) : EReal) := rfl

/-- What a point leaves of the rows' gradient, of the arrays its windows read. -/
theorem point3 (d : FVec Ideal S2048x1024 .bf16) (w : FVec Ideal S1024x1024 .bf16) (t : Fin 2) (i : Fin 1024) (j : Fin 1024) :
    k0_pay2 (F := Ideal) (((cfg0.win 0).blk t).view.read (Elt Ideal) d) (((cfg0.win 1).blk t).view.read (Elt Ideal) w) (ix2 i j) =
      arrR d w (((cfg0.win 3).blk t).view.emb (ix2 i j)) := by
  refine (pay2_at _ _ i j).trans (Eq.trans ?_ ((place3 (arrR d w) t i j).trans (arrR_at d w _ _)).symm)
  exact Finset.sum_congr rfl fun s _ => congrArg₂ (fun a b : EReal => a * b) (blk0 d t i s) (blk1 w t j s)

/-- One band's part, of the arrays its windows read. -/
theorem dot_at (d : FVec Ideal S2048x1024 .bf16) (h : FVec Ideal S2048x1024 .bf16) (t : Fin 2) (i : Fin 1024) (j : Fin 1024) :
    dot (((cfg0.win 0).blk t).view.read (Elt Ideal) d) (((cfg0.win 2).blk t).view.read (Elt Ideal) h) i j =
      ∑ l : Fin 1024, (h (ix2 ⟨t * 1024 + l, by omega⟩ i) * d (ix2 ⟨t * 1024 + l, by omega⟩ j) : EReal) :=
  Finset.sum_congr rfl fun l _ => congrArg₂ (fun a b : EReal => a * b) (blk2 h t l i) (blk0 d t l j)

/-- The two bands together are all rows. -/
theorem parts (d : FVec Ideal S2048x1024 .bf16) (h : FVec Ideal S2048x1024 .bf16) (i : Fin 1024) (j : Fin 1024) :
    (∑ t : Fin 2, ∑ l : Fin 1024, (h (ix2 ⟨t * 1024 + l, by omega⟩ i) * d (ix2 ⟨t * 1024 + l, by omega⟩ j) : EReal)) =
      arrW d h (ix2 i j) :=
  Fin.sum_mul_add_fin 2 1024 fun p : Fin 2048 => (h (ix2 p i) * d (ix2 p j) : EReal)

theorem cover3 : (cfg0.win 3).Covers := by decide +kernel
theorem cover4 : (cfg0.win 4).Covers := by decide +kernel

/-- What the scratch array holds at the last band. -/
theorem acc (t : Fin cfg0.N) (h : t.val % 2 = 1) (i : Fin 1024) (j : Fin 1024) : (outsAt0 m c t.val t.isLt).2.2 (ix2 i j) =
    (0 : EReal) + ∑ s : Fin 2, dot (iblk m c 0 ⟨2 * (t.val / 2) + s.val, Pipeline.run_point_lt_of_flush t h s⟩)
      (iblk m c 2 ⟨2 * (t.val / 2) + s.val, Pipeline.run_point_lt_of_flush t h s⟩) i j :=
  Pipeline.eq_sum_fin_of_reset_step_of_flush (M := EReal) (fun n h => (outsAt0 m c n h).2.2 (ix2 i j)) 2 0
    (fun t => dot (iblk m c 0 t) (iblk m c 2 t) i j)
    (fun t h => (accA m c t h i j).trans (zero_add _).symm) (fun t h => accB m c t h i j) t h

theorem after3 (t : Fin cfg0.N) (i : Fin 1024) (j : Fin 1024) : (dats m 0 c).after 3 t (ix2 i j) =
    arrR (V m c main_v0) (V m c main_v1) (((cfg0.win 3).blk t).view.emb (ix2 i j)) := by
  rw [after0_3]
  exact (rows_at m c t i j).trans (point3 (V m c main_v0) (V m c main_v1) t i j)

theorem after4 (t : Fin cfg0.N) (h : t.val % 2 = 1) (i : Fin 1024) (j : Fin 1024) : (dats m 0 c).after 4 t (ix2 i j) =
    arrW (V m c main_v0) (V m c main_v2) (((cfg0.win 4).blk t).view.emb (ix2 i j)) := by
  have hN : t.val < 2 := t.isLt
  have h0 : t.val / 2 = 0 := by omega
  rw [after0_4]
  refine (outB m c t h i j).trans ((acc m c t h i j).trans ((zero_add _).trans
    (Eq.trans ?_ (place4 (arrW (V m c main_v0) (V m c main_v2)) t i j).symm)))
  refine Eq.trans ?_ (parts (V m c main_v0) (V m c main_v2) i j)
  refine Finset.sum_congr rfl fun s _ => ?_
  have e : (⟨2 * (t.val / 2) + s.val, Pipeline.run_point_lt_of_flush t h s⟩ : Fin cfg0.N) = s :=
    Fin.ext (show 2 * (t.val / 2) + s.val = s.val by omega)
  rw [e]
  exact dot_at (V m c main_v0) (V m c main_v2) s i j

/-- The launch leaves the two gradients. -/
theorem out3 : (dats m 0 c).arrAt 3 cfg0.N = arrR (V m c main_v0) (V m c main_v1) := by
  refine (dats m 0 c).arrAt_eq_of_covers 3 (arrR (V m c main_v0) (V m c main_v1)) cover3 fun t hf y => ?_
  obtain ⟨i, j, rfl⟩ : ∃ (i : Fin 1024) (j : Fin 1024), y = ix2 i j := ⟨y 0, y 1, eq_ix2 y⟩
  exact after3 m c t i j

theorem out4 : (dats m 0 c).arrAt 4 cfg0.N = arrW (V m c main_v0) (V m c main_v2) := by
  refine (dats m 0 c).arrAt_eq_of_covers 4 (arrW (V m c main_v0) (V m c main_v2)) cover4 fun t hf y => ?_
  obtain ⟨i, j, rfl⟩ : ∃ (i : Fin 1024) (j : Fin 1024), y = ix2 i j := ⟨y 0, y 1, eq_ix2 y⟩
  exact after4 m c t ((flush0_4 t).mp hf) i j

end Cert.Kernel5Ideal.In
-- ==== Proof.In.Value5.lean ====
/- The two gradients of the output's product are the reference's, entry by entry. -/
module

public import proofs.«01_k».proof.Proof.In.Out5
public import proofs.«01_k».proof.Proof.Gen.Reference5Ideal.Read
public import Idealize.ShloMosaic.Lib.StableHlo.ReadAt

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.StableHlo Idealize.SL.Sem
open Cert.Reference5Ideal.Read (val_main_v2 val_main_v3)

variable (m : (ℓ : Loc nD τ sig) → Buf (Elt Ideal) ℓ) (ρ : Dev nD → PrngReg) (c : Dev nD)

theorem V_d (s : Fin 2048) (j : Fin 1024) : V m c main_v0 (ix2 s j) = m (c.tc.loc main_arg2) (ix2 s j) := by
  unfold V
  after_reads_at

theorem V_w (i : Fin 1024) (j : Fin 1024) : V m c main_v1 (ix2 i j) = m (c.tc.loc main_arg1) (ix2 i j) := by
  unfold V
  after_reads_at

theorem V_h (s : Fin 2048) (i : Fin 1024) : V m c main_v2 (ix2 s i) = m (c.tc.loc main_arg0) (ix2 s i) := by
  unfold V
  after_reads_at

/-- The reference's entries. -/
theorem refR_at (x1 : FVec Ideal S1024x1024 .f32) (x2 : FVec Ideal S2048x1024 .f32) (i : Fin 2048) (j : Fin 1024) :
    val_main_v3 (F := Ideal) x1 x2 (ix2 i j) = ∑ s : Fin 1024, (x2 (ix2 i s) * x1 (ix2 j s) : EReal) := by
  refine (Cert.Reference5Ideal.Read.val_main_v3_apply x1 x2 _).trans ?_
  refine Finset.sum_congr rfl fun s _ => congrArg₂ (fun a b : EReal => a * b) (congrArg x2 ?_) (congrArg x1 ?_)
  · funext a; fin_cases a <;> rfl
  · funext a; fin_cases a <;> rfl

theorem refW_at (x0 : FVec Ideal S2048x1024 .f32) (x2 : FVec Ideal S2048x1024 .f32) (i : Fin 1024) (j : Fin 1024) :
    val_main_v2 (F := Ideal) x0 x2 (ix2 i j) = ∑ s : Fin 2048, (x2 (ix2 s j) * x0 (ix2 s i) : EReal) := by
  refine (Cert.Reference5Ideal.Read.val_main_v2_apply (F := Ideal) x0 x2 _).trans ((Cert.Reference5Ideal.Read.val_main_v1_apply x0 x2 _).trans ?_)
  refine Finset.sum_congr rfl fun s _ => congrArg₂ (fun a b : EReal => a * b) (congrArg x2 ?_) (congrArg x0 ?_)
  · funext a; fin_cases a <;> rfl
  · funext a; fin_cases a <;> rfl

/-- The memory when the kernel has ended. -/
abbrev ended : Valuation τ sig (Elt Ideal) := Pipeline.withArrays spec0 c (V0 m c) fun w => (dats m 0 c).arrAt w cfg0.N

/-- The memory after the host's operations that follow the kernel. -/
abbrev tail (W : Valuation τ sig (Elt Ideal)) (b : Ref sig .tc) : b.ty.Contents (Elt Ideal) := after (hostOps1 (F := Ideal)) W (Proc.devRef .tc b)

theorem tail_eq (b : Ref sig .tc) : Pipeline.afterTail₀ cfgs (dats m) 0 (V0 m) [hostOps1] c b = tail (ended m c) b := by
  unfold Pipeline.afterTail₀ tail ended
  rw [List.flatten_singleton]

theorem tail_R (W : Valuation τ sig (Elt Ideal)) (i : Fin 2048) (j : Fin 1024) :
    tail W main_v4 (ix2 i j) = W (Proc.devRef .tc main_v3_0) (ix2 i j) := by
  unfold tail
  after_reads_at

theorem tail_W (W : Valuation τ sig (Elt Ideal)) (i : Fin 1024) (j : Fin 1024) :
    tail W main_v5 (ix2 i j) = W (Proc.devRef .tc main_v3_1) (ix2 i j) := by
  unfold tail
  after_reads_at

theorem arr_inj : Function.Injective (Pipeline.arrRef spec0) := by decide

theorem ended3 : ended m c (Proc.devRef .tc main_v3_0) = arrR (V m c main_v0) (V m c main_v1) :=
  (Pipeline.withArrays_arr spec0 arr_inj c _ _ 3).trans (out3 m c)

theorem ended4 : ended m c (Proc.devRef .tc main_v3_1) = arrW (V m c main_v0) (V m c main_v2) :=
  (Pipeline.withArrays_arr spec0 arr_inj c _ _ 4).trans (out4 m c)

theorem entryR (i : Fin 2048) (j : Fin 1024) : tail (ended m c) main_v4 (ix2 i j) =
    val_main_v3 (F := Ideal) (m (c.tc.loc main_arg1)) (m (c.tc.loc main_arg2)) (ix2 i j) := by
  rw [tail_R, ended3]
  refine (arrR_at _ _ i j).trans (Eq.trans ?_ (refR_at (m (c.tc.loc main_arg1)) (m (c.tc.loc main_arg2)) i j).symm)
  exact Finset.sum_congr rfl fun s _ => congrArg₂ (fun a b : EReal => a * b) (V_d m c i s) (V_w m c j s)

theorem entryW (i : Fin 1024) (j : Fin 1024) : tail (ended m c) main_v5 (ix2 i j) =
    val_main_v2 (F := Ideal) (m (c.tc.loc main_arg0)) (m (c.tc.loc main_arg2)) (ix2 i j) := by
  rw [tail_W, ended4]
  refine (arrW_at _ _ i j).trans (Eq.trans ?_ (refW_at (m (c.tc.loc main_arg0)) (m (c.tc.loc main_arg2)) i j).symm)
  exact Finset.sum_congr rfl fun s _ => (congrArg₂ (fun a b : EReal => a * b) (V_h m c s i) (V_d m c s j)).trans (mul_comm _ _)

theorem allR : Pipeline.afterTail₀ cfgs (dats m) 0 (V0 m) [hostOps1] c main_v4 =
    val_main_v3 (F := Ideal) (m (c.tc.loc main_arg1)) (m (c.tc.loc main_arg2)) := by
  rw [tail_eq]
  refine funext fun y => ?_
  rw [eq_ix2 y]
  exact entryR m c _ _

theorem allW : Pipeline.afterTail₀ cfgs (dats m) 0 (V0 m) [hostOps1] c main_v5 =
    val_main_v2 (F := Ideal) (m (c.tc.loc main_arg0)) (m (c.tc.loc main_arg2)) := by
  rw [tail_eq]
  refine funext fun y => ?_
  rw [eq_ix2 y]
  exact entryW m c _ _

/-- The kernel's run: its results are the reference's terms, its arguments stay. -/
theorem run_value : θ_run defs (onTc (τ := τ) (main (F := Ideal))) ⟨m, fun _ => 0, ρ⟩ (fun r => ∀ c : Dev nD,
      r.2.mem ((c.tc : Thread nD τ).loc main_v4) = val_main_v3 (F := Ideal) (m (c.tc.loc main_arg1)) (m (c.tc.loc main_arg2))
      ∧ r.2.mem ((c.tc : Thread nD τ).loc main_v5) = val_main_v2 (F := Ideal) (m (c.tc.loc main_arg0)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v4 (Pipeline.mem_restRefs_of main_v4 (by decide) (by decide))).trans (allR m c),
      ((h.1 c).2 main_v5 (Pipeline.mem_restRefs_of main_v5 (by decide) (by decide))).trans (allW m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩)
    (run_main_quiescent m ρ)

end Cert.Kernel5Ideal.In
-- ==== Proof.In.Laid6.lean ====
/- The columns of the weights as the host lays them out for the projection. -/
module

public import proofs.«01_k».proof.Proof.Gen.Kernel6Ideal.Frame
public import proofs.«01_k».proof.Proof.In.Cols
public import Idealize.ShloMosaic.Lib.StableHlo.ReadAt
public import Idealize.ShloMosaic.Lib.Pipeline.ValueKit.Geometry

@[expose] public section

set_option maxRecDepth 16384

noncomputable section

namespace Cert.Kernel6Ideal.In

open Cert.Kernel6Ideal Cert.Kernel6Ideal.Gen Cert.Cols
open Idealize.ShloMosaic Idealize.ShloMosaic.TcCoe Idealize.ShloMosaic.StableHlo

variable (m : (ℓ : Loc nD τ sig) → Buf (Elt Ideal) ℓ) (c : Dev nD) (i : Fin 1024)

theorem V_0 (j : Fin 512) (p : Fin 8192) (hp : (p : ℕ) = 3072 + 256 * (j / 128) + j % 128) : V m c main_v23 (ix2 i p) = m (c.tc.loc main_arg1) (ix2 i ⟨j, by omega⟩) := by
  unfold V
  after_reads_at
  refine Eq.trans (dif_neg (by omega)) ?_
  refine Eq.trans (dif_pos (by omega)) ?_
  after_reads_at
  refine Eq.trans (dif_pos (by omega)) ?_
  after_reads_at
  all_goals
    refine congrArg (m (c.tc.loc main_arg1)) ?_
    blk_ext <;> rfl

theorem V_1 (j : Fin 512) (p : Fin 8192) (hp : (p : ℕ) = 3200 + 256 * (j / 128) + j % 128) : V m c main_v23 (ix2 i p) = m (c.tc.loc main_arg1) (ix2 i ⟨512 + j, by omega⟩) := by
  unfold V
  after_reads_at
  refine Eq.trans (dif_neg (by omega)) ?_
  refine Eq.trans (dif_pos (by omega)) ?_
  after_reads_at
  refine Eq.trans (dif_neg (by omega)) ?_
  after_reads_at
  all_goals
    refine congrArg (m (c.tc.loc main_arg1)) ?_
    blk_ext <;> rfl

theorem V_2 (j : Fin 512) (p : Fin 8192) (hp : (p : ℕ) = 4096 + j) : V m c main_v23 (ix2 i p) = m (c.tc.loc main_arg1) (ix2 i ⟨1024 + j, by omega⟩) := by
  unfold V
  after_reads_at
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem V_3 (j : Fin 512) (p : Fin 8192) (hp : (p : ℕ) = 4608 + 256 * (j / 128) + j % 128) : V m c main_v23 (ix2 i p) = m (c.tc.loc main_arg1) (ix2 i ⟨1536 + j, by omega⟩) := by
  unfold V
  after_reads_at
  refine Eq.trans (dif_neg (by omega)) ?_
  refine Eq.trans (dif_neg (by omega)) ?_
  refine Eq.trans (dif_neg (by omega)) ?_
  refine Eq.trans (dif_pos (by omega)) ?_
  obtain ⟨q, hq⟩ : ∃ q : Fin 1024, (q : ℕ) = p - 3072 - 1024 - 512 := ⟨⟨p - 3072 - 1024 - 512, by omega⟩, rfl⟩
  simp only [← hq]
  after_reads_at
  refine Eq.trans (dif_pos (by omega)) ?_
  after_reads_at
  all_goals
    refine congrArg (m (c.tc.loc main_arg1)) ?_
    blk_ext <;> rfl

theorem V_4 (j : Fin 512) (p : Fin 8192) (hp : (p : ℕ) = 6144 + j) : V m c main_v23 (ix2 i p) = m (c.tc.loc main_arg1) (ix2 i ⟨2048 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem V_5 (j : Fin 512) (p : Fin 8192) (hp : (p : ℕ) = 4736 + 256 * (j / 128) + j % 128) : V m c main_v23 (ix2 i p) = m (c.tc.loc main_arg1) (ix2 i ⟨2560 + j, by omega⟩) := by
  unfold V
  after_reads_at
  refine Eq.trans (dif_neg (by omega)) ?_
  refine Eq.trans (dif_neg (by omega)) ?_
  refine Eq.trans (dif_neg (by omega)) ?_
  refine Eq.trans (dif_pos (by omega)) ?_
  obtain ⟨q, hq⟩ : ∃ q : Fin 1024, (q : ℕ) = p - 3072 - 1024 - 512 := ⟨⟨p - 3072 - 1024 - 512, by omega⟩, rfl⟩
  simp only [← hq]
  after_reads_at
  refine Eq.trans (dif_neg (by omega)) ?_
  after_reads_at
  all_goals
    refine congrArg (m (c.tc.loc main_arg1)) ?_
    blk_ext <;> rfl

theorem V_6 (j : Fin 512) (p : Fin 8192) (hp : (p : ℕ) = 6656 + j) : V m c main_v23 (ix2 i p) = m (c.tc.loc main_arg1) (ix2 i ⟨3072 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem V_7 (j : Fin 384) (p : Fin 8192) (hp : (p : ℕ) = 7680 + j) : V m c main_v23 (ix2 i p) = m (c.tc.loc main_arg1) (ix2 i ⟨3584 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem V_8 (j : Fin 288) (p : Fin 8192) (hp : (p : ℕ) = 7168 + j) : V m c main_v23 (ix2 i p) = m (c.tc.loc main_arg1) (ix2 i ⟨3968 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem V_9 (j : Fin 512) (p : Fin 8192) (hp : (p : ℕ) = 5632 + j) : V m c main_v23 (ix2 i p) = m (c.tc.loc main_arg1) (ix2 i ⟨4256 + j, by omega⟩) := by
  unfold V
  after_reads_at
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (m (c.tc.loc main_arg1)) ?_
    blk_ext <;> rfl

theorem V_10 (j : Fin 3072) (p : Fin 8192) (hp : (p : ℕ) = j) : V m c main_v23 (ix2 i p) = m (c.tc.loc main_arg1) (ix2 i ⟨4768 + j, by omega⟩) := by
  unfold V
  after_reads_at
  refine Eq.trans (dif_pos (by omega)) ?_
  after_reads_at
  all_goals
    refine congrArg (m (c.tc.loc main_arg1)) ?_
    blk_ext <;> rfl

/-- The kernel's column of the reference's column `k` is that column. -/
theorem V_place (k : Fin 7840) : V m c main_v23 (ix2 i (place k)) = m (c.tc.loc main_arg1) (ix2 i k) := by
  rcases part k with ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩
  · exact V_0 m c i j _ (congrArg Fin.val (place_0 j))
  · exact V_1 m c i j _ (congrArg Fin.val (place_1 j))
  · exact V_2 m c i j _ (congrArg Fin.val (place_2 j))
  · exact V_3 m c i j _ (congrArg Fin.val (place_3 j))
  · exact V_4 m c i j _ (congrArg Fin.val (place_4 j))
  · exact V_5 m c i j _ (congrArg Fin.val (place_5 j))
  · exact V_6 m c i j _ (congrArg Fin.val (place_6 j))
  · exact V_7 m c i j _ (congrArg Fin.val (place_7 j))
  · exact V_8 m c i j _ (congrArg Fin.val (place_8 j))
  · exact V_9 m c i j _ (congrArg Fin.val (place_9 j))
  · exact V_10 m c i j _ (congrArg Fin.val (place_10 j))

end Cert.Kernel6Ideal.In
-- ==== Proof.In.Tail6.lean ====
/- The projection read back from the kernel's columns. -/
module

public import proofs.«01_k».proof.Proof.Gen.Kernel6Ideal.Frame
public import proofs.«01_k».proof.Proof.In.Cols
public import Idealize.ShloMosaic.Lib.StableHlo.ReadAt
public import Idealize.ShloMosaic.Lib.Pipeline.ValueKit.Geometry

@[expose] public section

set_option maxRecDepth 16384

noncomputable section

namespace Cert.Kernel6Ideal.In

open Cert.Kernel6Ideal Cert.Kernel6Ideal.Gen Cert.Cols
open Idealize.ShloMosaic Idealize.ShloMosaic.TcCoe Idealize.ShloMosaic.StableHlo

variable (W : Valuation τ sig (Elt Ideal)) (i : Fin 2048)

/-- The memory after the host's operations that follow the kernel. -/
abbrev tail (b : Ref sig .tc) : b.ty.Contents (Elt Ideal) := after (hostOps1 (F := Ideal)) W (Proc.devRef .tc b)

theorem tail_0 (j : Fin 512) (k : Fin 7840) (hk : (k : ℕ) = j) : tail W main_v53 (ix2 i k) = W (Proc.devRef .tc main_v24) (ix2 i ⟨3072 + 256 * (j / 128) + j % 128, by omega⟩) := by
  unfold tail
  after_reads_at
  refine Eq.trans (dif_pos (by omega)) ?_
  after_reads_at
  all_goals
    refine congrArg (W (Proc.devRef .tc main_v24)) ?_
    blk_ext <;> rfl

theorem tail_1 (j : Fin 512) (k : Fin 7840) (hk : (k : ℕ) = 512 + j) : tail W main_v53 (ix2 i k) = W (Proc.devRef .tc main_v24) (ix2 i ⟨3200 + 256 * (j / 128) + j % 128, by omega⟩) := by
  unfold tail
  after_reads_at
  refine Eq.trans (dif_neg (by omega)) ?_
  refine Eq.trans (dif_pos (by omega)) ?_
  after_reads_at
  all_goals
    refine congrArg (W (Proc.devRef .tc main_v24)) ?_
    blk_ext <;> rfl

theorem tail_2 (j : Fin 512) (k : Fin 7840) (hk : (k : ℕ) = 1024 + j) : tail W main_v53 (ix2 i k) = W (Proc.devRef .tc main_v24) (ix2 i ⟨4096 + j, by omega⟩) := by
  unfold tail
  after_reads_at
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_3 (j : Fin 512) (k : Fin 7840) (hk : (k : ℕ) = 1536 + j) : tail W main_v53 (ix2 i k) = W (Proc.devRef .tc main_v24) (ix2 i ⟨4608 + 256 * (j / 128) + j % 128, by omega⟩) := by
  unfold tail
  after_reads_at
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_4 (j : Fin 512) (k : Fin 7840) (hk : (k : ℕ) = 2048 + j) : tail W main_v53 (ix2 i k) = W (Proc.devRef .tc main_v24) (ix2 i ⟨6144 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_5 (j : Fin 512) (k : Fin 7840) (hk : (k : ℕ) = 2560 + j) : tail W main_v53 (ix2 i k) = W (Proc.devRef .tc main_v24) (ix2 i ⟨4736 + 256 * (j / 128) + j % 128, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_6 (j : Fin 512) (k : Fin 7840) (hk : (k : ℕ) = 3072 + j) : tail W main_v53 (ix2 i k) = W (Proc.devRef .tc main_v24) (ix2 i ⟨6656 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_7 (j : Fin 384) (k : Fin 7840) (hk : (k : ℕ) = 3584 + j) : tail W main_v53 (ix2 i k) = W (Proc.devRef .tc main_v24) (ix2 i ⟨7680 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_8 (j : Fin 288) (k : Fin 7840) (hk : (k : ℕ) = 3968 + j) : tail W main_v53 (ix2 i k) = W (Proc.devRef .tc main_v24) (ix2 i ⟨7168 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_9 (j : Fin 512) (k : Fin 7840) (hk : (k : ℕ) = 4256 + j) : tail W main_v53 (ix2 i k) = W (Proc.devRef .tc main_v24) (ix2 i ⟨5632 + j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_pos (by omega)) ?_
  after_reads_at
  all_goals
    refine congrArg (W (Proc.devRef .tc main_v24)) ?_
    blk_ext <;> rfl

theorem tail_10 (j : Fin 3072) (k : Fin 7840) (hk : (k : ℕ) = 4768 + j) : tail W main_v53 (ix2 i k) = W (Proc.devRef .tc main_v24) (ix2 i ⟨j, by omega⟩) := by
  unfold tail
  after_reads_at
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  refine Eq.trans (dif_neg (by omega)) ?_
  after_reads_at
  all_goals
    refine congrArg (W (Proc.devRef .tc main_v24)) ?_
    blk_ext <;> rfl

/-- The host reads the reference's column `k` from the kernel's column of it. -/
theorem tail_place (k : Fin 7840) : tail W main_v53 (ix2 i k) = W (Proc.devRef .tc main_v24) (ix2 i (place k)) := by
  rcases part k with ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩ | ⟨j, rfl⟩
  · rw [place_0]; exact tail_0 W i j _ rfl
  · rw [place_1]; exact tail_1 W i j _ rfl
  · rw [place_2]; exact tail_2 W i j _ rfl
  · rw [place_3]; exact tail_3 W i j _ rfl
  · rw [place_4]; exact tail_4 W i j _ rfl
  · rw [place_5]; exact tail_5 W i j _ rfl
  · rw [place_6]; exact tail_6 W i j _ rfl
  · rw [place_7]; exact tail_7 W i j _ rfl
  · rw [place_8]; exact tail_8 W i j _ rfl
  · rw [place_9]; exact tail_9 W i j _ rfl
  · rw [place_10]; exact tail_10 W i j _ rfl

end Cert.Kernel6Ideal.In
-- ==== Proof.In.Out6.lean ====
/- The launch of the projection: a product of a band of the input's rows with a tile of the weights' columns at every point. -/
module

public import proofs.«01_k».proof.Proof.Gen.Kernel6Ideal.Frame
public import Idealize.ShloMosaic.Lib.MatmulPlain
public import Idealize.ShloMosaic.Lib.Pipeline.ValueKit

@[expose] public section

set_option maxRecDepth 16384

noncomputable section

namespace Cert.Kernel6Ideal.In

open Cert.Kernel6Ideal Cert.Kernel6Ideal.Gen
open Idealize.ShloMosaic Idealize.ShloMosaic.TcCoe

variable (m : (ℓ : Loc nD τ sig) → Buf (Elt Ideal) ℓ) (c : Dev nD)

theorem pay_at (x0 x1 : FVec Ideal S1024x1024 .bf16) (i j : Fin 1024) :
    k0_pay1 (F := Ideal) x0 x1 (ix2 i j) = ∑ s : Fin 1024, (x0 (ix2 i s) * x1 (ix2 s j) : EReal) := by
  pointwise [k0_pay1]

theorem out_at (x0 x1 : FVec Ideal S1024x1024 .bf16) (i j : Fin 1024) :
    out0_2 (F := Ideal) x0 x1 (ix2 i j) = ∑ s : Fin 1024, (x0 (ix2 i s) * x1 (ix2 s j) : EReal) := by
  frame_out
  exact pay_at x0 x1 i j

theorem idx : ∀ t : Fin cfg0.N, (cfg0.win 0).index t = ![t.val / 8, 0] ∧ (cfg0.win 1).index t = ![0, t.val % 8]
    ∧ (cfg0.win 2).index t = ![t.val / 8, t.val % 8] := by
  decide +kernel

theorem blk0 (x : (⟨S2048x1024, .bf16⟩ : BufTy).Contents (Elt Ideal)) (t : Fin 16) (i s : Fin 1024) :
    ((cfg0.win 0).blk t).view.read (Elt Ideal) x (ix2 i s) = x (ix2 ⟨1024 * (t / 8) + i, by omega⟩ s) := by
  have := idx t
  refine congrArg x ?_
  blk_ext [this]

theorem blk1 (x : (⟨S1024x8192, .bf16⟩ : BufTy).Contents (Elt Ideal)) (t : Fin 16) (s j : Fin 1024) :
    ((cfg0.win 1).blk t).view.read (Elt Ideal) x (ix2 s j) = x (ix2 s ⟨1024 * (t % 8) + j, by omega⟩) := by
  have := idx t
  refine congrArg x ?_
  blk_ext [this]

theorem place2 (x : FVec Ideal S2048x8192 .bf16) (t : Fin 16) (i j : Fin 1024) :
    x (((cfg0.win 2).blk t).view.emb (ix2 i j)) = x (ix2 ⟨1024 * (t / 8) + i, by omega⟩ ⟨1024 * (t % 8) + j, by omega⟩) := by
  have := idx t
  refine congrArg x ?_
  blk_ext [this]

/-- The product over the input's columns. -/
def arr (a : FVec Ideal S2048x1024 .bf16) (b : FVec Ideal S1024x8192 .bf16) : FVec Ideal S2048x8192 .bf16 :=
  fun y => ∑ s : Fin 1024, (a (ix2 (y 0) s) * b (ix2 s (y 1)) : EReal)

theorem arr_at (a : FVec Ideal S2048x1024 .bf16) (b : FVec Ideal S1024x8192 .bf16) (i : Fin 2048) (p : Fin 8192) :
    arr a b (ix2 i p) = ∑ s : Fin 1024, (a (ix2 i s) * b (ix2 s p) : EReal) := rfl

/-- What a point leaves, of the arrays its windows read. -/
theorem point (a : FVec Ideal S2048x1024 .bf16) (b : FVec Ideal S1024x8192 .bf16) (t : Fin 16) (i j : Fin 1024) :
    out0_2 (F := Ideal) (((cfg0.win 0).blk t).view.read (Elt Ideal) a) (((cfg0.win 1).blk t).view.read (Elt Ideal) b) (ix2 i j) =
      arr a b (((cfg0.win 2).blk t).view.emb (ix2 i j)) := by
  refine (out_at _ _ i j).trans (Eq.trans ?_ ((place2 (arr a b) t i j).trans (arr_at a b _ _)).symm)
  exact Finset.sum_congr rfl fun s _ => congrArg₂ (fun a b : EReal => a * b) (blk0 a t i s) (blk1 b t s j)

theorem cover2 : (cfg0.win 2).Covers := by decide +kernel

theorem after2 (t : Fin cfg0.N) (i j : Fin 1024) : (dats m 0 c).after 2 t (ix2 i j) =
    arr (V m c main_v0) (V m c main_v23) (((cfg0.win 2).blk t).view.emb (ix2 i j)) := by
  rw [after0_2]
  exact point (V m c main_v0) (V m c main_v23) t i j

/-- The launch leaves the product. -/
theorem out2 : (dats m 0 c).arrAt 2 cfg0.N = arr (V m c main_v0) (V m c main_v23) := by
  refine (dats m 0 c).arrAt_eq_of_covers 2 (arr (V m c main_v0) (V m c main_v23)) cover2 fun t hf y => ?_
  obtain ⟨i, j, rfl⟩ : ∃ (i j : Fin 1024), y = ix2 i j := ⟨y 0, y 1, eq_ix2 y⟩
  exact after2 m c t i j

end Cert.Kernel6Ideal.In
-- ==== Proof.In.Value6.lean ====
/- The projection is the reference's, entry by entry. -/
module

public import proofs.«01_k».proof.Proof.In.Laid6
public import proofs.«01_k».proof.Proof.In.Tail6
public import proofs.«01_k».proof.Proof.In.Out6
public import proofs.«01_k».proof.Proof.Gen.Reference6Ideal.Read

@[expose] public section

set_option maxRecDepth 16384

noncomputable section

namespace Cert.Kernel6Ideal.In

open Cert.Kernel6Ideal Cert.Kernel6Ideal.Gen Cert.Cols
open Idealize.ShloMosaic Idealize.ShloMosaic.TcCoe Idealize.ShloMosaic.StableHlo Idealize.SL.Sem
open Cert.Reference6Ideal.Read (val_main_v0)

variable (m : (ℓ : Loc nD τ sig) → Buf (Elt Ideal) ℓ) (ρ : Dev nD → PrngReg) (c : Dev nD)

theorem V_u (s : Fin 2048) (d : Fin 1024) : V m c main_v0 (ix2 s d) = m (c.tc.loc main_arg0) (ix2 s d) := by
  unfold V
  after_reads_at

/-- The reference's entry: the product over the input's columns. -/
theorem ref_at (x0 : FVec Ideal S2048x1024 .f32) (x1 : FVec Ideal S1024x7840 .f32) (d : Fin 2048) (p : Fin 7840) :
    val_main_v0 (F := Ideal) x0 x1 (ix2 d p) = ∑ s : Fin 1024, (x0 (ix2 d s) * x1 (ix2 s p) : EReal) := by
  refine (Cert.Reference6Ideal.Read.val_main_v0_apply x0 x1 _).trans ?_
  refine Finset.sum_congr rfl fun s _ => congrArg₂ (fun a b : EReal => a * b) (congrArg x0 ?_) (congrArg x1 ?_)
  · funext a; fin_cases a <;> rfl
  · funext a; fin_cases a <;> rfl

/-- The memory when the kernel has ended. -/
abbrev ended : Valuation τ sig (Elt Ideal) := Pipeline.withArrays spec0 c (V0 m c) fun w => (dats m 0 c).arrAt w cfg0.N

theorem arr_inj : Function.Injective (Pipeline.arrRef spec0) := by decide

theorem ended2 : ended m c (Proc.devRef .tc main_v24) = arr (V m c main_v0) (V m c main_v23) :=
  (Pipeline.withArrays_arr spec0 arr_inj c _ _ 2).trans (out2 m c)

theorem entry (d : Fin 2048) (p : Fin 7840) : tail (ended m c) main_v53 (ix2 d p) =
    val_main_v0 (F := Ideal) (m (c.tc.loc main_arg0)) (m (c.tc.loc main_arg1)) (ix2 d p) := by
  rw [tail_place, ended2]
  refine (arr_at _ _ d (place p)).trans (Eq.trans ?_ (ref_at (m (c.tc.loc main_arg0)) (m (c.tc.loc main_arg1)) d p).symm)
  exact Finset.sum_congr rfl fun s _ => congrArg₂ (fun a b : EReal => a * b) (V_u m c d s) (V_place m c s p)

theorem tail_eq (b : Ref sig .tc) : Pipeline.afterTail₀ cfgs (dats m) 0 (V0 m) [hostOps1] c b = tail (ended m c) b := by
  unfold Pipeline.afterTail₀ tail ended
  rw [List.flatten_singleton]

theorem all : Pipeline.afterTail₀ cfgs (dats m) 0 (V0 m) [hostOps1] c main_v53 =
    val_main_v0 (F := Ideal) (m (c.tc.loc main_arg0)) (m (c.tc.loc main_arg1)) := by
  rw [tail_eq]
  refine funext fun y => ?_
  rw [eq_ix2 y]
  exact entry m c _ _

/-- The kernel's run: its result is the reference's term, its arguments stay. -/
theorem run_value : θ_run defs (onTc (τ := τ) (main (F := Ideal))) ⟨m, fun _ => 0, ρ⟩ (fun r => ∀ c : Dev nD,
      r.2.mem ((c.tc : Thread nD τ).loc main_v53) = val_main_v0 (F := Ideal) (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v53 (Pipeline.mem_restRefs_of main_v53 (by decide) (by decide))).trans (all m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main_quiescent m ρ)

end Cert.Kernel6Ideal.In
-- ==== Proof.In.Out7.lean ====
/- A branch's output product: a band of rows times the whole weight at every point. -/
module

public import proofs.«01_k».proof.Proof.Gen.Kernel7Ideal.Frame
public import Idealize.ShloMosaic.Lib.MatmulPlain
public import Idealize.ShloMosaic.Lib.Pipeline.ValueKit

@[expose] public section

set_option maxRecDepth 16384

noncomputable section

namespace Cert.Kernel7Ideal.In

open Cert.Kernel7Ideal Cert.Kernel7Ideal.Gen
open Idealize.ShloMosaic Idealize.ShloMosaic.TcCoe

variable (m : (ℓ : Loc nD τ sig) → Buf (Elt Ideal) ℓ) (c : Dev nD)

theorem pay_at (x0 : FVec Ideal S1024x512 .bf16) (x1 : FVec Ideal S512x1024 .bf16) (i : Fin 1024) (j : Fin 1024) :
    k0_pay1 (F := Ideal) x0 x1 (ix2 i j) = ∑ s : Fin 512, (x0 (ix2 i s) * x1 (ix2 s j) : EReal) := by
  pointwise [k0_pay1]

theorem out_at (x0 : FVec Ideal S1024x512 .bf16) (x1 : FVec Ideal S512x1024 .bf16) (i : Fin 1024) (j : Fin 1024) :
    out0_2 (F := Ideal) x0 x1 (ix2 i j) = ∑ s : Fin 512, (x0 (ix2 i s) * x1 (ix2 s j) : EReal) := by
  frame_out
  exact pay_at x0 x1 i j

theorem idx : ∀ t : Fin cfg0.N, (cfg0.win 0).index t = ![t.val, 0] ∧ (cfg0.win 1).index t = ![0, 0]
    ∧ (cfg0.win 2).index t = ![t.val, 0] := by
  decide +kernel

theorem blk0 (x : (⟨S2048x512, .bf16⟩ : BufTy).Contents (Elt Ideal)) (t : Fin 2) (i : Fin 1024) (s : Fin 512) :
    ((cfg0.win 0).blk t).view.read (Elt Ideal) x (ix2 i s) = x (ix2 ⟨1024 * t + i, by omega⟩ s) := by
  have := idx t
  refine congrArg x ?_
  blk_ext [this]

theorem blk1 (x : (⟨S512x1024, .bf16⟩ : BufTy).Contents (Elt Ideal)) (t : Fin 2) (s : Fin 512) (j : Fin 1024) :
    ((cfg0.win 1).blk t).view.read (Elt Ideal) x (ix2 s j) = x (ix2 s j) := by
  have := idx t
  refine congrArg x ?_
  blk_ext [this]

theorem place2 (x : FVec Ideal S2048x1024 .bf16) (t : Fin 2) (i : Fin 1024) (j : Fin 1024) :
    x (((cfg0.win 2).blk t).view.emb (ix2 i j)) = x (ix2 ⟨1024 * t + i, by omega⟩ j) := by
  have := idx t
  refine congrArg x ?_
  blk_ext [this]

/-- The product. -/
def arr (a : FVec Ideal S2048x512 .bf16) (b : FVec Ideal S512x1024 .bf16) : FVec Ideal S2048x1024 .bf16 :=
  fun y => ∑ s : Fin 512, (a (ix2 (y 0) s) * b (ix2 s (y 1)) : EReal)

theorem arr_at (a : FVec Ideal S2048x512 .bf16) (b : FVec Ideal S512x1024 .bf16) (i : Fin 2048) (j : Fin 1024) :
    arr a b (ix2 i j) = ∑ s : Fin 512, (a (ix2 i s) * b (ix2 s j) : EReal) := rfl

/-- What a point leaves, of the arrays its windows read. -/
theorem point (a : FVec Ideal S2048x512 .bf16) (b : FVec Ideal S512x1024 .bf16) (t : Fin 2) (i : Fin 1024) (j : Fin 1024) :
    out0_2 (F := Ideal) (((cfg0.win 0).blk t).view.read (Elt Ideal) a) (((cfg0.win 1).blk t).view.read (Elt Ideal) b) (ix2 i j) =
      arr a b (((cfg0.win 2).blk t).view.emb (ix2 i j)) := by
  refine (out_at _ _ i j).trans (Eq.trans ?_ ((place2 (arr a b) t i j).trans (arr_at a b _ _)).symm)
  exact Finset.sum_congr rfl fun s _ => congrArg₂ (fun a b : EReal => a * b) (blk0 a t i s) (blk1 b t s j)

theorem cover2 : (cfg0.win 2).Covers := by decide +kernel

theorem after2 (t : Fin cfg0.N) (i : Fin 1024) (j : Fin 1024) : (dats m 0 c).after 2 t (ix2 i j) =
    arr (V m c main_v0) (V m c main_v1) (((cfg0.win 2).blk t).view.emb (ix2 i j)) := by
  rw [after0_2]
  exact point (V m c main_v0) (V m c main_v1) t i j

/-- The launch leaves the product. -/
theorem out2 : (dats m 0 c).arrAt 2 cfg0.N = arr (V m c main_v0) (V m c main_v1) := by
  refine (dats m 0 c).arrAt_eq_of_covers 2 (arr (V m c main_v0) (V m c main_v1)) cover2 fun t hf y => ?_
  obtain ⟨i, j, rfl⟩ : ∃ (i : Fin 1024) (j : Fin 1024), y = ix2 i j := ⟨y 0, y 1, eq_ix2 y⟩
  exact after2 m c t i j

end Cert.Kernel7Ideal.In
-- ==== Proof.In.Value7.lean ====
/- A branch's output product is the reference's, entry by entry. -/
module

public import proofs.«01_k».proof.Proof.In.Out7
public import proofs.«01_k».proof.Proof.Gen.Reference7Ideal.Read
public import Idealize.ShloMosaic.Lib.StableHlo.ReadAt

@[expose] public section

set_option maxRecDepth 16384

noncomputable section

namespace Cert.Kernel7Ideal.In

open Cert.Kernel7Ideal Cert.Kernel7Ideal.Gen
open Idealize.ShloMosaic Idealize.ShloMosaic.TcCoe Idealize.ShloMosaic.StableHlo Idealize.SL.Sem
open Cert.Reference7Ideal.Read (val_main_v0)

variable (m : (ℓ : Loc nD τ sig) → Buf (Elt Ideal) ℓ) (ρ : Dev nD → PrngReg) (c : Dev nD)

theorem V_a (i : Fin 2048) (s : Fin 512) : V m c main_v0 (ix2 i s) = m (c.tc.loc main_arg0) (ix2 i s) := by
  unfold V
  after_reads_at

theorem V_b (s : Fin 512) (j : Fin 1024) : V m c main_v1 (ix2 s j) = m (c.tc.loc main_arg1) (ix2 s j) := by
  unfold V
  after_reads_at

/-- The reference's entry. -/
theorem ref_at (x0 : FVec Ideal S2048x512 .f32) (x1 : FVec Ideal S512x1024 .f32) (i : Fin 2048) (j : Fin 1024) :
    val_main_v0 (F := Ideal) x0 x1 (ix2 i j) = ∑ s : Fin 512, (x0 (ix2 i s) * x1 (ix2 s j) : EReal) := by
  refine (Cert.Reference7Ideal.Read.val_main_v0_apply x0 x1 _).trans ?_
  refine Finset.sum_congr rfl fun s _ => congrArg₂ (fun a b : EReal => a * b) (congrArg x0 ?_) (congrArg x1 ?_)
  · funext a; fin_cases a <;> rfl
  · funext a; fin_cases a <;> rfl

/-- The memory when the kernel has ended. -/
abbrev ended : Valuation τ sig (Elt Ideal) := Pipeline.withArrays spec0 c (V0 m c) fun w => (dats m 0 c).arrAt w cfg0.N

/-- The memory after the host's operations that follow the kernel. -/
abbrev tail (W : Valuation τ sig (Elt Ideal)) (b : Ref sig .tc) : b.ty.Contents (Elt Ideal) := after (hostOps1 (F := Ideal)) W (Proc.devRef .tc b)

theorem tail_eq (b : Ref sig .tc) : Pipeline.afterTail₀ cfgs (dats m) 0 (V0 m) [hostOps1] c b = tail (ended m c) b := by
  unfold Pipeline.afterTail₀ tail ended
  rw [List.flatten_singleton]

theorem arr_inj : Function.Injective (Pipeline.arrRef spec0) := by decide

theorem tail_cols (W : Valuation τ sig (Elt Ideal)) (i : Fin 2048) (j : Fin 1024) :
    tail W main_v3 (ix2 i j) = W (Proc.devRef .tc main_v2) (ix2 i j) := by
  unfold tail
  after_reads_at

theorem ended2 : ended m c (Proc.devRef .tc main_v2) = arr (V m c main_v0) (V m c main_v1) :=
  (Pipeline.withArrays_arr spec0 arr_inj c _ _ 2).trans (out2 m c)

theorem entry (i : Fin 2048) (j : Fin 1024) : tail (ended m c) main_v3 (ix2 i j) =
    val_main_v0 (F := Ideal) (m (c.tc.loc main_arg0)) (m (c.tc.loc main_arg1)) (ix2 i j) := by
  rw [tail_cols, ended2]
  refine (arr_at _ _ i j).trans (Eq.trans ?_ (ref_at (m (c.tc.loc main_arg0)) (m (c.tc.loc main_arg1)) i j).symm)
  exact Finset.sum_congr rfl fun s _ => congrArg₂ (fun a b : EReal => a * b) (V_a m c i s) (V_b m c s j)

theorem all : Pipeline.afterTail₀ cfgs (dats m) 0 (V0 m) [hostOps1] c main_v3 =
    val_main_v0 (F := Ideal) (m (c.tc.loc main_arg0)) (m (c.tc.loc main_arg1)) := by
  rw [tail_eq]
  refine funext fun y => ?_
  rw [eq_ix2 y]
  exact entry m c _ _

/-- The kernel's run: its result is the reference's term, its arguments stay. -/
theorem run_value : θ_run defs (onTc (τ := τ) (main (F := Ideal))) ⟨m, fun _ => 0, ρ⟩ (fun r => ∀ c : Dev nD,
      r.2.mem ((c.tc : Thread nD τ).loc main_v3) = val_main_v0 (F := Ideal) (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v3 (Pipeline.mem_restRefs_of main_v3 (by decide) (by decide))).trans (all m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main_quiescent m ρ)

end Cert.Kernel7Ideal.In
-- ==== Proof.In.Out8.lean ====
/- The layer's output product: a band of rows times the whole weight at every point. -/
module

public import proofs.«01_k».proof.Proof.Gen.Kernel8Ideal.Frame
public import Idealize.ShloMosaic.Lib.MatmulPlain
public import Idealize.ShloMosaic.Lib.Pipeline.ValueKit

@[expose] public section

set_option maxRecDepth 16384

noncomputable section

namespace Cert.Kernel8Ideal.In

open Cert.Kernel8Ideal Cert.Kernel8Ideal.Gen
open Idealize.ShloMosaic Idealize.ShloMosaic.TcCoe

variable (m : (ℓ : Loc nD τ sig) → Buf (Elt Ideal) ℓ) (c : Dev nD)

theorem pay_at (x0 : FVec Ideal S1024x1024 .bf16) (x1 : FVec Ideal S1024x1024 .bf16) (i : Fin 1024) (j : Fin 1024) :
    k0_pay1 (F := Ideal) x0 x1 (ix2 i j) = ∑ s : Fin 1024, (x0 (ix2 i s) * x1 (ix2 s j) : EReal) := by
  pointwise [k0_pay1]

theorem out_at (x0 : FVec Ideal S1024x1024 .bf16) (x1 : FVec Ideal S1024x1024 .bf16) (i : Fin 1024) (j : Fin 1024) :
    out0_2 (F := Ideal) x0 x1 (ix2 i j) = ∑ s : Fin 1024, (x0 (ix2 i s) * x1 (ix2 s j) : EReal) := by
  frame_out
  exact pay_at x0 x1 i j

theorem idx : ∀ t : Fin cfg0.N, (cfg0.win 0).index t = ![t.val, 0] ∧ (cfg0.win 1).index t = ![0, 0]
    ∧ (cfg0.win 2).index t = ![t.val, 0] := by
  decide +kernel

theorem blk0 (x : (⟨S2048x1024, .bf16⟩ : BufTy).Contents (Elt Ideal)) (t : Fin 2) (i : Fin 1024) (s : Fin 1024) :
    ((cfg0.win 0).blk t).view.read (Elt Ideal) x (ix2 i s) = x (ix2 ⟨1024 * t + i, by omega⟩ s) := by
  have := idx t
  refine congrArg x ?_
  blk_ext [this]

theorem blk1 (x : (⟨S1024x1024, .bf16⟩ : BufTy).Contents (Elt Ideal)) (t : Fin 2) (s : Fin 1024) (j : Fin 1024) :
    ((cfg0.win 1).blk t).view.read (Elt Ideal) x (ix2 s j) = x (ix2 s j) := by
  have := idx t
  refine congrArg x ?_
  blk_ext [this]

theorem place2 (x : FVec Ideal S2048x1024 .f32) (t : Fin 2) (i : Fin 1024) (j : Fin 1024) :
    x (((cfg0.win 2).blk t).view.emb (ix2 i j)) = x (ix2 ⟨1024 * t + i, by omega⟩ j) := by
  have := idx t
  refine congrArg x ?_
  blk_ext [this]

/-- The product. -/
def arr (a : FVec Ideal S2048x1024 .bf16) (b : FVec Ideal S1024x1024 .bf16) : FVec Ideal S2048x1024 .f32 :=
  fun y => ∑ s : Fin 1024, (a (ix2 (y 0) s) * b (ix2 s (y 1)) : EReal)

theorem arr_at (a : FVec Ideal S2048x1024 .bf16) (b : FVec Ideal S1024x1024 .bf16) (i : Fin 2048) (j : Fin 1024) :
    arr a b (ix2 i j) = ∑ s : Fin 1024, (a (ix2 i s) * b (ix2 s j) : EReal) := rfl

/-- What a point leaves, of the arrays its windows read. -/
theorem point (a : FVec Ideal S2048x1024 .bf16) (b : FVec Ideal S1024x1024 .bf16) (t : Fin 2) (i : Fin 1024) (j : Fin 1024) :
    out0_2 (F := Ideal) (((cfg0.win 0).blk t).view.read (Elt Ideal) a) (((cfg0.win 1).blk t).view.read (Elt Ideal) b) (ix2 i j) =
      arr a b (((cfg0.win 2).blk t).view.emb (ix2 i j)) := by
  refine (out_at _ _ i j).trans (Eq.trans ?_ ((place2 (arr a b) t i j).trans (arr_at a b _ _)).symm)
  exact Finset.sum_congr rfl fun s _ => congrArg₂ (fun a b : EReal => a * b) (blk0 a t i s) (blk1 b t s j)

theorem cover2 : (cfg0.win 2).Covers := by decide +kernel

theorem after2 (t : Fin cfg0.N) (i : Fin 1024) (j : Fin 1024) : (dats m 0 c).after 2 t (ix2 i j) =
    arr (V m c main_v0) (V m c main_v1) (((cfg0.win 2).blk t).view.emb (ix2 i j)) := by
  rw [after0_2]
  exact point (V m c main_v0) (V m c main_v1) t i j

/-- The launch leaves the product. -/
theorem out2 : (dats m 0 c).arrAt 2 cfg0.N = arr (V m c main_v0) (V m c main_v1) := by
  refine (dats m 0 c).arrAt_eq_of_covers 2 (arr (V m c main_v0) (V m c main_v1)) cover2 fun t hf y => ?_
  obtain ⟨i, j, rfl⟩ : ∃ (i : Fin 1024) (j : Fin 1024), y = ix2 i j := ⟨y 0, y 1, eq_ix2 y⟩
  exact after2 m c t i j

end Cert.Kernel8Ideal.In
-- ==== Proof.In.Value8.lean ====
/- The layer's output product is the reference's, entry by entry. -/
module

public import proofs.«01_k».proof.Proof.In.Out8
public import proofs.«01_k».proof.Proof.Gen.Reference8Ideal.Read
public import Idealize.ShloMosaic.Lib.StableHlo.ReadAt

@[expose] public section

set_option maxRecDepth 16384

noncomputable section

namespace Cert.Kernel8Ideal.In

open Cert.Kernel8Ideal Cert.Kernel8Ideal.Gen
open Idealize.ShloMosaic Idealize.ShloMosaic.TcCoe Idealize.ShloMosaic.StableHlo Idealize.SL.Sem
open Cert.Reference8Ideal.Read (val_main_v0)

variable (m : (ℓ : Loc nD τ sig) → Buf (Elt Ideal) ℓ) (ρ : Dev nD → PrngReg) (c : Dev nD)

theorem V_a (i : Fin 2048) (s : Fin 1024) : V m c main_v0 (ix2 i s) = m (c.tc.loc main_arg0) (ix2 i s) := by
  unfold V
  after_reads_at

theorem V_b (s : Fin 1024) (j : Fin 1024) : V m c main_v1 (ix2 s j) = m (c.tc.loc main_arg1) (ix2 s j) := by
  unfold V
  after_reads_at

/-- The reference's entry. -/
theorem ref_at (x0 : FVec Ideal S2048x1024 .f32) (x1 : FVec Ideal S1024x1024 .f32) (i : Fin 2048) (j : Fin 1024) :
    val_main_v0 (F := Ideal) x0 x1 (ix2 i j) = ∑ s : Fin 1024, (x0 (ix2 i s) * x1 (ix2 s j) : EReal) := by
  refine (Cert.Reference8Ideal.Read.val_main_v0_apply x0 x1 _).trans ?_
  refine Finset.sum_congr rfl fun s _ => congrArg₂ (fun a b : EReal => a * b) (congrArg x0 ?_) (congrArg x1 ?_)
  · funext a; fin_cases a <;> rfl
  · funext a; fin_cases a <;> rfl

theorem entry (i : Fin 2048) (j : Fin 1024) : arr (V m c main_v0) (V m c main_v1) (ix2 i j) =
    val_main_v0 (F := Ideal) (m (c.tc.loc main_arg0)) (m (c.tc.loc main_arg1)) (ix2 i j) := by
  refine (arr_at _ _ i j).trans (Eq.trans ?_ (ref_at (m (c.tc.loc main_arg0)) (m (c.tc.loc main_arg1)) i j).symm)
  exact Finset.sum_congr rfl fun s _ => congrArg₂ (fun a b : EReal => a * b) (V_a m c i s) (V_b m c s j)

theorem all : (dats m 0 c).arrAt 2 cfg0.N = val_main_v0 (F := Ideal) (m (c.tc.loc main_arg0)) (m (c.tc.loc main_arg1)) := by
  rw [out2]
  refine funext fun y => ?_
  rw [eq_ix2 y]
  exact entry m c _ _

/-- The kernel's run: its result is the reference's term, its arguments stay. -/
theorem run_value : θ_run defs (onTc (τ := τ) (main (F := Ideal))) ⟨m, fun _ => 0, ρ⟩ (fun r => ∀ c : Dev nD,
      r.2.mem ((c.tc : Thread nD τ).loc main_v2) = val_main_v0 (F := Ideal) (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).1 2).trans (all m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)
    (run_main_quiescent m ρ)

end Cert.Kernel8Ideal.In
-- ==== Proof.In.Out9.lean ====
/- The launch of the query projection's two gradients: at each band of rows the gradient of the rows, and the weight gradient added up. -/
module

public import proofs.«01_k».proof.Proof.Gen.Kernel9Ideal.Frame
public import Idealize.ShloMosaic.Lib.MatmulPlain
public import Idealize.ShloMosaic.Lib.Pipeline.ValueKit
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Kernel9Ideal.In

open Cert.Kernel9Ideal Cert.Kernel9Ideal.Gen
open Idealize.ShloMosaic Idealize.ShloMosaic.TcCoe

variable (m : (ℓ : Loc nD τ sig) → Buf (Elt Ideal) ℓ) (c : Dev nD)

/-- One band's part of the weight gradient. -/
def dot (x0 : FVec Ideal S1024x768 .bf16) (x2 : FVec Ideal S1024x384 .bf16) (i : Fin 384) (j : Fin 768) : EReal :=
  ∑ s : Fin 1024, (x2 (ix2 s i) * x0 (ix2 s j) : EReal)

theorem pay1_eq (x0 : FVec Ideal S1024x768 .bf16) : k0_pay1 (F := Ideal) x0 = x0 := by
  unfold k0_pay1
  exact shapeCast_self _ _

/-- The gradient of a band of rows. -/
theorem pay2_at (x0 : FVec Ideal S1024x768 .bf16) (x1 : FVec Ideal S384x768 .bf16) (i : Fin 1024) (j : Fin 384) :
    k0_pay2 (F := Ideal) x0 x1 (ix2 i j) = ∑ s : Fin 768, (x0 (ix2 i s) * x1 (ix2 j s) : EReal) := by
  unfold k0_pay2
  rw [pay1_eq]
  pointwise

theorem pay3_at (x0 : FVec Ideal S1024x768 .bf16) (x2 : FVec Ideal S1024x384 .bf16) (i : Fin 384) (j : Fin 768) :
    k0_pay3 (F := Ideal) x0 x2 (ix2 i j) = dot x0 x2 i j := by
  unfold k0_pay3 dot
  rw [pay1_eq]
  pointwise

theorem pay4_at (x0 : FVec Ideal S1024x768 .bf16) (x2 : FVec Ideal S1024x384 .bf16) (i : Fin 384) (j : Fin 768) :
    k0_pay4 (F := Ideal) x0 x2 (ix2 i j) = dot x0 x2 i j := by
  refine Eq.trans ?_ (pay3_at x0 x2 i j)
  unfold k0_pay4
  generalize k0_pay3 (F := Ideal) x0 x2 = y
  pointwise

theorem pay5_at (x0 : FVec Ideal S1024x768 .bf16) (x2 : FVec Ideal S1024x384 .bf16) (a : FVec Ideal S384x768 .f32) (i : Fin 384) (j : Fin 768) :
    k0_pay5 (F := Ideal) x0 x2 a (ix2 i j) = (a (ix2 i j) + dot x0 x2 i j : EReal) := by
  rw [← pay3_at x0 x2 i j]
  unfold k0_pay5
  generalize k0_pay3 (F := Ideal) x0 x2 = y
  pointwise

theorem pay6_at (a : FVec Ideal S384x768 .f32) (i : Fin 384) (j : Fin 768) : k0_pay6 (F := Ideal) a (ix2 i j) = a (ix2 i j) := by
  pointwise [k0_pay6]

theorem rows_at (t : Fin cfg0.N) (i : Fin 1024) (j : Fin 384) : (outsAt0 m c t.val t.isLt).1 (ix2 i j) =
    k0_pay2 (F := Ideal) (iblk m c 0 t) (iblk m c 1 t) (ix2 i j) := by
  by_cases h : t.val % 2 = 0
  · rw [outsAt0_A m c t h (by omega) (by omega)]
    frame_out
  · rw [outsAt0_B m c t h (by omega) (by omega)]
    frame_out

theorem accA (t : Fin cfg0.N) (h : t.val % 2 = 0) (i : Fin 384) (j : Fin 768) :
    (outsAt0 m c t.val t.isLt).2.2 (ix2 i j) = dot (iblk m c 0 t) (iblk m c 2 t) i j := by
  rw [outsAt0_A m c t h (by omega) (by omega)]
  frame_out
  exact pay4_at _ _ i j

theorem accB (t : Fin cfg0.N) (h : ¬ t.val % 2 = 0) (i : Fin 384) (j : Fin 768) :
    (outsAt0 m c t.val t.isLt).2.2 (ix2 i j) = ((outsAt0 m c (t.val - 1) (Nat.lt_of_le_of_lt (Nat.sub_le _ _) t.isLt)).2.2 (ix2 i j)
      + dot (iblk m c 0 t) (iblk m c 2 t) i j : EReal) := by
  rw [outsAt0_B m c t h (by omega) (by omega)]
  frame_out
  rw [read_unread_whole]
  exact pay5_at _ _ _ i j

theorem outB (t : Fin cfg0.N) (h : t.val % 2 = 1) (i : Fin 384) (j : Fin 768) :
    (outsAt0 m c t.val t.isLt).2.1 (ix2 i j) = (outsAt0 m c t.val t.isLt).2.2 (ix2 i j) := by
  rw [outsAt0_B m c t (by omega) h h]
  frame_out
  exact pay6_at _ i j

theorem idx : ∀ t : Fin cfg0.N, (cfg0.win 0).index t = ![t.val, 0] ∧ (cfg0.win 1).index t = ![0, 0] ∧ (cfg0.win 2).index t = ![t.val, 0]
    ∧ (cfg0.win 3).index t = ![t.val, 0] ∧ (cfg0.win 4).index t = ![0, 0] := by
  decide +kernel

theorem blk0 (x : (⟨S2048x768, .bf16⟩ : BufTy).Contents (Elt Ideal)) (t : Fin 2) (i : Fin 1024) (j : Fin 768) :
    ((cfg0.win 0).blk t).view.read (Elt Ideal) x (ix2 i j) = x (ix2 ⟨t * 1024 + i, by omega⟩ j) := by
  have := idx t
  refine congrArg x ?_
  blk_ext [this]

theorem blk1 (x : (⟨S384x768, .bf16⟩ : BufTy).Contents (Elt Ideal)) (t : Fin 2) (i : Fin 384) (j : Fin 768) :
    ((cfg0.win 1).blk t).view.read (Elt Ideal) x (ix2 i j) = x (ix2 i j) := by
  have := idx t
  refine congrArg x ?_
  blk_ext [this]

theorem blk2 (x : (⟨S2048x384, .bf16⟩ : BufTy).Contents (Elt Ideal)) (t : Fin 2) (i : Fin 1024) (j : Fin 384) :
    ((cfg0.win 2).blk t).view.read (Elt Ideal) x (ix2 i j) = x (ix2 ⟨t * 1024 + i, by omega⟩ j) := by
  have := idx t
  refine congrArg x ?_
  blk_ext [this]

theorem place3 (x : FVec Ideal S2048x384 .bf16) (t : Fin 2) (i : Fin 1024) (j : Fin 384) :
    x (((cfg0.win 3).blk t).view.emb (ix2 i j)) = x (ix2 ⟨t * 1024 + i, by omega⟩ j) := by
  have := idx t
  refine congrArg x ?_
  blk_ext [this]

theorem place4 (x : FVec Ideal S384x768 .bf16) (t : Fin 2) (i : Fin 384) (j : Fin 768) :
    x (((cfg0.win 4).blk t).view.emb (ix2 i j)) = x (ix2 i j) := by
  have := idx t
  refine congrArg x ?_
  blk_ext [this]

/-- The gradient of the rows. -/
def arrR (d : FVec Ideal S2048x768 .bf16) (w : FVec Ideal S384x768 .bf16) : FVec Ideal S2048x384 .bf16 :=
  fun y => ∑ s : Fin 768, (d (ix2 (y 0) s) * w (ix2 (y 1) s) : EReal)

theorem arrR_at (d : FVec Ideal S2048x768 .bf16) (w : FVec Ideal S384x768 .bf16) (i : Fin 2048) (j : Fin 384) :
    arrR d w (ix2 i j) = ∑ s : Fin 768, (d (ix2 i s) * w (ix2 j s) : EReal) := rfl

/-- The weight gradient. -/
def arrW (d : FVec Ideal S2048x768 .bf16) (h : FVec Ideal S2048x384 .bf16) : FVec Ideal S384x768 .bf16 :=
  fun y => ∑ s : Fin 2048, (h (ix2 s (y 0)) * d (ix2 s (y 1)) : EReal)

theorem arrW_at (d : FVec Ideal S2048x768 .bf16) (h : FVec Ideal S2048x384 .bf16) (i : Fin 384) (j : Fin 768) :
    arrW d h (ix2 i j) = ∑ s : Fin 2048, (h (ix2 s i) * d (ix2 s j) : EReal) := rfl

/-- What a point leaves of the rows' gradient, of the arrays its windows read. -/
theorem point3 (d : FVec Ideal S2048x768 .bf16) (w : FVec Ideal S384x768 .bf16) (t : Fin 2) (i : Fin 1024) (j : Fin 384) :
    k0_pay2 (F := Ideal) (((cfg0.win 0).blk t).view.read (Elt Ideal) d) (((cfg0.win 1).blk t).view.read (Elt Ideal) w) (ix2 i j) =
      arrR d w (((cfg0.win 3).blk t).view.emb (ix2 i j)) := by
  refine (pay2_at _ _ i j).trans (Eq.trans ?_ ((place3 (arrR d w) t i j).trans (arrR_at d w _ _)).symm)
  exact Finset.sum_congr rfl fun s _ => congrArg₂ (fun a b : EReal => a * b) (blk0 d t i s) (blk1 w t j s)

/-- One band's part, of the arrays its windows read. -/
theorem dot_at (d : FVec Ideal S2048x768 .bf16) (h : FVec Ideal S2048x384 .bf16) (t : Fin 2) (i : Fin 384) (j : Fin 768) :
    dot (((cfg0.win 0).blk t).view.read (Elt Ideal) d) (((cfg0.win 2).blk t).view.read (Elt Ideal) h) i j =
      ∑ l : Fin 1024, (h (ix2 ⟨t * 1024 + l, by omega⟩ i) * d (ix2 ⟨t * 1024 + l, by omega⟩ j) : EReal) :=
  Finset.sum_congr rfl fun l _ => congrArg₂ (fun a b : EReal => a * b) (blk2 h t l i) (blk0 d t l j)

/-- The two bands together are all rows. -/
theorem parts (d : FVec Ideal S2048x768 .bf16) (h : FVec Ideal S2048x384 .bf16) (i : Fin 384) (j : Fin 768) :
    (∑ t : Fin 2, ∑ l : Fin 1024, (h (ix2 ⟨t * 1024 + l, by omega⟩ i) * d (ix2 ⟨t * 1024 + l, by omega⟩ j) : EReal)) =
      arrW d h (ix2 i j) :=
  Fin.sum_mul_add_fin 2 1024 fun p : Fin 2048 => (h (ix2 p i) * d (ix2 p j) : EReal)

theorem cover3 : (cfg0.win 3).Covers := by decide +kernel
theorem cover4 : (cfg0.win 4).Covers := by decide +kernel

/-- What the scratch array holds at the last band. -/
theorem acc (t : Fin cfg0.N) (h : t.val % 2 = 1) (i : Fin 384) (j : Fin 768) : (outsAt0 m c t.val t.isLt).2.2 (ix2 i j) =
    (0 : EReal) + ∑ s : Fin 2, dot (iblk m c 0 ⟨2 * (t.val / 2) + s.val, Pipeline.run_point_lt_of_flush t h s⟩)
      (iblk m c 2 ⟨2 * (t.val / 2) + s.val, Pipeline.run_point_lt_of_flush t h s⟩) i j :=
  Pipeline.eq_sum_fin_of_reset_step_of_flush (M := EReal) (fun n h => (outsAt0 m c n h).2.2 (ix2 i j)) 2 0
    (fun t => dot (iblk m c 0 t) (iblk m c 2 t) i j)
    (fun t h => (accA m c t h i j).trans (zero_add _).symm) (fun t h => accB m c t h i j) t h

theorem after3 (t : Fin cfg0.N) (i : Fin 1024) (j : Fin 384) : (dats m 0 c).after 3 t (ix2 i j) =
    arrR (V m c main_v7) (V m c main_v15) (((cfg0.win 3).blk t).view.emb (ix2 i j)) := by
  rw [after0_3]
  exact (rows_at m c t i j).trans (point3 (V m c main_v7) (V m c main_v15) t i j)

theorem after4 (t : Fin cfg0.N) (h : t.val % 2 = 1) (i : Fin 384) (j : Fin 768) : (dats m 0 c).after 4 t (ix2 i j) =
    arrW (V m c main_v7) (V m c main_v16) (((cfg0.win 4).blk t).view.emb (ix2 i j)) := by
  have hN : t.val < 2 := t.isLt
  have h0 : t.val / 2 = 0 := by omega
  rw [after0_4]
  refine (outB m c t h i j).trans ((acc m c t h i j).trans ((zero_add _).trans
    (Eq.trans ?_ (place4 (arrW (V m c main_v7) (V m c main_v16)) t i j).symm)))
  refine Eq.trans ?_ (parts (V m c main_v7) (V m c main_v16) i j)
  refine Finset.sum_congr rfl fun s _ => ?_
  have e : (⟨2 * (t.val / 2) + s.val, Pipeline.run_point_lt_of_flush t h s⟩ : Fin cfg0.N) = s :=
    Fin.ext (show 2 * (t.val / 2) + s.val = s.val by omega)
  rw [e]
  exact dot_at (V m c main_v7) (V m c main_v16) s i j

/-- The launch leaves the two gradients. -/
theorem out3 : (dats m 0 c).arrAt 3 cfg0.N = arrR (V m c main_v7) (V m c main_v15) := by
  refine (dats m 0 c).arrAt_eq_of_covers 3 (arrR (V m c main_v7) (V m c main_v15)) cover3 fun t hf y => ?_
  obtain ⟨i, j, rfl⟩ : ∃ (i : Fin 1024) (j : Fin 384), y = ix2 i j := ⟨y 0, y 1, eq_ix2 y⟩
  exact after3 m c t i j

theorem out4 : (dats m 0 c).arrAt 4 cfg0.N = arrW (V m c main_v7) (V m c main_v16) := by
  refine (dats m 0 c).arrAt_eq_of_covers 4 (arrW (V m c main_v7) (V m c main_v16)) cover4 fun t hf y => ?_
  obtain ⟨i, j, rfl⟩ : ∃ (i : Fin 384) (j : Fin 768), y = ix2 i j := ⟨y 0, y 1, eq_ix2 y⟩
  exact after4 m c t ((flush0_4 t).mp hf) i j

end Cert.Kernel9Ideal.In
-- ==== Proof.In.Heads.lean ====
/- The columns of the heads: a permutation between the order that the arguments have (head by head) and the order of the
   kernel's arrays (four heads side by side, their first 64 columns and then the others). -/
module

public import Idealize.ShloMosaic.PureOps.Ideal

@[expose] public section

set_option maxRecDepth 16384

noncomputable section

namespace Cert.Heads

/-- The argument's column of column `p`. -/
def to_q (p : Fin 768) : Fin 768 :=
  if h : (p : ℕ) % 384 < 256 then ⟨96 * (4 * (p / 384) + p % 384 / 64) + p % 384 % 64, by omega⟩
  else ⟨96 * (4 * (p / 384) + (p % 384 - 256) / 32) + (64 + (p % 384 - 256) % 32), by omega⟩

/-- The column that holds the argument's column `k`. -/
def of_q (k : Fin 768) : Fin 768 :=
  if h : (k : ℕ) % 96 < 64 then ⟨384 * (k / 96 / 4) + (64 * (k / 96 % 4) + k % 96), by omega⟩
  else ⟨384 * (k / 96 / 4) + (256 + (32 * (k / 96 % 4) + (k % 96 - 64))), by omega⟩

theorem to_of_q : ∀ k : Fin 768, to_q (of_q k) = k := by decide +kernel

theorem of_to_q : ∀ p : Fin 768, of_q (to_q p) = p := by decide +kernel

/-- A sum over the columns does not depend on their order. -/
theorem sum_q (f : Fin 768 → EReal) : ∑ p, f (to_q p) = ∑ k, f k :=
  Fintype.sum_equiv ⟨to_q, of_q, of_to_q, to_of_q⟩ _ _ fun _ => rfl

/-- The argument's column of column `p`. -/
def to_kv (p : Fin 1024) : Fin 1024 :=
  if h : (p : ℕ) % 512 < 256 then ⟨128 * (4 * (p / 512) + p % 512 / 64) + p % 512 % 64, by omega⟩
  else ⟨128 * (4 * (p / 512) + (p % 512 - 256) / 64) + (64 + (p % 512 - 256) % 64), by omega⟩

/-- The column that holds the argument's column `k`. -/
def of_kv (k : Fin 1024) : Fin 1024 :=
  if h : (k : ℕ) % 128 < 64 then ⟨512 * (k / 128 / 4) + (64 * (k / 128 % 4) + k % 128), by omega⟩
  else ⟨512 * (k / 128 / 4) + (256 + (64 * (k / 128 % 4) + (k % 128 - 64))), by omega⟩

theorem to_of_kv : ∀ k : Fin 1024, to_kv (of_kv k) = k := by decide +kernel

theorem of_to_kv : ∀ p : Fin 1024, of_kv (to_kv p) = p := by decide +kernel

/-- A sum over the columns does not depend on their order. -/
theorem sum_kv (f : Fin 1024 → EReal) : ∑ p, f (to_kv p) = ∑ k, f k :=
  Fintype.sum_equiv ⟨to_kv, of_kv, of_to_kv, to_of_kv⟩ _ _ fun _ => rfl

end Cert.Heads
-- ==== Proof.In.Value9.lean ====
/- The two gradients of the query projection's product are the reference's, entry by entry. -/
module

public import proofs.«01_k».proof.Proof.In.Out9
public import proofs.«01_k».proof.Proof.In.Heads
public import proofs.«01_k».proof.Proof.Gen.Reference9Ideal.Read
public import Idealize.ShloMosaic.Lib.StableHlo.ReadAt

@[expose] public section

set_option maxRecDepth 16384

noncomputable section

namespace Cert.Kernel9Ideal.In

open Cert.Kernel9Ideal Cert.Kernel9Ideal.Gen Cert.Heads
open Idealize.ShloMosaic Idealize.ShloMosaic.TcCoe Idealize.ShloMosaic.StableHlo Idealize.SL.Sem
open Cert.Reference9Ideal.Read (val_main_v2 val_main_v3)

variable (m : (ℓ : Loc nD τ sig) → Buf (Elt Ideal) ℓ) (ρ : Dev nD → PrngReg) (c : Dev nD)

/-- The gradient's columns in the order of the heads. -/
theorem V_d (i : Fin 2048) (p : Fin 768) : V m c main_v7 (ix2 i p) = m (c.tc.loc main_arg2) (ix2 i (to_q p)) := by
  by_cases h : (p : ℕ) % 384 < 256
  · rw [to_q, dif_pos h]
    unfold V
    after_reads_at
    refine Eq.trans (dif_pos h) ?_
    after_reads_at
    refine congrArg (fun k => m (c.tc.loc main_arg2) (ix2 i k)) (Fin.ext ?_)
    dsimp only
    omega
  · rw [to_q, dif_neg h]
    unfold V
    after_reads_at
    refine Eq.trans (dif_neg h) ?_
    after_reads_at
    refine congrArg (fun k => m (c.tc.loc main_arg2) (ix2 i k)) (Fin.ext ?_)
    dsimp only
    omega

/-- The weight's columns in the order of the heads. -/
theorem V_w (i : Fin 384) (p : Fin 768) : V m c main_v15 (ix2 i p) = m (c.tc.loc main_arg1) (ix2 i (to_q p)) := by
  by_cases h : (p : ℕ) % 384 < 256
  · rw [to_q, dif_pos h]
    unfold V
    after_reads_at
    refine Eq.trans (dif_pos h) ?_
    after_reads_at
    refine congrArg (fun k => m (c.tc.loc main_arg1) (ix2 i k)) (Fin.ext ?_)
    dsimp only
    omega
  · rw [to_q, dif_neg h]
    unfold V
    after_reads_at
    refine Eq.trans (dif_neg h) ?_
    after_reads_at
    refine congrArg (fun k => m (c.tc.loc main_arg1) (ix2 i k)) (Fin.ext ?_)
    dsimp only
    omega

theorem V_h (s : Fin 2048) (i : Fin 384) : V m c main_v16 (ix2 s i) = m (c.tc.loc main_arg0) (ix2 s i) := by
  unfold V
  after_reads_at

/-- The reference's entries. -/
theorem refR_at (x1 : FVec Ideal S384x768 .f32) (x2 : FVec Ideal S2048x768 .f32) (i : Fin 2048) (j : Fin 384) :
    val_main_v3 (F := Ideal) x1 x2 (ix2 i j) = ∑ s : Fin 768, (x2 (ix2 i s) * x1 (ix2 j s) : EReal) := by
  refine (Cert.Reference9Ideal.Read.val_main_v3_apply x1 x2 _).trans ?_
  refine Finset.sum_congr rfl fun s _ => congrArg₂ (fun a b : EReal => a * b) (congrArg x2 ?_) (congrArg x1 ?_)
  · funext a; fin_cases a <;> rfl
  · funext a; fin_cases a <;> rfl

theorem refW_at (x0 : FVec Ideal S2048x384 .f32) (x2 : FVec Ideal S2048x768 .f32) (i : Fin 384) (j : Fin 768) :
    val_main_v2 (F := Ideal) x0 x2 (ix2 i j) = ∑ s : Fin 2048, (x2 (ix2 s j) * x0 (ix2 s i) : EReal) := by
  refine (Cert.Reference9Ideal.Read.val_main_v2_apply (F := Ideal) x0 x2 _).trans ((Cert.Reference9Ideal.Read.val_main_v1_apply x0 x2 _).trans ?_)
  refine Finset.sum_congr rfl fun s _ => congrArg₂ (fun a b : EReal => a * b) (congrArg x2 ?_) (congrArg x0 ?_)
  · funext a; fin_cases a <;> rfl
  · funext a; fin_cases a <;> rfl

/-- The memory when the kernel has ended. -/
abbrev ended : Valuation τ sig (Elt Ideal) := Pipeline.withArrays spec0 c (V0 m c) fun w => (dats m 0 c).arrAt w cfg0.N

/-- The memory after the host's operations that follow the kernel. -/
abbrev tail (W : Valuation τ sig (Elt Ideal)) (b : Ref sig .tc) : b.ty.Contents (Elt Ideal) := after (hostOps1 (F := Ideal)) W (Proc.devRef .tc b)

theorem tail_eq (b : Ref sig .tc) : Pipeline.afterTail₀ cfgs (dats m) 0 (V0 m) [hostOps1] c b = tail (ended m c) b := by
  unfold Pipeline.afterTail₀ tail ended
  rw [List.flatten_singleton]

theorem tail_R (W : Valuation τ sig (Elt Ideal)) (i : Fin 2048) (j : Fin 384) :
    tail W main_v18 (ix2 i j) = W (Proc.devRef .tc main_v17_0) (ix2 i j) := by
  unfold tail
  after_reads_at

/-- The columns come back to their places. -/
theorem tail_cols (W : Valuation τ sig (Elt Ideal)) (i : Fin 384) (k : Fin 768) :
    tail W main_v26 (ix2 i k) = W (Proc.devRef .tc main_v17_1) (ix2 i (of_q k)) := by
  by_cases h : (k : ℕ) % 96 < 64
  · rw [of_q, dif_pos h]
    unfold tail
    after_reads_at
    refine Eq.trans (dif_pos h) ?_
    after_reads_at
    refine congrArg (fun k => W (Proc.devRef .tc main_v17_1) (ix2 i k)) (Fin.ext ?_)
    dsimp only
    omega
  · rw [of_q, dif_neg h]
    unfold tail
    after_reads_at
    refine Eq.trans (dif_neg h) ?_
    after_reads_at
    refine congrArg (fun k => W (Proc.devRef .tc main_v17_1) (ix2 i k)) (Fin.ext ?_)
    dsimp only
    omega

theorem arr_inj : Function.Injective (Pipeline.arrRef spec0) := by decide

theorem ended3 : ended m c (Proc.devRef .tc main_v17_0) = arrR (V m c main_v7) (V m c main_v15) :=
  (Pipeline.withArrays_arr spec0 arr_inj c _ _ 3).trans (out3 m c)

theorem ended4 : ended m c (Proc.devRef .tc main_v17_1) = arrW (V m c main_v7) (V m c main_v16) :=
  (Pipeline.withArrays_arr spec0 arr_inj c _ _ 4).trans (out4 m c)

theorem sum_cols (d : FVec Ideal S2048x768 .f32) (w : FVec Ideal S384x768 .f32) (i : Fin 2048) (j : Fin 384) :
    ∑ p, (d (ix2 i (to_q p)) * w (ix2 j (to_q p)) : EReal) = ∑ k, (d (ix2 i k) * w (ix2 j k) : EReal) :=
  sum_q fun k => (d (ix2 i k) * w (ix2 j k) : EReal)

theorem entryR (i : Fin 2048) (j : Fin 384) : tail (ended m c) main_v18 (ix2 i j) =
    val_main_v3 (F := Ideal) (m (c.tc.loc main_arg1)) (m (c.tc.loc main_arg2)) (ix2 i j) := by
  rw [tail_R, ended3]
  refine (arrR_at _ _ i j).trans (Eq.trans ?_ (refR_at (m (c.tc.loc main_arg1)) (m (c.tc.loc main_arg2)) i j).symm)
  refine Eq.trans (Finset.sum_congr rfl fun s _ => congrArg₂ (fun a b : EReal => a * b) (V_d m c i s) (V_w m c j s)) ?_
  exact sum_cols (m (c.tc.loc main_arg2)) (m (c.tc.loc main_arg1)) i j

theorem entryW (i : Fin 384) (j : Fin 768) : tail (ended m c) main_v26 (ix2 i j) =
    val_main_v2 (F := Ideal) (m (c.tc.loc main_arg0)) (m (c.tc.loc main_arg2)) (ix2 i j) := by
  rw [tail_cols, ended4]
  refine (arrW_at _ _ i (of_q j)).trans (Eq.trans ?_ (refW_at (m (c.tc.loc main_arg0)) (m (c.tc.loc main_arg2)) i j).symm)
  exact Finset.sum_congr rfl fun s _ => (congrArg₂ (fun a b : EReal => a * b) (V_h m c s i) ((V_d m c s _).trans (by rw [to_of_q]))).trans (mul_comm _ _)

theorem allR : Pipeline.afterTail₀ cfgs (dats m) 0 (V0 m) [hostOps1] c main_v18 =
    val_main_v3 (F := Ideal) (m (c.tc.loc main_arg1)) (m (c.tc.loc main_arg2)) := by
  rw [tail_eq]
  refine funext fun y => ?_
  rw [eq_ix2 y]
  exact entryR m c _ _

theorem allW : Pipeline.afterTail₀ cfgs (dats m) 0 (V0 m) [hostOps1] c main_v26 =
    val_main_v2 (F := Ideal) (m (c.tc.loc main_arg0)) (m (c.tc.loc main_arg2)) := by
  rw [tail_eq]
  refine funext fun y => ?_
  rw [eq_ix2 y]
  exact entryW m c _ _

/-- The kernel's run: its results are the reference's terms, its arguments stay. -/
theorem run_value : θ_run defs (onTc (τ := τ) (main (F := Ideal))) ⟨m, fun _ => 0, ρ⟩ (fun r => ∀ c : Dev nD,
      r.2.mem ((c.tc : Thread nD τ).loc main_v18) = val_main_v3 (F := Ideal) (m (c.tc.loc main_arg1)) (m (c.tc.loc main_arg2))
      ∧ r.2.mem ((c.tc : Thread nD τ).loc main_v26) = val_main_v2 (F := Ideal) (m (c.tc.loc main_arg0)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v18 (Pipeline.mem_restRefs_of main_v18 (by decide) (by decide))).trans (allR m c),
      ((h.1 c).2 main_v26 (Pipeline.mem_restRefs_of main_v26 (by decide) (by decide))).trans (allW m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩)
    (run_main_quiescent m ρ)

end Cert.Kernel9Ideal.In
-- ==== Proof.In.Out10.lean ====
/- The launch of the key-value projection's two gradients: at each band of rows the gradient of the rows, and the weight gradient added up. -/
module

public import proofs.«01_k».proof.Proof.Gen.Kernel10Ideal.Frame
public import Idealize.ShloMosaic.Lib.MatmulPlain
public import Idealize.ShloMosaic.Lib.Pipeline.ValueKit
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Kernel10Ideal.In

open Cert.Kernel10Ideal Cert.Kernel10Ideal.Gen
open Idealize.ShloMosaic Idealize.ShloMosaic.TcCoe

variable (m : (ℓ : Loc nD τ sig) → Buf (Elt Ideal) ℓ) (c : Dev nD)

/-- One band's part of the weight gradient. -/
def dot (x0 : FVec Ideal S1024x1024 .bf16) (x2 : FVec Ideal S1024x256 .bf16) (i : Fin 256) (j : Fin 1024) : EReal :=
  ∑ s : Fin 1024, (x2 (ix2 s i) * x0 (ix2 s j) : EReal)

theorem pay1_eq (x0 : FVec Ideal S1024x1024 .bf16) : k0_pay1 (F := Ideal) x0 = x0 := by
  unfold k0_pay1
  exact shapeCast_self _ _

/-- The gradient of a band of rows. -/
theorem pay2_at (x0 : FVec Ideal S1024x1024 .bf16) (x1 : FVec Ideal S256x1024 .bf16) (i : Fin 1024) (j : Fin 256) :
    k0_pay2 (F := Ideal) x0 x1 (ix2 i j) = ∑ s : Fin 1024, (x0 (ix2 i s) * x1 (ix2 j s) : EReal) := by
  unfold k0_pay2
  rw [pay1_eq]
  pointwise

theorem pay3_at (x0 : FVec Ideal S1024x1024 .bf16) (x2 : FVec Ideal S1024x256 .bf16) (i : Fin 256) (j : Fin 1024) :
    k0_pay3 (F := Ideal) x0 x2 (ix2 i j) = dot x0 x2 i j := by
  unfold k0_pay3 dot
  rw [pay1_eq]
  pointwise

theorem pay4_at (x0 : FVec Ideal S1024x1024 .bf16) (x2 : FVec Ideal S1024x256 .bf16) (i : Fin 256) (j : Fin 1024) :
    k0_pay4 (F := Ideal) x0 x2 (ix2 i j) = dot x0 x2 i j := by
  refine Eq.trans ?_ (pay3_at x0 x2 i j)
  unfold k0_pay4
  generalize k0_pay3 (F := Ideal) x0 x2 = y
  pointwise

theorem pay5_at (x0 : FVec Ideal S1024x1024 .bf16) (x2 : FVec Ideal S1024x256 .bf16) (a : FVec Ideal S256x1024 .f32) (i : Fin 256) (j : Fin 1024) :
    k0_pay5 (F := Ideal) x0 x2 a (ix2 i j) = (a (ix2 i j) + dot x0 x2 i j : EReal) := by
  rw [← pay3_at x0 x2 i j]
  unfold k0_pay5
  generalize k0_pay3 (F := Ideal) x0 x2 = y
  pointwise

theorem pay6_at (a : FVec Ideal S256x1024 .f32) (i : Fin 256) (j : Fin 1024) : k0_pay6 (F := Ideal) a (ix2 i j) = a (ix2 i j) := by
  pointwise [k0_pay6]

theorem rows_at (t : Fin cfg0.N) (i : Fin 1024) (j : Fin 256) : (outsAt0 m c t.val t.isLt).1 (ix2 i j) =
    k0_pay2 (F := Ideal) (iblk m c 0 t) (iblk m c 1 t) (ix2 i j) := by
  by_cases h : t.val % 2 = 0
  · rw [outsAt0_A m c t h (by omega) (by omega)]
    frame_out
  · rw [outsAt0_B m c t h (by omega) (by omega)]
    frame_out

theorem accA (t : Fin cfg0.N) (h : t.val % 2 = 0) (i : Fin 256) (j : Fin 1024) :
    (outsAt0 m c t.val t.isLt).2.2 (ix2 i j) = dot (iblk m c 0 t) (iblk m c 2 t) i j := by
  rw [outsAt0_A m c t h (by omega) (by omega)]
  frame_out
  exact pay4_at _ _ i j

theorem accB (t : Fin cfg0.N) (h : ¬ t.val % 2 = 0) (i : Fin 256) (j : Fin 1024) :
    (outsAt0 m c t.val t.isLt).2.2 (ix2 i j) = ((outsAt0 m c (t.val - 1) (Nat.lt_of_le_of_lt (Nat.sub_le _ _) t.isLt)).2.2 (ix2 i j)
      + dot (iblk m c 0 t) (iblk m c 2 t) i j : EReal) := by
  rw [outsAt0_B m c t h (by omega) (by omega)]
  frame_out
  rw [read_unread_whole]
  exact pay5_at _ _ _ i j

theorem outB (t : Fin cfg0.N) (h : t.val % 2 = 1) (i : Fin 256) (j : Fin 1024) :
    (outsAt0 m c t.val t.isLt).2.1 (ix2 i j) = (outsAt0 m c t.val t.isLt).2.2 (ix2 i j) := by
  rw [outsAt0_B m c t (by omega) h h]
  frame_out
  exact pay6_at _ i j

theorem idx : ∀ t : Fin cfg0.N, (cfg0.win 0).index t = ![t.val, 0] ∧ (cfg0.win 1).index t = ![0, 0] ∧ (cfg0.win 2).index t = ![t.val, 0]
    ∧ (cfg0.win 3).index t = ![t.val, 0] ∧ (cfg0.win 4).index t = ![0, 0] := by
  decide +kernel

theorem blk0 (x : (⟨S2048x1024, .bf16⟩ : BufTy).Contents (Elt Ideal)) (t : Fin 2) (i j : Fin 1024) :
    ((cfg0.win 0).blk t).view.read (Elt Ideal) x (ix2 i j) = x (ix2 ⟨t * 1024 + i, by omega⟩ j) := by
  have := idx t
  refine congrArg x ?_
  blk_ext [this]

theorem blk1 (x : (⟨S256x1024, .bf16⟩ : BufTy).Contents (Elt Ideal)) (t : Fin 2) (i : Fin 256) (j : Fin 1024) :
    ((cfg0.win 1).blk t).view.read (Elt Ideal) x (ix2 i j) = x (ix2 i j) := by
  have := idx t
  refine congrArg x ?_
  blk_ext [this]

theorem blk2 (x : (⟨S2048x256, .bf16⟩ : BufTy).Contents (Elt Ideal)) (t : Fin 2) (i : Fin 1024) (j : Fin 256) :
    ((cfg0.win 2).blk t).view.read (Elt Ideal) x (ix2 i j) = x (ix2 ⟨t * 1024 + i, by omega⟩ j) := by
  have := idx t
  refine congrArg x ?_
  blk_ext [this]

theorem place3 (x : FVec Ideal S2048x256 .bf16) (t : Fin 2) (i : Fin 1024) (j : Fin 256) :
    x (((cfg0.win 3).blk t).view.emb (ix2 i j)) = x (ix2 ⟨t * 1024 + i, by omega⟩ j) := by
  have := idx t
  refine congrArg x ?_
  blk_ext [this]

theorem place4 (x : FVec Ideal S256x1024 .bf16) (t : Fin 2) (i : Fin 256) (j : Fin 1024) :
    x (((cfg0.win 4).blk t).view.emb (ix2 i j)) = x (ix2 i j) := by
  have := idx t
  refine congrArg x ?_
  blk_ext [this]

/-- The gradient of the rows. -/
def arrR (d : FVec Ideal S2048x1024 .bf16) (w : FVec Ideal S256x1024 .bf16) : FVec Ideal S2048x256 .bf16 :=
  fun y => ∑ s : Fin 1024, (d (ix2 (y 0) s) * w (ix2 (y 1) s) : EReal)

theorem arrR_at (d : FVec Ideal S2048x1024 .bf16) (w : FVec Ideal S256x1024 .bf16) (i : Fin 2048) (j : Fin 256) :
    arrR d w (ix2 i j) = ∑ s : Fin 1024, (d (ix2 i s) * w (ix2 j s) : EReal) := rfl

/-- The weight gradient. -/
def arrW (d : FVec Ideal S2048x1024 .bf16) (h : FVec Ideal S2048x256 .bf16) : FVec Ideal S256x1024 .bf16 :=
  fun y => ∑ s : Fin 2048, (h (ix2 s (y 0)) * d (ix2 s (y 1)) : EReal)

theorem arrW_at (d : FVec Ideal S2048x1024 .bf16) (h : FVec Ideal S2048x256 .bf16) (i : Fin 256) (j : Fin 1024) :
    arrW d h (ix2 i j) = ∑ s : Fin 2048, (h (ix2 s i) * d (ix2 s j) : EReal) := rfl

/-- What a point leaves of the rows' gradient, of the arrays its windows read. -/
theorem point3 (d : FVec Ideal S2048x1024 .bf16) (w : FVec Ideal S256x1024 .bf16) (t : Fin 2) (i : Fin 1024) (j : Fin 256) :
    k0_pay2 (F := Ideal) (((cfg0.win 0).blk t).view.read (Elt Ideal) d) (((cfg0.win 1).blk t).view.read (Elt Ideal) w) (ix2 i j) =
      arrR d w (((cfg0.win 3).blk t).view.emb (ix2 i j)) := by
  refine (pay2_at _ _ i j).trans (Eq.trans ?_ ((place3 (arrR d w) t i j).trans (arrR_at d w _ _)).symm)
  exact Finset.sum_congr rfl fun s _ => congrArg₂ (fun a b : EReal => a * b) (blk0 d t i s) (blk1 w t j s)

/-- One band's part, of the arrays its windows read. -/
theorem dot_at (d : FVec Ideal S2048x1024 .bf16) (h : FVec Ideal S2048x256 .bf16) (t : Fin 2) (i : Fin 256) (j : Fin 1024) :
    dot (((cfg0.win 0).blk t).view.read (Elt Ideal) d) (((cfg0.win 2).blk t).view.read (Elt Ideal) h) i j =
      ∑ l : Fin 1024, (h (ix2 ⟨t * 1024 + l, by omega⟩ i) * d (ix2 ⟨t * 1024 + l, by omega⟩ j) : EReal) :=
  Finset.sum_congr rfl fun l _ => congrArg₂ (fun a b : EReal => a * b) (blk2 h t l i) (blk0 d t l j)

/-- The two bands together are all rows. -/
theorem parts (d : FVec Ideal S2048x1024 .bf16) (h : FVec Ideal S2048x256 .bf16) (i : Fin 256) (j : Fin 1024) :
    (∑ t : Fin 2, ∑ l : Fin 1024, (h (ix2 ⟨t * 1024 + l, by omega⟩ i) * d (ix2 ⟨t * 1024 + l, by omega⟩ j) : EReal)) =
      arrW d h (ix2 i j) :=
  Fin.sum_mul_add_fin 2 1024 fun p : Fin 2048 => (h (ix2 p i) * d (ix2 p j) : EReal)

theorem cover3 : (cfg0.win 3).Covers := by decide +kernel
theorem cover4 : (cfg0.win 4).Covers := by decide +kernel

/-- What the scratch array holds at the last band. -/
theorem acc (t : Fin cfg0.N) (h : t.val % 2 = 1) (i : Fin 256) (j : Fin 1024) : (outsAt0 m c t.val t.isLt).2.2 (ix2 i j) =
    (0 : EReal) + ∑ s : Fin 2, dot (iblk m c 0 ⟨2 * (t.val / 2) + s.val, Pipeline.run_point_lt_of_flush t h s⟩)
      (iblk m c 2 ⟨2 * (t.val / 2) + s.val, Pipeline.run_point_lt_of_flush t h s⟩) i j :=
  Pipeline.eq_sum_fin_of_reset_step_of_flush (M := EReal) (fun n h => (outsAt0 m c n h).2.2 (ix2 i j)) 2 0
    (fun t => dot (iblk m c 0 t) (iblk m c 2 t) i j)
    (fun t h => (accA m c t h i j).trans (zero_add _).symm) (fun t h => accB m c t h i j) t h

theorem after3 (t : Fin cfg0.N) (i : Fin 1024) (j : Fin 256) : (dats m 0 c).after 3 t (ix2 i j) =
    arrR (V m c main_v7) (V m c main_v15) (((cfg0.win 3).blk t).view.emb (ix2 i j)) := by
  rw [after0_3]
  exact (rows_at m c t i j).trans (point3 (V m c main_v7) (V m c main_v15) t i j)

theorem after4 (t : Fin cfg0.N) (h : t.val % 2 = 1) (i : Fin 256) (j : Fin 1024) : (dats m 0 c).after 4 t (ix2 i j) =
    arrW (V m c main_v7) (V m c main_v16) (((cfg0.win 4).blk t).view.emb (ix2 i j)) := by
  have hN : t.val < 2 := t.isLt
  have h0 : t.val / 2 = 0 := by omega
  rw [after0_4]
  refine (outB m c t h i j).trans ((acc m c t h i j).trans ((zero_add _).trans
    (Eq.trans ?_ (place4 (arrW (V m c main_v7) (V m c main_v16)) t i j).symm)))
  refine Eq.trans ?_ (parts (V m c main_v7) (V m c main_v16) i j)
  refine Finset.sum_congr rfl fun s _ => ?_
  have e : (⟨2 * (t.val / 2) + s.val, Pipeline.run_point_lt_of_flush t h s⟩ : Fin cfg0.N) = s :=
    Fin.ext (show 2 * (t.val / 2) + s.val = s.val by omega)
  rw [e]
  exact dot_at (V m c main_v7) (V m c main_v16) s i j

/-- The launch leaves the two gradients. -/
theorem out3 : (dats m 0 c).arrAt 3 cfg0.N = arrR (V m c main_v7) (V m c main_v15) := by
  refine (dats m 0 c).arrAt_eq_of_covers 3 (arrR (V m c main_v7) (V m c main_v15)) cover3 fun t hf y => ?_
  obtain ⟨i, j, rfl⟩ : ∃ (i : Fin 1024) (j : Fin 256), y = ix2 i j := ⟨y 0, y 1, eq_ix2 y⟩
  exact after3 m c t i j

theorem out4 : (dats m 0 c).arrAt 4 cfg0.N = arrW (V m c main_v7) (V m c main_v16) := by
  refine (dats m 0 c).arrAt_eq_of_covers 4 (arrW (V m c main_v7) (V m c main_v16)) cover4 fun t hf y => ?_
  obtain ⟨i, j, rfl⟩ : ∃ (i : Fin 256) (j : Fin 1024), y = ix2 i j := ⟨y 0, y 1, eq_ix2 y⟩
  exact after4 m c t ((flush0_4 t).mp hf) i j

end Cert.Kernel10Ideal.In
-- ==== Proof.In.Value10.lean ====
/- The two gradients of the key-value projection's product are the reference's, entry by entry. -/
module

public import proofs.«01_k».proof.Proof.In.Out10
public import proofs.«01_k».proof.Proof.In.Heads
public import proofs.«01_k».proof.Proof.Gen.Reference10Ideal.Read
public import Idealize.ShloMosaic.Lib.StableHlo.ReadAt

@[expose] public section

set_option maxRecDepth 16384

noncomputable section

namespace Cert.Kernel10Ideal.In

open Cert.Kernel10Ideal Cert.Kernel10Ideal.Gen Cert.Heads
open Idealize.ShloMosaic Idealize.ShloMosaic.TcCoe Idealize.ShloMosaic.StableHlo Idealize.SL.Sem
open Cert.Reference10Ideal.Read (val_main_v2 val_main_v3)

variable (m : (ℓ : Loc nD τ sig) → Buf (Elt Ideal) ℓ) (ρ : Dev nD → PrngReg) (c : Dev nD)

/-- The gradient's columns in the order of the heads. -/
theorem V_d (i : Fin 2048) (p : Fin 1024) : V m c main_v7 (ix2 i p) = m (c.tc.loc main_arg2) (ix2 i (to_kv p)) := by
  by_cases h : (p : ℕ) % 512 < 256
  · rw [to_kv, dif_pos h]
    unfold V
    after_reads_at
    refine Eq.trans (dif_pos h) ?_
    after_reads_at
    refine congrArg (fun k => m (c.tc.loc main_arg2) (ix2 i k)) (Fin.ext ?_)
    dsimp only
    omega
  · rw [to_kv, dif_neg h]
    unfold V
    after_reads_at
    refine Eq.trans (dif_neg h) ?_
    after_reads_at
    refine congrArg (fun k => m (c.tc.loc main_arg2) (ix2 i k)) (Fin.ext ?_)
    dsimp only
    omega

/-- The weight's columns in the order of the heads. -/
theorem V_w (i : Fin 256) (p : Fin 1024) : V m c main_v15 (ix2 i p) = m (c.tc.loc main_arg1) (ix2 i (to_kv p)) := by
  by_cases h : (p : ℕ) % 512 < 256
  · rw [to_kv, dif_pos h]
    unfold V
    after_reads_at
    refine Eq.trans (dif_pos h) ?_
    after_reads_at
    refine congrArg (fun k => m (c.tc.loc main_arg1) (ix2 i k)) (Fin.ext ?_)
    dsimp only
    omega
  · rw [to_kv, dif_neg h]
    unfold V
    after_reads_at
    refine Eq.trans (dif_neg h) ?_
    after_reads_at
    refine congrArg (fun k => m (c.tc.loc main_arg1) (ix2 i k)) (Fin.ext ?_)
    dsimp only
    omega

theorem V_h (s : Fin 2048) (i : Fin 256) : V m c main_v16 (ix2 s i) = m (c.tc.loc main_arg0) (ix2 s i) := by
  unfold V
  after_reads_at

/-- The reference's entries. -/
theorem refR_at (x1 : FVec Ideal S256x1024 .f32) (x2 : FVec Ideal S2048x1024 .f32) (i : Fin 2048) (j : Fin 256) :
    val_main_v3 (F := Ideal) x1 x2 (ix2 i j) = ∑ s : Fin 1024, (x2 (ix2 i s) * x1 (ix2 j s) : EReal) := by
  refine (Cert.Reference10Ideal.Read.val_main_v3_apply x1 x2 _).trans ?_
  refine Finset.sum_congr rfl fun s _ => congrArg₂ (fun a b : EReal => a * b) (congrArg x2 ?_) (congrArg x1 ?_)
  · funext a; fin_cases a <;> rfl
  · funext a; fin_cases a <;> rfl

theorem refW_at (x0 : FVec Ideal S2048x256 .f32) (x2 : FVec Ideal S2048x1024 .f32) (i : Fin 256) (j : Fin 1024) :
    val_main_v2 (F := Ideal) x0 x2 (ix2 i j) = ∑ s : Fin 2048, (x2 (ix2 s j) * x0 (ix2 s i) : EReal) := by
  refine (Cert.Reference10Ideal.Read.val_main_v2_apply (F := Ideal) x0 x2 _).trans ((Cert.Reference10Ideal.Read.val_main_v1_apply x0 x2 _).trans ?_)
  refine Finset.sum_congr rfl fun s _ => congrArg₂ (fun a b : EReal => a * b) (congrArg x2 ?_) (congrArg x0 ?_)
  · funext a; fin_cases a <;> rfl
  · funext a; fin_cases a <;> rfl

/-- The memory when the kernel has ended. -/
abbrev ended : Valuation τ sig (Elt Ideal) := Pipeline.withArrays spec0 c (V0 m c) fun w => (dats m 0 c).arrAt w cfg0.N

/-- The memory after the host's operations that follow the kernel. -/
abbrev tail (W : Valuation τ sig (Elt Ideal)) (b : Ref sig .tc) : b.ty.Contents (Elt Ideal) := after (hostOps1 (F := Ideal)) W (Proc.devRef .tc b)

theorem tail_eq (b : Ref sig .tc) : Pipeline.afterTail₀ cfgs (dats m) 0 (V0 m) [hostOps1] c b = tail (ended m c) b := by
  unfold Pipeline.afterTail₀ tail ended
  rw [List.flatten_singleton]

theorem tail_R (W : Valuation τ sig (Elt Ideal)) (i : Fin 2048) (j : Fin 256) :
    tail W main_v18 (ix2 i j) = W (Proc.devRef .tc main_v17_0) (ix2 i j) := by
  unfold tail
  after_reads_at

/-- The columns come back to their places. -/
theorem tail_cols (W : Valuation τ sig (Elt Ideal)) (i : Fin 256) (k : Fin 1024) :
    tail W main_v26 (ix2 i k) = W (Proc.devRef .tc main_v17_1) (ix2 i (of_kv k)) := by
  by_cases h : (k : ℕ) % 128 < 64
  · rw [of_kv, dif_pos h]
    unfold tail
    after_reads_at
    refine Eq.trans (dif_pos h) ?_
    after_reads_at
    refine congrArg (fun k => W (Proc.devRef .tc main_v17_1) (ix2 i k)) (Fin.ext ?_)
    dsimp only
    omega
  · rw [of_kv, dif_neg h]
    unfold tail
    after_reads_at
    refine Eq.trans (dif_neg h) ?_
    after_reads_at
    refine congrArg (fun k => W (Proc.devRef .tc main_v17_1) (ix2 i k)) (Fin.ext ?_)
    dsimp only
    omega

theorem arr_inj : Function.Injective (Pipeline.arrRef spec0) := by decide

theorem ended3 : ended m c (Proc.devRef .tc main_v17_0) = arrR (V m c main_v7) (V m c main_v15) :=
  (Pipeline.withArrays_arr spec0 arr_inj c _ _ 3).trans (out3 m c)

theorem ended4 : ended m c (Proc.devRef .tc main_v17_1) = arrW (V m c main_v7) (V m c main_v16) :=
  (Pipeline.withArrays_arr spec0 arr_inj c _ _ 4).trans (out4 m c)

theorem sum_cols (d : FVec Ideal S2048x1024 .f32) (w : FVec Ideal S256x1024 .f32) (i : Fin 2048) (j : Fin 256) :
    ∑ p, (d (ix2 i (to_kv p)) * w (ix2 j (to_kv p)) : EReal) = ∑ k, (d (ix2 i k) * w (ix2 j k) : EReal) :=
  sum_kv fun k => (d (ix2 i k) * w (ix2 j k) : EReal)

theorem entryR (i : Fin 2048) (j : Fin 256) : tail (ended m c) main_v18 (ix2 i j) =
    val_main_v3 (F := Ideal) (m (c.tc.loc main_arg1)) (m (c.tc.loc main_arg2)) (ix2 i j) := by
  rw [tail_R, ended3]
  refine (arrR_at _ _ i j).trans (Eq.trans ?_ (refR_at (m (c.tc.loc main_arg1)) (m (c.tc.loc main_arg2)) i j).symm)
  refine Eq.trans (Finset.sum_congr rfl fun s _ => congrArg₂ (fun a b : EReal => a * b) (V_d m c i s) (V_w m c j s)) ?_
  exact sum_cols (m (c.tc.loc main_arg2)) (m (c.tc.loc main_arg1)) i j

theorem entryW (i : Fin 256) (j : Fin 1024) : tail (ended m c) main_v26 (ix2 i j) =
    val_main_v2 (F := Ideal) (m (c.tc.loc main_arg0)) (m (c.tc.loc main_arg2)) (ix2 i j) := by
  rw [tail_cols, ended4]
  refine (arrW_at _ _ i (of_kv j)).trans (Eq.trans ?_ (refW_at (m (c.tc.loc main_arg0)) (m (c.tc.loc main_arg2)) i j).symm)
  exact Finset.sum_congr rfl fun s _ => (congrArg₂ (fun a b : EReal => a * b) (V_h m c s i) ((V_d m c s _).trans (by rw [to_of_kv]))).trans (mul_comm _ _)

theorem allR : Pipeline.afterTail₀ cfgs (dats m) 0 (V0 m) [hostOps1] c main_v18 =
    val_main_v3 (F := Ideal) (m (c.tc.loc main_arg1)) (m (c.tc.loc main_arg2)) := by
  rw [tail_eq]
  refine funext fun y => ?_
  rw [eq_ix2 y]
  exact entryR m c _ _

theorem allW : Pipeline.afterTail₀ cfgs (dats m) 0 (V0 m) [hostOps1] c main_v26 =
    val_main_v2 (F := Ideal) (m (c.tc.loc main_arg0)) (m (c.tc.loc main_arg2)) := by
  rw [tail_eq]
  refine funext fun y => ?_
  rw [eq_ix2 y]
  exact entryW m c _ _

/-- The kernel's run: its results are the reference's terms, its arguments stay. -/
theorem run_value : θ_run defs (onTc (τ := τ) (main (F := Ideal))) ⟨m, fun _ => 0, ρ⟩ (fun r => ∀ c : Dev nD,
      r.2.mem ((c.tc : Thread nD τ).loc main_v18) = val_main_v3 (F := Ideal) (m (c.tc.loc main_arg1)) (m (c.tc.loc main_arg2))
      ∧ r.2.mem ((c.tc : Thread nD τ).loc main_v26) = val_main_v2 (F := Ideal) (m (c.tc.loc main_arg0)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v18 (Pipeline.mem_restRefs_of main_v18 (by decide) (by decide))).trans (allR m c),
      ((h.1 c).2 main_v26 (Pipeline.mem_restRefs_of main_v26 (by decide) (by decide))).trans (allW m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩)
    (run_main_quiescent m ρ)

end Cert.Kernel10Ideal.In
-- ==== Proof.In.Out11.lean ====
/- The projection to the queries: a band of rows times the whole weight at every point. -/
module

public import proofs.«01_k».proof.Proof.Gen.Kernel11Ideal.Frame
public import Idealize.ShloMosaic.Lib.MatmulPlain
public import Idealize.ShloMosaic.Lib.Pipeline.ValueKit

@[expose] public section

set_option maxRecDepth 16384

noncomputable section

namespace Cert.Kernel11Ideal.In

open Cert.Kernel11Ideal Cert.Kernel11Ideal.Gen
open Idealize.ShloMosaic Idealize.ShloMosaic.TcCoe

variable (m : (ℓ : Loc nD τ sig) → Buf (Elt Ideal) ℓ) (c : Dev nD)

theorem pay_at (x0 : FVec Ideal S1024x384 .bf16) (x1 : FVec Ideal S384x768 .bf16) (i : Fin 1024) (j : Fin 768) :
    k0_pay1 (F := Ideal) x0 x1 (ix2 i j) = ∑ s : Fin 384, (x0 (ix2 i s) * x1 (ix2 s j) : EReal) := by
  pointwise [k0_pay1]

theorem out_at (x0 : FVec Ideal S1024x384 .bf16) (x1 : FVec Ideal S384x768 .bf16) (i : Fin 1024) (j : Fin 768) :
    out0_2 (F := Ideal) x0 x1 (ix2 i j) = ∑ s : Fin 384, (x0 (ix2 i s) * x1 (ix2 s j) : EReal) := by
  frame_out
  exact pay_at x0 x1 i j

theorem idx : ∀ t : Fin cfg0.N, (cfg0.win 0).index t = ![t.val, 0] ∧ (cfg0.win 1).index t = ![0, 0]
    ∧ (cfg0.win 2).index t = ![t.val, 0] := by
  decide +kernel

theorem blk0 (x : (⟨S2048x384, .bf16⟩ : BufTy).Contents (Elt Ideal)) (t : Fin 2) (i : Fin 1024) (s : Fin 384) :
    ((cfg0.win 0).blk t).view.read (Elt Ideal) x (ix2 i s) = x (ix2 ⟨1024 * t + i, by omega⟩ s) := by
  have := idx t
  refine congrArg x ?_
  blk_ext [this]

theorem blk1 (x : (⟨S384x768, .bf16⟩ : BufTy).Contents (Elt Ideal)) (t : Fin 2) (s : Fin 384) (j : Fin 768) :
    ((cfg0.win 1).blk t).view.read (Elt Ideal) x (ix2 s j) = x (ix2 s j) := by
  have := idx t
  refine congrArg x ?_
  blk_ext [this]

theorem place2 (x : FVec Ideal S2048x768 .f32) (t : Fin 2) (i : Fin 1024) (j : Fin 768) :
    x (((cfg0.win 2).blk t).view.emb (ix2 i j)) = x (ix2 ⟨1024 * t + i, by omega⟩ j) := by
  have := idx t
  refine congrArg x ?_
  blk_ext [this]

/-- The product. -/
def arr (a : FVec Ideal S2048x384 .bf16) (b : FVec Ideal S384x768 .bf16) : FVec Ideal S2048x768 .f32 :=
  fun y => ∑ s : Fin 384, (a (ix2 (y 0) s) * b (ix2 s (y 1)) : EReal)

theorem arr_at (a : FVec Ideal S2048x384 .bf16) (b : FVec Ideal S384x768 .bf16) (i : Fin 2048) (j : Fin 768) :
    arr a b (ix2 i j) = ∑ s : Fin 384, (a (ix2 i s) * b (ix2 s j) : EReal) := rfl

/-- What a point leaves, of the arrays its windows read. -/
theorem point (a : FVec Ideal S2048x384 .bf16) (b : FVec Ideal S384x768 .bf16) (t : Fin 2) (i : Fin 1024) (j : Fin 768) :
    out0_2 (F := Ideal) (((cfg0.win 0).blk t).view.read (Elt Ideal) a) (((cfg0.win 1).blk t).view.read (Elt Ideal) b) (ix2 i j) =
      arr a b (((cfg0.win 2).blk t).view.emb (ix2 i j)) := by
  refine (out_at _ _ i j).trans (Eq.trans ?_ ((place2 (arr a b) t i j).trans (arr_at a b _ _)).symm)
  exact Finset.sum_congr rfl fun s _ => congrArg₂ (fun a b : EReal => a * b) (blk0 a t i s) (blk1 b t s j)

theorem cover2 : (cfg0.win 2).Covers := by decide +kernel

theorem after2 (t : Fin cfg0.N) (i : Fin 1024) (j : Fin 768) : (dats m 0 c).after 2 t (ix2 i j) =
    arr (V m c main_v0) (V m c main_v8) (((cfg0.win 2).blk t).view.emb (ix2 i j)) := by
  rw [after0_2]
  exact point (V m c main_v0) (V m c main_v8) t i j

/-- The launch leaves the product. -/
theorem out2 : (dats m 0 c).arrAt 2 cfg0.N = arr (V m c main_v0) (V m c main_v8) := by
  refine (dats m 0 c).arrAt_eq_of_covers 2 (arr (V m c main_v0) (V m c main_v8)) cover2 fun t hf y => ?_
  obtain ⟨i, j, rfl⟩ : ∃ (i : Fin 1024) (j : Fin 768), y = ix2 i j := ⟨y 0, y 1, eq_ix2 y⟩
  exact after2 m c t i j

end Cert.Kernel11Ideal.In
-- ==== Proof.In.Value11.lean ====
/- The projection to the queries is the reference's, entry by entry. -/
module

public import proofs.«01_k».proof.Proof.In.Out11
public import proofs.«01_k».proof.Proof.In.Heads
public import proofs.«01_k».proof.Proof.Gen.Reference11Ideal.Read
public import Idealize.ShloMosaic.Lib.StableHlo.ReadAt

@[expose] public section

set_option maxRecDepth 16384

noncomputable section

namespace Cert.Kernel11Ideal.In

open Cert.Kernel11Ideal Cert.Kernel11Ideal.Gen Cert.Heads
open Idealize.ShloMosaic Idealize.ShloMosaic.TcCoe Idealize.ShloMosaic.StableHlo Idealize.SL.Sem
open Cert.Reference11Ideal.Read (val_main_v0)

variable (m : (ℓ : Loc nD τ sig) → Buf (Elt Ideal) ℓ) (ρ : Dev nD → PrngReg) (c : Dev nD)

theorem V_a (i : Fin 2048) (s : Fin 384) : V m c main_v0 (ix2 i s) = m (c.tc.loc main_arg0) (ix2 i s) := by
  unfold V
  after_reads_at

/-- The weight's columns in the order of the heads. -/
theorem V_b (i : Fin 384) (p : Fin 768) : V m c main_v8 (ix2 i p) = m (c.tc.loc main_arg1) (ix2 i (to_q p)) := by
  by_cases h : (p : ℕ) % 384 < 256
  · rw [to_q, dif_pos h]
    unfold V
    after_reads_at
    refine Eq.trans (dif_pos h) ?_
    after_reads_at
    refine congrArg (fun k => m (c.tc.loc main_arg1) (ix2 i k)) (Fin.ext ?_)
    dsimp only
    omega
  · rw [to_q, dif_neg h]
    unfold V
    after_reads_at
    refine Eq.trans (dif_neg h) ?_
    after_reads_at
    refine congrArg (fun k => m (c.tc.loc main_arg1) (ix2 i k)) (Fin.ext ?_)
    dsimp only
    omega

/-- The reference's entry. -/
theorem ref_at (x0 : FVec Ideal S2048x384 .f32) (x1 : FVec Ideal S384x768 .f32) (i : Fin 2048) (j : Fin 768) :
    val_main_v0 (F := Ideal) x0 x1 (ix2 i j) = ∑ s : Fin 384, (x0 (ix2 i s) * x1 (ix2 s j) : EReal) := by
  refine (Cert.Reference11Ideal.Read.val_main_v0_apply x0 x1 _).trans ?_
  refine Finset.sum_congr rfl fun s _ => congrArg₂ (fun a b : EReal => a * b) (congrArg x0 ?_) (congrArg x1 ?_)
  · funext a; fin_cases a <;> rfl
  · funext a; fin_cases a <;> rfl

/-- The memory when the kernel has ended. -/
abbrev ended : Valuation τ sig (Elt Ideal) := Pipeline.withArrays spec0 c (V0 m c) fun w => (dats m 0 c).arrAt w cfg0.N

/-- The memory after the host's operations that follow the kernel. -/
abbrev tail (W : Valuation τ sig (Elt Ideal)) (b : Ref sig .tc) : b.ty.Contents (Elt Ideal) := after (hostOps1 (F := Ideal)) W (Proc.devRef .tc b)

theorem tail_eq (b : Ref sig .tc) : Pipeline.afterTail₀ cfgs (dats m) 0 (V0 m) [hostOps1] c b = tail (ended m c) b := by
  unfold Pipeline.afterTail₀ tail ended
  rw [List.flatten_singleton]

theorem arr_inj : Function.Injective (Pipeline.arrRef spec0) := by decide

/-- The columns come back to their places. -/
theorem tail_cols (W : Valuation τ sig (Elt Ideal)) (i : Fin 2048) (k : Fin 768) :
    tail W main_v16 (ix2 i k) = W (Proc.devRef .tc main_v9) (ix2 i (of_q k)) := by
  by_cases h : (k : ℕ) % 96 < 64
  · rw [of_q, dif_pos h]
    unfold tail
    after_reads_at
    refine Eq.trans (dif_pos h) ?_
    after_reads_at
    refine congrArg (fun k => W (Proc.devRef .tc main_v9) (ix2 i k)) (Fin.ext ?_)
    dsimp only
    omega
  · rw [of_q, dif_neg h]
    unfold tail
    after_reads_at
    refine Eq.trans (dif_neg h) ?_
    after_reads_at
    refine congrArg (fun k => W (Proc.devRef .tc main_v9) (ix2 i k)) (Fin.ext ?_)
    dsimp only
    omega

theorem ended2 : ended m c (Proc.devRef .tc main_v9) = arr (V m c main_v0) (V m c main_v8) :=
  (Pipeline.withArrays_arr spec0 arr_inj c _ _ 2).trans (out2 m c)

theorem entry (i : Fin 2048) (j : Fin 768) : tail (ended m c) main_v16 (ix2 i j) =
    val_main_v0 (F := Ideal) (m (c.tc.loc main_arg0)) (m (c.tc.loc main_arg1)) (ix2 i j) := by
  rw [tail_cols, ended2]
  refine (arr_at _ _ i (of_q j)).trans (Eq.trans ?_ (ref_at (m (c.tc.loc main_arg0)) (m (c.tc.loc main_arg1)) i j).symm)
  exact Finset.sum_congr rfl fun s _ => congrArg₂ (fun a b : EReal => a * b) (V_a m c i s) ((V_b m c s _).trans (by rw [to_of_q]))

theorem all : Pipeline.afterTail₀ cfgs (dats m) 0 (V0 m) [hostOps1] c main_v16 =
    val_main_v0 (F := Ideal) (m (c.tc.loc main_arg0)) (m (c.tc.loc main_arg1)) := by
  rw [tail_eq]
  refine funext fun y => ?_
  rw [eq_ix2 y]
  exact entry m c _ _

/-- The kernel's run: its result is the reference's term, its arguments stay. -/
theorem run_value : θ_run defs (onTc (τ := τ) (main (F := Ideal))) ⟨m, fun _ => 0, ρ⟩ (fun r => ∀ c : Dev nD,
      r.2.mem ((c.tc : Thread nD τ).loc main_v16) = val_main_v0 (F := Ideal) (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v16 (Pipeline.mem_restRefs_of main_v16 (by decide) (by decide))).trans (all m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main_quiescent m ρ)

end Cert.Kernel11Ideal.In
-- ==== Proof.In.Out12.lean ====
/- The projection to the keys and values: a band of rows times the whole weight at every point. -/
module

public import proofs.«01_k».proof.Proof.Gen.Kernel12Ideal.Frame
public import Idealize.ShloMosaic.Lib.MatmulPlain
public import Idealize.ShloMosaic.Lib.Pipeline.ValueKit

@[expose] public section

set_option maxRecDepth 16384

noncomputable section

namespace Cert.Kernel12Ideal.In

open Cert.Kernel12Ideal Cert.Kernel12Ideal.Gen
open Idealize.ShloMosaic Idealize.ShloMosaic.TcCoe

variable (m : (ℓ : Loc nD τ sig) → Buf (Elt Ideal) ℓ) (c : Dev nD)

theorem pay_at (x0 : FVec Ideal S1024x256 .bf16) (x1 : FVec Ideal S256x1024 .bf16) (i : Fin 1024) (j : Fin 1024) :
    k0_pay1 (F := Ideal) x0 x1 (ix2 i j) = ∑ s : Fin 256, (x0 (ix2 i s) * x1 (ix2 s j) : EReal) := by
  pointwise [k0_pay1]

theorem out_at (x0 : FVec Ideal S1024x256 .bf16) (x1 : FVec Ideal S256x1024 .bf16) (i : Fin 1024) (j : Fin 1024) :
    out0_2 (F := Ideal) x0 x1 (ix2 i j) = ∑ s : Fin 256, (x0 (ix2 i s) * x1 (ix2 s j) : EReal) := by
  frame_out
  exact pay_at x0 x1 i j

theorem idx : ∀ t : Fin cfg0.N, (cfg0.win 0).index t = ![t.val, 0] ∧ (cfg0.win 1).index t = ![0, 0]
    ∧ (cfg0.win 2).index t = ![t.val, 0] := by
  decide +kernel

theorem blk0 (x : (⟨S2048x256, .bf16⟩ : BufTy).Contents (Elt Ideal)) (t : Fin 2) (i : Fin 1024) (s : Fin 256) :
    ((cfg0.win 0).blk t).view.read (Elt Ideal) x (ix2 i s) = x (ix2 ⟨1024 * t + i, by omega⟩ s) := by
  have := idx t
  refine congrArg x ?_
  blk_ext [this]

theorem blk1 (x : (⟨S256x1024, .bf16⟩ : BufTy).Contents (Elt Ideal)) (t : Fin 2) (s : Fin 256) (j : Fin 1024) :
    ((cfg0.win 1).blk t).view.read (Elt Ideal) x (ix2 s j) = x (ix2 s j) := by
  have := idx t
  refine congrArg x ?_
  blk_ext [this]

theorem place2 (x : FVec Ideal S2048x1024 .bf16) (t : Fin 2) (i : Fin 1024) (j : Fin 1024) :
    x (((cfg0.win 2).blk t).view.emb (ix2 i j)) = x (ix2 ⟨1024 * t + i, by omega⟩ j) := by
  have := idx t
  refine congrArg x ?_
  blk_ext [this]

/-- The product. -/
def arr (a : FVec Ideal S2048x256 .bf16) (b : FVec Ideal S256x1024 .bf16) : FVec Ideal S2048x1024 .bf16 :=
  fun y => ∑ s : Fin 256, (a (ix2 (y 0) s) * b (ix2 s (y 1)) : EReal)

theorem arr_at (a : FVec Ideal S2048x256 .bf16) (b : FVec Ideal S256x1024 .bf16) (i : Fin 2048) (j : Fin 1024) :
    arr a b (ix2 i j) = ∑ s : Fin 256, (a (ix2 i s) * b (ix2 s j) : EReal) := rfl

/-- What a point leaves, of the arrays its windows read. -/
theorem point (a : FVec Ideal S2048x256 .bf16) (b : FVec Ideal S256x1024 .bf16) (t : Fin 2) (i : Fin 1024) (j : Fin 1024) :
    out0_2 (F := Ideal) (((cfg0.win 0).blk t).view.read (Elt Ideal) a) (((cfg0.win 1).blk t).view.read (Elt Ideal) b) (ix2 i j) =
      arr a b (((cfg0.win 2).blk t).view.emb (ix2 i j)) := by
  refine (out_at _ _ i j).trans (Eq.trans ?_ ((place2 (arr a b) t i j).trans (arr_at a b _ _)).symm)
  exact Finset.sum_congr rfl fun s _ => congrArg₂ (fun a b : EReal => a * b) (blk0 a t i s) (blk1 b t s j)

theorem cover2 : (cfg0.win 2).Covers := by decide +kernel

theorem after2 (t : Fin cfg0.N) (i : Fin 1024) (j : Fin 1024) : (dats m 0 c).after 2 t (ix2 i j) =
    arr (V m c main_v0) (V m c main_v8) (((cfg0.win 2).blk t).view.emb (ix2 i j)) := by
  rw [after0_2]
  exact point (V m c main_v0) (V m c main_v8) t i j

/-- The launch leaves the product. -/
theorem out2 : (dats m 0 c).arrAt 2 cfg0.N = arr (V m c main_v0) (V m c main_v8) := by
  refine (dats m 0 c).arrAt_eq_of_covers 2 (arr (V m c main_v0) (V m c main_v8)) cover2 fun t hf y => ?_
  obtain ⟨i, j, rfl⟩ : ∃ (i : Fin 1024) (j : Fin 1024), y = ix2 i j := ⟨y 0, y 1, eq_ix2 y⟩
  exact after2 m c t i j

end Cert.Kernel12Ideal.In
-- ==== Proof.In.Value12.lean ====
/- The projection to the keys and values is the reference's, entry by entry. -/
module

public import proofs.«01_k».proof.Proof.In.Out12
public import proofs.«01_k».proof.Proof.In.Heads
public import proofs.«01_k».proof.Proof.Gen.Reference12Ideal.Read
public import Idealize.ShloMosaic.Lib.StableHlo.ReadAt

@[expose] public section

set_option maxRecDepth 16384

noncomputable section

namespace Cert.Kernel12Ideal.In

open Cert.Kernel12Ideal Cert.Kernel12Ideal.Gen Cert.Heads
open Idealize.ShloMosaic Idealize.ShloMosaic.TcCoe Idealize.ShloMosaic.StableHlo Idealize.SL.Sem
open Cert.Reference12Ideal.Read (val_main_v0)

variable (m : (ℓ : Loc nD τ sig) → Buf (Elt Ideal) ℓ) (ρ : Dev nD → PrngReg) (c : Dev nD)

theorem V_a (i : Fin 2048) (s : Fin 256) : V m c main_v0 (ix2 i s) = m (c.tc.loc main_arg0) (ix2 i s) := by
  unfold V
  after_reads_at

/-- The weight's columns in the order of the heads. -/
theorem V_b (i : Fin 256) (p : Fin 1024) : V m c main_v8 (ix2 i p) = m (c.tc.loc main_arg1) (ix2 i (to_kv p)) := by
  by_cases h : (p : ℕ) % 512 < 256
  · rw [to_kv, dif_pos h]
    unfold V
    after_reads_at
    refine Eq.trans (dif_pos h) ?_
    after_reads_at
    refine congrArg (fun k => m (c.tc.loc main_arg1) (ix2 i k)) (Fin.ext ?_)
    dsimp only
    omega
  · rw [to_kv, dif_neg h]
    unfold V
    after_reads_at
    refine Eq.trans (dif_neg h) ?_
    after_reads_at
    refine congrArg (fun k => m (c.tc.loc main_arg1) (ix2 i k)) (Fin.ext ?_)
    dsimp only
    omega

/-- The reference's entry. -/
theorem ref_at (x0 : FVec Ideal S2048x256 .f32) (x1 : FVec Ideal S256x1024 .f32) (i : Fin 2048) (j : Fin 1024) :
    val_main_v0 (F := Ideal) x0 x1 (ix2 i j) = ∑ s : Fin 256, (x0 (ix2 i s) * x1 (ix2 s j) : EReal) := by
  refine (Cert.Reference12Ideal.Read.val_main_v0_apply x0 x1 _).trans ?_
  refine Finset.sum_congr rfl fun s _ => congrArg₂ (fun a b : EReal => a * b) (congrArg x0 ?_) (congrArg x1 ?_)
  · funext a; fin_cases a <;> rfl
  · funext a; fin_cases a <;> rfl

/-- The memory when the kernel has ended. -/
abbrev ended : Valuation τ sig (Elt Ideal) := Pipeline.withArrays spec0 c (V0 m c) fun w => (dats m 0 c).arrAt w cfg0.N

/-- The memory after the host's operations that follow the kernel. -/
abbrev tail (W : Valuation τ sig (Elt Ideal)) (b : Ref sig .tc) : b.ty.Contents (Elt Ideal) := after (hostOps1 (F := Ideal)) W (Proc.devRef .tc b)

theorem tail_eq (b : Ref sig .tc) : Pipeline.afterTail₀ cfgs (dats m) 0 (V0 m) [hostOps1] c b = tail (ended m c) b := by
  unfold Pipeline.afterTail₀ tail ended
  rw [List.flatten_singleton]

theorem arr_inj : Function.Injective (Pipeline.arrRef spec0) := by decide

/-- The columns come back to their places. -/
theorem tail_cols (W : Valuation τ sig (Elt Ideal)) (i : Fin 2048) (k : Fin 1024) :
    tail W main_v17 (ix2 i k) = W (Proc.devRef .tc main_v9) (ix2 i (of_kv k)) := by
  by_cases h : (k : ℕ) % 128 < 64
  · rw [of_kv, dif_pos h]
    unfold tail
    after_reads_at
    refine Eq.trans (dif_pos h) ?_
    after_reads_at
    refine congrArg (fun k => W (Proc.devRef .tc main_v9) (ix2 i k)) (Fin.ext ?_)
    dsimp only
    omega
  · rw [of_kv, dif_neg h]
    unfold tail
    after_reads_at
    refine Eq.trans (dif_neg h) ?_
    after_reads_at
    refine congrArg (fun k => W (Proc.devRef .tc main_v9) (ix2 i k)) (Fin.ext ?_)
    dsimp only
    omega

theorem ended2 : ended m c (Proc.devRef .tc main_v9) = arr (V m c main_v0) (V m c main_v8) :=
  (Pipeline.withArrays_arr spec0 arr_inj c _ _ 2).trans (out2 m c)

theorem entry (i : Fin 2048) (j : Fin 1024) : tail (ended m c) main_v17 (ix2 i j) =
    val_main_v0 (F := Ideal) (m (c.tc.loc main_arg0)) (m (c.tc.loc main_arg1)) (ix2 i j) := by
  rw [tail_cols, ended2]
  refine (arr_at _ _ i (of_kv j)).trans (Eq.trans ?_ (ref_at (m (c.tc.loc main_arg0)) (m (c.tc.loc main_arg1)) i j).symm)
  exact Finset.sum_congr rfl fun s _ => congrArg₂ (fun a b : EReal => a * b) (V_a m c i s) ((V_b m c s _).trans (by rw [to_of_kv]))

theorem all : Pipeline.afterTail₀ cfgs (dats m) 0 (V0 m) [hostOps1] c main_v17 =
    val_main_v0 (F := Ideal) (m (c.tc.loc main_arg0)) (m (c.tc.loc main_arg1)) := by
  rw [tail_eq]
  refine funext fun y => ?_
  rw [eq_ix2 y]
  exact entry m c _ _

/-- The kernel's run: its result is the reference's term, its arguments stay. -/
theorem run_value : θ_run defs (onTc (τ := τ) (main (F := Ideal))) ⟨m, fun _ => 0, ρ⟩ (fun r => ∀ c : Dev nD,
      r.2.mem ((c.tc : Thread nD τ).loc main_v17) = val_main_v0 (F := Ideal) (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v17 (Pipeline.mem_restRefs_of main_v17 (by decide) (by decide))).trans (all m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main_quiescent m ρ)

end Cert.Kernel12Ideal.In
-- ==== Proof.Fwd.Loop.lean ====
/- The attention's forward body as a program of loops, and what it leaves.

   The printed body is one straight line: two pairs of heads, two heads of a pair, four blocks of queries, and for each of
   these the blocks of keys up to the diagonal. Here it is written as nested loops over the vector operations of the
   gradient's module. Between the blocks of keys the running maximum, sum and product are values, not buffers. -/
module

public import proofs.«01_k».proof.Proof.State
public import proofs.«01_k».proof.Proof.Gen.Kernel13Ideal.Launch

@[expose] public section

set_option maxRecDepth 16384

noncomputable section

namespace Cert.Kernel13Ideal.Fwd

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Attn (inb mask32 laneMask qcat kcat score causal prob plus win putw wp_window wp_put)

variable {F : FTy → Type} [FloatOps F]

/-- What is kept between the blocks of keys: each query's running maximum, sum of weights, and sum of weighted values. -/
structure Carry (F : FTy → Type) where
  m : FVec F S512x1 .f32
  l : FVec F S512x1 .f32
  a : FVec F S512x128 .f32

/-- Nothing seen yet. -/
def start : Carry F := ⟨broadcast S512x1 (Scalar.ofBits .f32 0xFF800000#32), broadcast S512x1 (Scalar.ofBits .f32 0x00000000#32),
  broadcast S512x128 (Scalar.ofBits .f32 0x00000000#32)⟩

/-- The maximum after a block of scores. -/
def mNext (m : FVec F S512x1 .f32) (s : FVec F S512x512 .f32) : FVec F S512x1 .f32 :=
  maximumf m (shapeCast S512x1 (multiReduction .maximumf [1] S512 s 0xFF800000#32 reduces_S512x512_S512 (.inl rfl) rfl)
    shapeCasts_S512_S512x1)

/-- The factor that takes the sums to the new maximum. -/
def alpha (m : FVec F S512x1 .f32) (s : FVec F S512x512 .f32) : FVec F S512x1 .f32 := exp (subf m (mNext m s))

/-- The weights' sum after a block. -/
def lNext (m l : FVec F S512x1 .f32) (s : FVec F S512x512 .f32) : FVec F S512x1 .f32 :=
  addf (mulf (alpha m s) l) (shapeCast S512x1 (multiReduction .add [1] S512 (prob s (mNext m s)) 0x00000000#32
    reduces_S512x512_S512 (.inl rfl) rfl) shapeCasts_S512_S512x1)

/-- The weighted values' sum after a block. -/
def aNext (m : FVec F S512x1 .f32) (a : FVec F S512x128 .f32) (s : FVec F S512x512 .f32) (v : Vec F S512x128 .bf16) : FVec F S512x128 .f32 :=
  addf (mulf (broadcastTo S512x128 (alpha m s) broadcasts_S512x1_S512x128) a)
    (matmul dot_S512x512_S512x128_S512x128_1_0_0_1_n_n none (truncf .bf16 (prob s (mNext m s)) bitsLt_bf16_f32)
      (shapeCast S512x128 v shapeCasts_S512x128_S512x128) (constant S512x128 .f32 0x00000000#32))

/-- One block of keys. -/
def next (msk : FVec F S512x512 .f32 → FVec F S512x512 .f32) (qc : FVec F S512x256 .bf16) (kn kr v : Vec F S512x128 .bf16)
    (k : Carry F) : Carry F :=
  ⟨mNext k.m (msk (score qc (kcat kn kr))), lNext k.m k.l (msk (score qc (kcat kn kr))),
    aNext k.m k.a (msk (score qc (kcat kn kr))) v⟩

/-- A block of the output: the quotient, the head's own lanes kept. -/
def oBlk (hh : ℕ) (k : Carry F) : FVec F S512x128 .f32 :=
  mulf (divf k.a (broadcastTo S512x128 k.l broadcasts_S512x1_S512x128)) (mask32 64 hh)

/-- A block of the log-sum-exp, on the head's own lanes. -/
def lseBlk (hh : ℕ) (k : Carry F) : FVec F S512x128 .f32 :=
  mulf (broadcastTo S512x128 (addf k.m (log k.l)) broadcasts_S512x1_S512x128) (mask32 64 hh)

/-- The effects of the kernel's core. -/
abbrev Eff (F : FTy → Type) := TpuEff nD τ sig (Elt F) Λ₀ .tc

/-- The kernel's buffers. -/
structure Bufs where
  q : Memref sig .tc .vmem S2048x384 .bf16
  kv : Memref sig .tc .vmem S2048x512 .bf16
  kp : Memref sig .tc .vmem S2048x128 .bf16
  o : Memref sig .tc .vmem S2048x256 .f32
  lse : Memref sig .tc .vmem S2048x256 .f32

variable (B : Bufs) {α : Type}

/-- Load a window of 512 rows and 128 columns, then go on. -/
abbrev ld {C : ℕ} {e : EltTy} (b : Memref sig .tc .vmem ⟨2, ![2048, C]⟩ e) (r c : ℕ) (h : r + 512 ≤ 2048) (h' : c + 128 ≤ C)
    (k : Vec F S512x128 e → Prog (Eff F) α) : Prog (Eff F) α :=
  .op (.load b (Rect.unit (s := ⟨2, ![2048, C]⟩) ![r, c] S512x128.size (inb h h')).toLoadRect (View.loadsAt_vmem h_S512x128)) k

/-- Store a window of 512 rows and 128 columns, then go on. -/
abbrev st {C : ℕ} (b : Memref sig .tc .vmem ⟨2, ![2048, C]⟩ .f32) (r c : ℕ) (h : r + 512 ≤ 2048) (h' : c + 128 ≤ C)
    (w : Vec F S512x128 .f32) (k : Prog (Eff F) α) : Prog (Eff F) α :=
  .op (.store b (Rect.unit (s := ⟨2, ![2048, C]⟩) ![r, c] S512x128.size (inb h h')) w Finset.univ
    (View.stores_vmem_bits_univ h_S512x128 rfl) (.inl rfl)) fun _ => k

/-- One block of keys: its loads, then the rest with the new carry. -/
def step (t kj : ℕ) (ht : t < 2) (hk : kj < 4) (msk : FVec F S512x512 .f32 → FVec F S512x512 .f32) (qc : FVec F S512x256 .bf16)
    (x : Carry F) (k : Carry F → Prog (Eff F) α) : Prog (Eff F) α :=
  ld B.kv (512 * kj) (128 * t) (by omega) (by omega) fun kn =>
  ld B.kp (512 * kj) 0 (by omega) (by omega) fun kr =>
  ld B.kv (512 * kj) (256 + 128 * t) (by omega) (by omega) fun v => k (next msk qc kn kr v x)

/-- The blocks below the diagonal. -/
def steps (t : ℕ) (ht : t < 2) (qc : FVec F S512x256 .bf16) : (n : ℕ) → n ≤ 4 → (Carry F → Prog (Eff F) α) → Prog (Eff F) α
  | 0, _, k => k start
  | n + 1, h, k => steps t ht qc n (Nat.le_of_succ_le h) fun x => step B t n ht h id qc x k

/-- A block of queries goes out: set by the first head of the pair, added to by the second. -/
def put (t hh qi : ℕ) (ht : t < 2) (hq : qi < 4) (x : Carry F) (k : Prog (Eff F) α) : Prog (Eff F) α :=
  match hh with
  | 0 =>
    ld B.o (512 * qi) (128 * t) (by omega) (by omega) fun _ =>
    st B.o (512 * qi) (128 * t) (by omega) (by omega) (oBlk hh x) <|
    ld B.lse (512 * qi) (128 * t) (by omega) (by omega) fun _ =>
    st B.lse (512 * qi) (128 * t) (by omega) (by omega) (lseBlk hh x) k
  | _ + 1 =>
    ld B.o (512 * qi) (128 * t) (by omega) (by omega) fun a =>
    ld B.o (512 * qi) (128 * t) (by omega) (by omega) fun _ =>
    st B.o (512 * qi) (128 * t) (by omega) (by omega) (plus a (oBlk hh x)) <|
    ld B.lse (512 * qi) (128 * t) (by omega) (by omega) fun b =>
    ld B.lse (512 * qi) (128 * t) (by omega) (by omega) fun _ =>
    st B.lse (512 * qi) (128 * t) (by omega) (by omega) (plus b (lseBlk hh x)) k

/-- One block of queries of one head. -/
def qBlock (t hh qi : ℕ) (ht : t < 2) (hq : qi < 4) (k : Prog (Eff F) α) : Prog (Eff F) α :=
  ld B.q (512 * qi) (128 * t) (by omega) (by omega) fun qn =>
  ld B.q (512 * qi) 256 (by omega) (by omega) fun qr =>
  steps B t ht (qcat t hh qn qr) qi (by omega) fun x =>
  step B t qi ht hq causal (qcat t hh qn qr) x fun y => put B t hh qi ht hq y k

/-- The four blocks of queries of one head. -/
def head (t hh : ℕ) (ht : t < 2) (k : Prog (Eff F) α) : Prog (Eff F) α :=
  qBlock B t hh 0 ht (by omega) <| qBlock B t hh 1 ht (by omega) <| qBlock B t hh 2 ht (by omega) <|
  qBlock B t hh 3 ht (by omega) k

/-- The whole body. -/
def body : Prog (Eff F) PUnit :=
  head B 0 0 (by omega) <| head B 0 1 (by omega) <| head B 1 0 (by omega) <| head B 1 1 (by omega) <| .ret ⟨⟩

/-! ## What it leaves -/

/-- The values the body is given. -/
structure Ins (F : FTy → Type) where
  q : Vec F S2048x384 .bf16
  kv : Vec F S2048x512 .bf16
  kp : Vec F S2048x128 .bf16

/-- The values of the buffers the body writes. -/
structure St (F : FTy → Type) where
  o : Vec F S2048x256 .f32
  lse : Vec F S2048x256 .f32

variable (I : Ins F)

/-- A block of queries of a head, with the keys' lanes. -/
def qcI (t hh qi : ℕ) (ht : t < 2) (hq : qi < 4) : FVec F S512x256 .bf16 :=
  qcat t hh (win I.q (512 * qi) (128 * t) 512 128 (by omega) (by omega)) (win I.q (512 * qi) 256 512 128 (by omega) (by omega))

/-- The carry after one more block of keys. -/
def nextI (t kj : ℕ) (ht : t < 2) (hk : kj < 4) (msk : FVec F S512x512 .f32 → FVec F S512x512 .f32) (qc : FVec F S512x256 .bf16)
    (x : Carry F) : Carry F :=
  next msk qc (win I.kv (512 * kj) (128 * t) 512 128 (by omega) (by omega)) (win I.kp (512 * kj) 0 512 128 (by omega) (by omega))
    (win I.kv (512 * kj) (256 + 128 * t) 512 128 (by omega) (by omega)) x

/-- The carry after the first `n` blocks. -/
def belowI (t : ℕ) (ht : t < 2) (qc : FVec F S512x256 .bf16) : (n : ℕ) → n ≤ 4 → Carry F
  | 0, _ => start
  | n + 1, h => nextI I t n ht h id qc (belowI t ht qc n (Nat.le_of_succ_le h))

/-- The carry at the end of a block of queries. -/
def lastI (t hh qi : ℕ) (ht : t < 2) (hq : qi < 4) : Carry F :=
  nextI I t qi ht hq causal (qcI I t hh qi ht hq) (belowI I t ht (qcI I t hh qi ht hq) qi (by omega))

/-- The state after a block of queries has gone out. -/
def putS (t hh qi : ℕ) (ht : t < 2) (hq : qi < 4) (x : Carry F) (s : St F) : St F :=
  match hh with
  | 0 => ⟨putw s.o (512 * qi) (128 * t) 512 128 (oBlk hh x), putw s.lse (512 * qi) (128 * t) 512 128 (lseBlk hh x)⟩
  | _ + 1 => ⟨putw s.o (512 * qi) (128 * t) 512 128 (plus (win s.o (512 * qi) (128 * t) 512 128 (by omega) (by omega)) (oBlk hh x)),
      putw s.lse (512 * qi) (128 * t) 512 128 (plus (win s.lse (512 * qi) (128 * t) 512 128 (by omega) (by omega)) (lseBlk hh x))⟩

/-- The state after one block of queries of one head. -/
def qBlockS (t hh qi : ℕ) (ht : t < 2) (hq : qi < 4) (s : St F) : St F := putS t hh qi ht hq (lastI I t hh qi ht hq) s

/-- The state after one head. -/
def headS (t hh : ℕ) (ht : t < 2) (s : St F) : St F :=
  qBlockS I t hh 3 ht (by omega) <| qBlockS I t hh 2 ht (by omega) <| qBlockS I t hh 1 ht (by omega) <|
  qBlockS I t hh 0 ht (by omega) s

/-- The state at the end. -/
def bodyS (s : St F) : St F :=
  headS I 1 1 (by omega) <| headS I 1 0 (by omega) <| headS I 0 1 (by omega) <| headS I 0 0 (by omega) s

/-! ## The run -/

/-- Assertions on the machine's state. -/
abbrev Assn (F : FTy → Type) : Type := sProp (MT nD τ sig Unit (Elt F) ℕ (UR sig nD τ) ℕ)

variable (c : Dev nD) (E : Set ℕ) (Q : α → Assn F) (R : Assn F)

/-- The body's buffers, held at the inputs' values and at a state's, and the rest. -/
def holds (s : St F) : Assn F :=
  iprop(owns (c : Thread nD τ) B.q fullShare I.q ∗
    owns (c : Thread nD τ) B.kv fullShare I.kv ∗
    owns (c : Thread nD τ) B.kp fullShare I.kp ∗
    owns (c : Thread nD τ) B.o fullShare s.o ∗
    owns (c : Thread nD τ) B.lse fullShare s.lse ∗ R)

/-- The run from a state. -/
abbrev run (k : Prog (Eff F) α) : Assn F := wp frame (wpE (defs₀ (F := F)) Variants.none (c : Thread nD τ) none) E k Q

variable {I B c E Q R}

theorem ld_q {s : St F} {r j : ℕ} {h : r + 512 ≤ 2048} {h' : j + 128 ≤ 384}
    {k : Vec F S512x128 .bf16 → Prog (Eff F) α} (hk : holds B I c R s ⊢ run c E Q (k (win I.q r j 512 128 h h'))) :
    holds B I c R s ⊢ run c E Q (ld B.q r j h h' k) := by
  unfold holds
  iintro ⟨Hq, Hkv, Hkp, Ho, Hl, HR⟩
  iapply (wp_window Variants.none (c : Thread nD τ) none E (Q := Q) (X := I.q) (q := fullShare)) $$ Hq
  iintro Hq
  iapply hk
  unfold holds
  iframe ∗

theorem ld_kv {s : St F} {r j : ℕ} {h : r + 512 ≤ 2048} {h' : j + 128 ≤ 512}
    {k : Vec F S512x128 .bf16 → Prog (Eff F) α} (hk : holds B I c R s ⊢ run c E Q (k (win I.kv r j 512 128 h h'))) :
    holds B I c R s ⊢ run c E Q (ld B.kv r j h h' k) := by
  unfold holds
  iintro ⟨Hq, Hkv, Hkp, Ho, Hl, HR⟩
  iapply (wp_window Variants.none (c : Thread nD τ) none E (Q := Q) (X := I.kv) (q := fullShare)) $$ Hkv
  iintro Hkv
  iapply hk
  unfold holds
  iframe ∗

theorem ld_kp {s : St F} {r j : ℕ} {h : r + 512 ≤ 2048} {h' : j + 128 ≤ 128}
    {k : Vec F S512x128 .bf16 → Prog (Eff F) α} (hk : holds B I c R s ⊢ run c E Q (k (win I.kp r j 512 128 h h'))) :
    holds B I c R s ⊢ run c E Q (ld B.kp r j h h' k) := by
  unfold holds
  iintro ⟨Hq, Hkv, Hkp, Ho, Hl, HR⟩
  iapply (wp_window Variants.none (c : Thread nD τ) none E (Q := Q) (X := I.kp) (q := fullShare)) $$ Hkp
  iintro Hkp
  iapply hk
  unfold holds
  iframe ∗

theorem ld_o {s : St F} {r j : ℕ} {h : r + 512 ≤ 2048} {h' : j + 128 ≤ 256}
    {k : Vec F S512x128 .f32 → Prog (Eff F) α} (hk : holds B I c R s ⊢ run c E Q (k (win s.o r j 512 128 h h'))) :
    holds B I c R s ⊢ run c E Q (ld B.o r j h h' k) := by
  unfold holds
  iintro ⟨Hq, Hkv, Hkp, Ho, Hl, HR⟩
  iapply (wp_window Variants.none (c : Thread nD τ) none E (Q := Q) (X := s.o) (q := fullShare)) $$ Ho
  iintro Ho
  iapply hk
  unfold holds
  iframe ∗

theorem ld_lse {s : St F} {r j : ℕ} {h : r + 512 ≤ 2048} {h' : j + 128 ≤ 256}
    {k : Vec F S512x128 .f32 → Prog (Eff F) α} (hk : holds B I c R s ⊢ run c E Q (k (win s.lse r j 512 128 h h'))) :
    holds B I c R s ⊢ run c E Q (ld B.lse r j h h' k) := by
  unfold holds
  iintro ⟨Hq, Hkv, Hkp, Ho, Hl, HR⟩
  iapply (wp_window Variants.none (c : Thread nD τ) none E (Q := Q) (X := s.lse) (q := fullShare)) $$ Hl
  iintro Hl
  iapply hk
  unfold holds
  iframe ∗

theorem st_o {s : St F} {r j : ℕ} {h : r + 512 ≤ 2048} {h' : j + 128 ≤ 256} {w : Vec F S512x128 .f32}
    {k : Prog (Eff F) α} (hk : holds B I c R { s with o := putw s.o r j 512 128 w } ⊢ run c E Q k) :
    holds B I c R s ⊢ run c E Q (st B.o r j h h' w k) := by
  unfold holds
  iintro ⟨Hq, Hkv, Hkp, Ho, Hl, HR⟩
  iapply (wp_put Variants.none (c : Thread nD τ) none E (Q := Q) (X := s.o) (w := w)) $$ Ho
  iintro Ho
  iapply hk
  unfold holds
  iframe ∗
  iexact Ho

theorem st_lse {s : St F} {r j : ℕ} {h : r + 512 ≤ 2048} {h' : j + 128 ≤ 256} {w : Vec F S512x128 .f32}
    {k : Prog (Eff F) α} (hk : holds B I c R { s with lse := putw s.lse r j 512 128 w } ⊢ run c E Q k) :
    holds B I c R s ⊢ run c E Q (st B.lse r j h h' w k) := by
  unfold holds
  iintro ⟨Hq, Hkv, Hkp, Ho, Hl, HR⟩
  iapply (wp_put Variants.none (c : Thread nD τ) none E (Q := Q) (X := s.lse) (w := w)) $$ Hl
  iintro Hl
  iapply hk
  unfold holds
  iframe ∗
  iexact Hl

theorem run_step {s : St F} {t kj : ℕ} {ht : t < 2} {hk : kj < 4} {msk : FVec F S512x512 .f32 → FVec F S512x512 .f32}
    {qc : FVec F S512x256 .bf16} {x : Carry F} {k : Carry F → Prog (Eff F) α}
    (h : holds B I c R s ⊢ run c E Q (k (nextI I t kj ht hk msk qc x))) :
    holds B I c R s ⊢ run c E Q (step B t kj ht hk msk qc x k) := by
  unfold step
  apply ld_kv; apply ld_kp; apply ld_kv
  exact h

theorem run_steps {t : ℕ} {ht : t < 2} {qc : FVec F S512x256 .bf16} {s : St F} :
    ∀ (n : ℕ) (hn : n ≤ 4) {k : Carry F → Prog (Eff F) α}, (holds B I c R s ⊢ run c E Q (k (belowI I t ht qc n hn))) →
      (holds B I c R s ⊢ run c E Q (steps B t ht qc n hn k))
  | 0, _, _, h => h
  | n + 1, hn, _, h => by
    unfold steps
    apply run_steps n
    apply run_step
    exact h

theorem run_put {s : St F} {t hh qi : ℕ} {ht : t < 2} {hq : qi < 4} {x : Carry F} {k : Prog (Eff F) α}
    (h : holds B I c R (putS t hh qi ht hq x s) ⊢ run c E Q k) : holds B I c R s ⊢ run c E Q (put B t hh qi ht hq x k) := by
  unfold put
  match hh with
  | 0 => apply ld_o; apply st_o; apply ld_lse; apply st_lse; exact h
  | _ + 1 => apply ld_o; apply ld_o; apply st_o; apply ld_lse; apply ld_lse; apply st_lse; exact h

theorem run_qBlock {s : St F} {t hh qi : ℕ} {ht : t < 2} {hq : qi < 4} {k : Prog (Eff F) α}
    (h : holds B I c R (qBlockS I t hh qi ht hq s) ⊢ run c E Q k) : holds B I c R s ⊢ run c E Q (qBlock B t hh qi ht hq k) := by
  unfold qBlock
  apply ld_q; apply ld_q; apply run_steps; apply run_step; apply run_put
  exact h

theorem run_head {s : St F} {t hh : ℕ} {ht : t < 2} {k : Prog (Eff F) α}
    (h : holds B I c R (headS I t hh ht s) ⊢ run c E Q k) : holds B I c R s ⊢ run c E Q (head B t hh ht k) := by
  unfold head
  apply run_qBlock; apply run_qBlock; apply run_qBlock; apply run_qBlock
  exact h

/-- From any state the body ends at the state `bodyS` of it. -/
theorem run_body {s : St F} {Q : PUnit → Assn F} (h : holds B I c R (bodyS I s) ⊢ Q ⟨⟩) :
    holds B I c R s ⊢ run c E Q (body B) := by
  unfold body
  apply run_head; apply run_head; apply run_head; apply run_head
  exact h.trans (Idealize.SL.Sem.le_wp_ret _ _ _ _ _)

end Cert.Kernel13Ideal.Fwd

end
-- ==== Proof.Fwd.Online.lean ====
/- The softmax of one query by a running maximum: block after block of keys, the sums are kept relative to the largest score so
   far and rescaled when it grows. At the end the maximum cancels. -/
module

public import proofs.«01_k».proof.Proof.Math
public import proofs.«01_k».proof.Proof.Block

@[expose] public section

noncomputable section

namespace Cert.Attention

open Idealize.ShloMosaic
open Cert.KernelIdeal.Attn (row)

/-- The weight of key `j` for query `i` relative to `M`, of real scores. -/
def wr (s : Fin 2048 → ℝ) (i : Fin 2048) (M : ℝ) (j : Fin 2048) : ℝ := if (j : ℕ) ≤ i then Real.exp (s j - M) else 0

theorem wr_shift (s : Fin 2048 → ℝ) (i : Fin 2048) (M N : ℝ) (j : Fin 2048) : Real.exp (M - N) * wr s i M j = wr s i N j := by
  unfold wr
  split
  · rw [← Real.exp_add]
    exact congrArg Real.exp (by ring)
  · exact mul_zero _

/-- A nonnegative real factor goes into a sum of extended reals. -/
theorem mul_sum_coe {ι : Type} (u : Finset ι) {c : ℝ} (hc : 0 ≤ c) (f : ι → EReal) : (c : EReal) * ∑ j ∈ u, f j = ∑ j ∈ u, (c : EReal) * f j := by
  classical
  induction u using Finset.induction_on with
  | empty => exact mul_zero _
  | insert a u h ih => rw [Finset.sum_insert h, Finset.sum_insert h, EReal.left_distrib_of_nonneg_of_ne_top (EReal.coe_nonneg.mpr hc) (EReal.coe_ne_top c), ih]

variable {A : Type} [AddCommMonoid A]

/-- The sum over the first `n` blocks of keys. -/
def upto (n : ℕ) (f : Fin 2048 → A) : A := ∑ k : Fin 4, if (k : ℕ) < n then ∑ b : Fin 512, f (row k b) else 0

theorem upto_zero (f : Fin 2048 → A) : upto 0 f = 0 := Finset.sum_eq_zero fun k _ => if_neg (Nat.not_lt_zero _)

theorem upto_succ (k : Fin 4) (f : Fin 2048 → A) : upto (k + 1) f = upto k f + ∑ b : Fin 512, f (row k b) := by
  unfold upto
  have e : ∀ j : Fin 4, (if (j : ℕ) < k + 1 then ∑ b : Fin 512, f (row j b) else 0) =
      (if (j : ℕ) < k then ∑ b : Fin 512, f (row j b) else 0) + if j = k then ∑ b : Fin 512, f (row j b) else 0 := by
    intro j
    by_cases h : j = k
    · subst h
      rw [if_pos (Nat.lt_succ_self _), if_neg (lt_irrefl _), if_pos rfl, zero_add]
    · have : (j : ℕ) ≠ k := fun e => h (Fin.ext e)
      rw [if_neg h, add_zero]
      exact if_congr (by omega) rfl rfl
  rw [Finset.sum_congr rfl fun j _ => e j, Finset.sum_add_distrib, Finset.sum_ite_eq' Finset.univ k, if_pos (Finset.mem_univ _)]

theorem upto_mul (c : ℝ) (n : ℕ) (f : Fin 2048 → ℝ) : c * upto n f = upto n fun j => c * f j := by
  unfold upto
  rw [Finset.mul_sum]
  refine Finset.sum_congr rfl fun k _ => ?_
  split
  · rw [Finset.mul_sum]
  · exact mul_zero _

theorem upto_coe_mul {c : ℝ} (hc : 0 ≤ c) (n : ℕ) (f : Fin 2048 → EReal) : (c : EReal) * upto n f = upto n fun j => (c : EReal) * f j := by
  unfold upto
  rw [mul_sum_coe _ hc]
  refine Finset.sum_congr rfl fun k _ => ?_
  split
  · exact mul_sum_coe _ hc _
  · exact mul_zero _

/-- The blocks up to a query's own have all the keys that count. -/
theorem upto_all (q : Fin 4) (f : Fin 2048 → A) (h : ∀ j : Fin 2048, 512 * ((q : ℕ) + 1) ≤ j → f j = 0) : upto (q + 1) f = ∑ j, f j := by
  unfold upto
  rw [Fin.sum_univ_tiles 4 512 rfl]
  refine Finset.sum_congr rfl fun k _ => ?_
  split
  · exact Finset.sum_congr rfl fun b _ => congrArg f (Fin.ext (show 512 * (k : ℕ) + b = k * 512 + b by omega))
  · next g =>
    exact (Finset.sum_eq_zero fun b _ => h _ (by show 512 * ((q : ℕ) + 1) ≤ (k : ℕ) * 512 + (b : ℕ); omega)).symm

/-- What is kept after `n` blocks: the maximum is a real number (minus infinity at the start), the sums are relative to it. The
values need not be finite. -/
def Kept (s : Fin 2048 → ℝ) (v : Fin 2048 → EReal) (i : Fin 2048) (n : ℕ) (m l a : EReal) : Prop :=
  ∃ M : ℝ, (m = M ∨ (m = ⊥ ∧ n = 0)) ∧ l = (upto n (wr s i M) : ℝ) ∧ a = upto n (fun j => ((wr s i M j : ℝ) : EReal) * v j)

theorem kept_start (s : Fin 2048 → ℝ) (v : Fin 2048 → EReal) (i : Fin 2048) : Kept s v i 0 ⊥ 0 0 :=
  ⟨0, .inr ⟨rfl, rfl⟩, by rw [upto_zero]; rfl, by rw [upto_zero]⟩

/-- The largest of a block's scores, one of which counts, is a real number. -/
theorem block_top (s : Fin 2048 → ℝ) (i : Fin 2048) (k : Fin 4) (hk : 512 * (k : ℕ) ≤ i) :
    ∃ t : ℝ, (Finset.univ.sup fun b : Fin 512 => if (row k b : ℕ) ≤ i then ((s (row k b) : ℝ) : EReal) else ⊥) = t := by
  obtain ⟨b, -, hb⟩ := Finset.exists_mem_eq_sup Finset.univ ⟨(0 : Fin 512), Finset.mem_univ _⟩
    fun b : Fin 512 => if (row k b : ℕ) ≤ i then ((s (row k b) : ℝ) : EReal) else ⊥
  have h := Finset.le_sup (f := fun b : Fin 512 => if (row k b : ℕ) ≤ i then ((s (row k b) : ℝ) : EReal) else ⊥) (Finset.mem_univ (0 : Fin 512))
  rw [hb] at h ⊢
  rw [if_pos (show 512 * (k : ℕ) + ((0 : Fin 512) : ℕ) ≤ i from hk)] at h
  by_cases g : (row k b : ℕ) ≤ i
  · exact ⟨_, if_pos g⟩
  · rw [if_neg g] at h
    exact absurd (le_bot_iff.mp h) (EReal.coe_ne_bot _)

theorem exp_masked (s : Fin 2048 → ℝ) (i : Fin 2048) (M : ℝ) (j : Fin 2048) :
    Ideal.exp ((if (j : ℕ) ≤ i then ((s j : ℝ) : EReal) else ⊥) - (M : EReal)) = ((wr s i M j : ℝ) : EReal) := by
  unfold wr
  split
  · rw [← EReal.coe_sub, Ideal.exp_coe]
  · rw [EReal.bot_sub, Ideal.exp_bot]
    rfl

/-- One more block. -/
theorem kept_step (s : Fin 2048 → ℝ) (v : Fin 2048 → EReal) (i : Fin 2048) (k : Fin 4) (hk : 512 * (k : ℕ) ≤ i) {m l a : EReal} (h : Kept s v i k m l a)
    (x y : Fin 512 → EReal) (hx : ∀ b, x b = if (row k b : ℕ) ≤ i then ((s (row k b) : ℝ) : EReal) else ⊥)
    (hy : ∀ b, y b = v (row k b)) (m' : EReal) (hm : m' = max m (Finset.univ.sup x)) :
    Kept s v i (k + 1) m' (Ideal.exp (m - m') * l + ∑ b, Ideal.exp (x b - m'))
      (Ideal.exp (m - m') * a + ∑ b, Ideal.exp (x b - m') * y b) := by
  obtain ⟨M, hM, rfl, rfl⟩ := h
  obtain ⟨t, ht⟩ := block_top s i k hk
  have hxs : Finset.univ.sup x = (t : EReal) := by rw [← ht]; exact congrArg _ (funext hx)
  obtain ⟨N, rfl⟩ : ∃ N : ℝ, m' = N := by
    rw [hm, hxs]
    rcases hM with rfl | ⟨rfl, -⟩
    · exact ⟨max M t, EReal.coe_strictMono.monotone.map_max.symm⟩
    · exact ⟨t, max_eq_right bot_le⟩
  have he : ∀ b, Ideal.exp (x b - (N : EReal)) = ((wr s i N (row k b) : ℝ) : EReal) := fun b => by rw [hx, exp_masked]
  have old1 : Ideal.exp (m - (N : EReal)) * ((upto k (wr s i M) : ℝ) : EReal) = ((upto k (wr s i N) : ℝ) : EReal) := by
    rcases hM with rfl | ⟨rfl, h0⟩
    · rw [← EReal.coe_sub, Ideal.exp_coe, ← EReal.coe_mul, upto_mul]
      exact congrArg (fun g => ((upto k g : ℝ) : EReal)) (funext fun j => wr_shift s i M N j)
    · rw [h0, upto_zero, upto_zero, EReal.coe_zero, mul_zero]
  have old : Ideal.exp (m - (N : EReal)) * upto k (fun j => ((wr s i M j : ℝ) : EReal) * v j) = upto k fun j => ((wr s i N j : ℝ) : EReal) * v j := by
    rcases hM with rfl | ⟨rfl, h0⟩
    · rw [← EReal.coe_sub, Ideal.exp_coe, upto_coe_mul (Real.exp_pos _).le]
      refine congrArg (upto (k : ℕ)) (funext fun j => ?_)
      rw [← mul_assoc, ← EReal.coe_mul, wr_shift s i M N j]
    · rw [h0, upto_zero, upto_zero, mul_zero]
  refine ⟨N, .inl rfl, ?_, ?_⟩
  · rw [upto_succ, EReal.coe_add, ← coe_sum]
    exact congrArg₂ (· + ·) old1 (Finset.sum_congr rfl fun b _ => he b)
  · rw [upto_succ]
    exact congrArg₂ (· + ·) old (Finset.sum_congr rfl fun b _ => by rw [he, hy])

variable {H : Head}

/-- What is kept at the end, in terms of the whole softmax. -/
theorem kept_end (s : Fin 2048 → ℝ) (v : Fin 2048 → EReal) (i : Fin 2048) (q : Fin 4) (hq : (i : ℕ) < 512 * (q + 1)) (l0 : Fin 64)
    (hs : ∀ j, score H i j = s j) (hv : ∀ j, H.v j l0 = v j) (t : ℝ) (ht : top H i = t) {m l a : EReal}
    (h : Kept s v i (q + 1) m l a) : Ideal.div a l = out H i l0 ∧ m + Ideal.log l = lse H i := by
  obtain ⟨M, hM, rfl, rfl⟩ := h
  have hM : m = M := hM.resolve_right fun h => Nat.succ_ne_zero _ h.2
  subst hM
  have z : ∀ (N : ℝ) (j : Fin 2048), 512 * ((q : ℕ) + 1) ≤ j → wr s i N j = 0 := fun N j h => if_neg (by omega)
  rw [upto_all q _ fun j h => z M j h, upto_all q (fun j => ((wr s i M j : ℝ) : EReal) * v j) fun j h => by simp only [z M j h, EReal.coe_zero, zero_mul]]
  have pos : ∀ N : ℝ, 0 < ∑ j, wr s i N j := by
    intro N
    refine Finset.sum_pos' (fun j _ => ?_) ⟨i, Finset.mem_univ i, ?_⟩
    · unfold wr
      split
      · exact (Real.exp_pos _).le
      · exact le_rfl
    · unfold wr
      rw [if_pos le_rfl]
      exact Real.exp_pos _
  have hw : ∀ j, wt H i j = ((wr s i t j : ℝ) : EReal) := by
    intro j
    unfold wt masked
    rw [ht, hs, exp_masked]
  have htot : tot H i = ((∑ j, wr s i t j : ℝ) : EReal) := by
    unfold tot
    rw [← coe_sum]
    exact Finset.sum_congr rfl fun j _ => hw j
  have shift : ∑ j, wr s i M j = Real.exp (t - M) * ∑ j, wr s i t j := by
    rw [Finset.mul_sum]
    exact Finset.sum_congr rfl fun j _ => (wr_shift s i t M j).symm
  constructor
  · rw [Ideal.div_coe (pos M).ne', mul_comm, mul_sum_coe _ (one_div_pos.mpr (pos M)).le]
    unfold out
    refine Finset.sum_congr rfl fun j _ => ?_
    rw [hv, hw, htot, div_real _ (pos t).ne', ← mul_assoc, ← EReal.coe_mul, mul_comm]
    refine congrArg (fun x : ℝ => v j * (x : EReal)) ?_
    rw [shift, ← wr_shift s i t M j, one_div_mul_eq_div, mul_div_mul_left _ _ (Real.exp_ne_zero _)]
  · unfold lse
    rw [htot, ht, Ideal.log_coe, Ideal.log_coe, if_neg (not_le.mpr (pos M)), if_neg (not_le.mpr (pos t)), ← EReal.coe_add,
      ← EReal.coe_add]
    refine congrArg _ ?_
    rw [shift, Real.log_mul (Real.exp_ne_zero _) (pos t).ne', Real.log_exp]
    ring

end Cert.Attention
-- ==== Proof.Fwd.Closed.lean ====
/- The forward body's vector operations read at an index, the running softmax over the blocks of keys, and what the body
   leaves in its two outputs. -/
module

public import proofs.«01_k».proof.Proof.Fwd.Loop
public import proofs.«01_k».proof.Proof.Fwd.Online
public import proofs.«01_k».proof.Proof.Lanes

@[expose] public section

set_option maxRecDepth 16384

noncomputable section

namespace Cert.Kernel13Ideal.Fwd

open Cert.Kernel13Ideal Cert.Kernel13Ideal.Gen Cert.Attention
open Idealize.ShloMosaic Idealize.ShloMosaic.TcCoe
open Cert.KernelIdeal.Attn (mask32 laneMask qcat kcat score causal prob plus win putw win_at putw_in putw_out row qc kc MaskOk
  lane scl kcat_at qcat_at score_at prob_at plus_at laneMask_at)

/-! ## At an index -/

theorem mNext_at (m : FVec Ideal S512x1 .f32) (s : FVec Ideal S512x512 .f32) (i : Fin 512) :
    mNext m s (ix2 i 0) = max (m (ix2 i 0)) (Finset.univ.sup fun j => s (ix2 i j)) := by
  pointwise [mNext]
  rw [Cert.KernelIdeal.Attn.ofBits_minus_infinity]
  rfl

theorem lNext_at (m l : FVec Ideal S512x1 .f32) (s : FVec Ideal S512x512 .f32) (i : Fin 512) :
    lNext m l s (ix2 i 0) = Ideal.exp (m (ix2 i 0) - mNext m s (ix2 i 0)) * l (ix2 i 0) +
      ∑ j : Fin 512, Ideal.exp (s (ix2 i j) - mNext m s (ix2 i 0)) := by
  unfold lNext alpha
  generalize mNext m s = M
  pointwise [Cert.KernelIdeal.Attn.prob]

theorem aNext_at (m : FVec Ideal S512x1 .f32) (a : FVec Ideal S512x128 .f32) (s : FVec Ideal S512x512 .f32) (v : Vec Ideal S512x128 .bf16)
    (i : Fin 512) (l : Fin 128) :
    aNext m a s v (ix2 i l) = Ideal.exp (m (ix2 i 0) - mNext m s (ix2 i 0)) * a (ix2 i l) +
      ∑ j : Fin 512, Ideal.exp (s (ix2 i j) - mNext m s (ix2 i 0)) * v (ix2 j l) := by
  unfold aNext alpha
  generalize mNext m s = M
  pointwise [Cert.KernelIdeal.Attn.prob]

theorem start_m (i : Fin 512) : (start (F := Ideal)).m (ix2 i 0) = (⊥ : EReal) := by
  pointwise [start]
  exact Cert.KernelIdeal.Attn.ofBits_minus_infinity

theorem start_l (i : Fin 512) : (start (F := Ideal)).l (ix2 i 0) = (0 : EReal) := by
  pointwise [start]

theorem start_a (i : Fin 512) (l : Fin 128) : (start (F := Ideal)).a (ix2 i l) = (0 : EReal) := by
  pointwise [start]

theorem oBlk_at (hh : Fin 2) (k : Carry Ideal) (i : Fin 512) (l : Fin 128) :
    oBlk hh k (ix2 i l) = Ideal.div (k.a (ix2 i l)) (k.l (ix2 i 0)) * lane 64 hh l := by
  rw [← laneMask_at 64 hh (by omega) 0 l]
  pointwise [oBlk, mask32]

theorem lseBlk_at (hh : Fin 2) (k : Carry Ideal) (i : Fin 512) (l : Fin 128) :
    lseBlk hh k (ix2 i l) = (k.m (ix2 i 0) + Ideal.log (k.l (ix2 i 0))) * lane 64 hh l := by
  rw [← laneMask_at 64 hh (by omega) 0 l]
  pointwise [lseBlk, mask32]

/-! ## The blocks of keys -/

variable (I : Ins Ideal) (t hh : Fin 2)

/-- The inputs as the gradient's module has them. -/
abbrev toA : Cert.KernelIdeal.Attn.Ins Ideal := ⟨I.q, I.kv, I.kp, fun _ => (0 : EReal), fun _ => (0 : EReal), fun _ => (0 : EReal)⟩

/-- The score of key `j` for query `i`, from the lanes. -/
def sc (i j : Fin 2048) : EReal := (∑ l : Fin 256, qc (toA I) t hh i l * kc (toA I) t j l) * scl

theorem score_block (qi kj : Fin 4) {msk : FVec Ideal S512x512 .f32 → FVec Ideal S512x512 .f32} (hm : MaskOk qi kj msk) (a b : Fin 512) :
    msk (score (qcI I t hh qi t.isLt qi.isLt) (kcat (win I.kv (512 * kj) (128 * t) 512 128 (by omega) (by omega))
      (win I.kp (512 * kj) 0 512 128 (by omega) (by omega)))) (ix2 a b) =
      if (row kj b : ℕ) ≤ row qi a then sc I t hh (row qi a) (row kj b) else ⊥ := by
  rw [hm, score_at]
  refine if_congr Iff.rfl (congrArg (· * scl) (Finset.sum_congr rfl fun l _ => ?_)) rfl
  exact congrArg₂ (· * ·) (Cert.KernelIdeal.Attn.qcatI_at (toA I) t hh qi a l)
    (Cert.KernelIdeal.Attn.kcatI_at (I := toA I) (t := t) (kj := kj) b l)

theorem next_kept (qi kj : Fin 4) (hk : (kj : ℕ) ≤ qi) {msk : FVec Ideal S512x512 .f32 → FVec Ideal S512x512 .f32} (hm : MaskOk qi kj msk)
    (a : Fin 512) (l : Fin 128) (s : Fin 2048 → ℝ) (v : Fin 2048 → EReal) (hs : ∀ j, sc I t hh (row qi a) j = s j)
    (hv : ∀ j, I.kv (ix2 j ⟨256 + 128 * t + l, by omega⟩) = v j) (x : Carry Ideal)
    (h : Kept s v (row qi a) kj (x.m (ix2 a 0)) (x.l (ix2 a 0)) (x.a (ix2 a l))) :
    Kept s v (row qi a) (kj + 1) ((nextI I t kj t.isLt kj.isLt msk (qcI I t hh qi t.isLt qi.isLt) x).m (ix2 a 0))
      ((nextI I t kj t.isLt kj.isLt msk (qcI I t hh qi t.isLt qi.isLt) x).l (ix2 a 0))
      ((nextI I t kj t.isLt kj.isLt msk (qcI I t hh qi t.isLt qi.isLt) x).a (ix2 a l)) := by
  have hx := fun b => (score_block I t hh qi kj hm a b).trans (if_congr Iff.rfl (hs (row kj b)) rfl)
  have hy : ∀ b : Fin 512, win I.kv (512 * kj) (256 + 128 * t) 512 128 (by omega) (by omega) (ix2 b l) = v (row kj b) :=
    fun b => (win_at I.kv _ _ 512 128 _ _ b l).trans (hv (row kj b))
  have g := kept_step s v (row qi a) kj (show 512 * (kj : ℕ) ≤ 512 * qi + a by omega) h _ _ hx hy _ rfl
  have e1 := mNext_at x.m (msk (score (qcI I t hh qi t.isLt qi.isLt) (kcat (win I.kv (512 * kj) (128 * t) 512 128 (by omega) (by omega))
      (win I.kp (512 * kj) 0 512 128 (by omega) (by omega))))) a
  unfold nextI next
  dsimp only
  rw [lNext_at, aNext_at, e1]
  exact g

theorem below_kept (qi : Fin 4) (a : Fin 512) (l : Fin 128) (s : Fin 2048 → ℝ) (v : Fin 2048 → EReal) (hs : ∀ j, sc I t hh (row qi a) j = s j)
    (hv : ∀ j, I.kv (ix2 j ⟨256 + 128 * t + l, by omega⟩) = v j) (n : ℕ) (hn : n ≤ qi) :
    Kept s v (row qi a) n ((belowI I t t.isLt (qcI I t hh qi t.isLt qi.isLt) n (by omega)).m (ix2 a 0))
      ((belowI I t t.isLt (qcI I t hh qi t.isLt qi.isLt) n (by omega)).l (ix2 a 0))
      ((belowI I t t.isLt (qcI I t hh qi t.isLt qi.isLt) n (by omega)).a (ix2 a l)) := by
  induction n with
  | zero =>
    have h := kept_start s v (row qi a)
    unfold belowI
    rw [start_m, start_l, start_a]
    exact h
  | succ n ih =>
    exact next_kept I t hh qi ⟨n, by omega⟩ (show n ≤ (qi : ℕ) by omega) (MaskOk.before (show n < (qi : ℕ) by omega)) a l s v hs hv _
      (ih (by omega))

theorem last_kept (qi : Fin 4) (a : Fin 512) (l : Fin 128) (s : Fin 2048 → ℝ) (v : Fin 2048 → EReal) (hs : ∀ j, sc I t hh (row qi a) j = s j)
    (hv : ∀ j, I.kv (ix2 j ⟨256 + 128 * t + l, by omega⟩) = v j) :
    Kept s v (row qi a) (qi + 1) ((lastI I t hh qi t.isLt qi.isLt).m (ix2 a 0)) ((lastI I t hh qi t.isLt qi.isLt).l (ix2 a 0))
      ((lastI I t hh qi t.isLt qi.isLt).a (ix2 a l)) :=
  next_kept I t hh qi qi le_rfl (MaskOk.same qi) a l s v hs hv _ (below_kept I t hh qi a l s v hs hv qi le_rfl)

/-! ## What is left -/

/-- A query's block. -/
abbrev qb (i : Fin 2048) : Fin 4 := ⟨i / 512, by omega⟩

/-- A query's row in its block. -/
abbrev qr (i : Fin 2048) : Fin 512 := ⟨i % 512, by omega⟩

theorem row_qb (i : Fin 2048) : row (qb i) (qr i) = i := Fin.ext (show 512 * ((i : ℕ) / 512) + i % 512 = i by omega)

/-- The carry of a query's block at its end. -/
abbrev lastOf (i : Fin 2048) : Carry Ideal := lastI I t hh (qb i) t.isLt (qb i).isLt

/-- A query's output on a lane, before the lanes are picked. -/
def oVal (i : Fin 2048) (l : Fin 128) : EReal := Ideal.div ((lastOf I t hh i).a (ix2 (qr i) l)) ((lastOf I t hh i).l (ix2 (qr i) 0))

/-- A query's log-sum-exp. -/
def lVal (i : Fin 2048) : EReal := (lastOf I t hh i).m (ix2 (qr i) 0) + Ideal.log ((lastOf I t hh i).l (ix2 (qr i) 0))

abbrev ly (y : Fin 256) : Fin 128 := ⟨y % 128, by omega⟩

theorem put_at (d : Vec Ideal S2048x256 .f32) (w : Vec Ideal S512x128 .f32) (qi : Fin 4) (i : Fin 2048) (y : Fin 256) :
    putw d (512 * qi) (128 * t) 512 128 w (ix2 i y) =
      if (i : ℕ) / 512 = qi ∧ (y : ℕ) / 128 = t then w (ix2 (qr i) (ly y)) else d (ix2 i y) := by
  split
  · exact putw_in d (512 * qi) (128 * t) 512 128 w i y _ _ (by simp only; omega) (by simp only; omega)
  · exact putw_out d (512 * qi) (128 * t) 512 128 w i y (by omega)

theorem plus_win (d : Vec Ideal S2048x256 .f32) (w : FVec Ideal S512x128 .f32) (qi : Fin 4) (i : Fin 2048) (y : Fin 256)
    (h : (i : ℕ) / 512 = qi ∧ (y : ℕ) / 128 = t) :
    plus (win d (512 * qi) (128 * t) 512 128 (by omega) (by omega)) w (ix2 (qr i) (ly y)) = d (ix2 i y) + w (ix2 (qr i) (ly y)) := by
  rw [plus_at, win_at]
  have e : (⟨512 * (qi : ℕ) + i % 512, by omega⟩ : Fin 2048) = i := Fin.ext (by simp only; omega)
  have e' : (⟨128 * (t : ℕ) + y % 128, by omega⟩ : Fin 256) = y := Fin.ext (by simp only; omega)
  exact congrArg (· + w (ix2 (qr i) (ly y))) (congrArg₂ (fun a b => d (ix2 a b)) e e')

/-- A block set by the first head of a pair, or added to by the second. -/
def setOr (d : Vec Ideal S2048x256 .f32) (qi : Fin 4) (w : FVec Ideal S512x128 .f32) : Vec Ideal S512x128 .f32 :=
  if hh = 0 then w else plus (win d (512 * qi) (128 * t) 512 128 (by omega) (by omega)) w

theorem putS_o (qi : Fin 4) (x : Carry Ideal) (s : St Ideal) :
    (putS t hh qi t.isLt qi.isLt x s).o = putw s.o (512 * qi) (128 * t) 512 128 (setOr t hh s.o qi (oBlk hh x)) := by
  match hh with
  | ⟨0, _⟩ => rfl
  | ⟨1, _⟩ => rfl

theorem putS_lse (qi : Fin 4) (x : Carry Ideal) (s : St Ideal) :
    (putS t hh qi t.isLt qi.isLt x s).lse = putw s.lse (512 * qi) (128 * t) 512 128 (setOr t hh s.lse qi (lseBlk hh x)) := by
  match hh with
  | ⟨0, _⟩ => rfl
  | ⟨1, _⟩ => rfl

/-- What a block of queries does to an entry, given the block's entry `e`. -/
theorem set_at (d : Vec Ideal S2048x256 .f32) (qi : Fin 4) (w : FVec Ideal S512x128 .f32) (i : Fin 2048) (y : Fin 256) (e : EReal)
    (he : (i : ℕ) / 512 = qi → w (ix2 (qr i) (ly y)) = e) :
    putw d (512 * qi) (128 * t) 512 128 (setOr t hh d qi w) (ix2 i y) =
      if (i : ℕ) / 512 = qi ∧ (y : ℕ) / 128 = t then (if hh = 0 then 0 else d (ix2 i y)) + e else d (ix2 i y) := by
  rw [put_at]
  split
  · next h =>
    unfold setOr
    split
    · rw [zero_add, he h.1]
    · rw [plus_win t d w qi i y h, he h.1]
  · rfl

theorem qBlock_o (qi : Fin 4) (s : St Ideal) (i : Fin 2048) (y : Fin 256) :
    (qBlockS I t hh qi t.isLt qi.isLt s).o (ix2 i y) = if (i : ℕ) / 512 = qi ∧ (y : ℕ) / 128 = t then
      (if hh = 0 then 0 else s.o (ix2 i y)) + oVal I t hh i (ly y) * lane 64 hh (ly y) else s.o (ix2 i y) := by
  unfold qBlockS
  rw [putS_o]
  refine set_at t hh s.o qi _ i y _ fun h => ?_
  obtain rfl : qi = qb i := Fin.ext h.symm
  exact oBlk_at hh _ _ _

theorem qBlock_lse (qi : Fin 4) (s : St Ideal) (i : Fin 2048) (y : Fin 256) :
    (qBlockS I t hh qi t.isLt qi.isLt s).lse (ix2 i y) = if (i : ℕ) / 512 = qi ∧ (y : ℕ) / 128 = t then
      (if hh = 0 then 0 else s.lse (ix2 i y)) + lVal I t hh i * lane 64 hh (ly y) else s.lse (ix2 i y) := by
  unfold qBlockS
  rw [putS_lse]
  refine set_at t hh s.lse qi _ i y _ fun h => ?_
  obtain rfl : qi = qb i := Fin.ext h.symm
  exact lseBlk_at hh _ _ _

theorem headS_eq (s : St Ideal) : headS I t hh t.isLt s =
    qBlockS I t hh (3 : Fin 4) t.isLt (3 : Fin 4).isLt (qBlockS I t hh (2 : Fin 4) t.isLt (2 : Fin 4).isLt
      (qBlockS I t hh (1 : Fin 4) t.isLt (1 : Fin 4).isLt (qBlockS I t hh (0 : Fin 4) t.isLt (0 : Fin 4).isLt s))) := rfl

/-- An entry goes through one of the four blocks of queries. -/
theorem four (i : Fin 2048) (p : Prop) [Decidable p] (f : EReal → EReal) (x : EReal) :
    (fun x => if (i : ℕ) / 512 = (3 : Fin 4) ∧ p then f x else x) ((fun x => if (i : ℕ) / 512 = (2 : Fin 4) ∧ p then f x else x)
      ((fun x => if (i : ℕ) / 512 = (1 : Fin 4) ∧ p then f x else x) ((fun x => if (i : ℕ) / 512 = (0 : Fin 4) ∧ p then f x else x) x))) =
      if p then f x else x := by
  by_cases hp : p
  · have h : (i : ℕ) / 512 = 0 ∨ (i : ℕ) / 512 = 1 ∨ (i : ℕ) / 512 = 2 ∨ (i : ℕ) / 512 = 3 := by omega
    rcases h with h | h | h | h <;> simp [h, hp]
  · simp [hp]

theorem head_o (s : St Ideal) (i : Fin 2048) (y : Fin 256) :
    (headS I t hh t.isLt s).o (ix2 i y) = if (y : ℕ) / 128 = t then
      (if hh = 0 then 0 else s.o (ix2 i y)) + oVal I t hh i (ly y) * lane 64 hh (ly y) else s.o (ix2 i y) := by
  rw [headS_eq, qBlock_o, qBlock_o, qBlock_o, qBlock_o]
  exact four i _ (fun x => (if hh = 0 then 0 else x) + oVal I t hh i (ly y) * lane 64 hh (ly y)) _

theorem head_lse (s : St Ideal) (i : Fin 2048) (y : Fin 256) :
    (headS I t hh t.isLt s).lse (ix2 i y) = if (y : ℕ) / 128 = t then
      (if hh = 0 then 0 else s.lse (ix2 i y)) + lVal I t hh i * lane 64 hh (ly y) else s.lse (ix2 i y) := by
  rw [headS_eq, qBlock_lse, qBlock_lse, qBlock_lse, qBlock_lse]
  exact four i _ (fun x => (if hh = 0 then 0 else x) + lVal I t hh i * lane 64 hh (ly y)) _

theorem bodyS_eq (s : St Ideal) : bodyS I s = headS I (1 : Fin 2) (1 : Fin 2) (1 : Fin 2).isLt (headS I (1 : Fin 2) (0 : Fin 2) (1 : Fin 2).isLt
    (headS I (0 : Fin 2) (1 : Fin 2) (0 : Fin 2).isLt (headS I (0 : Fin 2) (0 : Fin 2) (0 : Fin 2).isLt s))) := rfl

/-- A column's pair of heads. -/
abbrev ty (y : Fin 256) : Fin 2 := ⟨y / 128, by omega⟩

/-- An entry goes through the two heads of its own pair. -/
theorem pairs (y : Fin 256) (f : Fin 2 → Fin 2 → EReal) (x : EReal) :
    (fun x => if (y : ℕ) / 128 = (1 : Fin 2) then (if (1 : Fin 2) = 0 then 0 else x) + f 1 1 else x)
      ((fun x => if (y : ℕ) / 128 = (1 : Fin 2) then (if (0 : Fin 2) = 0 then 0 else x) + f 1 0 else x)
        ((fun x => if (y : ℕ) / 128 = (0 : Fin 2) then (if (1 : Fin 2) = 0 then 0 else x) + f 0 1 else x)
          ((fun x => if (y : ℕ) / 128 = (0 : Fin 2) then (if (0 : Fin 2) = 0 then 0 else x) + f 0 0 else x) x))) =
      f (ty y) 0 + f (ty y) 1 := by
  generalize hk : ty y = k
  have hy : (y : ℕ) / 128 = k := congrArg Fin.val hk
  match k with
  | 0 => simp [hy]
  | 1 => simp [hy]

/-- The output that the body leaves. -/
def outO (i : Fin 2048) (y : Fin 256) : EReal :=
  oVal I (ty y) 0 i (ly y) * lane 64 (0 : Fin 2) (ly y) + oVal I (ty y) 1 i (ly y) * lane 64 (1 : Fin 2) (ly y)

/-- The log-sum-exp that the body leaves. -/
def outL (i : Fin 2048) (y : Fin 256) : EReal :=
  lVal I (ty y) 0 i * lane 64 (0 : Fin 2) (ly y) + lVal I (ty y) 1 i * lane 64 (1 : Fin 2) (ly y)

theorem body_o (s : St Ideal) (i : Fin 2048) (y : Fin 256) : (bodyS I s).o (ix2 i y) = outO I i y := by
  rw [bodyS_eq, head_o, head_o, head_o, head_o]
  exact pairs y (fun t hh => oVal I t hh i (ly y) * lane 64 hh (ly y)) _

theorem body_lse (s : St Ideal) (i : Fin 2048) (y : Fin 256) : (bodyS I s).lse (ix2 i y) = outL I i y := by
  rw [bodyS_eq, head_lse, head_lse, head_lse, head_lse]
  exact pairs y (fun t hh => lVal I t hh i * lane 64 hh (ly y)) _

/-! ## In the heads' arrays -/

open Cert.KernelIdeal.Attn (hdn hdr in64 in32 hq hdn_eq hdr_eq in64_at in32_at sum_lane64 sum_lane32 mul_lane pick64)

/-- The inputs of quad `g` are the heads' arrays, laid out lane by lane. -/
structure Fits (hd : Fin 8 → Head) (g : Fin 2) : Prop where
  qn : ∀ (i : Fin 2048) (t : Fin 2) (l : Fin 128), I.q (ix2 i ⟨128 * t + l, by omega⟩) = (hd (hdn g t l)).qn i (in64 l)
  qr : ∀ (i : Fin 2048) (l : Fin 128), I.q (ix2 i ⟨256 + l, by omega⟩) = (hd (hdr g l)).qr i (in32 l)
  kn : ∀ (i : Fin 2048) (t : Fin 2) (l : Fin 128), I.kv (ix2 i ⟨128 * t + l, by omega⟩) = (hd (hdn g t l)).kn i (in64 l)
  v : ∀ (i : Fin 2048) (t : Fin 2) (l : Fin 128), I.kv (ix2 i ⟨256 + 128 * t + l, by omega⟩) = (hd (hdn g t l)).v i (in64 l)
  kr : ∀ (i : Fin 2048) (h : Fin 8) (l : Fin 128), I.kp (ix2 i l) = (hd h).kr i (in32 l)

variable {I} {hd : Fin 8 → Head} {g : Fin 2} (hI : Fits I hd g)
include hI

/-- A score is the head's own. -/
theorem sc_head (i j : Fin 2048) : sc I t hh i j = Attention.score (hd (hq g t hh)) i j := by
  unfold sc Attention.score
  refine congrArg (· * scl) ?_
  refine (Fin.sum_univ_add (a := 128) (b := 128) fun l => qc (toA I) t hh i l * kc (toA I) t j l).trans ?_
  refine congrArg₂ (· + ·) ?_ ?_
  · have e : ∀ l : Fin 128, qc (toA I) t hh i (Fin.castAdd 128 l) * kc (toA I) t j (Fin.castAdd 128 l) =
        if (l : ℕ) / 64 = hh then (hd (hq g t hh)).qn i (in64 l) * (hd (hq g t hh)).kn j (in64 l) else 0 := by
      intro l
      unfold qc kc
      rw [dif_pos (show ((Fin.castAdd 128 l : Fin 256) : ℕ) < 128 from l.isLt), dif_pos (show ((Fin.castAdd 128 l : Fin 256) : ℕ) < 128 from l.isLt), mul_lane]
      show (if (l : ℕ) / 64 = hh then I.q (ix2 i ⟨128 * t + l, _⟩) else 0) * I.kv (ix2 j ⟨128 * t + l, _⟩) = _
      split
      · next h => rw [hI.qn, hI.kn, hdn_eq g t hh l h]
      · exact zero_mul _
    rw [Finset.sum_congr rfl fun l _ => e l, sum_lane64 hh fun l => (hd (hq g t hh)).qn i (in64 l) * (hd (hq g t hh)).kn j (in64 l)]
    exact Finset.sum_congr rfl fun d _ => by rw [in64_at]
  · have e : ∀ l : Fin 128, qc (toA I) t hh i (Fin.natAdd 128 l) * kc (toA I) t j (Fin.natAdd 128 l) =
        if (l : ℕ) / 32 = (⟨2 * t + hh, by omega⟩ : Fin 4) then (hd (hq g t hh)).qr i (in32 l) * (hd (hq g t hh)).kr j (in32 l) else 0 := by
      intro l
      have n : ¬ ((Fin.natAdd 128 l : Fin 256) : ℕ) < 128 := Nat.not_lt.mpr (Nat.le_add_right 128 l)
      have e1 : (⟨256 + (((Fin.natAdd 128 l : Fin 256) : ℕ) - 128), by omega⟩ : Fin 384) = ⟨256 + l, by omega⟩ :=
        Fin.ext (show 256 + (128 + (l : ℕ) - 128) = 256 + l by omega)
      have e2 : (⟨((Fin.natAdd 128 l : Fin 256) : ℕ) - 128, by omega⟩ : Fin 128) = l := Fin.ext (show 128 + (l : ℕ) - 128 = l by omega)
      have e3 : ((Fin.natAdd 128 l : Fin 256) : ℕ) - 128 = l := congrArg Fin.val e2
      unfold qc kc
      rw [dif_neg n, dif_neg n, mul_lane, e1, e2, e3]
      show (if (l : ℕ) / 32 = 2 * t + hh then I.q (ix2 i ⟨256 + l, _⟩) else 0) * I.kp (ix2 j l) = if (l : ℕ) / 32 = 2 * t + hh then _ else _
      split
      · next h => rw [hI.qr, hI.kr j (hq g t hh), hdr_eq g t hh l h]
      · exact zero_mul _
    rw [Finset.sum_congr rfl fun l _ => e l,
      sum_lane32 ⟨2 * t + hh, by omega⟩ fun l => (hd (hq g t hh)).qr i (in32 l) * (hd (hq g t hh)).kr j (in32 l)]
    exact Finset.sum_congr rfl fun d _ => by rw [in32_at]

/-- A head with only its queries and keys, which the scores depend on. -/
def scoring (H : Head) : Head := { H with v := fun _ _ => 0, d := fun _ _ => 0 }

/-- The output and the log-sum-exp of a head, on a lane of its own. -/
theorem vals_head (hf : ∀ h, (scoring (hd h)).Finite) (i : Fin 2048) (l : Fin 128) (hl : (l : ℕ) / 64 = hh) :
    oVal I t hh i l = Attention.out (hd (hq g t hh)) i (in64 l) ∧ lVal I t hh i = Attention.lse (hd (hq g t hh)) i := by
  choose s hs using fun j => score_real i j (hf (hq g t hh))
  obtain ⟨m, hm⟩ := top_real i (hf (hq g t hh))
  have h := last_kept I t hh (qb i) (qr i) l s (fun j => (hd (hq g t hh)).v j (in64 l))
    (fun j => by rw [row_qb, sc_head t hh hI]; exact hs j) (fun j => by rw [hI.v, hdn_eq g t hh l hl])
  rw [row_qb] at h
  exact kept_end (H := hd (hq g t hh)) s _ i (qb i) (show (i : ℕ) < 512 * ((i : ℕ) / 512 + 1) by omega) (in64 l) hs (fun _ => rfl) m hm h

theorem outO_at (hf : ∀ h, (scoring (hd h)).Finite) (i : Fin 2048) (l : Fin 128) :
    outO I i ⟨128 * t + l, by omega⟩ = Attention.out (hd (hdn g t l)) i (in64 l) := by
  have ht : ty ⟨128 * (t : ℕ) + l, by omega⟩ = t := Fin.ext (show (128 * (t : ℕ) + l) / 128 = t by omega)
  have hl : ly ⟨128 * (t : ℕ) + l, by omega⟩ = l := Fin.ext (show (128 * (t : ℕ) + l) % 128 = l by omega)
  unfold outO
  rw [ht, hl, mul_lane, mul_lane]
  refine (pick64 (fun hh => oVal I t hh i l) l).trans ?_
  rw [(vals_head t ⟨l / 64, by omega⟩ hI hf i l rfl).1, hdn_eq g t ⟨l / 64, by omega⟩ l rfl]

theorem outL_at (hf : ∀ h, (scoring (hd h)).Finite) (i : Fin 2048) (l : Fin 128) :
    outL I i ⟨128 * t + l, by omega⟩ = Attention.lse (hd (hdn g t l)) i := by
  have ht : ty ⟨128 * (t : ℕ) + l, by omega⟩ = t := Fin.ext (show (128 * (t : ℕ) + l) / 128 = t by omega)
  have hl : ly ⟨128 * (t : ℕ) + l, by omega⟩ = l := Fin.ext (show (128 * (t : ℕ) + l) % 128 = l by omega)
  unfold outL
  rw [ht, hl, mul_lane, mul_lane]
  refine (pick64 (fun hh => lVal I t hh i) l).trans ?_
  rw [(vals_head t ⟨l / 64, by omega⟩ hI hf i l rfl).2, hdn_eq g t ⟨l / 64, by omega⟩ l rfl]

end Cert.Kernel13Ideal.Fwd
-- ==== Proof.Fwd.LoopEq.lean ====
/- The printed body of the attention's forward pass is the program of loops. -/
module

public import proofs.«01_k».proof.Proof.Fwd.Loop

@[expose] public section

set_option maxRecDepth 65536

noncomputable section

namespace Cert.Kernel13Ideal.Fwd

open Cert.Kernel13Ideal Cert.Kernel13Ideal.Gen
open Idealize.ShloMosaic Idealize.ShloMosaic.TcCoe Idealize.SL.Sem

variable {F : FTy → Type} [FloatOps F]

/-- The printed body is the program of loops: the same loads, stores and vector operations in the same order. -/
theorem body_eq (i : grid0.Coords) (arg1 : Memref sig .tc .vmem S2048x384 .bf16) (harg1 : arg1.IsWhole) (arg2 : Memref sig .tc .vmem S2048x512 .bf16) (harg2 : arg2.IsWhole) (arg3 : Memref sig .tc .vmem S2048x128 .bf16) (harg3 : arg3.IsWhole) (arg4 : Memref sig .tc .vmem S2048x256 .f32) (harg4 : arg4.IsWhole) (arg5 : Memref sig .tc .vmem S2048x256 .f32) (harg5 : arg5.IsWhole) :
    cc0_attn_fwd (F := F) i arg1 harg1 arg2 harg2 arg3 harg3 arg4 harg4 arg5 harg5 = body ⟨arg1, arg2, arg3, arg4, arg5⟩ := rfl

end Cert.Kernel13Ideal.Fwd

end
-- ==== Proof.Fwd.Run.lean ====
/- The launch of the forward kernel: at every grid point the body leaves the closed forms of its quad's outputs. -/
module

public import proofs.«01_k».proof.Proof.Fwd.Closed
public import proofs.«01_k».proof.Proof.Fwd.LoopEq
public import proofs.«01_k».proof.Proof.Gen.Kernel13Ideal.Frame.Runs
public import Idealize.ShloMosaic.Lib.Claim

@[expose] public section

set_option maxRecDepth 16384

noncomputable section

namespace Cert.Kernel13Ideal.Fwd

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- What the input windows hold at a grid point. -/
def insAt (c : Dev nD) (t : Fin cfg0.N) : Ins Ideal := ⟨iblk m c 0 t, iblk m c 1 t, iblk m c 2 t⟩

/-- The output's window at the closed form. -/
def winO (I : Ins Ideal) : Vec Ideal S2048x256 .f32 := fun y => outO I (y 0) (y 1)

/-- The log-sum-exp's window at the closed form. -/
def winL (I : Ins Ideal) : Vec Ideal S2048x256 .f32 := fun y => outL I (y 0) (y 1)

theorem bodyS_o (I : Ins Ideal) (s : St Ideal) : (bodyS I s).o = winO I := funext fun y => by
  rw [eq_ix2 y]; exact body_o I s _ _

theorem bodyS_lse (I : Ins Ideal) (s : St Ideal) : (bodyS I s).lse = winL I := funext fun y => by
  rw [eq_ix2 y]; exact body_lse I s _ _

/-- The pipeline's data: inputs stay, outputs end at the closed forms. -/
def dat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => winO (insAt m c t)
    | ⟨4, _⟩ => winL (insAt m c t)
  Φ _ := Pipeline.ΦA spec0 c
  q _ := fullShare
  owed _ := 0

theorem dat_A (c : Dev nD) (w : Fin cfg0.W) : (dat m 0 c).A w = V m c (Pipeline.arrRef spec0 w) := by dsimp only [dat]

theorem dat_0 (c : Dev nD) (t : Fin cfg0.N) : (dat m 0 c).after 0 t = iblk m c 0 t := by dsimp only [dat]
theorem dat_1 (c : Dev nD) (t : Fin cfg0.N) : (dat m 0 c).after 1 t = iblk m c 1 t := by dsimp only [dat]
theorem dat_2 (c : Dev nD) (t : Fin cfg0.N) : (dat m 0 c).after 2 t = iblk m c 2 t := by dsimp only [dat]
theorem dat_3 (c : Dev nD) (t : Fin cfg0.N) : (dat m 0 c).after 3 t = winO (insAt m c t) := by dsimp only [dat]
theorem dat_4 (c : Dev nD) (t : Fin cfg0.N) : (dat m 0 c).after 4 t = winL (insAt m c t) := by dsimp only [dat]

theorem in_0 (c : Dev nD) (t : Fin cfg0.N) (d) : (dat m 0 c).before 0 t d = iblk m c 0 t :=
  before0_0_of m (dat m 0 c) (dat_A m c 0) (dat_0 m c) t d
theorem in_1 (c : Dev nD) (t : Fin cfg0.N) (d) : (dat m 0 c).before 1 t d = iblk m c 1 t :=
  before0_1_of m (dat m 0 c) (dat_A m c 1) (dat_1 m c) t d
theorem in_2 (c : Dev nD) (t : Fin cfg0.N) (d) : (dat m 0 c).before 2 t d = iblk m c 2 t :=
  before0_2_of m (dat m 0 c) (dat_A m c 2) (dat_2 m c) t d

/-- What the body is called with at a grid point. -/
def pre (c : Dev nD) (t : Fin cfg0.N) : Assn Ideal :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d)))

/-- What the body returns. -/
def post (c : Dev nD) (t : Fin cfg0.N) : Assn Ideal :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t))

/-- The body's buffers at a grid point. -/
abbrev bufsAt (t : Fin cfg0.N) : Bufs := ⟨ms0_0 t, ms0_1 t, ms0_2 t, ms0_3 t, ms0_4 t⟩

set_option maxHeartbeats 1600000 in
/-- The body at a grid point, from whatever its outputs hold. -/
theorem at_point (c : Dev nD) (t : Fin cfg0.N) :
    pre m c t ⊢ wp frame (wpE (defs₀ (F := Ideal)) Variants.none c none) Set.univ (bodyAt0 t) (fun _ => post m c t) := by
  have hb : bodyAt0 (F := Ideal) t = body (bufsAt t) := body_eq ..
  rw [hb]
  unfold pre post
  simp only [in_0, in_1, in_2]
  rw [show (dat m 0 c).Φ t.succ = (dat m 0 c).Φ t.castSucc from rfl,
    show (dat m 0 c).owesAt () t.succ = (dat m 0 c).owesAt () t.castSucc from rfl,
    dat_0, dat_1, dat_2, dat_3, dat_4]
  iintro ⟨HΦ, Ho, ⟨%d0, H0⟩, ⟨%d1, H1⟩, ⟨%d2, H2⟩, ⟨%d3, H3⟩, ⟨%d4, H4⟩⟩
  iapply (run_body (I := insAt m c t) (B := bufsAt t) (c := c) (R := iprop((dat m 0 c).Φ t.castSucc ∗ (dat m 0 c).owesAt () t.castSucc))
    (s := ⟨(dat m 0 c).before 3 t d3, (dat m 0 c).before 4 t d4⟩) ?_)
  · unfold holds
    rw [bodyS_o, bodyS_lse]
    iintro ⟨H0, H1, H2, H3, H4, HΦ, Ho⟩
    isplitl [HΦ]; · iexact HΦ
    isplitl [Ho]; · iexact Ho
    isplitl [H0]; · iexact H0
    isplitl [H1]; · iexact H1
    isplitl [H2]; · iexact H2
    isplitl [H3]; · iexact H3
    iexact H4
  · unfold holds
    isplitl [H0]; · iexact H0
    isplitl [H1]; · iexact H1
    isplitl [H2]; · iexact H2
    isplitl [H3]; · iexact H3
    isplitl [H4]; · iexact H4
    isplitl [HΦ]; · iexact HΦ
    iexact Ho

/-- The row of the body table at a grid point. -/
theorem row_eq (t : Fin cfg0.N) : defs₀ (F := Ideal) .tc cfg0.body (cfg0.bodyArgs t (cfg0.slots t)) = bodyAt0 t := by
  unfold defs₀; rw [Defs.onTc_tc]

theorem obligation (c : Dev nD) : BodyObligation (dat m 0 c) (defs₀ (F := Ideal)) Variants.none () Set.univ := fun t => by
  rw [bigSep_W0, bigSep_W0, row_eq]
  exact triple_restated (at_point m c t) rfl .rfl fun _ => .rfl

set_option backward.isDefEq.respectTransparency.types false in
set_option maxHeartbeats 800000 in
/-- The launch ends, every array of the pipeline at what the data says, and every counter at zero. -/
theorem launch : θ_run defs (onTc (τ := τ) (main (F := Ideal))) (s₀ m ρ) (fun r => (Pipeline.FramePost cfgs (dat m) 0 (Pipeline.afterTail₀ cfgs (dat m) 0 (V0 m) [hostOps1])) r ∧ r.2.sem = fun _ => 0) :=
  Pipeline.θ_run_frame_around (Q' := _) cfgs (dat m) (0 : Fin 1) launch0 defs₀ Variants.none m ρ main
    (hbody := fun c => (obligation m c).loose) (hshare := fun c => (dat m 0 c).share_full fun _ => rfl)
    (howed := fun _ _ => rfl) (V₀ := V0 m) (opss := [hostOps1]) (hsub := sfx_sub) (hfresh := sfx_fresh) (hkeep := sfx_keeps)
    (hmain := hmain m Variants.none) (hA := dat_A m) (hΦ := fun _ _ => rfl)

end Cert.Kernel13Ideal.Fwd
-- ==== Proof.Fwd.Host.lean ====
/- What the forward kernel's windows read: the arrays that the host lays out for the quads of heads. -/
module

public import proofs.«01_k».proof.Proof.Fwd.Run
public import proofs.«01_k».proof.Proof.Spec
public import Idealize.ShloMosaic.Lib.StableHlo.ReadAt
public import Idealize.ShloMosaic.Lib.Pipeline.ValueKit.Geometry

@[expose] public section

set_option maxRecDepth 16384

noncomputable section

namespace Cert.Kernel13Ideal.Fwd

open Cert.Kernel13Ideal Cert.Kernel13Ideal.Gen Cert.Attention
open Idealize.ShloMosaic Idealize.ShloMosaic.TcCoe Idealize.ShloMosaic.StableHlo
open Cert.KernelIdeal.Attn (hdn hdr in64 in32)

variable (m : (ℓ : Loc nD τ sig) → Buf (Elt Ideal) ℓ) (c : Dev nD)

/-- Head `h` of the arguments; a cotangent is not among them. -/
abbrev hd (h : Fin 8) : Head := headOf (m (c.tc.loc main_arg0)) (m (c.tc.loc main_arg1)) (m (c.tc.loc main_arg2))
  (m (c.tc.loc main_arg3)) (fun _ => (0 : EReal)) h

theorem V_qn (i : Fin 2048) (g t : Fin 2) (l : Fin 128) :
    V m c main_v6 (ix2 i ⟨384 * g + (128 * t + l), by omega⟩) = (hd m c (hdn g t l)).qn i (in64 l) := by
  have h : (384 * (g : ℕ) + (128 * t + l)) % 384 < 256 := by omega
  unfold V
  after_reads_at
  rw [dif_pos h]
  after_reads_at
  refine congrArg (m (c.tc.loc main_arg0)) ?_
  blk_ext

theorem V_qr (i : Fin 2048) (g : Fin 2) (l : Fin 128) :
    V m c main_v6 (ix2 i ⟨384 * g + (256 + l), by omega⟩) = (hd m c (hdr g l)).qr i (in32 l) := by
  have h : ¬ (384 * (g : ℕ) + (256 + l)) % 384 < 256 := by omega
  unfold V
  after_reads_at
  rw [dif_neg h]
  after_reads_at
  refine congrArg (m (c.tc.loc main_arg0)) ?_
  blk_ext

theorem V_kn (i : Fin 2048) (g t : Fin 2) (l : Fin 128) :
    V m c main_v11 (ix2 i ⟨512 * g + (128 * t + l), by omega⟩) = (hd m c (hdn g t l)).kn i (in64 l) := by
  have h : (512 * (g : ℕ) + (128 * t + l)) % 512 < 256 := by omega
  unfold V
  after_reads_at
  rw [dif_pos h]
  after_reads_at
  refine congrArg (m (c.tc.loc main_arg1)) ?_
  blk_ext

theorem V_v (i : Fin 2048) (g t : Fin 2) (l : Fin 128) :
    V m c main_v11 (ix2 i ⟨512 * g + (256 + 128 * t + l), by omega⟩) = (hd m c (hdn g t l)).v i (in64 l) := by
  have h : ¬ (512 * (g : ℕ) + (256 + 128 * t + l)) % 512 < 256 := by omega
  unfold V
  after_reads_at
  rw [dif_neg h]
  after_reads_at
  refine congrArg (m (c.tc.loc main_arg3)) ?_
  blk_ext

theorem V_kr (i : Fin 2048) (h : Fin 8) (l : Fin 128) : V m c main_v13 (ix2 i l) = (hd m c h).kr i (in32 l) := by
  have e : V m c main_v13 (ix2 i l) = m (c.tc.loc main_arg2) (ix2 i (in32 l)) := by
    unfold V
    after_reads_at
    split_ifs
    all_goals
      after_reads_at
      refine congrArg (m (c.tc.loc main_arg2)) ?_
      blk_ext
  exact e

/-- The windows' places: quad `g` of the columns, all rows. -/
theorem idx0 : ∀ t : Fin cfg0.N, (cfg0.win 0).index t = ![0, t.val] ∧ (cfg0.win 1).index t = ![0, t.val] ∧ (cfg0.win 2).index t = ![0, 0]
    ∧ (cfg0.win 3).index t = ![0, t.val] ∧ (cfg0.win 4).index t = ![0, t.val] := by
  decide +kernel

theorem blk0 (x : (⟨S2048x768, .bf16⟩ : BufTy).Contents (Elt Ideal)) (g : Fin 2) (i : Fin 2048) (y : Fin 384) :
    ((cfg0.win 0).blk g).view.read (Elt Ideal) x (ix2 i y) = x (ix2 i ⟨384 * g + y, by omega⟩) := by
  have := idx0 g
  refine congrArg x ?_
  blk_ext [this]

theorem blk1 (x : (⟨S2048x1024, .bf16⟩ : BufTy).Contents (Elt Ideal)) (g : Fin 2) (i : Fin 2048) (y : Fin 512) :
    ((cfg0.win 1).blk g).view.read (Elt Ideal) x (ix2 i y) = x (ix2 i ⟨512 * g + y, by omega⟩) := by
  have := idx0 g
  refine congrArg x ?_
  blk_ext [this]

theorem blk2 (x : (⟨S2048x128, .bf16⟩ : BufTy).Contents (Elt Ideal)) (g : Fin 2) (i : Fin 2048) (y : Fin 128) :
    ((cfg0.win 2).blk g).view.read (Elt Ideal) x (ix2 i y) = x (ix2 i y) := by
  have := idx0 g
  refine congrArg x ?_
  blk_ext [this]

/-- The input windows of quad `g` hold its heads' arrays. -/
theorem fits (g : Fin 2) : Fits (insAt m c g) (hd m c) g where
  qn i t l := (blk0 (V m c main_v6) g i ⟨128 * t + l, by omega⟩).trans (V_qn m c i g t l)
  qr i l := (blk0 (V m c main_v6) g i ⟨256 + l, by omega⟩).trans (V_qr m c i g l)
  kn i t l := (blk1 (V m c main_v11) g i ⟨128 * t + l, by omega⟩).trans (V_kn m c i g t l)
  v i t l := (blk1 (V m c main_v11) g i ⟨256 + 128 * t + l, by omega⟩).trans (V_v m c i g t l)
  kr i h l := (blk2 (V m c main_v13) g i l).trans (V_kr m c i h l)

end Cert.Kernel13Ideal.Fwd
-- ==== Proof.Fwd.Out.lean ====
/- What the forward launch leaves in its two result arrays, and the host's results read from them. -/
module

public import proofs.«01_k».proof.Proof.Fwd.Host
public import proofs.«01_k».proof.Proof.Grads

@[expose] public section

set_option maxRecDepth 16384

noncomputable section

namespace Cert.Kernel13Ideal.Fwd

open Cert.Kernel13Ideal Cert.Kernel13Ideal.Gen Cert.Attention
open Idealize.ShloMosaic Idealize.ShloMosaic.TcCoe Idealize.ShloMosaic.StableHlo
open Cert.KernelIdeal.Attn (hdn in64 gOf tOf lnOf hdn_of in64_of)

/-! ## The host after the kernel -/

section
variable (W : Valuation τ sig (Elt Ideal)) (i : Fin 2048) (h : Fin 8)

/-- The memory after the host's operations that follow the kernel. -/
abbrev tail (b : Ref sig .tc) : b.ty.Contents (Elt Ideal) := after (hostOps1 (F := Ideal)) W (Proc.devRef .tc b)

theorem tail_o (l : Fin 64) : tail W main_v15 (ix3 i h l) =
    W (Proc.devRef .tc main_v14_0) (ix2 i ⟨256 * (h / 4) + (128 * (h % 4 / 2) + (64 * (h % 2) + l)), by omega⟩) := by
  unfold tail
  after_reads_at
  refine congrArg (fun k => W (Proc.devRef .tc main_v14_0) (ix2 i k)) (Fin.ext ?_)
  dsimp only
  omega

theorem tail_l : tail W main_v18 (ix2 i h) =
    W (Proc.devRef .tc main_v14_1) (ix2 i ⟨256 * (h / 4) + (128 * (h % 4 / 2) + (64 * (h % 2) + (0 : Fin 64))), by simp only [Fin.val_zero]; omega⟩) := by
  unfold tail
  after_reads_at
  refine congrArg (fun k => W (Proc.devRef .tc main_v14_1) (ix2 i k)) (Fin.ext ?_)
  simp only [Fin.val_zero]
  omega

end

/-! ## The result arrays -/

variable (m : (ℓ : Loc nD τ sig) → Buf (Elt Ideal) ℓ) (c : Dev nD)

/-- The output's array. -/
def arrO : FVec Ideal S2048x512 .f32 := fun y => outO (insAt m c ⟨y 1 / 256, by have := (y 1).isLt; change _ < 512 at this; change _ < 2; omega⟩) (y 0) ⟨y 1 % 256, by omega⟩

/-- The log-sum-exp's array. -/
def arrL : FVec Ideal S2048x512 .f32 := fun y => outL (insAt m c ⟨y 1 / 256, by have := (y 1).isLt; change _ < 512 at this; change _ < 2; omega⟩) (y 0) ⟨y 1 % 256, by omega⟩

theorem arrO_at (g : Fin 2) (i : Fin 2048) (x : Fin 256) : arrO m c (ix2 i ⟨256 * g + x, by omega⟩) = outO (insAt m c g) i x :=
  congrArg₂ (fun (a : Fin 2) (b : Fin 256) => outO (insAt m c a) i b)
    (Fin.ext (show (256 * (g : ℕ) + x) / 256 = g by omega)) (Fin.ext (show (256 * (g : ℕ) + x) % 256 = x by omega))

theorem arrL_at (g : Fin 2) (i : Fin 2048) (x : Fin 256) : arrL m c (ix2 i ⟨256 * g + x, by omega⟩) = outL (insAt m c g) i x :=
  congrArg₂ (fun (a : Fin 2) (b : Fin 256) => outL (insAt m c a) i b)
    (Fin.ext (show (256 * (g : ℕ) + x) / 256 = g by omega)) (Fin.ext (show (256 * (g : ℕ) + x) % 256 = x by omega))

theorem place3 (x : FVec Ideal S2048x512 .f32) (g : Fin 2) (i : Fin 2048) (y : Fin 256) :
    x (((cfg0.win 3).blk g).view.emb (ix2 i y)) = x (ix2 i ⟨256 * g + y, by omega⟩) := by
  have := idx0 g
  refine congrArg x ?_
  blk_ext [this]

theorem place4 (x : FVec Ideal S2048x512 .f32) (g : Fin 2) (i : Fin 2048) (y : Fin 256) :
    x (((cfg0.win 4).blk g).view.emb (ix2 i y)) = x (ix2 i ⟨256 * g + y, by omega⟩) := by
  have := idx0 g
  refine congrArg x ?_
  blk_ext [this]

theorem out3 : (dat m 0 c).arrAt 3 cfg0.N = arrO m c := by
  refine (dat m 0 c).arrAt_eq_of_covers 3 (arrO m c) (by decide +kernel) fun t hf y => ?_
  obtain ⟨i, x, rfl⟩ : ∃ (i : Fin 2048) (x : Fin 256), y = ix2 i x := ⟨y 0, y 1, eq_ix2 y⟩
  refine Eq.trans ?_ ((place3 (arrO m c) t i x).trans (arrO_at m c t i x)).symm
  rw [dat_3]
  rfl

theorem out4 : (dat m 0 c).arrAt 4 cfg0.N = arrL m c := by
  refine (dat m 0 c).arrAt_eq_of_covers 4 (arrL m c) (by decide +kernel) fun t hf y => ?_
  obtain ⟨i, x, rfl⟩ : ∃ (i : Fin 2048) (x : Fin 256), y = ix2 i x := ⟨y 0, y 1, eq_ix2 y⟩
  refine Eq.trans ?_ ((place4 (arrL m c) t i x).trans (arrL_at m c t i x)).symm
  rw [dat_4]
  rfl

/-- The memory when the kernel has ended. -/
abbrev ended : Valuation τ sig (Elt Ideal) := Pipeline.withArrays spec0 c (V0 m c) fun w => (dat m 0 c).arrAt w cfg0.N

theorem arr_inj : Function.Injective (Pipeline.arrRef spec0) := by decide

theorem ended3 : ended m c (Proc.devRef .tc main_v14_0) = arrO m c := (Pipeline.withArrays_arr spec0 arr_inj c _ _ 3).trans (out3 m c)
theorem ended4 : ended m c (Proc.devRef .tc main_v14_1) = arrL m c := (Pipeline.withArrays_arr spec0 arr_inj c _ _ 4).trans (out4 m c)

variable (hf : ∀ h, (scoring (hd m c h)).Finite) (i : Fin 2048) (h : Fin 8)
include hf

theorem o_n (l : Fin 64) : tail (ended m c) main_v15 (ix3 i h l) = Attention.out (hd m c h) i l := by
  rw [tail_o, ended3]
  refine (arrO_at m c (gOf h) i ⟨128 * (h % 4 / 2) + (64 * (h % 2) + l), by omega⟩).trans
    ((outO_at (tOf h) (fits m c (gOf h)) hf i (lnOf h l)).trans ?_)
  rw [hdn_of, in64_of]

theorem l_n : tail (ended m c) main_v18 (ix2 i h) = Attention.lse (hd m c h) i := by
  rw [tail_l, ended4]
  refine (arrL_at m c (gOf h) i ⟨128 * (h % 4 / 2) + (64 * (h % 2) + (0 : Fin 64)), by simp only [Fin.val_zero]; omega⟩).trans
    ((outL_at (tOf h) (fits m c (gOf h)) hf i (lnOf h 0)).trans ?_)
  rw [hdn_of]

end Cert.Kernel13Ideal.Fwd
-- ==== Proof.Fwd.Ref.lean ====
/- The forward reference's two results at an index, in the heads' arrays. -/
module

public import proofs.«01_k».proof.Proof.Math
public import proofs.«01_k».proof.Proof.Lanes
public import proofs.«01_k».proof.Proof.Gen.Reference13Ideal.Read
public import Idealize.ShloMosaic.Lib.Pointwise
public import Idealize.ShloMosaic.Lib.Tactic.CleanTypes

@[expose] public section

set_option maxRecDepth 16384

noncomputable section

namespace Cert.Reference13Ideal.Attn

open Cert.Reference13Ideal Cert.Reference13Ideal.Read Cert.Attention
open Idealize.ShloMosaic Idealize.ShloMosaic.TcCoe
open Cert.KernelIdeal.Attn (ofBits_minus_infinity)

variable (x0 : FVec Ideal S2048x8x96 .f32) (x1 : FVec Ideal S2048x8x64 .f32) (x2 : FVec Ideal S2048x32 .f32)
  (x3 x4 : FVec Ideal S2048x8x64 .f32) (h : Fin 8) (i j : Fin 2048)

theorem mask_at : val_main_call0_v1 (F := Ideal) (ix3 h i j) = IntOp.cmpi CmpIPredicate.sle (BitVec.ofNat 32 j) (BitVec.ofNat 32 i) := by
  pointwise [val_main_call0_v1, val_main_v13, val_main_v12, val_main_v11, val_main_v10, val_main_v9, val_main_v8, val_main_v7, val_main_v6]

theorem score_at : val_main_v5 (F := Ideal) x0 x1 x2 (ix3 h i j) = Attention.score (headOf x0 x1 x2 x3 x4 h) i j := by
  pointwise [val_main_v5, val_main_v4, val_main_v3, val_main_v2, val_main_v1, val_main_v0, val_main_cst]
  rfl

theorem masked_at : val_main_v14 (F := Ideal) x0 x1 x2 (ix3 h i j) = masked (headOf x0 x1 x2 x3 x4 h) i j := by
  have e : val_main_call0_v2 (F := Ideal) (ix3 h i j) = (⊥ : EReal) := by
    pointwise [val_main_call0_v2, val_main_call0_v0, val_main_cst_0]
    exact ofBits_minus_infinity
  rw [val_main_v14_apply, mask_at, score_at x0 x1 x2 x3 x4, e]
  exact select_le j i _ _

theorem top_at : val_main_v15 (F := Ideal) x0 x1 x2 (ix2 h i) = top (headOf x0 x1 x2 x3 x4 h) i := by
  unfold val_main_v15 top
  rw [← funext fun j => masked_at x0 x1 x2 x3 x4 h i j]
  generalize val_main_v14 (F := Ideal) x0 x1 x2 = y
  pointwise [val_main_cst_1]
  rw [ofBits_minus_infinity]

theorem top_at' : val_main_v16 (F := Ideal) x0 x1 x2 (ix2 h i) = top (headOf x0 x1 x2 x3 x4 h) i := by
  unfold val_main_v16 top
  rw [← funext fun j => masked_at x0 x1 x2 x3 x4 h i j]
  generalize val_main_v14 (F := Ideal) x0 x1 x2 = y
  pointwise [val_main_cst_2]
  rw [ofBits_minus_infinity]

theorem max_bot (y : FVec Ideal S8x2048 .f32) : maximumf (val_main_v17 (F := Ideal)) y (ix2 h i) = y (ix2 h i) := by
  have e : val_main_v17 (F := Ideal) (ix2 h i) = (⊥ : EReal) := by
    pointwise [val_main_v17, val_main_cst_3]
    exact ofBits_minus_infinity
  refine Eq.trans (show _ = max (val_main_v17 (F := Ideal) (ix2 h i) : EReal) (y (ix2 h i)) from rfl) ?_
  rw [e]
  exact max_eq_right bot_le

theorem bound_at : val_main_v20 (F := Ideal) x0 x1 x2 (ix3 h i j) = top (headOf x0 x1 x2 x3 x4 h) i := by
  have e : val_main_v20 (F := Ideal) x0 x1 x2 (ix3 h i j) = val_main_v18 (F := Ideal) x0 x1 x2 (ix2 h i) := by
    unfold val_main_v20 val_main_v19
    generalize val_main_v18 (F := Ideal) x0 x1 x2 = y
    pointwise
  rw [e, ← top_at']
  unfold val_main_v18
  exact max_bot h i _

theorem bound_at' : val_main_v30 (F := Ideal) x0 x1 x2 (ix3 h i j) = top (headOf x0 x1 x2 x3 x4 h) i := by
  rw [← top_at]
  unfold val_main_v30 val_main_v29
  generalize val_main_v15 (F := Ideal) x0 x1 x2 = y
  pointwise

theorem wt_at : val_main_v22 (F := Ideal) x0 x1 x2 (ix3 h i j) = wt (headOf x0 x1 x2 x3 x4 h) i j := by
  unfold wt
  rw [← masked_at, ← bound_at x0 x1 x2 x3 x4 h i j]
  unfold val_main_v22 val_main_v21
  generalize val_main_v14 (F := Ideal) x0 x1 x2 = a
  generalize val_main_v20 (F := Ideal) x0 x1 x2 = b
  pointwise

theorem wt_at' : val_main_v32 (F := Ideal) x0 x1 x2 (ix3 h i j) = wt (headOf x0 x1 x2 x3 x4 h) i j := by
  unfold wt
  rw [← masked_at, ← bound_at' x0 x1 x2 x3 x4 h i j]
  unfold val_main_v32 val_main_v31
  generalize val_main_v14 (F := Ideal) x0 x1 x2 = a
  generalize val_main_v30 (F := Ideal) x0 x1 x2 = b
  pointwise

theorem tot_at : val_main_v23 (F := Ideal) x0 x1 x2 (ix2 h i) = tot (headOf x0 x1 x2 x3 x4 h) i := by
  unfold tot
  rw [← Finset.sum_congr rfl fun j _ => wt_at x0 x1 x2 x3 x4 h i j]
  unfold val_main_v23
  generalize val_main_v22 (F := Ideal) x0 x1 x2 = y
  pointwise [val_main_cst_4]

theorem tot_at' : val_main_v33 (F := Ideal) x0 x1 x2 (ix2 h i) = tot (headOf x0 x1 x2 x3 x4 h) i := by
  unfold tot
  rw [← Finset.sum_congr rfl fun j _ => wt_at' x0 x1 x2 x3 x4 h i j]
  unfold val_main_v33
  generalize val_main_v32 (F := Ideal) x0 x1 x2 = y
  pointwise [val_main_cst_5]

theorem prob_at : val_main_v26 (F := Ideal) x0 x1 x2 (ix3 h i j) =
    Ideal.div (wt (headOf x0 x1 x2 x3 x4 h) i j) (tot (headOf x0 x1 x2 x3 x4 h) i) := by
  have e : val_main_v25 (F := Ideal) x0 x1 x2 (ix3 h i j) = val_main_v23 (F := Ideal) x0 x1 x2 (ix2 h i) := by
    unfold val_main_v25 val_main_v24
    generalize val_main_v23 (F := Ideal) x0 x1 x2 = y
    pointwise
  rw [val_main_v26_apply, wt_at x0 x1 x2 x3 x4, e, tot_at x0 x1 x2 x3 x4]
  rfl

/-- The output. -/
theorem out_at (l : Fin 64) : val_main_v28 (F := Ideal) x0 x1 x2 x3 (ix3 i h l) = Attention.out (headOf x0 x1 x2 x3 x4 h) i l := by
  unfold Attention.out
  rw [← Finset.sum_congr rfl fun j _ => congrArg (fun y : EReal => (headOf x0 x1 x2 x3 x4 h).v j l * y) (prob_at x0 x1 x2 x3 x4 h i j)]
  unfold val_main_v28 val_main_v27
  generalize val_main_v26 (F := Ideal) x0 x1 x2 = y
  pointwise
  rfl

/-- The log-sum-exp. -/
theorem lse_at : val_main_v36 (F := Ideal) x0 x1 x2 (ix2 i h) = Attention.lse (headOf x0 x1 x2 x3 x4 h) i := by
  have e : val_main_v36 (F := Ideal) x0 x1 x2 (ix2 i h) = val_main_v35 (F := Ideal) x0 x1 x2 (ix2 h i) := by
    unfold val_main_v36
    generalize val_main_v35 (F := Ideal) x0 x1 x2 = y
    pointwise
  rw [e, val_main_v35_apply, val_main_v34_apply, top_at x0 x1 x2 x3 x4, tot_at' x0 x1 x2 x3 x4]
  rfl

end Cert.Reference13Ideal.Attn
-- ==== Proof.Fwd.Value.lean ====
/- The forward kernel's output and log-sum-exp are the reference's, entry by entry. -/
module

public import proofs.«01_k».proof.Proof.Fwd.Out
public import proofs.«01_k».proof.Proof.Fwd.Ref

@[expose] public section

set_option maxRecDepth 16384

noncomputable section

namespace Cert.Kernel13Ideal.Fwd

open Cert.Kernel13Ideal Cert.Kernel13Ideal.Gen Cert.Attention
open Idealize.ShloMosaic Idealize.ShloMosaic.TcCoe Idealize.ShloMosaic.StableHlo Idealize.SL.Sem
open Cert.Reference13Ideal.Read (val_main_v28 val_main_v36)

variable (m : (ℓ : Loc nD τ sig) → Buf (Elt Ideal) ℓ) (ρ : Dev nD → PrngReg) (c : Dev nD)

/-- The arguments. -/
abbrev a0 : FVec Ideal S2048x8x96 .f32 := m (c.tc.loc main_arg0)
abbrev a1 : FVec Ideal S2048x8x64 .f32 := m (c.tc.loc main_arg1)
abbrev a2 : FVec Ideal S2048x32 .f32 := m (c.tc.loc main_arg2)
abbrev a3 : FVec Ideal S2048x8x64 .f32 := m (c.tc.loc main_arg3)

theorem tail_eq (b : Ref sig .tc) : Pipeline.afterTail₀ cfgs (dat m) 0 (V0 m) [hostOps1] c b = tail (ended m c) b := by
  unfold Pipeline.afterTail₀ tail ended
  rw [List.flatten_singleton]

variable (hf : ∀ h, (scoring (hd m c h)).Finite)
include hf

theorem o_all : Pipeline.afterTail₀ cfgs (dat m) 0 (V0 m) [hostOps1] c main_v15 =
    val_main_v28 (F := Ideal) (a0 m c) (a1 m c) (a2 m c) (a3 m c) := by
  rw [tail_eq]
  refine funext fun y => ?_
  rw [eq_ix3 y]
  exact (o_n m c hf _ _ _).trans (Cert.Reference13Ideal.Attn.out_at (a0 m c) (a1 m c) (a2 m c) (a3 m c) (fun _ => (0 : EReal)) _ _ _).symm

theorem l_all : Pipeline.afterTail₀ cfgs (dat m) 0 (V0 m) [hostOps1] c main_v18 =
    val_main_v36 (F := Ideal) (a0 m c) (a1 m c) (a2 m c) := by
  rw [tail_eq]
  refine funext fun y => ?_
  rw [eq_ix2 y]
  exact (l_n m c hf _ _).trans (Cert.Reference13Ideal.Attn.lse_at (a0 m c) (a1 m c) (a2 m c) (a3 m c) (fun _ => (0 : EReal)) _ _).symm

omit hf in
/-- The kernel's run: its two results are the reference's terms, its arguments stay. -/
theorem run_value (hf : ∀ c h, (scoring (hd m c h)).Finite) :
    θ_run defs (onTc (τ := τ) (main (F := Ideal))) ⟨m, fun _ => 0, ρ⟩ (fun r => ∀ c : Dev nD,
      r.2.mem ((c.tc : Thread nD τ).loc main_v15) = val_main_v28 (F := Ideal) (a0 m c) (a1 m c) (a2 m c) (a3 m c)
      ∧ r.2.mem ((c.tc : Thread nD τ).loc main_v18) = val_main_v36 (F := Ideal) (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨h, -⟩ := h
    exact ⟨((h c).2 main_v15 (Pipeline.mem_restRefs_of main_v15 (by decide) (by decide))).trans (o_all m c (hf c)),
      ((h c).2 main_v18 (Pipeline.mem_restRefs_of main_v18 (by decide) (by decide))).trans (l_all m c (hf c)),
      ((h c).2 main_arg0 (Pipeline.mem_restRefs_of main_arg0 (by decide) (by decide))).trans (W_main_arg0 m (dat m) c),
      ((h c).2 main_arg1 (Pipeline.mem_restRefs_of main_arg1 (by decide) (by decide))).trans (W_main_arg1 m (dat m) c),
      ((h c).2 main_arg2 (Pipeline.mem_restRefs_of main_arg2 (by decide) (by decide))).trans (W_main_arg2 m (dat m) c),
      ((h c).2 main_arg3 (Pipeline.mem_restRefs_of main_arg3 (by decide) (by decide))).trans (W_main_arg3 m (dat m) c)⟩) (launch m ρ)

end Cert.Kernel13Ideal.Fwd
-- ==== Proof.Fwd.Finite.lean ====
/- The forward call's precondition read back: every entry of the queries and keys is a real number. -/
module

public import proofs.«01_k».proof.Proof.Finite
public import proofs.«01_k».proof.Proof.Fwd.Closed
public import proofs.«01_k».proof.Pre_finite13

@[expose] public section

set_option maxRecDepth 16384

noncomputable section

namespace Cert.Pre_finite13

open Idealize.ShloMosaic Cert.Attention
open Cert.Kernel13Ideal.Fwd (scoring)
open Cert.Pre_finite (one_and entry)

theorem facts : Facts where
  bcast_S_S2048x8x96 := by decide
  reducesTo_S2048x8x96_S_d0_1_2 := by decide
  h_S_ := by decide
  bcast_S_S2048x8x64 := by decide
  reducesTo_S2048x8x64_S_d0_1_2 := by decide
  bcast_S_S2048x32 := by decide
  reducesTo_S2048x32_S_d0_1 := by decide

attribute [local instance] facts

variable (x0 : FVec Ideal S2048x8x96 .f32) (x1 : FVec Ideal S2048x8x64 .f32) (x2 : FVec Ideal S2048x32 .f32)
  (x3 : FVec Ideal S2048x8x64 .f32)

/-- Under the precondition every head's queries and keys are real. -/
theorem heads_finite (hp : fn (F := Ideal) x0 x1 x2 x3 = fun _ => 1#1) (h : Fin 8) :
    (scoring (headOf x0 x1 x2 x3 (fun _ => (0 : EReal)) h)).Finite := by
  have hs : Subsingleton S_.Idx := ⟨fun a b => funext fun k => k.elim0⟩
  have e := congrFun hp (fun k => k.elim0)
  unfold fn at e
  obtain ⟨e, e2⟩ := one_and e
  obtain ⟨e0, e1⟩ := one_and e
  have r0 := fun i => entry _ x0 i (Host.reduce_andi_all _ _ _ _ _ e0 i)
  have r1 := fun i => entry _ x1 i (Host.reduce_andi_all _ _ _ _ _ e1 i)
  have r2 := fun i => entry _ x2 i (Host.reduce_andi_all _ _ _ _ _ e2 i)
  exact ⟨fun _ _ => r0 _, fun _ _ => r0 _, fun _ _ => r1 _, fun _ _ => r2 _, fun _ _ => ⟨0, rfl⟩, fun _ _ => ⟨0, rfl⟩⟩

end Cert.Pre_finite13
-- ==== Proof.In.Out14.lean ====
/- The launch of the modulation's gradient: at each band of rows the gradient of the rows, and the two sums over the rows added up. -/
module

public import proofs.«01_k».proof.Proof.Gen.Kernel14Ideal.Frame
public import Idealize.ShloMosaic.Lib.Pipeline.ValueKit
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Kernel14Ideal.In

open Cert.Kernel14Ideal Cert.Kernel14Ideal.Gen
open Idealize.ShloMosaic Idealize.ShloMosaic.TcCoe

variable (m : (ℓ : Loc nD τ sig) → Buf (Elt Ideal) ℓ) (c : Dev nD)

/-- One band's part of the shift's gradient. -/
def sums (x0 : FVec Ideal S512x1024 .f32) (j : Fin 1024) : EReal := ∑ s : Fin 512, (x0 (ix2 s j) : EReal)

/-- One band's part of the scale's gradient. -/
def dots (x0 x1 : FVec Ideal S512x1024 .f32) (j : Fin 1024) : EReal := ∑ s : Fin 512, (x0 (ix2 s j) * x1 (ix2 s j) : EReal)

/-- The gradient of a band of rows. -/
theorem pay1_at (x0 x2 : FVec Ideal S512x1024 .f32) (x3 : FVec Ideal S3x1024 .f32) (i : Fin 512) (j : Fin 1024) :
    k0_pay1 (F := Ideal) x0 x2 x3 (ix2 i j) = (x0 (ix2 i j) * (1 + x3 (ix2 1 j)) + x2 (ix2 i j) : EReal) := by
  unfold k0_pay1
  pointwise

theorem pay2_at (x0 : FVec Ideal S512x1024 .f32) (j : Fin 1024) : k0_pay2 (F := Ideal) x0 (ix2 0 j) = sums x0 j := by
  unfold k0_pay2 sums
  pointwise

theorem pay3_at (x0 x1 : FVec Ideal S512x1024 .f32) (j : Fin 1024) : k0_pay3 (F := Ideal) x0 x1 (ix2 0 j) = dots x0 x1 j := by
  unfold k0_pay3 dots
  pointwise

theorem pay4_at (x0 : FVec Ideal S512x1024 .f32) (a : FVec Ideal S1x1024 .f32) (j : Fin 1024) :
    k0_pay4 (F := Ideal) x0 a (ix2 0 j) = (a (ix2 0 j) + sums x0 j : EReal) := by
  rw [← pay2_at x0 j]
  unfold k0_pay4
  generalize k0_pay2 (F := Ideal) x0 = y
  pointwise

theorem pay5_at (x0 x1 : FVec Ideal S512x1024 .f32) (a : FVec Ideal S1x1024 .f32) (j : Fin 1024) :
    k0_pay5 (F := Ideal) x0 x1 a (ix2 0 j) = (a (ix2 0 j) + dots x0 x1 j : EReal) := by
  rw [← pay3_at x0 x1 j]
  unfold k0_pay5
  generalize k0_pay3 (F := Ideal) x0 x1 = y
  pointwise

theorem rows_at (t : Fin cfg0.N) (i : Fin 512) (j : Fin 1024) : (outsAt0 m c t.val t.isLt).1 (ix2 i j) =
    k0_pay1 (F := Ideal) (iblk m c 0 t) (iblk m c 2 t) (iblk m c 3 t) (ix2 i j) := by
  have hN : t.val < 4 := t.isLt
  by_cases h : t.val % 4 = 0
  · rw [outsAt0_A m c t h (by omega) h (by omega)]
    frame_out
  · rw [outsAt0_B m c t h (by omega) h (by omega)]
    frame_out

theorem sumA (t : Fin cfg0.N) (h : t.val % 4 = 0) (j : Fin 1024) :
    (outsAt0 m c t.val t.isLt).2.1 (ix2 0 j) = sums (iblk m c 0 t) j := by
  have hN : t.val < 4 := t.isLt
  rw [outsAt0_A m c t h (by omega) h (by omega)]
  frame_out
  exact pay2_at _ j

theorem sumB (t : Fin cfg0.N) (h : ¬ t.val % 4 = 0) (j : Fin 1024) :
    (outsAt0 m c t.val t.isLt).2.1 (ix2 0 j) = ((outsAt0 m c (t.val - 1) (Nat.lt_of_le_of_lt (Nat.sub_le _ _) t.isLt)).2.1 (ix2 0 j)
      + sums (iblk m c 0 t) j : EReal) := by
  have hN : t.val < 4 := t.isLt
  rw [outsAt0_B m c t h (by omega) h (by omega)]
  frame_out
  exact pay4_at _ _ j

theorem dotA (t : Fin cfg0.N) (h : t.val % 4 = 0) (j : Fin 1024) :
    (outsAt0 m c t.val t.isLt).2.2 (ix2 0 j) = dots (iblk m c 0 t) (iblk m c 1 t) j := by
  have hN : t.val < 4 := t.isLt
  rw [outsAt0_A m c t h (by omega) h (by omega)]
  frame_out
  exact pay3_at _ _ j

theorem dotB (t : Fin cfg0.N) (h : ¬ t.val % 4 = 0) (j : Fin 1024) :
    (outsAt0 m c t.val t.isLt).2.2 (ix2 0 j) = ((outsAt0 m c (t.val - 1) (Nat.lt_of_le_of_lt (Nat.sub_le _ _) t.isLt)).2.2 (ix2 0 j)
      + dots (iblk m c 0 t) (iblk m c 1 t) j : EReal) := by
  have hN : t.val < 4 := t.isLt
  rw [outsAt0_B m c t h (by omega) h (by omega)]
  frame_out
  exact pay5_at _ _ _ j

theorem idx : ∀ t : Fin cfg0.N, (cfg0.win 0).index t = ![t.val, 0] ∧ (cfg0.win 1).index t = ![t.val, 0] ∧ (cfg0.win 2).index t = ![t.val, 0]
    ∧ (cfg0.win 3).index t = ![0, 0] ∧ (cfg0.win 4).index t = ![t.val, 0] ∧ (cfg0.win 5).index t = ![0, 0] ∧ (cfg0.win 6).index t = ![0, 0] := by
  decide +kernel

theorem blk0 (x : (⟨S2048x1024, .f32⟩ : BufTy).Contents (Elt Ideal)) (t : Fin 4) (i : Fin 512) (j : Fin 1024) :
    ((cfg0.win 0).blk t).view.read (Elt Ideal) x (ix2 i j) = x (ix2 ⟨t * 512 + i, by omega⟩ j) := by
  have := idx t
  refine congrArg x ?_
  blk_ext [this]

theorem blk1 (x : (⟨S2048x1024, .f32⟩ : BufTy).Contents (Elt Ideal)) (t : Fin 4) (i : Fin 512) (j : Fin 1024) :
    ((cfg0.win 1).blk t).view.read (Elt Ideal) x (ix2 i j) = x (ix2 ⟨t * 512 + i, by omega⟩ j) := by
  have := idx t
  refine congrArg x ?_
  blk_ext [this]

theorem blk2 (x : (⟨S2048x1024, .f32⟩ : BufTy).Contents (Elt Ideal)) (t : Fin 4) (i : Fin 512) (j : Fin 1024) :
    ((cfg0.win 2).blk t).view.read (Elt Ideal) x (ix2 i j) = x (ix2 ⟨t * 512 + i, by omega⟩ j) := by
  have := idx t
  refine congrArg x ?_
  blk_ext [this]

theorem blk3 (x : (⟨S3x1024, .f32⟩ : BufTy).Contents (Elt Ideal)) (t : Fin 4) (i : Fin 3) (j : Fin 1024) :
    ((cfg0.win 3).blk t).view.read (Elt Ideal) x (ix2 i j) = x (ix2 i j) := by
  have := idx t
  refine congrArg x ?_
  blk_ext [this]

theorem place4 (x : FVec Ideal S2048x1024 .f32) (t : Fin 4) (i : Fin 512) (j : Fin 1024) :
    x (((cfg0.win 4).blk t).view.emb (ix2 i j)) = x (ix2 ⟨t * 512 + i, by omega⟩ j) := by
  have := idx t
  refine congrArg x ?_
  blk_ext [this]

theorem place5 (x : FVec Ideal S1x1024 .f32) (t : Fin 4) (i : Fin 1) (j : Fin 1024) :
    x (((cfg0.win 5).blk t).view.emb (ix2 i j)) = x (ix2 i j) := by
  have := idx t
  refine congrArg x ?_
  blk_ext [this]

theorem place6 (x : FVec Ideal S1x1024 .f32) (t : Fin 4) (i : Fin 1) (j : Fin 1024) :
    x (((cfg0.win 6).blk t).view.emb (ix2 i j)) = x (ix2 i j) := by
  have := idx t
  refine congrArg x ?_
  blk_ext [this]

/-- The gradient of the rows. -/
def arrR (d r : FVec Ideal S2048x1024 .f32) (a : FVec Ideal S3x1024 .f32) : FVec Ideal S2048x1024 .f32 :=
  fun y => (d (ix2 (y 0) (y 1)) * (1 + a (ix2 1 (y 1))) + r (ix2 (y 0) (y 1)) : EReal)

theorem arrR_at (d r : FVec Ideal S2048x1024 .f32) (a : FVec Ideal S3x1024 .f32) (i : Fin 2048) (j : Fin 1024) :
    arrR d r a (ix2 i j) = (d (ix2 i j) * (1 + a (ix2 1 j)) + r (ix2 i j) : EReal) := rfl

/-- The gradient of the shift. -/
def arrS (d : FVec Ideal S2048x1024 .f32) : FVec Ideal S1x1024 .f32 := fun y => ∑ s : Fin 2048, (d (ix2 s (y 1)) : EReal)

theorem arrS_at (d : FVec Ideal S2048x1024 .f32) (i : Fin 1) (j : Fin 1024) : arrS d (ix2 i j) = ∑ s : Fin 2048, (d (ix2 s j) : EReal) := rfl

/-- The gradient of the scale. -/
def arrD (d x : FVec Ideal S2048x1024 .f32) : FVec Ideal S1x1024 .f32 :=
  fun y => ∑ s : Fin 2048, (d (ix2 s (y 1)) * x (ix2 s (y 1)) : EReal)

theorem arrD_at (d x : FVec Ideal S2048x1024 .f32) (i : Fin 1) (j : Fin 1024) :
    arrD d x (ix2 i j) = ∑ s : Fin 2048, (d (ix2 s j) * x (ix2 s j) : EReal) := rfl

/-- What a point leaves of the rows' gradient, of the arrays its windows read. -/
theorem point4 (d r : FVec Ideal S2048x1024 .f32) (a : FVec Ideal S3x1024 .f32) (t : Fin 4) (i : Fin 512) (j : Fin 1024) :
    k0_pay1 (F := Ideal) (((cfg0.win 0).blk t).view.read (Elt Ideal) d) (((cfg0.win 2).blk t).view.read (Elt Ideal) r)
      (((cfg0.win 3).blk t).view.read (Elt Ideal) a) (ix2 i j) = arrR d r a (((cfg0.win 4).blk t).view.emb (ix2 i j)) := by
  refine (pay1_at _ _ _ i j).trans (Eq.trans ?_ ((place4 (arrR d r a) t i j).trans (arrR_at d r a _ _)).symm)
  exact congrArg₂ (fun a b : EReal => a + b) (congrArg₂ (fun a b : EReal => a * (1 + b)) (blk0 d t i j) (blk3 a t 1 j)) (blk2 r t i j)

/-- One band's parts, of the arrays its windows read. -/
theorem sums_at (d : FVec Ideal S2048x1024 .f32) (t : Fin 4) (j : Fin 1024) :
    sums (((cfg0.win 0).blk t).view.read (Elt Ideal) d) j = ∑ l : Fin 512, (d (ix2 ⟨t * 512 + l, by omega⟩ j) : EReal) :=
  Finset.sum_congr rfl fun l _ => blk0 d t l j

theorem dots_at (d x : FVec Ideal S2048x1024 .f32) (t : Fin 4) (j : Fin 1024) :
    dots (((cfg0.win 0).blk t).view.read (Elt Ideal) d) (((cfg0.win 1).blk t).view.read (Elt Ideal) x) j =
      ∑ l : Fin 512, (d (ix2 ⟨t * 512 + l, by omega⟩ j) * x (ix2 ⟨t * 512 + l, by omega⟩ j) : EReal) :=
  Finset.sum_congr rfl fun l _ => congrArg₂ (fun a b : EReal => a * b) (blk0 d t l j) (blk1 x t l j)

/-- The four bands together are all rows. -/
theorem parts (f : Fin 2048 → EReal) : (∑ t : Fin 4, ∑ l : Fin 512, f ⟨t * 512 + l, by omega⟩) = ∑ s : Fin 2048, f s :=
  Fin.sum_mul_add_fin 4 512 f

theorem cover4 : (cfg0.win 4).Covers := by decide +kernel
theorem cover5 : (cfg0.win 5).Covers := by decide +kernel
theorem cover6 : (cfg0.win 6).Covers := by decide +kernel

/-- What the sums are at the last band. -/
theorem accS (t : Fin cfg0.N) (h : t.val % 4 = 3) (j : Fin 1024) : (outsAt0 m c t.val t.isLt).2.1 (ix2 0 j) =
    (0 : EReal) + ∑ s : Fin 4, sums (iblk m c 0 ⟨4 * (t.val / 4) + s.val, Pipeline.run_point_lt_of_flush t h s⟩) j :=
  Pipeline.eq_sum_fin_of_reset_step_of_flush (M := EReal) (fun n h => (outsAt0 m c n h).2.1 (ix2 0 j)) 4 0
    (fun t => sums (iblk m c 0 t) j)
    (fun t h => (sumA m c t h j).trans (zero_add _).symm) (fun t h => sumB m c t h j) t h

theorem accD (t : Fin cfg0.N) (h : t.val % 4 = 3) (j : Fin 1024) : (outsAt0 m c t.val t.isLt).2.2 (ix2 0 j) =
    (0 : EReal) + ∑ s : Fin 4, dots (iblk m c 0 ⟨4 * (t.val / 4) + s.val, Pipeline.run_point_lt_of_flush t h s⟩)
      (iblk m c 1 ⟨4 * (t.val / 4) + s.val, Pipeline.run_point_lt_of_flush t h s⟩) j :=
  Pipeline.eq_sum_fin_of_reset_step_of_flush (M := EReal) (fun n h => (outsAt0 m c n h).2.2 (ix2 0 j)) 4 0
    (fun t => dots (iblk m c 0 t) (iblk m c 1 t) j)
    (fun t h => (dotA m c t h j).trans (zero_add _).symm) (fun t h => dotB m c t h j) t h

theorem after4 (t : Fin cfg0.N) (i : Fin 512) (j : Fin 1024) : (dats m 0 c).after 4 t (ix2 i j) =
    arrR (V m c main_arg3) (V m c main_arg4) (V m c main_v4) (((cfg0.win 4).blk t).view.emb (ix2 i j)) := by
  rw [after0_4]
  exact (rows_at m c t i j).trans (point4 (V m c main_arg3) (V m c main_arg4) (V m c main_v4) t i j)

theorem after5 (t : Fin cfg0.N) (h : t.val % 4 = 3) (j : Fin 1024) : (dats m 0 c).after 5 t (ix2 0 j) =
    arrS (V m c main_arg3) (((cfg0.win 5).blk t).view.emb (ix2 0 j)) := by
  have hN : t.val < 4 := t.isLt
  have h0 : t.val / 4 = 0 := by omega
  rw [after0_5]
  refine (accS m c t h j).trans ((zero_add _).trans (Eq.trans ?_ (place5 (arrS (V m c main_arg3)) t 0 j).symm))
  refine Eq.trans ?_ ((parts fun s => (V m c main_arg3 (ix2 s j) : EReal)).trans (arrS_at (V m c main_arg3) 0 j).symm)
  refine Finset.sum_congr rfl fun s _ => ?_
  have e : (⟨4 * (t.val / 4) + s.val, Pipeline.run_point_lt_of_flush t h s⟩ : Fin cfg0.N) = s :=
    Fin.ext (show 4 * (t.val / 4) + s.val = s.val by omega)
  rw [e]
  exact sums_at (V m c main_arg3) s j

theorem after6 (t : Fin cfg0.N) (h : t.val % 4 = 3) (j : Fin 1024) : (dats m 0 c).after 6 t (ix2 0 j) =
    arrD (V m c main_arg3) (V m c main_arg0) (((cfg0.win 6).blk t).view.emb (ix2 0 j)) := by
  have hN : t.val < 4 := t.isLt
  have h0 : t.val / 4 = 0 := by omega
  rw [after0_6]
  refine (accD m c t h j).trans ((zero_add _).trans (Eq.trans ?_ (place6 (arrD (V m c main_arg3) (V m c main_arg0)) t 0 j).symm))
  refine Eq.trans ?_ ((parts fun s => HMul.hMul (α := EReal) (β := EReal) (γ := EReal) (V m c main_arg3 (ix2 s j)) (V m c main_arg0 (ix2 s j))).trans
    (arrD_at (V m c main_arg3) (V m c main_arg0) 0 j).symm)
  refine Finset.sum_congr rfl fun s _ => ?_
  have e : (⟨4 * (t.val / 4) + s.val, Pipeline.run_point_lt_of_flush t h s⟩ : Fin cfg0.N) = s :=
    Fin.ext (show 4 * (t.val / 4) + s.val = s.val by omega)
  rw [e]
  exact dots_at (V m c main_arg3) (V m c main_arg0) s j

/-- The launch leaves the three gradients. -/
theorem out4 : (dats m 0 c).arrAt 4 cfg0.N = arrR (V m c main_arg3) (V m c main_arg4) (V m c main_v4) := by
  refine (dats m 0 c).arrAt_eq_of_covers 4 (arrR (V m c main_arg3) (V m c main_arg4) (V m c main_v4)) cover4 fun t hf y => ?_
  obtain ⟨i, j, rfl⟩ : ∃ (i : Fin 512) (j : Fin 1024), y = ix2 i j := ⟨y 0, y 1, eq_ix2 y⟩
  exact after4 m c t i j

theorem out5 : (dats m 0 c).arrAt 5 cfg0.N = arrS (V m c main_arg3) := by
  refine (dats m 0 c).arrAt_eq_of_covers 5 (arrS (V m c main_arg3)) cover5 fun t hf y => ?_
  obtain ⟨i, j, rfl⟩ : ∃ (i : Fin 1) (j : Fin 1024), y = ix2 i j := ⟨y 0, y 1, eq_ix2 y⟩
  obtain rfl : i = 0 := Subsingleton.elim _ _
  exact after5 m c t ((flush0_5 t).mp hf) j

theorem out6 : (dats m 0 c).arrAt 6 cfg0.N = arrD (V m c main_arg3) (V m c main_arg0) := by
  refine (dats m 0 c).arrAt_eq_of_covers 6 (arrD (V m c main_arg3) (V m c main_arg0)) cover6 fun t hf y => ?_
  obtain ⟨i, j, rfl⟩ : ∃ (i : Fin 1) (j : Fin 1024), y = ix2 i j := ⟨y 0, y 1, eq_ix2 y⟩
  obtain rfl : i = 0 := Subsingleton.elim _ _
  exact after6 m c t ((flush0_6 t).mp hf) j

end Cert.Kernel14Ideal.In
-- ==== Proof.In.Value14.lean ====
/- The three gradients of the modulation are the reference's, entry by entry. -/
module

public import proofs.«01_k».proof.Proof.In.Out14
public import proofs.«01_k».proof.Proof.Gen.Reference14Ideal.Read
public import Idealize.ShloMosaic.Lib.StableHlo.ReadAt

@[expose] public section

set_option maxRecDepth 16384

noncomputable section

namespace Cert.Kernel14Ideal.In

open Cert.Kernel14Ideal Cert.Kernel14Ideal.Gen
open Idealize.ShloMosaic Idealize.ShloMosaic.TcCoe Idealize.ShloMosaic.StableHlo Idealize.SL.Sem
open Cert.Reference14Ideal.Read (val_main_v18 val_main_v11 val_main_v17)

variable (m : (ℓ : Loc nD τ sig) → Buf (Elt Ideal) ℓ) (ρ : Dev nD → PrngReg) (c : Dev nD)

theorem V_d (s : Fin 2048) (j : Fin 1024) : V m c main_arg3 (ix2 s j) = m (c.tc.loc main_arg3) (ix2 s j) := by
  unfold V
  after_reads_at

theorem V_r (s : Fin 2048) (j : Fin 1024) : V m c main_arg4 (ix2 s j) = m (c.tc.loc main_arg4) (ix2 s j) := by
  unfold V
  after_reads_at

theorem V_x (s : Fin 2048) (j : Fin 1024) : V m c main_arg0 (ix2 s j) = m (c.tc.loc main_arg0) (ix2 s j) := by
  unfold V
  after_reads_at

theorem V_row (p : Fin 3) (hp : (p : ℕ) = 1) (j : Fin 1024) : V m c main_v4 (ix2 p j) = m (c.tc.loc main_arg2) (ix1 j) := by
  unfold V
  after_reads_at
  refine Eq.trans (dif_neg (by omega)) ?_
  refine Eq.trans (dif_pos (by omega)) ?_
  after_reads_at
  all_goals
    refine congrArg (m (c.tc.loc main_arg2)) ?_
    blk_ext <;> rfl

theorem V_a (j : Fin 1024) : V m c main_v4 (ix2 1 j) = m (c.tc.loc main_arg2) (ix1 j) := V_row m c 1 rfl j

/-- The reference's entries. -/
theorem ref8_at (x3 : FVec Ideal S2048x1024 .f32) (y : S2048x1024.Idx) : Cert.Reference14Ideal.Read.val_main_v8 (F := Ideal) x3 y = x3 y := by
  unfold Cert.Reference14Ideal.Read.val_main_v8
  rw [shapeCast_self]

theorem refR_at (x2 : FVec Ideal S1024 .f32) (x3 x4 : FVec Ideal S2048x1024 .f32) (i : Fin 2048) (j : Fin 1024) :
    val_main_v18 (F := Ideal) x2 x3 x4 (ix2 i j) = (x3 (ix2 i j) * (1 + x2 (ix1 j)) + x4 (ix2 i j) : EReal) := by
  rw [Cert.Reference14Ideal.Read.val_main_v18_apply, Cert.Reference14Ideal.Read.val_main_v16_apply, ref8_at,
    Cert.Reference14Ideal.Read.val_main_v15_apply, Cert.Reference14Ideal.Read.val_main_v2_apply,
    Cert.Reference14Ideal.Read.val_main_v1_apply, Cert.Reference14Ideal.Read.val_main_v0_apply, Cert.Reference14Ideal.Read.val_main_cst_apply]
  have e : Cert.Reference14Ideal.Read.idx_main_v0 (Cert.Reference14Ideal.Read.idx_main_v15 (ix2 i j)) = ix1 j := by
    funext a; fin_cases a; rfl
  rw [e]
  pointwise

theorem refS_at (x3 : FVec Ideal S2048x1024 .f32) (j : Fin 1024) :
    val_main_v11 (F := Ideal) x3 (ix1 j) = ∑ s : Fin 2048, (x3 (ix2 s j) : EReal) := by
  rw [Cert.Reference14Ideal.Read.val_main_v11_apply, Fin.sum_univ_one, Cert.Reference14Ideal.Read.val_main_v10_apply,
    Cert.Reference14Ideal.Read.val_main_v9_apply, Cert.Reference14Ideal.Read.val_main_cst_1_apply, Cert.Reference14Ideal.Read.val_main_cst_0_apply,
    Ideal.ofBits_def, Ideal.ofBits_zero_f32, zero_add, zero_add]
  refine Finset.sum_congr rfl fun s _ => congrArg x3 ?_
  funext a; fin_cases a
  · exact rfl
  · exact Fin.ext (show 0 * 1024 + j.val = j.val by omega)

theorem refD_at (x0 x3 : FVec Ideal S2048x1024 .f32) (j : Fin 1024) :
    val_main_v17 (F := Ideal) x0 x3 (ix1 j) = ∑ s : Fin 2048, (x0 (ix2 s j) * x3 (ix2 s j) : EReal) := by
  rw [Cert.Reference14Ideal.Read.val_main_v17_apply, Fin.sum_univ_one, Cert.Reference14Ideal.Read.val_main_v14_apply,
    Cert.Reference14Ideal.Read.val_main_v13_apply, Cert.Reference14Ideal.Read.val_main_cst_3_apply, Cert.Reference14Ideal.Read.val_main_cst_2_apply,
    Ideal.ofBits_def, Ideal.ofBits_zero_f32, zero_add, zero_add]
  refine Finset.sum_congr rfl fun s _ => ?_
  rw [Cert.Reference14Ideal.Read.val_main_v12_apply, ref8_at]
  refine congrArg₂ (fun a b : EReal => a * b) (congrArg x0 ?_) (congrArg x3 ?_)
  · funext a; fin_cases a
    · exact rfl
    · exact Fin.ext (show 0 * 1024 + j.val = j.val by omega)
  · funext a; fin_cases a
    · exact rfl
    · exact Fin.ext (show 0 * 1024 + j.val = j.val by omega)

/-- The memory when the kernel has ended. -/
abbrev ended : Valuation τ sig (Elt Ideal) := Pipeline.withArrays spec0 c (V0 m c) fun w => (dats m 0 c).arrAt w cfg0.N

/-- The memory after the host's operations that follow the kernel. -/
abbrev tail (W : Valuation τ sig (Elt Ideal)) (b : Ref sig .tc) : b.ty.Contents (Elt Ideal) := after (hostOps1 (F := Ideal)) W (Proc.devRef .tc b)

theorem tail_eq (b : Ref sig .tc) : Pipeline.afterTail₀ cfgs (dats m) 0 (V0 m) [hostOps1] c b = tail (ended m c) b := by
  unfold Pipeline.afterTail₀ tail ended
  rw [List.flatten_singleton]

theorem tail_S (W : Valuation τ sig (Elt Ideal)) (j : Fin 1024) :
    tail W main_v6 (ix1 j) = W (Proc.devRef .tc main_v5_1) (ix2 0 j) := by
  unfold tail
  after_reads_at

theorem tail_D (W : Valuation τ sig (Elt Ideal)) (j : Fin 1024) :
    tail W main_v7 (ix1 j) = W (Proc.devRef .tc main_v5_2) (ix2 0 j) := by
  unfold tail
  after_reads_at

theorem arr_inj : Function.Injective (Pipeline.arrRef spec0) := by decide

theorem ended5 : ended m c (Proc.devRef .tc main_v5_1) = arrS (V m c main_arg3) :=
  (Pipeline.withArrays_arr spec0 arr_inj c _ _ 5).trans (out5 m c)

theorem ended6 : ended m c (Proc.devRef .tc main_v5_2) = arrD (V m c main_arg3) (V m c main_arg0) :=
  (Pipeline.withArrays_arr spec0 arr_inj c _ _ 6).trans (out6 m c)

theorem entryR (i : Fin 2048) (j : Fin 1024) : arrR (V m c main_arg3) (V m c main_arg4) (V m c main_v4) (ix2 i j) =
    val_main_v18 (F := Ideal) (m (c.tc.loc main_arg2)) (m (c.tc.loc main_arg3)) (m (c.tc.loc main_arg4)) (ix2 i j) := by
  refine (arrR_at _ _ _ i j).trans (Eq.trans ?_
    (refR_at (m (c.tc.loc main_arg2)) (m (c.tc.loc main_arg3)) (m (c.tc.loc main_arg4)) i j).symm)
  exact congrArg₂ (fun a b : EReal => a + b) (congrArg₂ (fun a b : EReal => a * (1 + b)) (V_d m c i j) (V_a m c j)) (V_r m c i j)

theorem entryS (j : Fin 1024) : tail (ended m c) main_v6 (ix1 j) =
    val_main_v11 (F := Ideal) (m (c.tc.loc main_arg3)) (ix1 j) := by
  rw [tail_S, ended5]
  refine (arrS_at _ 0 j).trans (Eq.trans ?_ (refS_at (m (c.tc.loc main_arg3)) j).symm)
  exact Finset.sum_congr rfl fun s _ => V_d m c s j

theorem entryD (j : Fin 1024) : tail (ended m c) main_v7 (ix1 j) =
    val_main_v17 (F := Ideal) (m (c.tc.loc main_arg0)) (m (c.tc.loc main_arg3)) (ix1 j) := by
  rw [tail_D, ended6]
  refine (arrD_at _ _ 0 j).trans (Eq.trans ?_ (refD_at (m (c.tc.loc main_arg0)) (m (c.tc.loc main_arg3)) j).symm)
  exact Finset.sum_congr rfl fun s _ => (congrArg₂ (fun a b : EReal => a * b) (V_d m c s j) (V_x m c s j)).trans (mul_comm _ _)

theorem allR : (dats m 0 c).arrAt 4 cfg0.N =
    val_main_v18 (F := Ideal) (m (c.tc.loc main_arg2)) (m (c.tc.loc main_arg3)) (m (c.tc.loc main_arg4)) := by
  rw [out4]
  refine funext fun y => ?_
  rw [eq_ix2 y]
  exact entryR m c _ _

theorem allS : Pipeline.afterTail₀ cfgs (dats m) 0 (V0 m) [hostOps1] c main_v6 =
    val_main_v11 (F := Ideal) (m (c.tc.loc main_arg3)) := by
  rw [tail_eq]
  refine funext fun y => ?_
  rw [eq_ix1 y]
  exact entryS m c _

theorem allD : Pipeline.afterTail₀ cfgs (dats m) 0 (V0 m) [hostOps1] c main_v7 =
    val_main_v17 (F := Ideal) (m (c.tc.loc main_arg0)) (m (c.tc.loc main_arg3)) := by
  rw [tail_eq]
  refine funext fun y => ?_
  rw [eq_ix1 y]
  exact entryD m c _

/-- The kernel's run: its results are the reference's terms, its arguments stay. -/
theorem run_value : θ_run defs (onTc (τ := τ) (main (F := Ideal))) ⟨m, fun _ => 0, ρ⟩ (fun r => ∀ c : Dev nD,
      r.2.mem ((c.tc : Thread nD τ).loc main_v5_0) =
        val_main_v18 (F := Ideal) (m (c.tc.loc main_arg2)) (m (c.tc.loc main_arg3)) (m (c.tc.loc main_arg4))
      ∧ r.2.mem ((c.tc : Thread nD τ).loc main_v6) = val_main_v11 (F := Ideal) (m (c.tc.loc main_arg3))
      ∧ r.2.mem ((c.tc : Thread nD τ).loc main_v7) = val_main_v17 (F := Ideal) (m (c.tc.loc main_arg0)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_and ((θ_run defs _ _).mono (fun _ h c =>
    (⟨((h.1 c).1 4).trans (allR m c),
      ((h.1 c).2 main_v6 (Pipeline.mem_restRefs_of main_v6 (by decide) (by decide))).trans (allS m c),
      ((h.1 c).2 main_v7 (Pipeline.mem_restRefs_of main_v7 (by decide) (by decide))).trans (allD m c)⟩ : _ ∧ _ ∧ _))
    (run_main_quiescent m ρ)) (unchanged m ρ) |> (θ_run defs _ _).mono (fun _ h c => ⟨(h.1 c).1, (h.1 c).2.1, (h.1 c).2.2, h.2 c⟩)

end Cert.Kernel14Ideal.In
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal.Read
public import proofs.«01_k».proof.Proof.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Reference2Ideal.Read
public import proofs.«01_k».proof.Proof.In.Value2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal.Run
public import proofs.«01_k».proof.Proof.Gen.Reference3Ideal.Read
public import proofs.«01_k».proof.Proof.In.Value3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal.Run
public import proofs.«01_k».proof.Proof.Gen.Reference4Ideal.Read
public import proofs.«01_k».proof.Proof.In.Value4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal.Run
public import proofs.«01_k».proof.Proof.Gen.Reference5Ideal.Read
public import proofs.«01_k».proof.Proof.In.Value5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal.Run
public import proofs.«01_k».proof.Proof.Gen.Reference6Ideal.Read
public import proofs.«01_k».proof.Proof.In.Value6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal.Run
public import proofs.«01_k».proof.Proof.Gen.Reference7Ideal.Read
public import proofs.«01_k».proof.Proof.In.Value7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal.Run
public import proofs.«01_k».proof.Proof.Gen.Reference8Ideal.Read
public import proofs.«01_k».proof.Proof.In.Value8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal.Run
public import proofs.«01_k».proof.Proof.Gen.Reference9Ideal.Read
public import proofs.«01_k».proof.Proof.In.Value9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal.Run
public import proofs.«01_k».proof.Proof.Gen.Reference10Ideal.Read
public import proofs.«01_k».proof.Proof.In.Value10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal.Run
public import proofs.«01_k».proof.Proof.Gen.Reference11Ideal.Read
public import proofs.«01_k».proof.Proof.In.Value11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal.Run
public import proofs.«01_k».proof.Proof.Gen.Reference12Ideal.Read
public import proofs.«01_k».proof.Proof.In.Value12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal.Run
public import proofs.«01_k».proof.Proof.Gen.Reference13Ideal.Read
public import proofs.«01_k».proof.Proof.Fwd.Value
public import proofs.«01_k».proof.Proof.Fwd.Finite
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal.Run
public import proofs.«01_k».proof.Proof.Gen.Reference14Ideal.Read
public import proofs.«01_k».proof.Proof.In.Value14
public import Idealize.ShloMosaic.Lib.Quiescent

@[expose] public section

noncomputable section

namespace Cert.Proof

open Idealize.ShloMosaic Idealize.ShloMosaic.TcCoe Idealize.SL.Sem

/-- The reference's frame: it has host operations only, so no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => ⟨(h c).2.2.2.1, (h c).2.2.2.2.1, (h c).2.2.2.2.2.1, (h c).2.2.2.2.2.2.1, (h c).2.2.2.2.2.2.2⟩,
    sem_eq_zero_of_no_sems rfl r.2⟩) (Cert.ReferenceIdeal.Value.run m ρ)

/-- On real arguments the kernel's gradients of the queries, keys and values are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  have hf : ∀ c h, (Cert.KernelIdeal.Attn.hd m c h).Finite := fun c h => Cert.Pre_finite.heads_finite _ _ _ _ _ (hpre c) h
  refine ⟨_, _, _, Cert.KernelIdeal.Attn.run_value m g hf, (θ_run Cert.ReferenceIdeal.defs _ _).mono (fun r h c => ?_) (Cert.ReferenceIdeal.Value.run m' g')⟩
  obtain ⟨h0, h1, h2, h3⟩ := h c
  obtain ⟨e0, e1, e2, e3, e4⟩ := hagree c
  refine ⟨h0.trans ((Cert.ReferenceIdeal.Read.val_main_v67_eq m' c).trans ?_), h1.trans ((Cert.ReferenceIdeal.Read.val_main_v65_eq m' c).trans ?_),
    h2.trans ((Cert.ReferenceIdeal.Read.val_main_v48_eq m' c).trans ?_), h3⟩
  · rw [e0, e1, e2, e3, e4]
  · rw [e0, e1, e2, e3, e4]
  · rw [e0, e1, e2, e4]

theorem reference2_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
        ∧ r.2.sem = fun _ => 0) :=
  (θ_run Cert.Reference2Ideal.defs _ _).mono (fun r h => ⟨fun c => (h c).2, sem_eq_zero_of_no_sems rfl r.2⟩) (Cert.Reference2Ideal.Value.run m ρ)

/-- The kernel's gradient of the layer's modulated input is the reference's. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨_, Cert.Kernel2Ideal.In.run_value m g, (θ_run Cert.Reference2Ideal.defs _ _).mono (fun r h c => ?_) (Cert.Reference2Ideal.Value.run m' g')⟩
  obtain ⟨h0, h1⟩ := h c
  obtain ⟨e0, e1, e2⟩ := hagree c
  refine ⟨h0.trans ((Cert.Reference2Ideal.Read.val_main_v1_eq _ _).trans ?_), h1⟩
  · rw [e1, e2]

theorem reference3_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
        ∧ r.2.sem = fun _ => 0) :=
  (θ_run Cert.Reference3Ideal.defs _ _).mono (fun r h => ⟨fun c => (h c).2, sem_eq_zero_of_no_sems rfl r.2⟩) (Cert.Reference3Ideal.Value.run m ρ)

/-- The kernel's gradient of the input projection's weight is the reference's. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨_, Cert.Kernel3Ideal.In.run_value m g, (θ_run Cert.Reference3Ideal.defs _ _).mono (fun r h c => ?_) (Cert.Reference3Ideal.Value.run m' g')⟩
  obtain ⟨h0, h1⟩ := h c
  obtain ⟨e0, e1, e2⟩ := hagree c
  refine ⟨h0.trans ((Cert.Reference3Ideal.Read.val_main_v2_eq _ _).trans ?_), h1⟩
  · rw [e0, e2]

theorem reference4_frame (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
        ∧ r.2.sem = fun _ => 0) :=
  (θ_run Cert.Reference4Ideal.defs _ _).mono (fun r h => ⟨fun c => (h c).2.2, sem_eq_zero_of_no_sems rfl r.2⟩) (Cert.Reference4Ideal.Value.run m ρ)

/-- The kernel's two gradients of a branch's output product are the reference's. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨_, _, Cert.Kernel4Ideal.In.run_value m g, (θ_run Cert.Reference4Ideal.defs _ _).mono (fun r h c => ?_) (Cert.Reference4Ideal.Value.run m' g')⟩
  obtain ⟨h0, h1, h2⟩ := h c
  obtain ⟨e0, e1, e2⟩ := hagree c
  refine ⟨h0.trans ((Cert.Reference4Ideal.Read.val_main_v3_eq _ _).trans ?_), h1.trans ((Cert.Reference4Ideal.Read.val_main_v2_eq _ _).trans ?_), h2⟩
  · rw [e1, e2]
  · rw [e0, e2]

theorem reference5_frame (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
        ∧ r.2.sem = fun _ => 0) :=
  (θ_run Cert.Reference5Ideal.defs _ _).mono (fun r h => ⟨fun c => (h c).2.2, sem_eq_zero_of_no_sems rfl r.2⟩) (Cert.Reference5Ideal.Value.run m ρ)

/-- The kernel's two gradients of the layer's output product are the reference's. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨_, _, Cert.Kernel5Ideal.In.run_value m g, (θ_run Cert.Reference5Ideal.defs _ _).mono (fun r h c => ?_) (Cert.Reference5Ideal.Value.run m' g')⟩
  obtain ⟨h0, h1, h2⟩ := h c
  obtain ⟨e0, e1, e2⟩ := hagree c
  refine ⟨h0.trans ((Cert.Reference5Ideal.Read.val_main_v3_eq _ _).trans ?_), h1.trans ((Cert.Reference5Ideal.Read.val_main_v2_eq _ _).trans ?_), h2⟩
  · rw [e1, e2]
  · rw [e0, e2]

theorem reference6_frame (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
        ∧ r.2.sem = fun _ => 0) :=
  (θ_run Cert.Reference6Ideal.defs _ _).mono (fun r h => ⟨fun c => (h c).2, sem_eq_zero_of_no_sems rfl r.2⟩) (Cert.Reference6Ideal.Value.run m ρ)

/-- The kernel's input projection is the reference's. -/
theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨_, Cert.Kernel6Ideal.In.run_value m g, (θ_run Cert.Reference6Ideal.defs _ _).mono (fun r h c => ?_) (Cert.Reference6Ideal.Value.run m' g')⟩
  obtain ⟨h0, h1⟩ := h c
  obtain ⟨e0, e1⟩ := hagree c
  refine ⟨h0.trans ((Cert.Reference6Ideal.Read.val_main_v0_eq _ _).trans ?_), h1⟩
  · rw [e0, e1]

theorem reference7_frame (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩
      (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
        ∧ r.2.sem = fun _ => 0) :=
  (θ_run Cert.Reference7Ideal.defs _ _).mono (fun r h => ⟨fun c => (h c).2, sem_eq_zero_of_no_sems rfl r.2⟩) (Cert.Reference7Ideal.Value.run m ρ)

/-- The kernel's output product of a branch is the reference's. -/
theorem algebraic7 : Cert.algebraic_Kernel7Ideal_Reference7Ideal (hKernel7Ideal := Cert.Kernel7Ideal.Gen.facts)
    (hReference7Ideal := Cert.Reference7Ideal.Gen.facts) := by
  intro m g m' g' _ hagree
  refine ⟨_, Cert.Kernel7Ideal.In.run_value m g, (θ_run Cert.Reference7Ideal.defs _ _).mono (fun r h c => ?_) (Cert.Reference7Ideal.Value.run m' g')⟩
  obtain ⟨h0, h1⟩ := h c
  obtain ⟨e0, e1⟩ := hagree c
  refine ⟨h0.trans ((Cert.Reference7Ideal.Read.val_main_v0_eq _ _).trans ?_), h1⟩
  · rw [e0, e1]

theorem reference8_frame (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩
      (fun r => (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
        ∧ r.2.sem = fun _ => 0) :=
  (θ_run Cert.Reference8Ideal.defs _ _).mono (fun r h => ⟨fun c => (h c).2, sem_eq_zero_of_no_sems rfl r.2⟩) (Cert.Reference8Ideal.Value.run m ρ)

/-- The kernel's output product of the layer is the reference's. -/
theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨_, Cert.Kernel8Ideal.In.run_value m g, (θ_run Cert.Reference8Ideal.defs _ _).mono (fun r h c => ?_) (Cert.Reference8Ideal.Value.run m' g')⟩
  obtain ⟨h0, h1⟩ := h c
  obtain ⟨e0, e1⟩ := hagree c
  refine ⟨h0.trans ((Cert.Reference8Ideal.Read.val_main_v0_eq _ _).trans ?_), h1⟩
  · rw [e0, e1]

theorem reference9_frame (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩
      (fun r => (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
        ∧ r.2.sem = fun _ => 0) :=
  (θ_run Cert.Reference9Ideal.defs _ _).mono (fun r h => ⟨fun c => (h c).2.2, sem_eq_zero_of_no_sems rfl r.2⟩) (Cert.Reference9Ideal.Value.run m ρ)

/-- The kernel's two gradients of the query projection are the reference's. -/
theorem algebraic9 : Cert.algebraic_Kernel9Ideal_Reference9Ideal (hKernel9Ideal := Cert.Kernel9Ideal.Gen.facts)
    (hReference9Ideal := Cert.Reference9Ideal.Gen.facts) := by
  intro m g m' g' _ hagree
  refine ⟨_, _, Cert.Kernel9Ideal.In.run_value m g, (θ_run Cert.Reference9Ideal.defs _ _).mono (fun r h c => ?_) (Cert.Reference9Ideal.Value.run m' g')⟩
  obtain ⟨h0, h1, h2⟩ := h c
  obtain ⟨e0, e1, e2⟩ := hagree c
  refine ⟨h0.trans ((Cert.Reference9Ideal.Read.val_main_v3_eq _ _).trans ?_), h1.trans ((Cert.Reference9Ideal.Read.val_main_v2_eq _ _).trans ?_), h2⟩
  · rw [e1, e2]
  · rw [e0, e2]

theorem reference10_frame (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩
      (fun r => (∀ c : Dev Cert.Reference10Ideal.nD,
        r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
        ∧ r.2.sem = fun _ => 0) :=
  (θ_run Cert.Reference10Ideal.defs _ _).mono (fun r h => ⟨fun c => (h c).2.2, sem_eq_zero_of_no_sems rfl r.2⟩) (Cert.Reference10Ideal.Value.run m ρ)

/-- The kernel's two gradients of the key-value projection are the reference's. -/
theorem algebraic10 : Cert.algebraic_Kernel10Ideal_Reference10Ideal (hKernel10Ideal := Cert.Kernel10Ideal.Gen.facts)
    (hReference10Ideal := Cert.Reference10Ideal.Gen.facts) := by
  intro m g m' g' _ hagree
  refine ⟨_, _, Cert.Kernel10Ideal.In.run_value m g, (θ_run Cert.Reference10Ideal.defs _ _).mono (fun r h c => ?_) (Cert.Reference10Ideal.Value.run m' g')⟩
  obtain ⟨h0, h1, h2⟩ := h c
  obtain ⟨e0, e1, e2⟩ := hagree c
  refine ⟨h0.trans ((Cert.Reference10Ideal.Read.val_main_v3_eq _ _).trans ?_), h1.trans ((Cert.Reference10Ideal.Read.val_main_v2_eq _ _).trans ?_), h2⟩
  · rw [e1, e2]
  · rw [e0, e2]

theorem reference11_frame (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩
      (fun r => (∀ c : Dev Cert.Reference11Ideal.nD,
        r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
        ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
        ∧ r.2.sem = fun _ => 0) :=
  (θ_run Cert.Reference11Ideal.defs _ _).mono (fun r h => ⟨fun c => (h c).2, sem_eq_zero_of_no_sems rfl r.2⟩) (Cert.Reference11Ideal.Value.run m ρ)

/-- The kernel's query projection is the reference's. -/
theorem algebraic11 : Cert.algebraic_Kernel11Ideal_Reference11Ideal (hKernel11Ideal := Cert.Kernel11Ideal.Gen.facts)
    (hReference11Ideal := Cert.Reference11Ideal.Gen.facts) := by
  intro m g m' g' _ hagree
  refine ⟨_, Cert.Kernel11Ideal.In.run_value m g, (θ_run Cert.Reference11Ideal.defs _ _).mono (fun r h c => ?_) (Cert.Reference11Ideal.Value.run m' g')⟩
  obtain ⟨h0, h1⟩ := h c
  obtain ⟨e0, e1⟩ := hagree c
  refine ⟨h0.trans ((Cert.Reference11Ideal.Read.val_main_v0_eq _ _).trans ?_), h1⟩
  · rw [e0, e1]

theorem reference12_frame (m : (ℓ : Loc Cert.Reference12Ideal.nD Cert.Reference12Ideal.τ Cert.Reference12Ideal.sig) → Buf (Elt Ideal) ℓ) (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩
      (fun r => (∀ c : Dev Cert.Reference12Ideal.nD,
        r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
        ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
        ∧ r.2.sem = fun _ => 0) :=
  (θ_run Cert.Reference12Ideal.defs _ _).mono (fun r h => ⟨fun c => (h c).2, sem_eq_zero_of_no_sems rfl r.2⟩) (Cert.Reference12Ideal.Value.run m ρ)

/-- The kernel's key-value projection is the reference's. -/
theorem algebraic12 : Cert.algebraic_Kernel12Ideal_Reference12Ideal (hKernel12Ideal := Cert.Kernel12Ideal.Gen.facts)
    (hReference12Ideal := Cert.Reference12Ideal.Gen.facts) := by
  intro m g m' g' _ hagree
  refine ⟨_, Cert.Kernel12Ideal.In.run_value m g, (θ_run Cert.Reference12Ideal.defs _ _).mono (fun r h c => ?_) (Cert.Reference12Ideal.Value.run m' g')⟩
  obtain ⟨h0, h1⟩ := h c
  obtain ⟨e0, e1⟩ := hagree c
  refine ⟨h0.trans ((Cert.Reference12Ideal.Read.val_main_v0_eq _ _).trans ?_), h1⟩
  · rw [e0, e1]

theorem reference13_frame (m : (ℓ : Loc Cert.Reference13Ideal.nD Cert.Reference13Ideal.τ Cert.Reference13Ideal.sig) → Buf (Elt Ideal) ℓ) (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩
      (fun r => (∀ c : Dev Cert.Reference13Ideal.nD,
        r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
        ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
        ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
        ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
        ∧ r.2.sem = fun _ => 0) :=
  (θ_run Cert.Reference13Ideal.defs _ _).mono (fun r h => ⟨fun c => (h c).2.2, sem_eq_zero_of_no_sems rfl r.2⟩) (Cert.Reference13Ideal.Value.run m ρ)

/-- The kernel's forward attention and its log-sum-exp are the reference's. -/
theorem algebraic13 : Cert.algebraic_Kernel13Ideal_Reference13Ideal_pre_finite13 (hKernel13Ideal := Cert.Kernel13Ideal.Gen.facts)
    (hReference13Ideal := Cert.Reference13Ideal.Gen.facts) (hPre_finite13 := Cert.Pre_finite13.facts) := by
  intro m g m' g' hpre hagree
  have hf : ∀ c h, (Cert.Kernel13Ideal.Fwd.scoring (Cert.Kernel13Ideal.Fwd.hd m c h)).Finite := fun c h =>
    Cert.Pre_finite13.heads_finite _ _ _ _ (hpre c) h
  refine ⟨_, _, Cert.Kernel13Ideal.Fwd.run_value m g hf, (θ_run Cert.Reference13Ideal.defs _ _).mono (fun r h c => ?_) (Cert.Reference13Ideal.Value.run m' g')⟩
  obtain ⟨h0, h1, h2⟩ := h c
  obtain ⟨e0, e1, e2, e3⟩ := hagree c
  refine ⟨h0.trans ((Cert.Reference13Ideal.Read.val_main_v28_eq m' c).trans ?_), h1.trans ((Cert.Reference13Ideal.Read.val_main_v36_eq _ _ _).trans ?_), h2⟩
  · rw [e0, e1, e2, e3]
  · rw [e0, e1, e2]

theorem reference14_frame (m : (ℓ : Loc Cert.Reference14Ideal.nD Cert.Reference14Ideal.τ Cert.Reference14Ideal.sig) → Buf (Elt Ideal) ℓ) (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩
      (fun r => (∀ c : Dev Cert.Reference14Ideal.nD,
        r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
        ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
        ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
        ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
        ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
        ∧ r.2.sem = fun _ => 0) :=
  (θ_run Cert.Reference14Ideal.defs _ _).mono (fun r h => ⟨fun c => (h c).2.2.2, sem_eq_zero_of_no_sems rfl r.2⟩) (Cert.Reference14Ideal.Value.run m ρ)

/-- The kernel's three gradients of the modulation are the reference's. -/
theorem algebraic14 : Cert.algebraic_Kernel14Ideal_Reference14Ideal (hKernel14Ideal := Cert.Kernel14Ideal.Gen.facts)
    (hReference14Ideal := Cert.Reference14Ideal.Gen.facts) := by
  intro m g m' g' _ hagree
  refine ⟨_, _, _, Cert.Kernel14Ideal.In.run_value m g, (θ_run Cert.Reference14Ideal.defs _ _).mono (fun r h c => ?_) (Cert.Reference14Ideal.Value.run m' g')⟩
  obtain ⟨h0, h1, h2, h3⟩ := h c
  obtain ⟨e0, e1, e2, e3, e4⟩ := hagree c
  refine ⟨h0.trans ((Cert.Reference14Ideal.Read.val_main_v18_eq _ _ _).trans ?_), h1.trans ((Cert.Reference14Ideal.Read.val_main_v11_eq _).trans ?_),
    h2.trans ((Cert.Reference14Ideal.Read.val_main_v17_eq _ _).trans ?_), h3⟩
  · rw [e2, e3, e4]
  · rw [e3]
  · rw [e0, e3]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite.facts, Cert.Pre_finite13.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, fun m ρ _ => reference2_frame m ρ,
  fun m ρ _ => Cert.Kernel3.Gen.frame m ρ, fun m ρ _ => Cert.Kernel3Ideal.Gen.frame m ρ, fun m ρ _ => reference3_frame m ρ,
  fun m ρ _ => Cert.Kernel4.Gen.frame m ρ, fun m ρ _ => Cert.Kernel4Ideal.Gen.frame m ρ, fun m ρ _ => reference4_frame m ρ,
  fun m ρ _ => Cert.Kernel5.Gen.frame m ρ, fun m ρ _ => Cert.Kernel5Ideal.Gen.frame m ρ, fun m ρ _ => reference5_frame m ρ,
  fun m ρ _ => Cert.Kernel6.Gen.frame m ρ, fun m ρ _ => Cert.Kernel6Ideal.Gen.frame m ρ, fun m ρ _ => reference6_frame m ρ,
  fun m ρ _ => Cert.Kernel7.Gen.frame m ρ, fun m ρ _ => Cert.Kernel7Ideal.Gen.frame m ρ, fun m ρ _ => reference7_frame m ρ,
  fun m ρ _ => Cert.Kernel8.Gen.frame m ρ, fun m ρ _ => Cert.Kernel8Ideal.Gen.frame m ρ, fun m ρ _ => reference8_frame m ρ,
  fun m ρ _ => Cert.Kernel9.Gen.frame m ρ, fun m ρ _ => Cert.Kernel9Ideal.Gen.frame m ρ, fun m ρ _ => reference9_frame m ρ,
  fun m ρ _ => Cert.Kernel10.Gen.frame m ρ, fun m ρ _ => Cert.Kernel10Ideal.Gen.frame m ρ, fun m ρ _ => reference10_frame m ρ,
  fun m ρ _ => Cert.Kernel11.Gen.frame m ρ, fun m ρ _ => Cert.Kernel11Ideal.Gen.frame m ρ, fun m ρ _ => reference11_frame m ρ,
  fun m ρ _ => Cert.Kernel12.Gen.frame m ρ, fun m ρ _ => Cert.Kernel12Ideal.Gen.frame m ρ, fun m ρ _ => reference12_frame m ρ,
  fun m ρ _ => Cert.Kernel13.Gen.frame m ρ, fun m ρ _ => Cert.Kernel13Ideal.Gen.frame m ρ, fun m ρ _ => Cert.Kernel13Ideal.Gen.frame m ρ,
  fun m ρ _ => reference13_frame m ρ, fun m ρ _ => reference13_frame m ρ,
  fun m ρ _ => Cert.Kernel14.Gen.frame m ρ, fun m ρ _ => Cert.Kernel14Ideal.Gen.frame m ρ, fun m ρ _ => reference14_frame m ρ,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14⟩

end Cert.Proof

end
